-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdRefIdeal (m : (ℓ : Loc Cert.ProjBwdRefIdeal.nD Cert.ProjBwdRefIdeal.τ Cert.ProjBwdRefIdeal.sig) → Buf (Elt Ideal) ℓ) : Prop :=
  True

def Pre_MlpUpBwd (m : (ℓ : Loc Cert.MlpUpBwd.nD Cert.MlpUpBwd.τ Cert.MlpUpBwd.sig) → Buf (Elt Bits) ℓ) : Prop :=
  True

def Pre_MlpUpBwdIdeal (m : (ℓ : Loc Cert.MlpUpBwdIdeal.nD Cert.MlpUpBwdIdeal.τ Cert.MlpUpBwdIdeal.sig) → Buf (Elt Ideal) ℓ) : Prop :=
  True

def Pre_MlpUpBwdRefIdeal (m : (ℓ : Loc Cert.MlpUpBwdRefIdeal.nD Cert.MlpUpBwdRefIdeal.τ Cert.MlpUpBwdRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_BranchABwd (m : (ℓ : Loc Cert.BranchABwd.nD Cert.BranchABwd.τ Cert.BranchABwd.sig) → Buf (Elt Bits) ℓ) : Prop :=
  True

def Pre_BranchABwdIdeal (m : (ℓ : Loc Cert.BranchABwdIdeal.nD Cert.BranchABwdIdeal.τ Cert.BranchABwdIdeal.sig) → Buf (Elt Ideal) ℓ) : Prop :=
  True

def Pre_BranchABwdRefIdeal (m : (ℓ : Loc Cert.BranchABwdRefIdeal.nD Cert.BranchABwdRefIdeal.τ Cert.BranchABwdRefIdeal.sig) → Buf (Elt Ideal) ℓ) : Prop :=
  True

def Pre_BranchBBwd (m : (ℓ : Loc Cert.BranchBBwd.nD Cert.BranchBBwd.τ Cert.BranchBBwd.sig) → Buf (Elt Bits) ℓ) : Prop :=
  True

def Pre_BranchBBwdIdeal (m : (ℓ : Loc Cert.BranchBBwdIdeal.nD Cert.BranchBBwdIdeal.τ Cert.BranchBBwdIdeal.sig) → Buf (Elt Ideal) ℓ) : Prop :=
  True

def Pre_BranchBBwdRefIdeal (m : (ℓ : Loc Cert.BranchBBwdRefIdeal.nD Cert.BranchBBwdRefIdeal.τ Cert.BranchBBwdRefIdeal.sig) → Buf (Elt Ideal) ℓ) : Prop :=
  True

def Pre_DwA (m : (ℓ : Loc Cert.DwA.nD Cert.DwA.τ Cert.DwA.sig) → Buf (Elt Bits) ℓ) : Prop :=
  True

def Pre_DwAIdeal (m : (ℓ : Loc Cert.DwAIdeal.nD Cert.DwAIdeal.τ Cert.DwAIdeal.sig) → Buf (Elt Ideal) ℓ) : Prop :=
  True

def Pre_DwARefIdeal (m : (ℓ : Loc Cert.DwARefIdeal.nD Cert.DwARefIdeal.τ Cert.DwARefIdeal.sig) → Buf (Elt Ideal) ℓ) : Prop :=
  True

def Pre_DwB (m : (ℓ : Loc Cert.DwB.nD Cert.DwB.τ Cert.DwB.sig) → Buf (Elt Bits) ℓ) : Prop :=
  True

def Pre_DwBIdeal (m : (ℓ : Loc Cert.DwBIdeal.nD Cert.DwBIdeal.τ Cert.DwBIdeal.sig) → Buf (Elt Ideal) ℓ) : Prop :=
  True

def Pre_DwBRefIdeal (m : (ℓ : Loc Cert.DwBRefIdeal.nD Cert.DwBRefIdeal.τ Cert.DwBRefIdeal.sig) → Buf (Elt Ideal) ℓ) : Prop :=
  True

def Pre_MlpDownBwd (m : (ℓ : Loc Cert.MlpDownBwd.nD Cert.MlpDownBwd.τ Cert.MlpDownBwd.sig) → Buf (Elt Bits) ℓ) : Prop :=
  True

def Pre_MlpDownBwdIdeal (m : (ℓ : Loc Cert.MlpDownBwdIdeal.nD Cert.MlpDownBwdIdeal.τ Cert.MlpDownBwdIdeal.sig) → Buf (Elt Ideal) ℓ) : Prop :=
  True

def Pre_MlpDownBwdRefIdeal (m : (ℓ : Loc Cert.MlpDownBwdRefIdeal.nD Cert.MlpDownBwdRefIdeal.τ Cert.MlpDownBwdRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_ProjG (m : (ℓ : Loc Cert.ProjG.nD Cert.ProjG.τ Cert.ProjG.sig) → Buf (Elt Bits) ℓ) : Prop :=
  True

def Pre_ProjGIdeal (m : (ℓ : Loc Cert.ProjGIdeal.nD Cert.ProjGIdeal.τ Cert.ProjGIdeal.sig) → Buf (Elt Ideal) ℓ) : Prop :=
  True

def Pre_ProjGRefIdeal (m : (ℓ : Loc Cert.ProjGRefIdeal.nD Cert.ProjGRefIdeal.τ Cert.ProjGRefIdeal.sig) → Buf (Elt Ideal) ℓ) : Prop :=
  True

def Pre_ProjF (m : (ℓ : Loc Cert.ProjF.nD Cert.ProjF.τ Cert.ProjF.sig) → Buf (Elt Bits) ℓ) : Prop :=
  True

def Pre_ProjFIdeal (m : (ℓ : Loc Cert.ProjFIdeal.nD Cert.ProjFIdeal.τ Cert.ProjFIdeal.sig) → Buf (Elt Ideal) ℓ) : Prop :=
  True

def Pre_ProjFRefIdeal (m : (ℓ : Loc Cert.ProjFRefIdeal.nD Cert.ProjFRefIdeal.τ Cert.ProjFRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDownLoss (m : (ℓ : Loc Cert.MlpDownLoss.nD Cert.MlpDownLoss.τ Cert.MlpDownLoss.sig) → Buf (Elt Bits) ℓ) : Prop :=
  True

def Pre_MlpDownLossIdeal (m : (ℓ : Loc Cert.MlpDownLossIdeal.nD Cert.MlpDownLossIdeal.τ Cert.MlpDownLossIdeal.sig) → Buf (Elt Ideal) ℓ) : Prop :=
  True

def Pre_MlpDownLossRefIdeal (m : (ℓ : Loc Cert.MlpDownLossRefIdeal.nD Cert.MlpDownLossRefIdeal.τ Cert.MlpDownLossRefIdeal.sig) → Buf (Elt Ideal) ℓ) : Prop :=
  True

def Pre_MixerTail (m : (ℓ : Loc Cert.MixerTail.nD Cert.MixerTail.τ Cert.MixerTail.sig) → Buf (Elt Bits) ℓ) : Prop :=
  True

def Pre_MixerTailIdeal (m : (ℓ : Loc Cert.MixerTailIdeal.nD Cert.MixerTailIdeal.τ Cert.MixerTailIdeal.sig) → Buf (Elt Ideal) ℓ) : Prop :=
  True

def Pre_MixerTailRefIdeal (m : (ℓ : Loc Cert.MixerTailRefIdeal.nD Cert.MixerTailRefIdeal.τ Cert.MixerTailRefIdeal.sig) → Buf (Elt Ideal) ℓ) : Prop :=
  True

def Pre_FoxDscan (m : (ℓ : Loc Cert.FoxDscan.nD Cert.FoxDscan.τ Cert.FoxDscan.sig) → Buf (Elt Bits) ℓ) : Prop :=
  True

def Pre_FoxDscanIdeal (m : (ℓ : Loc Cert.FoxDscanIdeal.nD Cert.FoxDscanIdeal.τ Cert.FoxDscanIdeal.sig) → Buf (Elt Ideal) ℓ) : Prop :=
  True

def Pre_FoxDscanRefIdeal (m : (ℓ : Loc Cert.FoxDscanRefIdeal.nD Cert.FoxDscanRefIdeal.τ Cert.FoxDscanRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWA (m : (ℓ : Loc Cert.AdamWA.nD Cert.AdamWA.τ Cert.AdamWA.sig) → Buf (Elt Bits) ℓ) : Prop :=
  True

def Pre_AdamWAIdeal (m : (ℓ : Loc Cert.AdamWAIdeal.nD Cert.AdamWAIdeal.τ Cert.AdamWAIdeal.sig) → Buf (Elt Ideal) ℓ) : Prop :=
  True

def Pre_AdamWARefIdeal (m : (ℓ : Loc Cert.AdamWARefIdeal.nD Cert.AdamWARefIdeal.τ Cert.AdamWARefIdeal.sig) → Buf (Elt Ideal) ℓ) : Prop :=
  True

def Pre_AdamWB (m : (ℓ : Loc Cert.AdamWB.nD Cert.AdamWB.τ Cert.AdamWB.sig) → Buf (Elt Bits) ℓ) : Prop :=
  True

def Pre_AdamWBIdeal (m : (ℓ : Loc Cert.AdamWBIdeal.nD Cert.AdamWBIdeal.τ Cert.AdamWBIdeal.sig) → Buf (Elt Ideal) ℓ) : Prop :=
  True

def Pre_AdamWBRefIdeal (m : (ℓ : Loc Cert.AdamWBRefIdeal.nD Cert.AdamWBRefIdeal.τ Cert.AdamWBRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWUp (m : (ℓ : Loc Cert.AdamWUp.nD Cert.AdamWUp.τ Cert.AdamWUp.sig) → Buf (Elt Bits) ℓ) : Prop :=
  True

def Pre_AdamWUpIdeal (m : (ℓ : Loc Cert.AdamWUpIdeal.nD Cert.AdamWUpIdeal.τ Cert.AdamWUpIdeal.sig) → Buf (Elt Ideal) ℓ) : Prop :=
  True

def Pre_AdamWUpRefIdeal (m : (ℓ : Loc Cert.AdamWUpRefIdeal.nD Cert.AdamWUpRefIdeal.τ Cert.AdamWUpRefIdeal.sig) → Buf (Elt Ideal) ℓ) : Prop :=
  True

def Pre_AdamWDown (m : (ℓ : Loc Cert.AdamWDown.nD Cert.AdamWDown.τ Cert.AdamWDown.sig) → Buf (Elt Bits) ℓ) : Prop :=
  True

def Pre_AdamWDownIdeal (m : (ℓ : Loc Cert.AdamWDownIdeal.nD Cert.AdamWDownIdeal.τ Cert.AdamWDownIdeal.sig) → Buf (Elt Ideal) ℓ) : Prop :=
  True

def Pre_AdamWDownRefIdeal (m : (ℓ : Loc Cert.AdamWDownRefIdeal.nD Cert.AdamWDownRefIdeal.τ Cert.AdamWDownRefIdeal.sig) → Buf (Elt Ideal) ℓ) : Prop :=
  True

def Pre_SmallAdam (m : (ℓ : Loc Cert.SmallAdam.nD Cert.SmallAdam.τ Cert.SmallAdam.sig) → Buf (Elt Bits) ℓ) : Prop :=
  True

def Pre_SmallAdamIdeal (m : (ℓ : Loc Cert.SmallAdamIdeal.nD Cert.SmallAdamIdeal.τ Cert.SmallAdamIdeal.sig) → Buf (Elt Ideal) ℓ) : Prop :=
  True

def Pre_SmallAdamRefIdeal (m : (ℓ : Loc Cert.SmallAdamRefIdeal.nD Cert.SmallAdamRefIdeal.τ Cert.SmallAdamRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4))
      ∧ r.2.sem = fun _ => 0)

def quiescent_MlpUpBwd [hMlpUpBwd : Cert.MlpUpBwd.Facts] : Prop :=
  ∀ (m : (ℓ : Loc Cert.MlpUpBwd.nD Cert.MlpUpBwd.τ Cert.MlpUpBwd.sig) → Buf (Elt Bits) ℓ) (g : Dev Cert.MlpUpBwd.nD → PrngReg), Pre_MlpUpBwd m →
    θ_run (Cert.MlpUpBwd.defs (F := Bits)) (onTc (τ := Cert.MlpUpBwd.τ) (Cert.MlpUpBwd.main (F := Bits))) ⟨m, fun _ => 0, g⟩ (fun r => (∀ c : Dev Cert.MlpUpBwd.nD,
      r.2.mem ((c.tc : Thread Cert.MlpUpBwd.nD Cert.MlpUpBwd.τ).loc Cert.MlpUpBwd.main_arg0) = m ((c.tc : Thread Cert.MlpUpBwd.nD Cert.MlpUpBwd.τ).loc Cert.MlpUpBwd.main_arg0)
      ∧ r.2.mem ((c.tc : Thread Cert.MlpUpBwd.nD Cert.MlpUpBwd.τ).loc Cert.MlpUpBwd.main_arg1) = m ((c.tc : Thread Cert.MlpUpBwd.nD Cert.MlpUpBwd.τ).loc Cert.MlpUpBwd.main_arg1)
      ∧ r.2.mem ((c.tc : Thread Cert.MlpUpBwd.nD Cert.MlpUpBwd.τ).loc Cert.MlpUpBwd.main_arg2) = m ((c.tc : Thread Cert.MlpUpBwd.nD Cert.MlpUpBwd.τ).loc Cert.MlpUpBwd.main_arg2)
      ∧ r.2.mem ((c.tc : Thread Cert.MlpUpBwd.nD Cert.MlpUpBwd.τ).loc Cert.MlpUpBwd.main_arg3) = m ((c.tc : Thread Cert.MlpUpBwd.nD Cert.MlpUpBwd.τ).loc Cert.MlpUpBwd.main_arg3)
      ∧ r.2.mem ((c.tc : Thread Cert.MlpUpBwd.nD Cert.MlpUpBwd.τ).loc Cert.MlpUpBwd.main_arg4) = m ((c.tc : Thread Cert.MlpUpBwd.nD Cert.MlpUpBwd.τ).loc Cert.MlpUpBwd.main_arg4))
      ∧ r.2.sem = fun _ => 0)

def quiescent_MlpUpBwdIdeal [hMlpUpBwdIdeal : Cert.MlpUpBwdIdeal.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg), Pre_MlpUpBwdIdeal m →
    θ_run (Cert.MlpUpBwdIdeal.defs (F := Ideal)) (onTc (τ := Cert.MlpUpBwdIdeal.τ) (Cert.MlpUpBwdIdeal.main (F := Ideal))) ⟨m, fun _ => 0, g⟩ (fun r => (∀ c : Dev Cert.MlpUpBwdIdeal.nD,
      r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
      ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1)
      ∧ r.2.mem ((c.tc : Thread Cert.MlpUpBwdIdeal.nD Cert.MlpUpBwdIdeal.τ).loc Cert.MlpUpBwdIdeal.main_arg2) = m ((c.tc : Thread Cert.MlpUpBwdIdeal.nD Cert.MlpUpBwdIdeal.τ).loc Cert.MlpUpBwdIdeal.main_arg2)
      ∧ r.2.mem ((c.tc : Thread Cert.MlpUpBwdIdeal.nD Cert.MlpUpBwdIdeal.τ).loc Cert.MlpUpBwdIdeal.main_arg3) = m ((c.tc : Thread Cert.MlpUpBwdIdeal.nD Cert.MlpUpBwdIdeal.τ).loc Cert.MlpUpBwdIdeal.main_arg3)
      ∧ r.2.mem ((c.tc : Thread Cert.MlpUpBwdIdeal.nD Cert.MlpUpBwdIdeal.τ).loc Cert.MlpUpBwdIdeal.main_arg4) = m ((c.tc : Thread Cert.MlpUpBwdIdeal.nD Cert.MlpUpBwdIdeal.τ).loc Cert.MlpUpBwdIdeal.main_arg4))
      ∧ r.2.sem = fun _ => 0)

def quiescent_MlpUpBwdRefIdeal [hMlpUpBwdRefIdeal : Cert.MlpUpBwdRefIdeal.Facts] : Prop :=
  ∀ (m : (ℓ : Loc Cert.MlpUpBwdRefIdeal.nD Cert.MlpUpBwdRefIdeal.τ Cert.MlpUpBwdRefIdeal.sig) → Buf (Elt Ideal) ℓ) (g : Dev Cert.MlpUpBwdRefIdeal.nD → PrngReg), Pre_MlpUpBwdRefIdeal m →
    θ_run (Cert.MlpUpBwdRefIdeal.defs (F := Ideal)) (onTc (τ := Cert.MlpUpBwdRefIdeal.τ) (Cert.MlpUpBwdRefIdeal.main (F := Ideal))) ⟨m, fun _ => 0, g⟩ (fun r => (∀ c : Dev Cert.MlpUpBwdRefIdeal.nD,
      r.2.mem ((c.tc : Thread Cert.MlpUpBwdRefIdeal.nD Cert.MlpUpBwdRefIdeal.τ).loc Cert.MlpUpBwdRefIdeal.main_arg0) = m ((c.tc : Thread Cert.MlpUpBwdRefIdeal.nD Cert.MlpUpBwdRefIdeal.τ).loc Cert.MlpUpBwdRefIdeal.main_arg0)
      ∧ r.2.mem ((c.tc : Thread Cert.MlpUpBwdRefIdeal.nD Cert.MlpUpBwdRefIdeal.τ).loc Cert.MlpUpBwdRefIdeal.main_arg1) = m ((c.tc : Thread Cert.MlpUpBwdRefIdeal.nD Cert.MlpUpBwdRefIdeal.τ).loc Cert.MlpUpBwdRefIdeal.main_arg1)
      ∧ r.2.mem ((c.tc : Thread Cert.MlpUpBwdRefIdeal.nD Cert.MlpUpBwdRefIdeal.τ).loc Cert.MlpUpBwdRefIdeal.main_arg2) = m ((c.tc : Thread Cert.MlpUpBwdRefIdeal.nD Cert.MlpUpBwdRefIdeal.τ).loc Cert.MlpUpBwdRefIdeal.main_arg2)
      ∧ r.2.mem ((c.tc : Thread Cert.MlpUpBwdRefIdeal.nD Cert.MlpUpBwdRefIdeal.τ).loc Cert.MlpUpBwdRefIdeal.main_arg3) = m ((c.tc : Thread Cert.MlpUpBwdRefIdeal.nD Cert.MlpUpBwdRefIdeal.τ).loc Cert.MlpUpBwdRefIdeal.main_arg3)
      ∧ r.2.mem ((c.tc : Thread Cert.MlpUpBwdRefIdeal.nD Cert.MlpUpBwdRefIdeal.τ).loc Cert.MlpUpBwdRefIdeal.main_arg4) = m ((c.tc : Thread Cert.MlpUpBwdRefIdeal.nD Cert.MlpUpBwdRefIdeal.τ).loc Cert.MlpUpBwdRefIdeal.main_arg4))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4))
      ∧ r.2.sem = fun _ => 0)

def quiescent_BranchABwd [hBranchABwd : Cert.BranchABwd.Facts] : Prop :=
  ∀ (m : (ℓ : Loc Cert.BranchABwd.nD Cert.BranchABwd.τ Cert.BranchABwd.sig) → Buf (Elt Bits) ℓ) (g : Dev Cert.BranchABwd.nD → PrngReg), Pre_BranchABwd m →
    θ_run (Cert.BranchABwd.defs (F := Bits)) (onTc (τ := Cert.BranchABwd.τ) (Cert.BranchABwd.main (F := Bits))) ⟨m, fun _ => 0, g⟩ (fun r => (∀ c : Dev Cert.BranchABwd.nD,
      r.2.mem ((c.tc : Thread Cert.BranchABwd.nD Cert.BranchABwd.τ).loc Cert.BranchABwd.main_arg0) = m ((c.tc : Thread Cert.BranchABwd.nD Cert.BranchABwd.τ).loc Cert.BranchABwd.main_arg0)
      ∧ r.2.mem ((c.tc : Thread Cert.BranchABwd.nD Cert.BranchABwd.τ).loc Cert.BranchABwd.main_arg1) = m ((c.tc : Thread Cert.BranchABwd.nD Cert.BranchABwd.τ).loc Cert.BranchABwd.main_arg1))
      ∧ r.2.sem = fun _ => 0)

def quiescent_BranchABwdIdeal [hBranchABwdIdeal : Cert.BranchABwdIdeal.Facts] : Prop :=
  ∀ (m : (ℓ : Loc Cert.BranchABwdIdeal.nD Cert.BranchABwdIdeal.τ Cert.BranchABwdIdeal.sig) → Buf (Elt Ideal) ℓ) (g : Dev Cert.BranchABwdIdeal.nD → PrngReg), Pre_BranchABwdIdeal m →
    θ_run (Cert.BranchABwdIdeal.defs (F := Ideal)) (onTc (τ := Cert.BranchABwdIdeal.τ) (Cert.BranchABwdIdeal.main (F := Ideal))) ⟨m, fun _ => 0, g⟩ (fun r => (∀ c : Dev Cert.BranchABwdIdeal.nD,
      r.2.mem ((c.tc : Thread Cert.BranchABwdIdeal.nD Cert.BranchABwdIdeal.τ).loc Cert.BranchABwdIdeal.main_arg0) = m ((c.tc : Thread Cert.BranchABwdIdeal.nD Cert.BranchABwdIdeal.τ).loc Cert.BranchABwdIdeal.main_arg0)
      ∧ r.2.mem ((c.tc : Thread Cert.BranchABwdIdeal.nD Cert.BranchABwdIdeal.τ).loc Cert.BranchABwdIdeal.main_arg1) = m ((c.tc : Thread Cert.BranchABwdIdeal.nD Cert.BranchABwdIdeal.τ).loc Cert.BranchABwdIdeal.main_arg1))
      ∧ r.2.sem = fun _ => 0)

def quiescent_BranchABwdRefIdeal [hBranchABwdRefIdeal : Cert.BranchABwdRefIdeal.Facts] : Prop :=
  ∀ (m : (ℓ : Loc Cert.BranchABwdRefIdeal.nD Cert.BranchABwdRefIdeal.τ Cert.BranchABwdRefIdeal.sig) → Buf (Elt Ideal) ℓ) (g : Dev Cert.BranchABwdRefIdeal.nD → PrngReg), Pre_BranchABwdRefIdeal m →
    θ_run (Cert.BranchABwdRefIdeal.defs (F := Ideal)) (onTc (τ := Cert.BranchABwdRefIdeal.τ) (Cert.BranchABwdRefIdeal.main (F := Ideal))) ⟨m, fun _ => 0, g⟩ (fun r => (∀ c : Dev Cert.BranchABwdRefIdeal.nD,
      r.2.mem ((c.tc : Thread Cert.BranchABwdRefIdeal.nD Cert.BranchABwdRefIdeal.τ).loc Cert.BranchABwdRefIdeal.main_arg0) = m ((c.tc : Thread Cert.BranchABwdRefIdeal.nD Cert.BranchABwdRefIdeal.τ).loc Cert.BranchABwdRefIdeal.main_arg0)
      ∧ r.2.mem ((c.tc : Thread Cert.BranchABwdRefIdeal.nD Cert.BranchABwdRefIdeal.τ).loc Cert.BranchABwdRefIdeal.main_arg1) = m ((c.tc : Thread Cert.BranchABwdRefIdeal.nD Cert.BranchABwdRefIdeal.τ).loc Cert.BranchABwdRefIdeal.main_arg1))
      ∧ r.2.sem = fun _ => 0)

def quiescent_BranchBBwd [hBranchBBwd : Cert.BranchBBwd.Facts] : Prop :=
  ∀ (m : (ℓ : Loc Cert.BranchBBwd.nD Cert.BranchBBwd.τ Cert.BranchBBwd.sig) → Buf (Elt Bits) ℓ) (g : Dev Cert.BranchBBwd.nD → PrngReg), Pre_BranchBBwd m →
    θ_run (Cert.BranchBBwd.defs (F := Bits)) (onTc (τ := Cert.BranchBBwd.τ) (Cert.BranchBBwd.main (F := Bits))) ⟨m, fun _ => 0, g⟩ (fun r => (∀ c : Dev Cert.BranchBBwd.nD,
      r.2.mem ((c.tc : Thread Cert.BranchBBwd.nD Cert.BranchBBwd.τ).loc Cert.BranchBBwd.main_arg0) = m ((c.tc : Thread Cert.BranchBBwd.nD Cert.BranchBBwd.τ).loc Cert.BranchBBwd.main_arg0)
      ∧ r.2.mem ((c.tc : Thread Cert.BranchBBwd.nD Cert.BranchBBwd.τ).loc Cert.BranchBBwd.main_arg1) = m ((c.tc : Thread Cert.BranchBBwd.nD Cert.BranchBBwd.τ).loc Cert.BranchBBwd.main_arg1))
      ∧ r.2.sem = fun _ => 0)

def quiescent_BranchBBwdIdeal [hBranchBBwdIdeal : Cert.BranchBBwdIdeal.Facts] : Prop :=
  ∀ (m : (ℓ : Loc Cert.BranchBBwdIdeal.nD Cert.BranchBBwdIdeal.τ Cert.BranchBBwdIdeal.sig) → Buf (Elt Ideal) ℓ) (g : Dev Cert.BranchBBwdIdeal.nD → PrngReg), Pre_BranchBBwdIdeal m →
    θ_run (Cert.BranchBBwdIdeal.defs (F := Ideal)) (onTc (τ := Cert.BranchBBwdIdeal.τ) (Cert.BranchBBwdIdeal.main (F := Ideal))) ⟨m, fun _ => 0, g⟩ (fun r => (∀ c : Dev Cert.BranchBBwdIdeal.nD,
      r.2.mem ((c.tc : Thread Cert.BranchBBwdIdeal.nD Cert.BranchBBwdIdeal.τ).loc Cert.BranchBBwdIdeal.main_arg0) = m ((c.tc : Thread Cert.BranchBBwdIdeal.nD Cert.BranchBBwdIdeal.τ).loc Cert.BranchBBwdIdeal.main_arg0)
      ∧ r.2.mem ((c.tc : Thread Cert.BranchBBwdIdeal.nD Cert.BranchBBwdIdeal.τ).loc Cert.BranchBBwdIdeal.main_arg1) = m ((c.tc : Thread Cert.BranchBBwdIdeal.nD Cert.BranchBBwdIdeal.τ).loc Cert.BranchBBwdIdeal.main_arg1))
      ∧ r.2.sem = fun _ => 0)

def quiescent_BranchBBwdRefIdeal [hBranchBBwdRefIdeal : Cert.BranchBBwdRefIdeal.Facts] : Prop :=
  ∀ (m : (ℓ : Loc Cert.BranchBBwdRefIdeal.nD Cert.BranchBBwdRefIdeal.τ Cert.BranchBBwdRefIdeal.sig) → Buf (Elt Ideal) ℓ) (g : Dev Cert.BranchBBwdRefIdeal.nD → PrngReg), Pre_BranchBBwdRefIdeal m →
    θ_run (Cert.BranchBBwdRefIdeal.defs (F := Ideal)) (onTc (τ := Cert.BranchBBwdRefIdeal.τ) (Cert.BranchBBwdRefIdeal.main (F := Ideal))) ⟨m, fun _ => 0, g⟩ (fun r => (∀ c : Dev Cert.BranchBBwdRefIdeal.nD,
      r.2.mem ((c.tc : Thread Cert.BranchBBwdRefIdeal.nD Cert.BranchBBwdRefIdeal.τ).loc Cert.BranchBBwdRefIdeal.main_arg0) = m ((c.tc : Thread Cert.BranchBBwdRefIdeal.nD Cert.BranchBBwdRefIdeal.τ).loc Cert.BranchBBwdRefIdeal.main_arg0)
      ∧ r.2.mem ((c.tc : Thread Cert.BranchBBwdRefIdeal.nD Cert.BranchBBwdRefIdeal.τ).loc Cert.BranchBBwdRefIdeal.main_arg1) = m ((c.tc : Thread Cert.BranchBBwdRefIdeal.nD Cert.BranchBBwdRefIdeal.τ).loc Cert.BranchBBwdRefIdeal.main_arg1))
      ∧ r.2.sem = fun _ => 0)

def quiescent_DwA [hDwA : Cert.DwA.Facts] : Prop :=
  ∀ (m : (ℓ : Loc Cert.DwA.nD Cert.DwA.τ Cert.DwA.sig) → Buf (Elt Bits) ℓ) (g : Dev Cert.DwA.nD → PrngReg), Pre_DwA m →
    θ_run (Cert.DwA.defs (F := Bits)) (onTc (τ := Cert.DwA.τ) (Cert.DwA.main (F := Bits))) ⟨m, fun _ => 0, g⟩ (fun r => (∀ c : Dev Cert.DwA.nD,
      r.2.mem ((c.tc : Thread Cert.DwA.nD Cert.DwA.τ).loc Cert.DwA.main_arg0) = m ((c.tc : Thread Cert.DwA.nD Cert.DwA.τ).loc Cert.DwA.main_arg0)
      ∧ r.2.mem ((c.tc : Thread Cert.DwA.nD Cert.DwA.τ).loc Cert.DwA.main_arg1) = m ((c.tc : Thread Cert.DwA.nD Cert.DwA.τ).loc Cert.DwA.main_arg1))
      ∧ r.2.sem = fun _ => 0)

def quiescent_DwAIdeal [hDwAIdeal : Cert.DwAIdeal.Facts] : Prop :=
  ∀ (m : (ℓ : Loc Cert.DwAIdeal.nD Cert.DwAIdeal.τ Cert.DwAIdeal.sig) → Buf (Elt Ideal) ℓ) (g : Dev Cert.DwAIdeal.nD → PrngReg), Pre_DwAIdeal m →
    θ_run (Cert.DwAIdeal.defs (F := Ideal)) (onTc (τ := Cert.DwAIdeal.τ) (Cert.DwAIdeal.main (F := Ideal))) ⟨m, fun _ => 0, g⟩ (fun r => (∀ c : Dev Cert.DwAIdeal.nD,
      r.2.mem ((c.tc : Thread Cert.DwAIdeal.nD Cert.DwAIdeal.τ).loc Cert.DwAIdeal.main_arg0) = m ((c.tc : Thread Cert.DwAIdeal.nD Cert.DwAIdeal.τ).loc Cert.DwAIdeal.main_arg0)
      ∧ r.2.mem ((c.tc : Thread Cert.DwAIdeal.nD Cert.DwAIdeal.τ).loc Cert.DwAIdeal.main_arg1) = m ((c.tc : Thread Cert.DwAIdeal.nD Cert.DwAIdeal.τ).loc Cert.DwAIdeal.main_arg1))
      ∧ r.2.sem = fun _ => 0)

def quiescent_DwARefIdeal [hDwARefIdeal : Cert.DwARefIdeal.Facts] : Prop :=
  ∀ (m : (ℓ : Loc Cert.DwARefIdeal.nD Cert.DwARefIdeal.τ Cert.DwARefIdeal.sig) → Buf (Elt Ideal) ℓ) (g : Dev Cert.DwARefIdeal.nD → PrngReg), Pre_DwARefIdeal m →
    θ_run (Cert.DwARefIdeal.defs (F := Ideal)) (onTc (τ := Cert.DwARefIdeal.τ) (Cert.DwARefIdeal.main (F := Ideal))) ⟨m, fun _ => 0, g⟩ (fun r => (∀ c : Dev Cert.DwARefIdeal.nD,
      r.2.mem ((c.tc : Thread Cert.DwARefIdeal.nD Cert.DwARefIdeal.τ).loc Cert.DwARefIdeal.main_arg0) = m ((c.tc : Thread Cert.DwARefIdeal.nD Cert.DwARefIdeal.τ).loc Cert.DwARefIdeal.main_arg0)
      ∧ r.2.mem ((c.tc : Thread Cert.DwARefIdeal.nD Cert.DwARefIdeal.τ).loc Cert.DwARefIdeal.main_arg1) = m ((c.tc : Thread Cert.DwARefIdeal.nD Cert.DwARefIdeal.τ).loc Cert.DwARefIdeal.main_arg1))
      ∧ r.2.sem = fun _ => 0)

def quiescent_DwB [hDwB : Cert.DwB.Facts] : Prop :=
  ∀ (m : (ℓ : Loc Cert.DwB.nD Cert.DwB.τ Cert.DwB.sig) → Buf (Elt Bits) ℓ) (g : Dev Cert.DwB.nD → PrngReg), Pre_DwB m →
    θ_run (Cert.DwB.defs (F := Bits)) (onTc (τ := Cert.DwB.τ) (Cert.DwB.main (F := Bits))) ⟨m, fun _ => 0, g⟩ (fun r => (∀ c : Dev Cert.DwB.nD,
      r.2.mem ((c.tc : Thread Cert.DwB.nD Cert.DwB.τ).loc Cert.DwB.main_arg0) = m ((c.tc : Thread Cert.DwB.nD Cert.DwB.τ).loc Cert.DwB.main_arg0)
      ∧ r.2.mem ((c.tc : Thread Cert.DwB.nD Cert.DwB.τ).loc Cert.DwB.main_arg1) = m ((c.tc : Thread Cert.DwB.nD Cert.DwB.τ).loc Cert.DwB.main_arg1))
      ∧ r.2.sem = fun _ => 0)

def quiescent_DwBIdeal [hDwBIdeal : Cert.DwBIdeal.Facts] : Prop :=
  ∀ (m : (ℓ : Loc Cert.DwBIdeal.nD Cert.DwBIdeal.τ Cert.DwBIdeal.sig) → Buf (Elt Ideal) ℓ) (g : Dev Cert.DwBIdeal.nD → PrngReg), Pre_DwBIdeal m →
    θ_run (Cert.DwBIdeal.defs (F := Ideal)) (onTc (τ := Cert.DwBIdeal.τ) (Cert.DwBIdeal.main (F := Ideal))) ⟨m, fun _ => 0, g⟩ (fun r => (∀ c : Dev Cert.DwBIdeal.nD,
      r.2.mem ((c.tc : Thread Cert.DwBIdeal.nD Cert.DwBIdeal.τ).loc Cert.DwBIdeal.main_arg0) = m ((c.tc : Thread Cert.DwBIdeal.nD Cert.DwBIdeal.τ).loc Cert.DwBIdeal.main_arg0)
      ∧ r.2.mem ((c.tc : Thread Cert.DwBIdeal.nD Cert.DwBIdeal.τ).loc Cert.DwBIdeal.main_arg1) = m ((c.tc : Thread Cert.DwBIdeal.nD Cert.DwBIdeal.τ).loc Cert.DwBIdeal.main_arg1))
      ∧ r.2.sem = fun _ => 0)

def quiescent_DwBRefIdeal [hDwBRefIdeal : Cert.DwBRefIdeal.Facts] : Prop :=
  ∀ (m : (ℓ : Loc Cert.DwBRefIdeal.nD Cert.DwBRefIdeal.τ Cert.DwBRefIdeal.sig) → Buf (Elt Ideal) ℓ) (g : Dev Cert.DwBRefIdeal.nD → PrngReg), Pre_DwBRefIdeal m →
    θ_run (Cert.DwBRefIdeal.defs (F := Ideal)) (onTc (τ := Cert.DwBRefIdeal.τ) (Cert.DwBRefIdeal.main (F := Ideal))) ⟨m, fun _ => 0, g⟩ (fun r => (∀ c : Dev Cert.DwBRefIdeal.nD,
      r.2.mem ((c.tc : Thread Cert.DwBRefIdeal.nD Cert.DwBRefIdeal.τ).loc Cert.DwBRefIdeal.main_arg0) = m ((c.tc : Thread Cert.DwBRefIdeal.nD Cert.DwBRefIdeal.τ).loc Cert.DwBRefIdeal.main_arg0)
      ∧ r.2.mem ((c.tc : Thread Cert.DwBRefIdeal.nD Cert.DwBRefIdeal.τ).loc Cert.DwBRefIdeal.main_arg1) = m ((c.tc : Thread Cert.DwBRefIdeal.nD Cert.DwBRefIdeal.τ).loc Cert.DwBRefIdeal.main_arg1))
      ∧ r.2.sem = fun _ => 0)

def quiescent_MlpDownBwd [hMlpDownBwd : Cert.MlpDownBwd.Facts] : Prop :=
  ∀ (m : (ℓ : Loc Cert.MlpDownBwd.nD Cert.MlpDownBwd.τ Cert.MlpDownBwd.sig) → Buf (Elt Bits) ℓ) (g : Dev Cert.MlpDownBwd.nD → PrngReg), Pre_MlpDownBwd m →
    θ_run (Cert.MlpDownBwd.defs (F := Bits)) (onTc (τ := Cert.MlpDownBwd.τ) (Cert.MlpDownBwd.main (F := Bits))) ⟨m, fun _ => 0, g⟩ (fun r => (∀ c : Dev Cert.MlpDownBwd.nD,
      r.2.mem ((c.tc : Thread Cert.MlpDownBwd.nD Cert.MlpDownBwd.τ).loc Cert.MlpDownBwd.main_arg0) = m ((c.tc : Thread Cert.MlpDownBwd.nD Cert.MlpDownBwd.τ).loc Cert.MlpDownBwd.main_arg0)
      ∧ r.2.mem ((c.tc : Thread Cert.MlpDownBwd.nD Cert.MlpDownBwd.τ).loc Cert.MlpDownBwd.main_arg1) = m ((c.tc : Thread Cert.MlpDownBwd.nD Cert.MlpDownBwd.τ).loc Cert.MlpDownBwd.main_arg1)
      ∧ r.2.mem ((c.tc : Thread Cert.MlpDownBwd.nD Cert.MlpDownBwd.τ).loc Cert.MlpDownBwd.main_arg2) = m ((c.tc : Thread Cert.MlpDownBwd.nD Cert.MlpDownBwd.τ).loc Cert.MlpDownBwd.main_arg2))
      ∧ r.2.sem = fun _ => 0)

def quiescent_MlpDownBwdIdeal [hMlpDownBwdIdeal : Cert.MlpDownBwdIdeal.Facts] : Prop :=
  ∀ (m : (ℓ : Loc Cert.MlpDownBwdIdeal.nD Cert.MlpDownBwdIdeal.τ Cert.MlpDownBwdIdeal.sig) → Buf (Elt Ideal) ℓ) (g : Dev Cert.MlpDownBwdIdeal.nD → PrngReg), Pre_MlpDownBwdIdeal m →
    θ_run (Cert.MlpDownBwdIdeal.defs (F := Ideal)) (onTc (τ := Cert.MlpDownBwdIdeal.τ) (Cert.MlpDownBwdIdeal.main (F := Ideal))) ⟨m, fun _ => 0, g⟩ (fun r => (∀ c : Dev Cert.MlpDownBwdIdeal.nD,
      r.2.mem ((c.tc : Thread Cert.MlpDownBwdIdeal.nD Cert.MlpDownBwdIdeal.τ).loc Cert.MlpDownBwdIdeal.main_arg0) = m ((c.tc : Thread Cert.MlpDownBwdIdeal.nD Cert.MlpDownBwdIdeal.τ).loc Cert.MlpDownBwdIdeal.main_arg0)
      ∧ r.2.mem ((c.tc : Thread Cert.MlpDownBwdIdeal.nD Cert.MlpDownBwdIdeal.τ).loc Cert.MlpDownBwdIdeal.main_arg1) = m ((c.tc : Thread Cert.MlpDownBwdIdeal.nD Cert.MlpDownBwdIdeal.τ).loc Cert.MlpDownBwdIdeal.main_arg1)
      ∧ r.2.mem ((c.tc : Thread Cert.MlpDownBwdIdeal.nD Cert.MlpDownBwdIdeal.τ).loc Cert.MlpDownBwdIdeal.main_arg2) = m ((c.tc : Thread Cert.MlpDownBwdIdeal.nD Cert.MlpDownBwdIdeal.τ).loc Cert.MlpDownBwdIdeal.main_arg2))
      ∧ r.2.sem = fun _ => 0)

def quiescent_MlpDownBwdRefIdeal [hMlpDownBwdRefIdeal : Cert.MlpDownBwdRefIdeal.Facts] : Prop :=
  ∀ (m : (ℓ : Loc Cert.MlpDownBwdRefIdeal.nD Cert.MlpDownBwdRefIdeal.τ Cert.MlpDownBwdRefIdeal.sig) → Buf (Elt Ideal) ℓ) (g : Dev Cert.MlpDownBwdRefIdeal.nD → PrngReg), Pre_MlpDownBwdRefIdeal m →
    θ_run (Cert.MlpDownBwdRefIdeal.defs (F := Ideal)) (onTc (τ := Cert.MlpDownBwdRefIdeal.τ) (Cert.MlpDownBwdRefIdeal.main (F := Ideal))) ⟨m, fun _ => 0, g⟩ (fun r => (∀ c : Dev Cert.MlpDownBwdRefIdeal.nD,
      r.2.mem ((c.tc : Thread Cert.MlpDownBwdRefIdeal.nD Cert.MlpDownBwdRefIdeal.τ).loc Cert.MlpDownBwdRefIdeal.main_arg0) = m ((c.tc : Thread Cert.MlpDownBwdRefIdeal.nD Cert.MlpDownBwdRefIdeal.τ).loc Cert.MlpDownBwdRefIdeal.main_arg0)
      ∧ r.2.mem ((c.tc : Thread Cert.MlpDownBwdRefIdeal.nD Cert.MlpDownBwdRefIdeal.τ).loc Cert.MlpDownBwdRefIdeal.main_arg1) = m ((c.tc : Thread Cert.MlpDownBwdRefIdeal.nD Cert.MlpDownBwdRefIdeal.τ).loc Cert.MlpDownBwdRefIdeal.main_arg1)
      ∧ r.2.mem ((c.tc : Thread Cert.MlpDownBwdRefIdeal.nD Cert.MlpDownBwdRefIdeal.τ).loc Cert.MlpDownBwdRefIdeal.main_arg2) = m ((c.tc : Thread Cert.MlpDownBwdRefIdeal.nD Cert.MlpDownBwdRefIdeal.τ).loc Cert.MlpDownBwdRefIdeal.main_arg2))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_ProjG [hProjG : Cert.ProjG.Facts] : Prop :=
  ∀ (m : (ℓ : Loc Cert.ProjG.nD Cert.ProjG.τ Cert.ProjG.sig) → Buf (Elt Bits) ℓ) (g : Dev Cert.ProjG.nD → PrngReg), Pre_ProjG m →
    θ_run (Cert.ProjG.defs (F := Bits)) (onTc (τ := Cert.ProjG.τ) (Cert.ProjG.main (F := Bits))) ⟨m, fun _ => 0, g⟩ (fun r => (∀ c : Dev Cert.ProjG.nD,
      r.2.mem ((c.tc : Thread Cert.ProjG.nD Cert.ProjG.τ).loc Cert.ProjG.main_arg0) = m ((c.tc : Thread Cert.ProjG.nD Cert.ProjG.τ).loc Cert.ProjG.main_arg0)
      ∧ r.2.mem ((c.tc : Thread Cert.ProjG.nD Cert.ProjG.τ).loc Cert.ProjG.main_arg1) = m ((c.tc : Thread Cert.ProjG.nD Cert.ProjG.τ).loc Cert.ProjG.main_arg1))
      ∧ r.2.sem = fun _ => 0)

def quiescent_ProjGIdeal [hProjGIdeal : Cert.ProjGIdeal.Facts] : Prop :=
  ∀ (m : (ℓ : Loc Cert.ProjGIdeal.nD Cert.ProjGIdeal.τ Cert.ProjGIdeal.sig) → Buf (Elt Ideal) ℓ) (g : Dev Cert.ProjGIdeal.nD → PrngReg), Pre_ProjGIdeal m →
    θ_run (Cert.ProjGIdeal.defs (F := Ideal)) (onTc (τ := Cert.ProjGIdeal.τ) (Cert.ProjGIdeal.main (F := Ideal))) ⟨m, fun _ => 0, g⟩ (fun r => (∀ c : Dev Cert.ProjGIdeal.nD,
      r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
      ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ r.2.sem = fun _ => 0)

def quiescent_ProjGRefIdeal [hProjGRefIdeal : Cert.ProjGRefIdeal.Facts] : Prop :=
  ∀ (m : (ℓ : Loc Cert.ProjGRefIdeal.nD Cert.ProjGRefIdeal.τ Cert.ProjGRefIdeal.sig) → Buf (Elt Ideal) ℓ) (g : Dev Cert.ProjGRefIdeal.nD → PrngReg), Pre_ProjGRefIdeal m →
    θ_run (Cert.ProjGRefIdeal.defs (F := Ideal)) (onTc (τ := Cert.ProjGRefIdeal.τ) (Cert.ProjGRefIdeal.main (F := Ideal))) ⟨m, fun _ => 0, g⟩ (fun r => (∀ c : Dev Cert.ProjGRefIdeal.nD,
      r.2.mem ((c.tc : Thread Cert.ProjGRefIdeal.nD Cert.ProjGRefIdeal.τ).loc Cert.ProjGRefIdeal.main_arg0) = m ((c.tc : Thread Cert.ProjGRefIdeal.nD Cert.ProjGRefIdeal.τ).loc Cert.ProjGRefIdeal.main_arg0)
      ∧ r.2.mem ((c.tc : Thread Cert.ProjGRefIdeal.nD Cert.ProjGRefIdeal.τ).loc Cert.ProjGRefIdeal.main_arg1) = m ((c.tc : Thread Cert.ProjGRefIdeal.nD Cert.ProjGRefIdeal.τ).loc Cert.ProjGRefIdeal.main_arg1))
      ∧ r.2.sem = fun _ => 0)

def quiescent_ProjF [hProjF : Cert.ProjF.Facts] : Prop :=
  ∀ (m : (ℓ : Loc Cert.ProjF.nD Cert.ProjF.τ Cert.ProjF.sig) → Buf (Elt Bits) ℓ) (g : Dev Cert.ProjF.nD → PrngReg), Pre_ProjF m →
    θ_run (Cert.ProjF.defs (F := Bits)) (onTc (τ := Cert.ProjF.τ) (Cert.ProjF.main (F := Bits))) ⟨m, fun _ => 0, g⟩ (fun r => (∀ c : Dev Cert.ProjF.nD,
      r.2.mem ((c.tc : Thread Cert.ProjF.nD Cert.ProjF.τ).loc Cert.ProjF.main_arg0) = m ((c.tc : Thread Cert.ProjF.nD Cert.ProjF.τ).loc Cert.ProjF.main_arg0)
      ∧ r.2.mem ((c.tc : Thread Cert.ProjF.nD Cert.ProjF.τ).loc Cert.ProjF.main_arg1) = m ((c.tc : Thread Cert.ProjF.nD Cert.ProjF.τ).loc Cert.ProjF.main_arg1))
      ∧ r.2.sem = fun _ => 0)

def quiescent_ProjFIdeal [hProjFIdeal : Cert.ProjFIdeal.Facts] : Prop :=
  ∀ (m : (ℓ : Loc Cert.ProjFIdeal.nD Cert.ProjFIdeal.τ Cert.ProjFIdeal.sig) → Buf (Elt Ideal) ℓ) (g : Dev Cert.ProjFIdeal.nD → PrngReg), Pre_ProjFIdeal m →
    θ_run (Cert.ProjFIdeal.defs (F := Ideal)) (onTc (τ := Cert.ProjFIdeal.τ) (Cert.ProjFIdeal.main (F := Ideal))) ⟨m, fun _ => 0, g⟩ (fun r => (∀ c : Dev Cert.ProjFIdeal.nD,
      r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
      ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ r.2.sem = fun _ => 0)

def quiescent_ProjFRefIdeal [hProjFRefIdeal : Cert.ProjFRefIdeal.Facts] : Prop :=
  ∀ (m : (ℓ : Loc Cert.ProjFRefIdeal.nD Cert.ProjFRefIdeal.τ Cert.ProjFRefIdeal.sig) → Buf (Elt Ideal) ℓ) (g : Dev Cert.ProjFRefIdeal.nD → PrngReg), Pre_ProjFRefIdeal m →
    θ_run (Cert.ProjFRefIdeal.defs (F := Ideal)) (onTc (τ := Cert.ProjFRefIdeal.τ) (Cert.ProjFRefIdeal.main (F := Ideal))) ⟨m, fun _ => 0, g⟩ (fun r => (∀ c : Dev Cert.ProjFRefIdeal.nD,
      r.2.mem ((c.tc : Thread Cert.ProjFRefIdeal.nD Cert.ProjFRefIdeal.τ).loc Cert.ProjFRefIdeal.main_arg0) = m ((c.tc : Thread Cert.ProjFRefIdeal.nD Cert.ProjFRefIdeal.τ).loc Cert.ProjFRefIdeal.main_arg0)
      ∧ r.2.mem ((c.tc : Thread Cert.ProjFRefIdeal.nD Cert.ProjFRefIdeal.τ).loc Cert.ProjFRefIdeal.main_arg1) = m ((c.tc : Thread Cert.ProjFRefIdeal.nD Cert.ProjFRefIdeal.τ).loc Cert.ProjFRefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDownLoss [hMlpDownLoss : Cert.MlpDownLoss.Facts] : Prop :=
  ∀ (m : (ℓ : Loc Cert.MlpDownLoss.nD Cert.MlpDownLoss.τ Cert.MlpDownLoss.sig) → Buf (Elt Bits) ℓ) (g : Dev Cert.MlpDownLoss.nD → PrngReg), Pre_MlpDownLoss m →
    θ_run (Cert.MlpDownLoss.defs (F := Bits)) (onTc (τ := Cert.MlpDownLoss.τ) (Cert.MlpDownLoss.main (F := Bits))) ⟨m, fun _ => 0, g⟩ (fun r => (∀ c : Dev Cert.MlpDownLoss.nD,
      r.2.mem ((c.tc : Thread Cert.MlpDownLoss.nD Cert.MlpDownLoss.τ).loc Cert.MlpDownLoss.main_arg0) = m ((c.tc : Thread Cert.MlpDownLoss.nD Cert.MlpDownLoss.τ).loc Cert.MlpDownLoss.main_arg0)
      ∧ r.2.mem ((c.tc : Thread Cert.MlpDownLoss.nD Cert.MlpDownLoss.τ).loc Cert.MlpDownLoss.main_arg1) = m ((c.tc : Thread Cert.MlpDownLoss.nD Cert.MlpDownLoss.τ).loc Cert.MlpDownLoss.main_arg1)
      ∧ r.2.mem ((c.tc : Thread Cert.MlpDownLoss.nD Cert.MlpDownLoss.τ).loc Cert.MlpDownLoss.main_arg2) = m ((c.tc : Thread Cert.MlpDownLoss.nD Cert.MlpDownLoss.τ).loc Cert.MlpDownLoss.main_arg2)
      ∧ r.2.mem ((c.tc : Thread Cert.MlpDownLoss.nD Cert.MlpDownLoss.τ).loc Cert.MlpDownLoss.main_arg3) = m ((c.tc : Thread Cert.MlpDownLoss.nD Cert.MlpDownLoss.τ).loc Cert.MlpDownLoss.main_arg3)
      ∧ r.2.mem ((c.tc : Thread Cert.MlpDownLoss.nD Cert.MlpDownLoss.τ).loc Cert.MlpDownLoss.main_arg4) = m ((c.tc : Thread Cert.MlpDownLoss.nD Cert.MlpDownLoss.τ).loc Cert.MlpDownLoss.main_arg4))
      ∧ r.2.sem = fun _ => 0)

def quiescent_MlpDownLossIdeal [hMlpDownLossIdeal : Cert.MlpDownLossIdeal.Facts] : Prop :=
  ∀ (m : (ℓ : Loc Cert.MlpDownLossIdeal.nD Cert.MlpDownLossIdeal.τ Cert.MlpDownLossIdeal.sig) → Buf (Elt Ideal) ℓ) (g : Dev Cert.MlpDownLossIdeal.nD → PrngReg), Pre_MlpDownLossIdeal m →
    θ_run (Cert.MlpDownLossIdeal.defs (F := Ideal)) (onTc (τ := Cert.MlpDownLossIdeal.τ) (Cert.MlpDownLossIdeal.main (F := Ideal))) ⟨m, fun _ => 0, g⟩ (fun r => (∀ c : Dev Cert.MlpDownLossIdeal.nD,
      r.2.mem ((c.tc : Thread Cert.MlpDownLossIdeal.nD Cert.MlpDownLossIdeal.τ).loc Cert.MlpDownLossIdeal.main_arg0) = m ((c.tc : Thread Cert.MlpDownLossIdeal.nD Cert.MlpDownLossIdeal.τ).loc Cert.MlpDownLossIdeal.main_arg0)
      ∧ r.2.mem ((c.tc : Thread Cert.MlpDownLossIdeal.nD Cert.MlpDownLossIdeal.τ).loc Cert.MlpDownLossIdeal.main_arg1) = m ((c.tc : Thread Cert.MlpDownLossIdeal.nD Cert.MlpDownLossIdeal.τ).loc Cert.MlpDownLossIdeal.main_arg1)
      ∧ r.2.mem ((c.tc : Thread Cert.MlpDownLossIdeal.nD Cert.MlpDownLossIdeal.τ).loc Cert.MlpDownLossIdeal.main_arg2) = m ((c.tc : Thread Cert.MlpDownLossIdeal.nD Cert.MlpDownLossIdeal.τ).loc Cert.MlpDownLossIdeal.main_arg2)
      ∧ r.2.mem ((c.tc : Thread Cert.MlpDownLossIdeal.nD Cert.MlpDownLossIdeal.τ).loc Cert.MlpDownLossIdeal.main_arg3) = m ((c.tc : Thread Cert.MlpDownLossIdeal.nD Cert.MlpDownLossIdeal.τ).loc Cert.MlpDownLossIdeal.main_arg3)
      ∧ r.2.mem ((c.tc : Thread Cert.MlpDownLossIdeal.nD Cert.MlpDownLossIdeal.τ).loc Cert.MlpDownLossIdeal.main_arg4) = m ((c.tc : Thread Cert.MlpDownLossIdeal.nD Cert.MlpDownLossIdeal.τ).loc Cert.MlpDownLossIdeal.main_arg4))
      ∧ r.2.sem = fun _ => 0)

def quiescent_MlpDownLossRefIdeal [hMlpDownLossRefIdeal : Cert.MlpDownLossRefIdeal.Facts] : Prop :=
  ∀ (m : (ℓ : Loc Cert.MlpDownLossRefIdeal.nD Cert.MlpDownLossRefIdeal.τ Cert.MlpDownLossRefIdeal.sig) → Buf (Elt Ideal) ℓ) (g : Dev Cert.MlpDownLossRefIdeal.nD → PrngReg), Pre_MlpDownLossRefIdeal m →
    θ_run (Cert.MlpDownLossRefIdeal.defs (F := Ideal)) (onTc (τ := Cert.MlpDownLossRefIdeal.τ) (Cert.MlpDownLossRefIdeal.main (F := Ideal))) ⟨m, fun _ => 0, g⟩ (fun r => (∀ c : Dev Cert.MlpDownLossRefIdeal.nD,
      r.2.mem ((c.tc : Thread Cert.MlpDownLossRefIdeal.nD Cert.MlpDownLossRefIdeal.τ).loc Cert.MlpDownLossRefIdeal.main_arg0) = m ((c.tc : Thread Cert.MlpDownLossRefIdeal.nD Cert.MlpDownLossRefIdeal.τ).loc Cert.MlpDownLossRefIdeal.main_arg0)
      ∧ r.2.mem ((c.tc : Thread Cert.MlpDownLossRefIdeal.nD Cert.MlpDownLossRefIdeal.τ).loc Cert.MlpDownLossRefIdeal.main_arg1) = m ((c.tc : Thread Cert.MlpDownLossRefIdeal.nD Cert.MlpDownLossRefIdeal.τ).loc Cert.MlpDownLossRefIdeal.main_arg1)
      ∧ r.2.mem ((c.tc : Thread Cert.MlpDownLossRefIdeal.nD Cert.MlpDownLossRefIdeal.τ).loc Cert.MlpDownLossRefIdeal.main_arg2) = m ((c.tc : Thread Cert.MlpDownLossRefIdeal.nD Cert.MlpDownLossRefIdeal.τ).loc Cert.MlpDownLossRefIdeal.main_arg2)
      ∧ r.2.mem ((c.tc : Thread Cert.MlpDownLossRefIdeal.nD Cert.MlpDownLossRefIdeal.τ).loc Cert.MlpDownLossRefIdeal.main_arg3) = m ((c.tc : Thread Cert.MlpDownLossRefIdeal.nD Cert.MlpDownLossRefIdeal.τ).loc Cert.MlpDownLossRefIdeal.main_arg3)
      ∧ r.2.mem ((c.tc : Thread Cert.MlpDownLossRefIdeal.nD Cert.MlpDownLossRefIdeal.τ).loc Cert.MlpDownLossRefIdeal.main_arg4) = m ((c.tc : Thread Cert.MlpDownLossRefIdeal.nD Cert.MlpDownLossRefIdeal.τ).loc Cert.MlpDownLossRefIdeal.main_arg4))
      ∧ r.2.sem = fun _ => 0)

def quiescent_MixerTail [hMixerTail : Cert.MixerTail.Facts] : Prop :=
  ∀ (m : (ℓ : Loc Cert.MixerTail.nD Cert.MixerTail.τ Cert.MixerTail.sig) → Buf (Elt Bits) ℓ) (g : Dev Cert.MixerTail.nD → PrngReg), Pre_MixerTail m →
    θ_run (Cert.MixerTail.defs (F := Bits)) (onTc (τ := Cert.MixerTail.τ) (Cert.MixerTail.main (F := Bits))) ⟨m, fun _ => 0, g⟩ (fun r => (∀ c : Dev Cert.MixerTail.nD,
      r.2.mem ((c.tc : Thread Cert.MixerTail.nD Cert.MixerTail.τ).loc Cert.MixerTail.main_arg0) = m ((c.tc : Thread Cert.MixerTail.nD Cert.MixerTail.τ).loc Cert.MixerTail.main_arg0)
      ∧ r.2.mem ((c.tc : Thread Cert.MixerTail.nD Cert.MixerTail.τ).loc Cert.MixerTail.main_arg1) = m ((c.tc : Thread Cert.MixerTail.nD Cert.MixerTail.τ).loc Cert.MixerTail.main_arg1)
      ∧ r.2.mem ((c.tc : Thread Cert.MixerTail.nD Cert.MixerTail.τ).loc Cert.MixerTail.main_arg2) = m ((c.tc : Thread Cert.MixerTail.nD Cert.MixerTail.τ).loc Cert.MixerTail.main_arg2)
      ∧ r.2.mem ((c.tc : Thread Cert.MixerTail.nD Cert.MixerTail.τ).loc Cert.MixerTail.main_arg3) = m ((c.tc : Thread Cert.MixerTail.nD Cert.MixerTail.τ).loc Cert.MixerTail.main_arg3)
      ∧ r.2.mem ((c.tc : Thread Cert.MixerTail.nD Cert.MixerTail.τ).loc Cert.MixerTail.main_arg4) = m ((c.tc : Thread Cert.MixerTail.nD Cert.MixerTail.τ).loc Cert.MixerTail.main_arg4)
      ∧ r.2.mem ((c.tc : Thread Cert.MixerTail.nD Cert.MixerTail.τ).loc Cert.MixerTail.main_arg5) = m ((c.tc : Thread Cert.MixerTail.nD Cert.MixerTail.τ).loc Cert.MixerTail.main_arg5)
      ∧ r.2.mem ((c.tc : Thread Cert.MixerTail.nD Cert.MixerTail.τ).loc Cert.MixerTail.main_arg6) = m ((c.tc : Thread Cert.MixerTail.nD Cert.MixerTail.τ).loc Cert.MixerTail.main_arg6)
      ∧ r.2.mem ((c.tc : Thread Cert.MixerTail.nD Cert.MixerTail.τ).loc Cert.MixerTail.main_arg7) = m ((c.tc : Thread Cert.MixerTail.nD Cert.MixerTail.τ).loc Cert.MixerTail.main_arg7))
      ∧ r.2.sem = fun _ => 0)

def quiescent_MixerTailIdeal [hMixerTailIdeal : Cert.MixerTailIdeal.Facts] : Prop :=
  ∀ (m : (ℓ : Loc Cert.MixerTailIdeal.nD Cert.MixerTailIdeal.τ Cert.MixerTailIdeal.sig) → Buf (Elt Ideal) ℓ) (g : Dev Cert.MixerTailIdeal.nD → PrngReg), Pre_MixerTailIdeal m →
    θ_run (Cert.MixerTailIdeal.defs (F := Ideal)) (onTc (τ := Cert.MixerTailIdeal.τ) (Cert.MixerTailIdeal.main (F := Ideal))) ⟨m, fun _ => 0, g⟩ (fun r => (∀ c : Dev Cert.MixerTailIdeal.nD,
      r.2.mem ((c.tc : Thread Cert.MixerTailIdeal.nD Cert.MixerTailIdeal.τ).loc Cert.MixerTailIdeal.main_arg0) = m ((c.tc : Thread Cert.MixerTailIdeal.nD Cert.MixerTailIdeal.τ).loc Cert.MixerTailIdeal.main_arg0)
      ∧ r.2.mem ((c.tc : Thread Cert.MixerTailIdeal.nD Cert.MixerTailIdeal.τ).loc Cert.MixerTailIdeal.main_arg1) = m ((c.tc : Thread Cert.MixerTailIdeal.nD Cert.MixerTailIdeal.τ).loc Cert.MixerTailIdeal.main_arg1)
      ∧ r.2.mem ((c.tc : Thread Cert.MixerTailIdeal.nD Cert.MixerTailIdeal.τ).loc Cert.MixerTailIdeal.main_arg2) = m ((c.tc : Thread Cert.MixerTailIdeal.nD Cert.MixerTailIdeal.τ).loc Cert.MixerTailIdeal.main_arg2)
      ∧ r.2.mem ((c.tc : Thread Cert.MixerTailIdeal.nD Cert.MixerTailIdeal.τ).loc Cert.MixerTailIdeal.main_arg3) = m ((c.tc : Thread Cert.MixerTailIdeal.nD Cert.MixerTailIdeal.τ).loc Cert.MixerTailIdeal.main_arg3)
      ∧ r.2.mem ((c.tc : Thread Cert.MixerTailIdeal.nD Cert.MixerTailIdeal.τ).loc Cert.MixerTailIdeal.main_arg4) = m ((c.tc : Thread Cert.MixerTailIdeal.nD Cert.MixerTailIdeal.τ).loc Cert.MixerTailIdeal.main_arg4)
      ∧ r.2.mem ((c.tc : Thread Cert.MixerTailIdeal.nD Cert.MixerTailIdeal.τ).loc Cert.MixerTailIdeal.main_arg5) = m ((c.tc : Thread Cert.MixerTailIdeal.nD Cert.MixerTailIdeal.τ).loc Cert.MixerTailIdeal.main_arg5)
      ∧ r.2.mem ((c.tc : Thread Cert.MixerTailIdeal.nD Cert.MixerTailIdeal.τ).loc Cert.MixerTailIdeal.main_arg6) = m ((c.tc : Thread Cert.MixerTailIdeal.nD Cert.MixerTailIdeal.τ).loc Cert.MixerTailIdeal.main_arg6)
      ∧ r.2.mem ((c.tc : Thread Cert.MixerTailIdeal.nD Cert.MixerTailIdeal.τ).loc Cert.MixerTailIdeal.main_arg7) = m ((c.tc : Thread Cert.MixerTailIdeal.nD Cert.MixerTailIdeal.τ).loc Cert.MixerTailIdeal.main_arg7))
      ∧ r.2.sem = fun _ => 0)

def quiescent_MixerTailRefIdeal [hMixerTailRefIdeal : Cert.MixerTailRefIdeal.Facts] : Prop :=
  ∀ (m : (ℓ : Loc Cert.MixerTailRefIdeal.nD Cert.MixerTailRefIdeal.τ Cert.MixerTailRefIdeal.sig) → Buf (Elt Ideal) ℓ) (g : Dev Cert.MixerTailRefIdeal.nD → PrngReg), Pre_MixerTailRefIdeal m →
    θ_run (Cert.MixerTailRefIdeal.defs (F := Ideal)) (onTc (τ := Cert.MixerTailRefIdeal.τ) (Cert.MixerTailRefIdeal.main (F := Ideal))) ⟨m, fun _ => 0, g⟩ (fun r => (∀ c : Dev Cert.MixerTailRefIdeal.nD,
      r.2.mem ((c.tc : Thread Cert.MixerTailRefIdeal.nD Cert.MixerTailRefIdeal.τ).loc Cert.MixerTailRefIdeal.main_arg0) = m ((c.tc : Thread Cert.MixerTailRefIdeal.nD Cert.MixerTailRefIdeal.τ).loc Cert.MixerTailRefIdeal.main_arg0)
      ∧ r.2.mem ((c.tc : Thread Cert.MixerTailRefIdeal.nD Cert.MixerTailRefIdeal.τ).loc Cert.MixerTailRefIdeal.main_arg1) = m ((c.tc : Thread Cert.MixerTailRefIdeal.nD Cert.MixerTailRefIdeal.τ).loc Cert.MixerTailRefIdeal.main_arg1)
      ∧ r.2.mem ((c.tc : Thread Cert.MixerTailRefIdeal.nD Cert.MixerTailRefIdeal.τ).loc Cert.MixerTailRefIdeal.main_arg2) = m ((c.tc : Thread Cert.MixerTailRefIdeal.nD Cert.MixerTailRefIdeal.τ).loc Cert.MixerTailRefIdeal.main_arg2)
      ∧ r.2.mem ((c.tc : Thread Cert.MixerTailRefIdeal.nD Cert.MixerTailRefIdeal.τ).loc Cert.MixerTailRefIdeal.main_arg3) = m ((c.tc : Thread Cert.MixerTailRefIdeal.nD Cert.MixerTailRefIdeal.τ).loc Cert.MixerTailRefIdeal.main_arg3)
      ∧ r.2.mem ((c.tc : Thread Cert.MixerTailRefIdeal.nD Cert.MixerTailRefIdeal.τ).loc Cert.MixerTailRefIdeal.main_arg4) = m ((c.tc : Thread Cert.MixerTailRefIdeal.nD Cert.MixerTailRefIdeal.τ).loc Cert.MixerTailRefIdeal.main_arg4)
      ∧ r.2.mem ((c.tc : Thread Cert.MixerTailRefIdeal.nD Cert.MixerTailRefIdeal.τ).loc Cert.MixerTailRefIdeal.main_arg5) = m ((c.tc : Thread Cert.MixerTailRefIdeal.nD Cert.MixerTailRefIdeal.τ).loc Cert.MixerTailRefIdeal.main_arg5)
      ∧ r.2.mem ((c.tc : Thread Cert.MixerTailRefIdeal.nD Cert.MixerTailRefIdeal.τ).loc Cert.MixerTailRefIdeal.main_arg6) = m ((c.tc : Thread Cert.MixerTailRefIdeal.nD Cert.MixerTailRefIdeal.τ).loc Cert.MixerTailRefIdeal.main_arg6)
      ∧ r.2.mem ((c.tc : Thread Cert.MixerTailRefIdeal.nD Cert.MixerTailRefIdeal.τ).loc Cert.MixerTailRefIdeal.main_arg7) = m ((c.tc : Thread Cert.MixerTailRefIdeal.nD Cert.MixerTailRefIdeal.τ).loc Cert.MixerTailRefIdeal.main_arg7))
      ∧ r.2.sem = fun _ => 0)

def quiescent_FoxDscan [hFoxDscan : Cert.FoxDscan.Facts] : Prop :=
  ∀ (m : (ℓ : Loc Cert.FoxDscan.nD Cert.FoxDscan.τ Cert.FoxDscan.sig) → Buf (Elt Bits) ℓ) (g : Dev Cert.FoxDscan.nD → PrngReg), Pre_FoxDscan m →
    θ_run (Cert.FoxDscan.defs (F := Bits)) (onTc (τ := Cert.FoxDscan.τ) (Cert.FoxDscan.main (F := Bits))) ⟨m, fun _ => 0, g⟩ (fun r => (∀ c : Dev Cert.FoxDscan.nD,
      r.2.mem ((c.tc : Thread Cert.FoxDscan.nD Cert.FoxDscan.τ).loc Cert.FoxDscan.main_arg0) = m ((c.tc : Thread Cert.FoxDscan.nD Cert.FoxDscan.τ).loc Cert.FoxDscan.main_arg0)
      ∧ r.2.mem ((c.tc : Thread Cert.FoxDscan.nD Cert.FoxDscan.τ).loc Cert.FoxDscan.main_arg1) = m ((c.tc : Thread Cert.FoxDscan.nD Cert.FoxDscan.τ).loc Cert.FoxDscan.main_arg1)
      ∧ r.2.mem ((c.tc : Thread Cert.FoxDscan.nD Cert.FoxDscan.τ).loc Cert.FoxDscan.main_arg2) = m ((c.tc : Thread Cert.FoxDscan.nD Cert.FoxDscan.τ).loc Cert.FoxDscan.main_arg2)
      ∧ r.2.mem ((c.tc : Thread Cert.FoxDscan.nD Cert.FoxDscan.τ).loc Cert.FoxDscan.main_arg3) = m ((c.tc : Thread Cert.FoxDscan.nD Cert.FoxDscan.τ).loc Cert.FoxDscan.main_arg3)
      ∧ r.2.mem ((c.tc : Thread Cert.FoxDscan.nD Cert.FoxDscan.τ).loc Cert.FoxDscan.main_arg4) = m ((c.tc : Thread Cert.FoxDscan.nD Cert.FoxDscan.τ).loc Cert.FoxDscan.main_arg4))
      ∧ r.2.sem = fun _ => 0)

def quiescent_FoxDscanIdeal [hFoxDscanIdeal : Cert.FoxDscanIdeal.Facts] : Prop :=
  ∀ (m : (ℓ : Loc Cert.FoxDscanIdeal.nD Cert.FoxDscanIdeal.τ Cert.FoxDscanIdeal.sig) → Buf (Elt Ideal) ℓ) (g : Dev Cert.FoxDscanIdeal.nD → PrngReg), Pre_FoxDscanIdeal m →
    θ_run (Cert.FoxDscanIdeal.defs (F := Ideal)) (onTc (τ := Cert.FoxDscanIdeal.τ) (Cert.FoxDscanIdeal.main (F := Ideal))) ⟨m, fun _ => 0, g⟩ (fun r => (∀ c : Dev Cert.FoxDscanIdeal.nD,
      r.2.mem ((c.tc : Thread Cert.FoxDscanIdeal.nD Cert.FoxDscanIdeal.τ).loc Cert.FoxDscanIdeal.main_arg0) = m ((c.tc : Thread Cert.FoxDscanIdeal.nD Cert.FoxDscanIdeal.τ).loc Cert.FoxDscanIdeal.main_arg0)
      ∧ r.2.mem ((c.tc : Thread Cert.FoxDscanIdeal.nD Cert.FoxDscanIdeal.τ).loc Cert.FoxDscanIdeal.main_arg1) = m ((c.tc : Thread Cert.FoxDscanIdeal.nD Cert.FoxDscanIdeal.τ).loc Cert.FoxDscanIdeal.main_arg1)
      ∧ r.2.mem ((c.tc : Thread Cert.FoxDscanIdeal.nD Cert.FoxDscanIdeal.τ).loc Cert.FoxDscanIdeal.main_arg2) = m ((c.tc : Thread Cert.FoxDscanIdeal.nD Cert.FoxDscanIdeal.τ).loc Cert.FoxDscanIdeal.main_arg2)
      ∧ r.2.mem ((c.tc : Thread Cert.FoxDscanIdeal.nD Cert.FoxDscanIdeal.τ).loc Cert.FoxDscanIdeal.main_arg3) = m ((c.tc : Thread Cert.FoxDscanIdeal.nD Cert.FoxDscanIdeal.τ).loc Cert.FoxDscanIdeal.main_arg3)
      ∧ r.2.mem ((c.tc : Thread Cert.FoxDscanIdeal.nD Cert.FoxDscanIdeal.τ).loc Cert.FoxDscanIdeal.main_arg4) = m ((c.tc : Thread Cert.FoxDscanIdeal.nD Cert.FoxDscanIdeal.τ).loc Cert.FoxDscanIdeal.main_arg4))
      ∧ r.2.sem = fun _ => 0)

def quiescent_FoxDscanRefIdeal [hFoxDscanRefIdeal : Cert.FoxDscanRefIdeal.Facts] : Prop :=
  ∀ (m : (ℓ : Loc Cert.FoxDscanRefIdeal.nD Cert.FoxDscanRefIdeal.τ Cert.FoxDscanRefIdeal.sig) → Buf (Elt Ideal) ℓ) (g : Dev Cert.FoxDscanRefIdeal.nD → PrngReg), Pre_FoxDscanRefIdeal m →
    θ_run (Cert.FoxDscanRefIdeal.defs (F := Ideal)) (onTc (τ := Cert.FoxDscanRefIdeal.τ) (Cert.FoxDscanRefIdeal.main (F := Ideal))) ⟨m, fun _ => 0, g⟩ (fun r => (∀ c : Dev Cert.FoxDscanRefIdeal.nD,
      r.2.mem ((c.tc : Thread Cert.FoxDscanRefIdeal.nD Cert.FoxDscanRefIdeal.τ).loc Cert.FoxDscanRefIdeal.main_arg0) = m ((c.tc : Thread Cert.FoxDscanRefIdeal.nD Cert.FoxDscanRefIdeal.τ).loc Cert.FoxDscanRefIdeal.main_arg0)
      ∧ r.2.mem ((c.tc : Thread Cert.FoxDscanRefIdeal.nD Cert.FoxDscanRefIdeal.τ).loc Cert.FoxDscanRefIdeal.main_arg1) = m ((c.tc : Thread Cert.FoxDscanRefIdeal.nD Cert.FoxDscanRefIdeal.τ).loc Cert.FoxDscanRefIdeal.main_arg1)
      ∧ r.2.mem ((c.tc : Thread Cert.FoxDscanRefIdeal.nD Cert.FoxDscanRefIdeal.τ).loc Cert.FoxDscanRefIdeal.main_arg2) = m ((c.tc : Thread Cert.FoxDscanRefIdeal.nD Cert.FoxDscanRefIdeal.τ).loc Cert.FoxDscanRefIdeal.main_arg2)
      ∧ r.2.mem ((c.tc : Thread Cert.FoxDscanRefIdeal.nD Cert.FoxDscanRefIdeal.τ).loc Cert.FoxDscanRefIdeal.main_arg3) = m ((c.tc : Thread Cert.FoxDscanRefIdeal.nD Cert.FoxDscanRefIdeal.τ).loc Cert.FoxDscanRefIdeal.main_arg3)
      ∧ r.2.mem ((c.tc : Thread Cert.FoxDscanRefIdeal.nD Cert.FoxDscanRefIdeal.τ).loc Cert.FoxDscanRefIdeal.main_arg4) = m ((c.tc : Thread Cert.FoxDscanRefIdeal.nD Cert.FoxDscanRefIdeal.τ).loc Cert.FoxDscanRefIdeal.main_arg4))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3)
      ∧ r.2.mem ((c.tc : Thread Cert.AdamWIn.nD Cert.AdamWIn.τ).loc Cert.AdamWIn.main_arg4) = m ((c.tc : Thread Cert.AdamWIn.nD Cert.AdamWIn.τ).loc Cert.AdamWIn.main_arg4))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3)
      ∧ r.2.mem ((c.tc : Thread Cert.AdamWInIdeal.nD Cert.AdamWInIdeal.τ).loc Cert.AdamWInIdeal.main_arg4) = m ((c.tc : Thread Cert.AdamWInIdeal.nD Cert.AdamWInIdeal.τ).loc Cert.AdamWInIdeal.main_arg4))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3)
      ∧ r.2.mem ((c.tc : Thread Cert.AdamWInRefIdeal.nD Cert.AdamWInRefIdeal.τ).loc Cert.AdamWInRefIdeal.main_arg4) = m ((c.tc : Thread Cert.AdamWInRefIdeal.nD Cert.AdamWInRefIdeal.τ).loc Cert.AdamWInRefIdeal.main_arg4))
      ∧ r.2.sem = fun _ => 0)

def quiescent_AdamWA [hAdamWA : Cert.AdamWA.Facts] : Prop :=
  ∀ (m : (ℓ : Loc Cert.AdamWA.nD Cert.AdamWA.τ Cert.AdamWA.sig) → Buf (Elt Bits) ℓ) (g : Dev Cert.AdamWA.nD → PrngReg), Pre_AdamWA m →
    θ_run (Cert.AdamWA.defs (F := Bits)) (onTc (τ := Cert.AdamWA.τ) (Cert.AdamWA.main (F := Bits))) ⟨m, fun _ => 0, g⟩ (fun r => (∀ c : Dev Cert.AdamWA.nD,
      r.2.mem ((c.tc : Thread Cert.AdamWA.nD Cert.AdamWA.τ).loc Cert.AdamWA.main_arg0) = m ((c.tc : Thread Cert.AdamWA.nD Cert.AdamWA.τ).loc Cert.AdamWA.main_arg0)
      ∧ r.2.mem ((c.tc : Thread Cert.AdamWA.nD Cert.AdamWA.τ).loc Cert.AdamWA.main_arg1) = m ((c.tc : Thread Cert.AdamWA.nD Cert.AdamWA.τ).loc Cert.AdamWA.main_arg1)
      ∧ r.2.mem ((c.tc : Thread Cert.AdamWA.nD Cert.AdamWA.τ).loc Cert.AdamWA.main_arg2) = m ((c.tc : Thread Cert.AdamWA.nD Cert.AdamWA.τ).loc Cert.AdamWA.main_arg2)
      ∧ r.2.mem ((c.tc : Thread Cert.AdamWA.nD Cert.AdamWA.τ).loc Cert.AdamWA.main_arg3) = m ((c.tc : Thread Cert.AdamWA.nD Cert.AdamWA.τ).loc Cert.AdamWA.main_arg3)
      ∧ r.2.mem ((c.tc : Thread Cert.AdamWA.nD Cert.AdamWA.τ).loc Cert.AdamWA.main_arg4) = m ((c.tc : Thread Cert.AdamWA.nD Cert.AdamWA.τ).loc Cert.AdamWA.main_arg4))
      ∧ r.2.sem = fun _ => 0)

def quiescent_AdamWAIdeal [hAdamWAIdeal : Cert.AdamWAIdeal.Facts] : Prop :=
  ∀ (m : (ℓ : Loc Cert.AdamWAIdeal.nD Cert.AdamWAIdeal.τ Cert.AdamWAIdeal.sig) → Buf (Elt Ideal) ℓ) (g : Dev Cert.AdamWAIdeal.nD → PrngReg), Pre_AdamWAIdeal m →
    θ_run (Cert.AdamWAIdeal.defs (F := Ideal)) (onTc (τ := Cert.AdamWAIdeal.τ) (Cert.AdamWAIdeal.main (F := Ideal))) ⟨m, fun _ => 0, g⟩ (fun r => (∀ c : Dev Cert.AdamWAIdeal.nD,
      r.2.mem ((c.tc : Thread Cert.AdamWAIdeal.nD Cert.AdamWAIdeal.τ).loc Cert.AdamWAIdeal.main_arg0) = m ((c.tc : Thread Cert.AdamWAIdeal.nD Cert.AdamWAIdeal.τ).loc Cert.AdamWAIdeal.main_arg0)
      ∧ r.2.mem ((c.tc : Thread Cert.AdamWAIdeal.nD Cert.AdamWAIdeal.τ).loc Cert.AdamWAIdeal.main_arg1) = m ((c.tc : Thread Cert.AdamWAIdeal.nD Cert.AdamWAIdeal.τ).loc Cert.AdamWAIdeal.main_arg1)
      ∧ r.2.mem ((c.tc : Thread Cert.AdamWAIdeal.nD Cert.AdamWAIdeal.τ).loc Cert.AdamWAIdeal.main_arg2) = m ((c.tc : Thread Cert.AdamWAIdeal.nD Cert.AdamWAIdeal.τ).loc Cert.AdamWAIdeal.main_arg2)
      ∧ r.2.mem ((c.tc : Thread Cert.AdamWAIdeal.nD Cert.AdamWAIdeal.τ).loc Cert.AdamWAIdeal.main_arg3) = m ((c.tc : Thread Cert.AdamWAIdeal.nD Cert.AdamWAIdeal.τ).loc Cert.AdamWAIdeal.main_arg3)
      ∧ r.2.mem ((c.tc : Thread Cert.AdamWAIdeal.nD Cert.AdamWAIdeal.τ).loc Cert.AdamWAIdeal.main_arg4) = m ((c.tc : Thread Cert.AdamWAIdeal.nD Cert.AdamWAIdeal.τ).loc Cert.AdamWAIdeal.main_arg4))
      ∧ r.2.sem = fun _ => 0)

def quiescent_AdamWARefIdeal [hAdamWARefIdeal : Cert.AdamWARefIdeal.Facts] : Prop :=
  ∀ (m : (ℓ : Loc Cert.AdamWARefIdeal.nD Cert.AdamWARefIdeal.τ Cert.AdamWARefIdeal.sig) → Buf (Elt Ideal) ℓ) (g : Dev Cert.AdamWARefIdeal.nD → PrngReg), Pre_AdamWARefIdeal m →
    θ_run (Cert.AdamWARefIdeal.defs (F := Ideal)) (onTc (τ := Cert.AdamWARefIdeal.τ) (Cert.AdamWARefIdeal.main (F := Ideal))) ⟨m, fun _ => 0, g⟩ (fun r => (∀ c : Dev Cert.AdamWARefIdeal.nD,
      r.2.mem ((c.tc : Thread Cert.AdamWARefIdeal.nD Cert.AdamWARefIdeal.τ).loc Cert.AdamWARefIdeal.main_arg0) = m ((c.tc : Thread Cert.AdamWARefIdeal.nD Cert.AdamWARefIdeal.τ).loc Cert.AdamWARefIdeal.main_arg0)
      ∧ r.2.mem ((c.tc : Thread Cert.AdamWARefIdeal.nD Cert.AdamWARefIdeal.τ).loc Cert.AdamWARefIdeal.main_arg1) = m ((c.tc : Thread Cert.AdamWARefIdeal.nD Cert.AdamWARefIdeal.τ).loc Cert.AdamWARefIdeal.main_arg1)
      ∧ r.2.mem ((c.tc : Thread Cert.AdamWARefIdeal.nD Cert.AdamWARefIdeal.τ).loc Cert.AdamWARefIdeal.main_arg2) = m ((c.tc : Thread Cert.AdamWARefIdeal.nD Cert.AdamWARefIdeal.τ).loc Cert.AdamWARefIdeal.main_arg2)
      ∧ r.2.mem ((c.tc : Thread Cert.AdamWARefIdeal.nD Cert.AdamWARefIdeal.τ).loc Cert.AdamWARefIdeal.main_arg3) = m ((c.tc : Thread Cert.AdamWARefIdeal.nD Cert.AdamWARefIdeal.τ).loc Cert.AdamWARefIdeal.main_arg3)
      ∧ r.2.mem ((c.tc : Thread Cert.AdamWARefIdeal.nD Cert.AdamWARefIdeal.τ).loc Cert.AdamWARefIdeal.main_arg4) = m ((c.tc : Thread Cert.AdamWARefIdeal.nD Cert.AdamWARefIdeal.τ).loc Cert.AdamWARefIdeal.main_arg4))
      ∧ r.2.sem = fun _ => 0)

def quiescent_AdamWB [hAdamWB : Cert.AdamWB.Facts] : Prop :=
  ∀ (m : (ℓ : Loc Cert.AdamWB.nD Cert.AdamWB.τ Cert.AdamWB.sig) → Buf (Elt Bits) ℓ) (g : Dev Cert.AdamWB.nD → PrngReg), Pre_AdamWB m →
    θ_run (Cert.AdamWB.defs (F := Bits)) (onTc (τ := Cert.AdamWB.τ) (Cert.AdamWB.main (F := Bits))) ⟨m, fun _ => 0, g⟩ (fun r => (∀ c : Dev Cert.AdamWB.nD,
      r.2.mem ((c.tc : Thread Cert.AdamWB.nD Cert.AdamWB.τ).loc Cert.AdamWB.main_arg0) = m ((c.tc : Thread Cert.AdamWB.nD Cert.AdamWB.τ).loc Cert.AdamWB.main_arg0)
      ∧ r.2.mem ((c.tc : Thread Cert.AdamWB.nD Cert.AdamWB.τ).loc Cert.AdamWB.main_arg1) = m ((c.tc : Thread Cert.AdamWB.nD Cert.AdamWB.τ).loc Cert.AdamWB.main_arg1)
      ∧ r.2.mem ((c.tc : Thread Cert.AdamWB.nD Cert.AdamWB.τ).loc Cert.AdamWB.main_arg2) = m ((c.tc : Thread Cert.AdamWB.nD Cert.AdamWB.τ).loc Cert.AdamWB.main_arg2)
      ∧ r.2.mem ((c.tc : Thread Cert.AdamWB.nD Cert.AdamWB.τ).loc Cert.AdamWB.main_arg3) = m ((c.tc : Thread Cert.AdamWB.nD Cert.AdamWB.τ).loc Cert.AdamWB.main_arg3)
      ∧ r.2.mem ((c.tc : Thread Cert.AdamWB.nD Cert.AdamWB.τ).loc Cert.AdamWB.main_arg4) = m ((c.tc : Thread Cert.AdamWB.nD Cert.AdamWB.τ).loc Cert.AdamWB.main_arg4))
      ∧ r.2.sem = fun _ => 0)

def quiescent_AdamWBIdeal [hAdamWBIdeal : Cert.AdamWBIdeal.Facts] : Prop :=
  ∀ (m : (ℓ : Loc Cert.AdamWBIdeal.nD Cert.AdamWBIdeal.τ Cert.AdamWBIdeal.sig) → Buf (Elt Ideal) ℓ) (g : Dev Cert.AdamWBIdeal.nD → PrngReg), Pre_AdamWBIdeal m →
    θ_run (Cert.AdamWBIdeal.defs (F := Ideal)) (onTc (τ := Cert.AdamWBIdeal.τ) (Cert.AdamWBIdeal.main (F := Ideal))) ⟨m, fun _ => 0, g⟩ (fun r => (∀ c : Dev Cert.AdamWBIdeal.nD,
      r.2.mem ((c.tc : Thread Cert.AdamWBIdeal.nD Cert.AdamWBIdeal.τ).loc Cert.AdamWBIdeal.main_arg0) = m ((c.tc : Thread Cert.AdamWBIdeal.nD Cert.AdamWBIdeal.τ).loc Cert.AdamWBIdeal.main_arg0)
      ∧ r.2.mem ((c.tc : Thread Cert.AdamWBIdeal.nD Cert.AdamWBIdeal.τ).loc Cert.AdamWBIdeal.main_arg1) = m ((c.tc : Thread Cert.AdamWBIdeal.nD Cert.AdamWBIdeal.τ).loc Cert.AdamWBIdeal.main_arg1)
      ∧ r.2.mem ((c.tc : Thread Cert.AdamWBIdeal.nD Cert.AdamWBIdeal.τ).loc Cert.AdamWBIdeal.main_arg2) = m ((c.tc : Thread Cert.AdamWBIdeal.nD Cert.AdamWBIdeal.τ).loc Cert.AdamWBIdeal.main_arg2)
      ∧ r.2.mem ((c.tc : Thread Cert.AdamWBIdeal.nD Cert.AdamWBIdeal.τ).loc Cert.AdamWBIdeal.main_arg3) = m ((c.tc : Thread Cert.AdamWBIdeal.nD Cert.AdamWBIdeal.τ).loc Cert.AdamWBIdeal.main_arg3)
      ∧ r.2.mem ((c.tc : Thread Cert.AdamWBIdeal.nD Cert.AdamWBIdeal.τ).loc Cert.AdamWBIdeal.main_arg4) = m ((c.tc : Thread Cert.AdamWBIdeal.nD Cert.AdamWBIdeal.τ).loc Cert.AdamWBIdeal.main_arg4))
      ∧ r.2.sem = fun _ => 0)

def quiescent_AdamWBRefIdeal [hAdamWBRefIdeal : Cert.AdamWBRefIdeal.Facts] : Prop :=
  ∀ (m : (ℓ : Loc Cert.AdamWBRefIdeal.nD Cert.AdamWBRefIdeal.τ Cert.AdamWBRefIdeal.sig) → Buf (Elt Ideal) ℓ) (g : Dev Cert.AdamWBRefIdeal.nD → PrngReg), Pre_AdamWBRefIdeal m →
    θ_run (Cert.AdamWBRefIdeal.defs (F := Ideal)) (onTc (τ := Cert.AdamWBRefIdeal.τ) (Cert.AdamWBRefIdeal.main (F := Ideal))) ⟨m, fun _ => 0, g⟩ (fun r => (∀ c : Dev Cert.AdamWBRefIdeal.nD,
      r.2.mem ((c.tc : Thread Cert.AdamWBRefIdeal.nD Cert.AdamWBRefIdeal.τ).loc Cert.AdamWBRefIdeal.main_arg0) = m ((c.tc : Thread Cert.AdamWBRefIdeal.nD Cert.AdamWBRefIdeal.τ).loc Cert.AdamWBRefIdeal.main_arg0)
      ∧ r.2.mem ((c.tc : Thread Cert.AdamWBRefIdeal.nD Cert.AdamWBRefIdeal.τ).loc Cert.AdamWBRefIdeal.main_arg1) = m ((c.tc : Thread Cert.AdamWBRefIdeal.nD Cert.AdamWBRefIdeal.τ).loc Cert.AdamWBRefIdeal.main_arg1)
      ∧ r.2.mem ((c.tc : Thread Cert.AdamWBRefIdeal.nD Cert.AdamWBRefIdeal.τ).loc Cert.AdamWBRefIdeal.main_arg2) = m ((c.tc : Thread Cert.AdamWBRefIdeal.nD Cert.AdamWBRefIdeal.τ).loc Cert.AdamWBRefIdeal.main_arg2)
      ∧ r.2.mem ((c.tc : Thread Cert.AdamWBRefIdeal.nD Cert.AdamWBRefIdeal.τ).loc Cert.AdamWBRefIdeal.main_arg3) = m ((c.tc : Thread Cert.AdamWBRefIdeal.nD Cert.AdamWBRefIdeal.τ).loc Cert.AdamWBRefIdeal.main_arg3)
      ∧ r.2.mem ((c.tc : Thread Cert.AdamWBRefIdeal.nD Cert.AdamWBRefIdeal.τ).loc Cert.AdamWBRefIdeal.main_arg4) = m ((c.tc : Thread Cert.AdamWBRefIdeal.nD Cert.AdamWBRefIdeal.τ).loc Cert.AdamWBRefIdeal.main_arg4))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3)
      ∧ r.2.mem ((c.tc : Thread Cert.AdamWOut.nD Cert.AdamWOut.τ).loc Cert.AdamWOut.main_arg4) = m ((c.tc : Thread Cert.AdamWOut.nD Cert.AdamWOut.τ).loc Cert.AdamWOut.main_arg4))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3)
      ∧ r.2.mem ((c.tc : Thread Cert.AdamWOutIdeal.nD Cert.AdamWOutIdeal.τ).loc Cert.AdamWOutIdeal.main_arg4) = m ((c.tc : Thread Cert.AdamWOutIdeal.nD Cert.AdamWOutIdeal.τ).loc Cert.AdamWOutIdeal.main_arg4))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3)
      ∧ r.2.mem ((c.tc : Thread Cert.AdamWOutRefIdeal.nD Cert.AdamWOutRefIdeal.τ).loc Cert.AdamWOutRefIdeal.main_arg4) = m ((c.tc : Thread Cert.AdamWOutRefIdeal.nD Cert.AdamWOutRefIdeal.τ).loc Cert.AdamWOutRefIdeal.main_arg4))
      ∧ r.2.sem = fun _ => 0)

def quiescent_AdamWUp [hAdamWUp : Cert.AdamWUp.Facts] : Prop :=
  ∀ (m : (ℓ : Loc Cert.AdamWUp.nD Cert.AdamWUp.τ Cert.AdamWUp.sig) → Buf (Elt Bits) ℓ) (g : Dev Cert.AdamWUp.nD → PrngReg), Pre_AdamWUp m →
    θ_run (Cert.AdamWUp.defs (F := Bits)) (onTc (τ := Cert.AdamWUp.τ) (Cert.AdamWUp.main (F := Bits))) ⟨m, fun _ => 0, g⟩ (fun r => (∀ c : Dev Cert.AdamWUp.nD,
      r.2.mem ((c.tc : Thread Cert.AdamWUp.nD Cert.AdamWUp.τ).loc Cert.AdamWUp.main_arg0) = m ((c.tc : Thread Cert.AdamWUp.nD Cert.AdamWUp.τ).loc Cert.AdamWUp.main_arg0)
      ∧ r.2.mem ((c.tc : Thread Cert.AdamWUp.nD Cert.AdamWUp.τ).loc Cert.AdamWUp.main_arg1) = m ((c.tc : Thread Cert.AdamWUp.nD Cert.AdamWUp.τ).loc Cert.AdamWUp.main_arg1)
      ∧ r.2.mem ((c.tc : Thread Cert.AdamWUp.nD Cert.AdamWUp.τ).loc Cert.AdamWUp.main_arg2) = m ((c.tc : Thread Cert.AdamWUp.nD Cert.AdamWUp.τ).loc Cert.AdamWUp.main_arg2)
      ∧ r.2.mem ((c.tc : Thread Cert.AdamWUp.nD Cert.AdamWUp.τ).loc Cert.AdamWUp.main_arg3) = m ((c.tc : Thread Cert.AdamWUp.nD Cert.AdamWUp.τ).loc Cert.AdamWUp.main_arg3)
      ∧ r.2.mem ((c.tc : Thread Cert.AdamWUp.nD Cert.AdamWUp.τ).loc Cert.AdamWUp.main_arg4) = m ((c.tc : Thread Cert.AdamWUp.nD Cert.AdamWUp.τ).loc Cert.AdamWUp.main_arg4))
      ∧ r.2.sem = fun _ => 0)

def quiescent_AdamWUpIdeal [hAdamWUpIdeal : Cert.AdamWUpIdeal.Facts] : Prop :=
  ∀ (m : (ℓ : Loc Cert.AdamWUpIdeal.nD Cert.AdamWUpIdeal.τ Cert.AdamWUpIdeal.sig) → Buf (Elt Ideal) ℓ) (g : Dev Cert.AdamWUpIdeal.nD → PrngReg), Pre_AdamWUpIdeal m →
    θ_run (Cert.AdamWUpIdeal.defs (F := Ideal)) (onTc (τ := Cert.AdamWUpIdeal.τ) (Cert.AdamWUpIdeal.main (F := Ideal))) ⟨m, fun _ => 0, g⟩ (fun r => (∀ c : Dev Cert.AdamWUpIdeal.nD,
      r.2.mem ((c.tc : Thread Cert.AdamWUpIdeal.nD Cert.AdamWUpIdeal.τ).loc Cert.AdamWUpIdeal.main_arg0) = m ((c.tc : Thread Cert.AdamWUpIdeal.nD Cert.AdamWUpIdeal.τ).loc Cert.AdamWUpIdeal.main_arg0)
      ∧ r.2.mem ((c.tc : Thread Cert.AdamWUpIdeal.nD Cert.AdamWUpIdeal.τ).loc Cert.AdamWUpIdeal.main_arg1) = m ((c.tc : Thread Cert.AdamWUpIdeal.nD Cert.AdamWUpIdeal.τ).loc Cert.AdamWUpIdeal.main_arg1)
      ∧ r.2.mem ((c.tc : Thread Cert.AdamWUpIdeal.nD Cert.AdamWUpIdeal.τ).loc Cert.AdamWUpIdeal.main_arg2) = m ((c.tc : Thread Cert.AdamWUpIdeal.nD Cert.AdamWUpIdeal.τ).loc Cert.AdamWUpIdeal.main_arg2)
      ∧ r.2.mem ((c.tc : Thread Cert.AdamWUpIdeal.nD Cert.AdamWUpIdeal.τ).loc Cert.AdamWUpIdeal.main_arg3) = m ((c.tc : Thread Cert.AdamWUpIdeal.nD Cert.AdamWUpIdeal.τ).loc Cert.AdamWUpIdeal.main_arg3)
      ∧ r.2.mem ((c.tc : Thread Cert.AdamWUpIdeal.nD Cert.AdamWUpIdeal.τ).loc Cert.AdamWUpIdeal.main_arg4) = m ((c.tc : Thread Cert.AdamWUpIdeal.nD Cert.AdamWUpIdeal.τ).loc Cert.AdamWUpIdeal.main_arg4))
      ∧ r.2.sem = fun _ => 0)

def quiescent_AdamWUpRefIdeal [hAdamWUpRefIdeal : Cert.AdamWUpRefIdeal.Facts] : Prop :=
  ∀ (m : (ℓ : Loc Cert.AdamWUpRefIdeal.nD Cert.AdamWUpRefIdeal.τ Cert.AdamWUpRefIdeal.sig) → Buf (Elt Ideal) ℓ) (g : Dev Cert.AdamWUpRefIdeal.nD → PrngReg), Pre_AdamWUpRefIdeal m →
    θ_run (Cert.AdamWUpRefIdeal.defs (F := Ideal)) (onTc (τ := Cert.AdamWUpRefIdeal.τ) (Cert.AdamWUpRefIdeal.main (F := Ideal))) ⟨m, fun _ => 0, g⟩ (fun r => (∀ c : Dev Cert.AdamWUpRefIdeal.nD,
      r.2.mem ((c.tc : Thread Cert.AdamWUpRefIdeal.nD Cert.AdamWUpRefIdeal.τ).loc Cert.AdamWUpRefIdeal.main_arg0) = m ((c.tc : Thread Cert.AdamWUpRefIdeal.nD Cert.AdamWUpRefIdeal.τ).loc Cert.AdamWUpRefIdeal.main_arg0)
      ∧ r.2.mem ((c.tc : Thread Cert.AdamWUpRefIdeal.nD Cert.AdamWUpRefIdeal.τ).loc Cert.AdamWUpRefIdeal.main_arg1) = m ((c.tc : Thread Cert.AdamWUpRefIdeal.nD Cert.AdamWUpRefIdeal.τ).loc Cert.AdamWUpRefIdeal.main_arg1)
      ∧ r.2.mem ((c.tc : Thread Cert.AdamWUpRefIdeal.nD Cert.AdamWUpRefIdeal.τ).loc Cert.AdamWUpRefIdeal.main_arg2) = m ((c.tc : Thread Cert.AdamWUpRefIdeal.nD Cert.AdamWUpRefIdeal.τ).loc Cert.AdamWUpRefIdeal.main_arg2)
      ∧ r.2.mem ((c.tc : Thread Cert.AdamWUpRefIdeal.nD Cert.AdamWUpRefIdeal.τ).loc Cert.AdamWUpRefIdeal.main_arg3) = m ((c.tc : Thread Cert.AdamWUpRefIdeal.nD Cert.AdamWUpRefIdeal.τ).loc Cert.AdamWUpRefIdeal.main_arg3)
      ∧ r.2.mem ((c.tc : Thread Cert.AdamWUpRefIdeal.nD Cert.AdamWUpRefIdeal.τ).loc Cert.AdamWUpRefIdeal.main_arg4) = m ((c.tc : Thread Cert.AdamWUpRefIdeal.nD Cert.AdamWUpRefIdeal.τ).loc Cert.AdamWUpRefIdeal.main_arg4))
      ∧ r.2.sem = fun _ => 0)

def quiescent_AdamWDown [hAdamWDown : Cert.AdamWDown.Facts] : Prop :=
  ∀ (m : (ℓ : Loc Cert.AdamWDown.nD Cert.AdamWDown.τ Cert.AdamWDown.sig) → Buf (Elt Bits) ℓ) (g : Dev Cert.AdamWDown.nD → PrngReg), Pre_AdamWDown m →
    θ_run (Cert.AdamWDown.defs (F := Bits)) (onTc (τ := Cert.AdamWDown.τ) (Cert.AdamWDown.main (F := Bits))) ⟨m, fun _ => 0, g⟩ (fun r => (∀ c : Dev Cert.AdamWDown.nD,
      r.2.mem ((c.tc : Thread Cert.AdamWDown.nD Cert.AdamWDown.τ).loc Cert.AdamWDown.main_arg0) = m ((c.tc : Thread Cert.AdamWDown.nD Cert.AdamWDown.τ).loc Cert.AdamWDown.main_arg0)
      ∧ r.2.mem ((c.tc : Thread Cert.AdamWDown.nD Cert.AdamWDown.τ).loc Cert.AdamWDown.main_arg1) = m ((c.tc : Thread Cert.AdamWDown.nD Cert.AdamWDown.τ).loc Cert.AdamWDown.main_arg1)
      ∧ r.2.mem ((c.tc : Thread Cert.AdamWDown.nD Cert.AdamWDown.τ).loc Cert.AdamWDown.main_arg2) = m ((c.tc : Thread Cert.AdamWDown.nD Cert.AdamWDown.τ).loc Cert.AdamWDown.main_arg2)
      ∧ r.2.mem ((c.tc : Thread Cert.AdamWDown.nD Cert.AdamWDown.τ).loc Cert.AdamWDown.main_arg3) = m ((c.tc : Thread Cert.AdamWDown.nD Cert.AdamWDown.τ).loc Cert.AdamWDown.main_arg3)
      ∧ r.2.mem ((c.tc : Thread Cert.AdamWDown.nD Cert.AdamWDown.τ).loc Cert.AdamWDown.main_arg4) = m ((c.tc : Thread Cert.AdamWDown.nD Cert.AdamWDown.τ).loc Cert.AdamWDown.main_arg4))
      ∧ r.2.sem = fun _ => 0)

def quiescent_AdamWDownIdeal [hAdamWDownIdeal : Cert.AdamWDownIdeal.Facts] : Prop :=
  ∀ (m : (ℓ : Loc Cert.AdamWDownIdeal.nD Cert.AdamWDownIdeal.τ Cert.AdamWDownIdeal.sig) → Buf (Elt Ideal) ℓ) (g : Dev Cert.AdamWDownIdeal.nD → PrngReg), Pre_AdamWDownIdeal m →
    θ_run (Cert.AdamWDownIdeal.defs (F := Ideal)) (onTc (τ := Cert.AdamWDownIdeal.τ) (Cert.AdamWDownIdeal.main (F := Ideal))) ⟨m, fun _ => 0, g⟩ (fun r => (∀ c : Dev Cert.AdamWDownIdeal.nD,
      r.2.mem ((c.tc : Thread Cert.AdamWDownIdeal.nD Cert.AdamWDownIdeal.τ).loc Cert.AdamWDownIdeal.main_arg0) = m ((c.tc : Thread Cert.AdamWDownIdeal.nD Cert.AdamWDownIdeal.τ).loc Cert.AdamWDownIdeal.main_arg0)
      ∧ r.2.mem ((c.tc : Thread Cert.AdamWDownIdeal.nD Cert.AdamWDownIdeal.τ).loc Cert.AdamWDownIdeal.main_arg1) = m ((c.tc : Thread Cert.AdamWDownIdeal.nD Cert.AdamWDownIdeal.τ).loc Cert.AdamWDownIdeal.main_arg1)
      ∧ r.2.mem ((c.tc : Thread Cert.AdamWDownIdeal.nD Cert.AdamWDownIdeal.τ).loc Cert.AdamWDownIdeal.main_arg2) = m ((c.tc : Thread Cert.AdamWDownIdeal.nD Cert.AdamWDownIdeal.τ).loc Cert.AdamWDownIdeal.main_arg2)
      ∧ r.2.mem ((c.tc : Thread Cert.AdamWDownIdeal.nD Cert.AdamWDownIdeal.τ).loc Cert.AdamWDownIdeal.main_arg3) = m ((c.tc : Thread Cert.AdamWDownIdeal.nD Cert.AdamWDownIdeal.τ).loc Cert.AdamWDownIdeal.main_arg3)
      ∧ r.2.mem ((c.tc : Thread Cert.AdamWDownIdeal.nD Cert.AdamWDownIdeal.τ).loc Cert.AdamWDownIdeal.main_arg4) = m ((c.tc : Thread Cert.AdamWDownIdeal.nD Cert.AdamWDownIdeal.τ).loc Cert.AdamWDownIdeal.main_arg4))
      ∧ r.2.sem = fun _ => 0)

def quiescent_AdamWDownRefIdeal [hAdamWDownRefIdeal : Cert.AdamWDownRefIdeal.Facts] : Prop :=
  ∀ (m : (ℓ : Loc Cert.AdamWDownRefIdeal.nD Cert.AdamWDownRefIdeal.τ Cert.AdamWDownRefIdeal.sig) → Buf (Elt Ideal) ℓ) (g : Dev Cert.AdamWDownRefIdeal.nD → PrngReg), Pre_AdamWDownRefIdeal m →
    θ_run (Cert.AdamWDownRefIdeal.defs (F := Ideal)) (onTc (τ := Cert.AdamWDownRefIdeal.τ) (Cert.AdamWDownRefIdeal.main (F := Ideal))) ⟨m, fun _ => 0, g⟩ (fun r => (∀ c : Dev Cert.AdamWDownRefIdeal.nD,
      r.2.mem ((c.tc : Thread Cert.AdamWDownRefIdeal.nD Cert.AdamWDownRefIdeal.τ).loc Cert.AdamWDownRefIdeal.main_arg0) = m ((c.tc : Thread Cert.AdamWDownRefIdeal.nD Cert.AdamWDownRefIdeal.τ).loc Cert.AdamWDownRefIdeal.main_arg0)
      ∧ r.2.mem ((c.tc : Thread Cert.AdamWDownRefIdeal.nD Cert.AdamWDownRefIdeal.τ).loc Cert.AdamWDownRefIdeal.main_arg1) = m ((c.tc : Thread Cert.AdamWDownRefIdeal.nD Cert.AdamWDownRefIdeal.τ).loc Cert.AdamWDownRefIdeal.main_arg1)
      ∧ r.2.mem ((c.tc : Thread Cert.AdamWDownRefIdeal.nD Cert.AdamWDownRefIdeal.τ).loc Cert.AdamWDownRefIdeal.main_arg2) = m ((c.tc : Thread Cert.AdamWDownRefIdeal.nD Cert.AdamWDownRefIdeal.τ).loc Cert.AdamWDownRefIdeal.main_arg2)
      ∧ r.2.mem ((c.tc : Thread Cert.AdamWDownRefIdeal.nD Cert.AdamWDownRefIdeal.τ).loc Cert.AdamWDownRefIdeal.main_arg3) = m ((c.tc : Thread Cert.AdamWDownRefIdeal.nD Cert.AdamWDownRefIdeal.τ).loc Cert.AdamWDownRefIdeal.main_arg3)
      ∧ r.2.mem ((c.tc : Thread Cert.AdamWDownRefIdeal.nD Cert.AdamWDownRefIdeal.τ).loc Cert.AdamWDownRefIdeal.main_arg4) = m ((c.tc : Thread Cert.AdamWDownRefIdeal.nD Cert.AdamWDownRefIdeal.τ).loc Cert.AdamWDownRefIdeal.main_arg4))
      ∧ r.2.sem = fun _ => 0)

def quiescent_SmallAdam [hSmallAdam : Cert.SmallAdam.Facts] : Prop :=
  ∀ (m : (ℓ : Loc Cert.SmallAdam.nD Cert.SmallAdam.τ Cert.SmallAdam.sig) → Buf (Elt Bits) ℓ) (g : Dev Cert.SmallAdam.nD → PrngReg), Pre_SmallAdam m →
    θ_run (Cert.SmallAdam.defs (F := Bits)) (onTc (τ := Cert.SmallAdam.τ) (Cert.SmallAdam.main (F := Bits))) ⟨m, fun _ => 0, g⟩ (fun r => (∀ c : Dev Cert.SmallAdam.nD,
      r.2.mem ((c.tc : Thread Cert.SmallAdam.nD Cert.SmallAdam.τ).loc Cert.SmallAdam.main_arg0) = m ((c.tc : Thread Cert.SmallAdam.nD Cert.SmallAdam.τ).loc Cert.SmallAdam.main_arg0)
      ∧ r.2.mem ((c.tc : Thread Cert.SmallAdam.nD Cert.SmallAdam.τ).loc Cert.SmallAdam.main_arg1) = m ((c.tc : Thread Cert.SmallAdam.nD Cert.SmallAdam.τ).loc Cert.SmallAdam.main_arg1)
      ∧ r.2.mem ((c.tc : Thread Cert.SmallAdam.nD Cert.SmallAdam.τ).loc Cert.SmallAdam.main_arg2) = m ((c.tc : Thread Cert.SmallAdam.nD Cert.SmallAdam.τ).loc Cert.SmallAdam.main_arg2)
      ∧ r.2.mem ((c.tc : Thread Cert.SmallAdam.nD Cert.SmallAdam.τ).loc Cert.SmallAdam.main_arg3) = m ((c.tc : Thread Cert.SmallAdam.nD Cert.SmallAdam.τ).loc Cert.SmallAdam.main_arg3))
      ∧ r.2.sem = fun _ => 0)

def quiescent_SmallAdamIdeal [hSmallAdamIdeal : Cert.SmallAdamIdeal.Facts] : Prop :=
  ∀ (m : (ℓ : Loc Cert.SmallAdamIdeal.nD Cert.SmallAdamIdeal.τ Cert.SmallAdamIdeal.sig) → Buf (Elt Ideal) ℓ) (g : Dev Cert.SmallAdamIdeal.nD → PrngReg), Pre_SmallAdamIdeal m →
    θ_run (Cert.SmallAdamIdeal.defs (F := Ideal)) (onTc (τ := Cert.SmallAdamIdeal.τ) (Cert.SmallAdamIdeal.main (F := Ideal))) ⟨m, fun _ => 0, g⟩ (fun r => (∀ c : Dev Cert.SmallAdamIdeal.nD,
      r.2.mem ((c.tc : Thread Cert.SmallAdamIdeal.nD Cert.SmallAdamIdeal.τ).loc Cert.SmallAdamIdeal.main_arg0) = m ((c.tc : Thread Cert.SmallAdamIdeal.nD Cert.SmallAdamIdeal.τ).loc Cert.SmallAdamIdeal.main_arg0)
      ∧ r.2.mem ((c.tc : Thread Cert.SmallAdamIdeal.nD Cert.SmallAdamIdeal.τ).loc Cert.SmallAdamIdeal.main_arg1) = m ((c.tc : Thread Cert.SmallAdamIdeal.nD Cert.SmallAdamIdeal.τ).loc Cert.SmallAdamIdeal.main_arg1)
      ∧ r.2.mem ((c.tc : Thread Cert.SmallAdamIdeal.nD Cert.SmallAdamIdeal.τ).loc Cert.SmallAdamIdeal.main_arg2) = m ((c.tc : Thread Cert.SmallAdamIdeal.nD Cert.SmallAdamIdeal.τ).loc Cert.SmallAdamIdeal.main_arg2)
      ∧ r.2.mem ((c.tc : Thread Cert.SmallAdamIdeal.nD Cert.SmallAdamIdeal.τ).loc Cert.SmallAdamIdeal.main_arg3) = m ((c.tc : Thread Cert.SmallAdamIdeal.nD Cert.SmallAdamIdeal.τ).loc Cert.SmallAdamIdeal.main_arg3))
      ∧ r.2.sem = fun _ => 0)

def quiescent_SmallAdamRefIdeal [hSmallAdamRefIdeal : Cert.SmallAdamRefIdeal.Facts] : Prop :=
  ∀ (m : (ℓ : Loc Cert.SmallAdamRefIdeal.nD Cert.SmallAdamRefIdeal.τ Cert.SmallAdamRefIdeal.sig) → Buf (Elt Ideal) ℓ) (g : Dev Cert.SmallAdamRefIdeal.nD → PrngReg), Pre_SmallAdamRefIdeal m →
    θ_run (Cert.SmallAdamRefIdeal.defs (F := Ideal)) (onTc (τ := Cert.SmallAdamRefIdeal.τ) (Cert.SmallAdamRefIdeal.main (F := Ideal))) ⟨m, fun _ => 0, g⟩ (fun r => (∀ c : Dev Cert.SmallAdamRefIdeal.nD,
      r.2.mem ((c.tc : Thread Cert.SmallAdamRefIdeal.nD Cert.SmallAdamRefIdeal.τ).loc Cert.SmallAdamRefIdeal.main_arg0) = m ((c.tc : Thread Cert.SmallAdamRefIdeal.nD Cert.SmallAdamRefIdeal.τ).loc Cert.SmallAdamRefIdeal.main_arg0)
      ∧ r.2.mem ((c.tc : Thread Cert.SmallAdamRefIdeal.nD Cert.SmallAdamRefIdeal.τ).loc Cert.SmallAdamRefIdeal.main_arg1) = m ((c.tc : Thread Cert.SmallAdamRefIdeal.nD Cert.SmallAdamRefIdeal.τ).loc Cert.SmallAdamRefIdeal.main_arg1)
      ∧ r.2.mem ((c.tc : Thread Cert.SmallAdamRefIdeal.nD Cert.SmallAdamRefIdeal.τ).loc Cert.SmallAdamRefIdeal.main_arg2) = m ((c.tc : Thread Cert.SmallAdamRefIdeal.nD Cert.SmallAdamRefIdeal.τ).loc Cert.SmallAdamRefIdeal.main_arg2)
      ∧ r.2.mem ((c.tc : Thread Cert.SmallAdamRefIdeal.nD Cert.SmallAdamRefIdeal.τ).loc Cert.SmallAdamRefIdeal.main_arg3) = m ((c.tc : Thread Cert.SmallAdamRefIdeal.nD Cert.SmallAdamRefIdeal.τ).loc Cert.SmallAdamRefIdeal.main_arg3))
      ∧ r.2.sem = fun _ => 0)

def preserves_Kernel_KernelIdeal : Prop :=
  IdealRules.named_const.Statement Cert.KernelIdeal.κ "mask" .f32 0xF149F2CA#32 ⊥

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v4) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v7) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v4) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_ProjBwd_ProjBwdIdeal : Prop :=
  True

def algebraic_ProjBwdIdeal_ProjBwdRefIdeal [hProjBwdIdeal : Cert.ProjBwdIdeal.Facts] [hProjBwdRefIdeal : Cert.ProjBwdRefIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)
      ∧ m' ((c.tc : Thread Cert.ProjBwdRefIdeal.nD Cert.ProjBwdRefIdeal.τ).loc Cert.ProjBwdRefIdeal.main_arg2) = m ((c.tc : Thread Cert.ProjBwdIdeal.nD Cert.ProjBwdIdeal.τ).loc Cert.ProjBwdIdeal.main_arg2)
      ∧ m' ((c.tc : Thread Cert.ProjBwdRefIdeal.nD Cert.ProjBwdRefIdeal.τ).loc Cert.ProjBwdRefIdeal.main_arg3) = m ((c.tc : Thread Cert.ProjBwdIdeal.nD Cert.ProjBwdIdeal.τ).loc Cert.ProjBwdIdeal.main_arg3)
      ∧ m' ((c.tc : Thread Cert.ProjBwdRefIdeal.nD Cert.ProjBwdRefIdeal.τ).loc Cert.ProjBwdRefIdeal.main_arg4) = m ((c.tc : Thread Cert.ProjBwdIdeal.nD Cert.ProjBwdIdeal.τ).loc Cert.ProjBwdIdeal.main_arg4)) →
    ∃ (v0 : (c : Dev Cert.ProjBwdIdeal.nD) → Buf (Elt Ideal) ((c.tc : Thread Cert.ProjBwdIdeal.nD Cert.ProjBwdIdeal.τ).loc Cert.ProjBwdIdeal.main_v0_0)) (v1 : (c : Dev Cert.ProjBwdIdeal.nD) → Buf (Elt Ideal) ((c.tc : Thread Cert.ProjBwdIdeal.nD Cert.ProjBwdIdeal.τ).loc Cert.ProjBwdIdeal.main_v0_1)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v0_0) = v0 c
          ∧ r.2.mem ((c.tc : Thread Cert.ProjBwdIdeal.nD Cert.ProjBwdIdeal.τ).loc Cert.ProjBwdIdeal.main_v0_1) = v1 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_v39) = v0 c
          ∧ r.2.mem ((c.tc : Thread Cert.ProjBwdRefIdeal.nD Cert.ProjBwdRefIdeal.τ).loc Cert.ProjBwdRefIdeal.main_v22) = v1 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1)
          ∧ r.2.mem ((c.tc : Thread Cert.ProjBwdRefIdeal.nD Cert.ProjBwdRefIdeal.τ).loc Cert.ProjBwdRefIdeal.main_arg2) = m' ((c.tc : Thread Cert.ProjBwdRefIdeal.nD Cert.ProjBwdRefIdeal.τ).loc Cert.ProjBwdRefIdeal.main_arg2)
          ∧ r.2.mem ((c.tc : Thread Cert.ProjBwdRefIdeal.nD Cert.ProjBwdRefIdeal.τ).loc Cert.ProjBwdRefIdeal.main_arg3) = m' ((c.tc : Thread Cert.ProjBwdRefIdeal.nD Cert.ProjBwdRefIdeal.τ).loc Cert.ProjBwdRefIdeal.main_arg3)
          ∧ r.2.mem ((c.tc : Thread Cert.ProjBwdRefIdeal.nD Cert.ProjBwdRefIdeal.τ).loc Cert.ProjBwdRefIdeal.main_arg4) = m' ((c.tc : Thread Cert.ProjBwdRefIdeal.nD Cert.ProjBwdRefIdeal.τ).loc Cert.ProjBwdRefIdeal.main_arg4))

def preserves_MlpUpBwd_MlpUpBwdIdeal : Prop :=
  True

def algebraic_MlpUpBwdIdeal_MlpUpBwdRefIdeal [hMlpUpBwdIdeal : Cert.MlpUpBwdIdeal.Facts] [hMlpUpBwdRefIdeal : Cert.MlpUpBwdRefIdeal.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg)
    (m' : (ℓ : Loc Cert.MlpUpBwdRefIdeal.nD Cert.MlpUpBwdRefIdeal.τ Cert.MlpUpBwdRefIdeal.sig) → Buf (Elt Ideal) ℓ) (g' : Dev Cert.MlpUpBwdRefIdeal.nD → PrngReg), Pre_MlpUpBwdIdeal m →
    (∀ c : Dev Cert.MlpUpBwdIdeal.nD,
      m' ((c.tc : Thread Cert.MlpUpBwdRefIdeal.nD Cert.MlpUpBwdRefIdeal.τ).loc Cert.MlpUpBwdRefIdeal.main_arg0) = m ((c.tc : Thread Cert.MlpUpBwdIdeal.nD Cert.MlpUpBwdIdeal.τ).loc Cert.MlpUpBwdIdeal.main_arg0)
      ∧ m' ((c.tc : Thread Cert.MlpUpBwdRefIdeal.nD Cert.MlpUpBwdRefIdeal.τ).loc Cert.MlpUpBwdRefIdeal.main_arg1) = m ((c.tc : Thread Cert.MlpUpBwdIdeal.nD Cert.MlpUpBwdIdeal.τ).loc Cert.MlpUpBwdIdeal.main_arg1)
      ∧ m' ((c.tc : Thread Cert.MlpUpBwdRefIdeal.nD Cert.MlpUpBwdRefIdeal.τ).loc Cert.MlpUpBwdRefIdeal.main_arg2) = m ((c.tc : Thread Cert.MlpUpBwdIdeal.nD Cert.MlpUpBwdIdeal.τ).loc Cert.MlpUpBwdIdeal.main_arg2)
      ∧ m' ((c.tc : Thread Cert.MlpUpBwdRefIdeal.nD Cert.MlpUpBwdRefIdeal.τ).loc Cert.MlpUpBwdRefIdeal.main_arg3) = m ((c.tc : Thread Cert.MlpUpBwdIdeal.nD Cert.MlpUpBwdIdeal.τ).loc Cert.MlpUpBwdIdeal.main_arg3)
      ∧ m' ((c.tc : Thread Cert.MlpUpBwdRefIdeal.nD Cert.MlpUpBwdRefIdeal.τ).loc Cert.MlpUpBwdRefIdeal.main_arg4) = m ((c.tc : Thread Cert.MlpUpBwdIdeal.nD Cert.MlpUpBwdIdeal.τ).loc Cert.MlpUpBwdIdeal.main_arg4)) →
    ∃ (v0 : (c : Dev Cert.MlpUpBwdIdeal.nD) → Buf (Elt Ideal) ((c.tc : Thread Cert.MlpUpBwdIdeal.nD Cert.MlpUpBwdIdeal.τ).loc Cert.MlpUpBwdIdeal.main_v0_0)) (v1 : (c : Dev Cert.MlpUpBwdIdeal.nD) → Buf (Elt Ideal) ((c.tc : Thread Cert.MlpUpBwdIdeal.nD Cert.MlpUpBwdIdeal.τ).loc Cert.MlpUpBwdIdeal.main_v0_1)),
      θ_run (Cert.MlpUpBwdIdeal.defs (F := Ideal)) (onTc (τ := Cert.MlpUpBwdIdeal.τ) (Cert.MlpUpBwdIdeal.main (F := Ideal))) ⟨m, fun _ => 0, g⟩ (fun r => ∀ c : Dev Cert.MlpUpBwdIdeal.nD,
          r.2.mem ((c.tc : Thread Cert.MlpUpBwdIdeal.nD Cert.MlpUpBwdIdeal.τ).loc Cert.MlpUpBwdIdeal.main_v0_0) = v0 c
          ∧ r.2.mem ((c.tc : Thread Cert.MlpUpBwdIdeal.nD Cert.MlpUpBwdIdeal.τ).loc Cert.MlpUpBwdIdeal.main_v0_1) = v1 c
          ∧ r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
          ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1)
          ∧ r.2.mem ((c.tc : Thread Cert.MlpUpBwdIdeal.nD Cert.MlpUpBwdIdeal.τ).loc Cert.MlpUpBwdIdeal.main_arg2) = m ((c.tc : Thread Cert.MlpUpBwdIdeal.nD Cert.MlpUpBwdIdeal.τ).loc Cert.MlpUpBwdIdeal.main_arg2)
          ∧ r.2.mem ((c.tc : Thread Cert.MlpUpBwdIdeal.nD Cert.MlpUpBwdIdeal.τ).loc Cert.MlpUpBwdIdeal.main_arg3) = m ((c.tc : Thread Cert.MlpUpBwdIdeal.nD Cert.MlpUpBwdIdeal.τ).loc Cert.MlpUpBwdIdeal.main_arg3)
          ∧ r.2.mem ((c.tc : Thread Cert.MlpUpBwdIdeal.nD Cert.MlpUpBwdIdeal.τ).loc Cert.MlpUpBwdIdeal.main_arg4) = m ((c.tc : Thread Cert.MlpUpBwdIdeal.nD Cert.MlpUpBwdIdeal.τ).loc Cert.MlpUpBwdIdeal.main_arg4))
      ∧ θ_run (Cert.MlpUpBwdRefIdeal.defs (F := Ideal)) (onTc (τ := Cert.MlpUpBwdRefIdeal.τ) (Cert.MlpUpBwdRefIdeal.main (F := Ideal))) ⟨m', fun _ => 0, g'⟩ (fun r => ∀ c : Dev Cert.MlpUpBwdRefIdeal.nD,
          r.2.mem ((c.tc : Thread Cert.MlpUpBwdRefIdeal.nD Cert.MlpUpBwdRefIdeal.τ).loc Cert.MlpUpBwdRefIdeal.main_v40) = v0 c
          ∧ r.2.mem ((c.tc : Thread Cert.MlpUpBwdRefIdeal.nD Cert.MlpUpBwdRefIdeal.τ).loc Cert.MlpUpBwdRefIdeal.main_v23) = v1 c
          ∧ r.2.mem ((c.tc : Thread Cert.MlpUpBwdRefIdeal.nD Cert.MlpUpBwdRefIdeal.τ).loc Cert.MlpUpBwdRefIdeal.main_arg0) = m' ((c.tc : Thread Cert.MlpUpBwdRefIdeal.nD Cert.MlpUpBwdRefIdeal.τ).loc Cert.MlpUpBwdRefIdeal.main_arg0)
          ∧ r.2.mem ((c.tc : Thread Cert.MlpUpBwdRefIdeal.nD Cert.MlpUpBwdRefIdeal.τ).loc Cert.MlpUpBwdRefIdeal.main_arg1) = m' ((c.tc : Thread Cert.MlpUpBwdRefIdeal.nD Cert.MlpUpBwdRefIdeal.τ).loc Cert.MlpUpBwdRefIdeal.main_arg1)
          ∧ r.2.mem ((c.tc : Thread Cert.MlpUpBwdRefIdeal.nD Cert.MlpUpBwdRefIdeal.τ).loc Cert.MlpUpBwdRefIdeal.main_arg2) = m' ((c.tc : Thread Cert.MlpUpBwdRefIdeal.nD Cert.MlpUpBwdRefIdeal.τ).loc Cert.MlpUpBwdRefIdeal.main_arg2)
          ∧ r.2.mem ((c.tc : Thread Cert.MlpUpBwdRefIdeal.nD Cert.MlpUpBwdRefIdeal.τ).loc Cert.MlpUpBwdRefIdeal.main_arg3) = m' ((c.tc : Thread Cert.MlpUpBwdRefIdeal.nD Cert.MlpUpBwdRefIdeal.τ).loc Cert.MlpUpBwdRefIdeal.main_arg3)
          ∧ r.2.mem ((c.tc : Thread Cert.MlpUpBwdRefIdeal.nD Cert.MlpUpBwdRefIdeal.τ).loc Cert.MlpUpBwdRefIdeal.main_arg4) = m' ((c.tc : Thread Cert.MlpUpBwdRefIdeal.nD Cert.MlpUpBwdRefIdeal.τ).loc Cert.MlpUpBwdRefIdeal.main_arg4))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)
      ∧ m' ((c.tc : Thread Cert.GateBwdRefIdeal.nD Cert.GateBwdRefIdeal.τ).loc Cert.GateBwdRefIdeal.main_arg4) = m ((c.tc : Thread Cert.GateBwdIdeal.nD Cert.GateBwdIdeal.τ).loc Cert.GateBwdIdeal.main_arg4)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v41) = v0 c
          ∧ r.2.mem ((c.tc : Thread Cert.GateBwdRefIdeal.nD Cert.GateBwdRefIdeal.τ).loc Cert.GateBwdRefIdeal.main_v42) = v1 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3)
          ∧ r.2.mem ((c.tc : Thread Cert.GateBwdRefIdeal.nD Cert.GateBwdRefIdeal.τ).loc Cert.GateBwdRefIdeal.main_arg4) = m' ((c.tc : Thread Cert.GateBwdRefIdeal.nD Cert.GateBwdRefIdeal.τ).loc Cert.GateBwdRefIdeal.main_arg4))

def preserves_BranchABwd_BranchABwdIdeal : Prop :=
  True

def algebraic_BranchABwdIdeal_BranchABwdRefIdeal [hBranchABwdIdeal : Cert.BranchABwdIdeal.Facts] [hBranchABwdRefIdeal : Cert.BranchABwdRefIdeal.Facts] : Prop :=
  ∀ (m : (ℓ : Loc Cert.BranchABwdIdeal.nD Cert.BranchABwdIdeal.τ Cert.BranchABwdIdeal.sig) → Buf (Elt Ideal) ℓ) (g : Dev Cert.BranchABwdIdeal.nD → PrngReg)
    (m' : (ℓ : Loc Cert.BranchABwdRefIdeal.nD Cert.BranchABwdRefIdeal.τ Cert.BranchABwdRefIdeal.sig) → Buf (Elt Ideal) ℓ) (g' : Dev Cert.BranchABwdRefIdeal.nD → PrngReg), Pre_BranchABwdIdeal m →
    (∀ c : Dev Cert.BranchABwdIdeal.nD,
      m' ((c.tc : Thread Cert.BranchABwdRefIdeal.nD Cert.BranchABwdRefIdeal.τ).loc Cert.BranchABwdRefIdeal.main_arg0) = m ((c.tc : Thread Cert.BranchABwdIdeal.nD Cert.BranchABwdIdeal.τ).loc Cert.BranchABwdIdeal.main_arg0)
      ∧ m' ((c.tc : Thread Cert.BranchABwdRefIdeal.nD Cert.BranchABwdRefIdeal.τ).loc Cert.BranchABwdRefIdeal.main_arg1) = m ((c.tc : Thread Cert.BranchABwdIdeal.nD Cert.BranchABwdIdeal.τ).loc Cert.BranchABwdIdeal.main_arg1)) →
    ∃ (v0 : (c : Dev Cert.BranchABwdIdeal.nD) → Buf (Elt Ideal) ((c.tc : Thread Cert.BranchABwdIdeal.nD Cert.BranchABwdIdeal.τ).loc Cert.BranchABwdIdeal.main_v0)),
      θ_run (Cert.BranchABwdIdeal.defs (F := Ideal)) (onTc (τ := Cert.BranchABwdIdeal.τ) (Cert.BranchABwdIdeal.main (F := Ideal))) ⟨m, fun _ => 0, g⟩ (fun r => ∀ c : Dev Cert.BranchABwdIdeal.nD,
          r.2.mem ((c.tc : Thread Cert.BranchABwdIdeal.nD Cert.BranchABwdIdeal.τ).loc Cert.BranchABwdIdeal.main_v0) = v0 c
          ∧ r.2.mem ((c.tc : Thread Cert.BranchABwdIdeal.nD Cert.BranchABwdIdeal.τ).loc Cert.BranchABwdIdeal.main_arg0) = m ((c.tc : Thread Cert.BranchABwdIdeal.nD Cert.BranchABwdIdeal.τ).loc Cert.BranchABwdIdeal.main_arg0)
          ∧ r.2.mem ((c.tc : Thread Cert.BranchABwdIdeal.nD Cert.BranchABwdIdeal.τ).loc Cert.BranchABwdIdeal.main_arg1) = m ((c.tc : Thread Cert.BranchABwdIdeal.nD Cert.BranchABwdIdeal.τ).loc Cert.BranchABwdIdeal.main_arg1))
      ∧ θ_run (Cert.BranchABwdRefIdeal.defs (F := Ideal)) (onTc (τ := Cert.BranchABwdRefIdeal.τ) (Cert.BranchABwdRefIdeal.main (F := Ideal))) ⟨m', fun _ => 0, g'⟩ (fun r => ∀ c : Dev Cert.BranchABwdRefIdeal.nD,
          r.2.mem ((c.tc : Thread Cert.BranchABwdRefIdeal.nD Cert.BranchABwdRefIdeal.τ).loc Cert.BranchABwdRefIdeal.main_v8) = v0 c
          ∧ r.2.mem ((c.tc : Thread Cert.BranchABwdRefIdeal.nD Cert.BranchABwdRefIdeal.τ).loc Cert.BranchABwdRefIdeal.main_arg0) = m' ((c.tc : Thread Cert.BranchABwdRefIdeal.nD Cert.BranchABwdRefIdeal.τ).loc Cert.BranchABwdRefIdeal.main_arg0)
          ∧ r.2.mem ((c.tc : Thread Cert.BranchABwdRefIdeal.nD Cert.BranchABwdRefIdeal.τ).loc Cert.BranchABwdRefIdeal.main_arg1) = m' ((c.tc : Thread Cert.BranchABwdRefIdeal.nD Cert.BranchABwdRefIdeal.τ).loc Cert.BranchABwdRefIdeal.main_arg1))

def preserves_BranchBBwd_BranchBBwdIdeal : Prop :=
  True

def algebraic_BranchBBwdIdeal_BranchBBwdRefIdeal [hBranchBBwdIdeal : Cert.BranchBBwdIdeal.Facts] [hBranchBBwdRefIdeal : Cert.BranchBBwdRefIdeal.Facts] : Prop :=
  ∀ (m : (ℓ : Loc Cert.BranchBBwdIdeal.nD Cert.BranchBBwdIdeal.τ Cert.BranchBBwdIdeal.sig) → Buf (Elt Ideal) ℓ) (g : Dev Cert.BranchBBwdIdeal.nD → PrngReg)
    (m' : (ℓ : Loc Cert.BranchBBwdRefIdeal.nD Cert.BranchBBwdRefIdeal.τ Cert.BranchBBwdRefIdeal.sig) → Buf (Elt Ideal) ℓ) (g' : Dev Cert.BranchBBwdRefIdeal.nD → PrngReg), Pre_BranchBBwdIdeal m →
    (∀ c : Dev Cert.BranchBBwdIdeal.nD,
      m' ((c.tc : Thread Cert.BranchBBwdRefIdeal.nD Cert.BranchBBwdRefIdeal.τ).loc Cert.BranchBBwdRefIdeal.main_arg0) = m ((c.tc : Thread Cert.BranchBBwdIdeal.nD Cert.BranchBBwdIdeal.τ).loc Cert.BranchBBwdIdeal.main_arg0)
      ∧ m' ((c.tc : Thread Cert.BranchBBwdRefIdeal.nD Cert.BranchBBwdRefIdeal.τ).loc Cert.BranchBBwdRefIdeal.main_arg1) = m ((c.tc : Thread Cert.BranchBBwdIdeal.nD Cert.BranchBBwdIdeal.τ).loc Cert.BranchBBwdIdeal.main_arg1)) →
    ∃ (v0 : (c : Dev Cert.BranchBBwdIdeal.nD) → Buf (Elt Ideal) ((c.tc : Thread Cert.BranchBBwdIdeal.nD Cert.BranchBBwdIdeal.τ).loc Cert.BranchBBwdIdeal.main_v0)),
      θ_run (Cert.BranchBBwdIdeal.defs (F := Ideal)) (onTc (τ := Cert.BranchBBwdIdeal.τ) (Cert.BranchBBwdIdeal.main (F := Ideal))) ⟨m, fun _ => 0, g⟩ (fun r => ∀ c : Dev Cert.BranchBBwdIdeal.nD,
          r.2.mem ((c.tc : Thread Cert.BranchBBwdIdeal.nD Cert.BranchBBwdIdeal.τ).loc Cert.BranchBBwdIdeal.main_v0) = v0 c
          ∧ r.2.mem ((c.tc : Thread Cert.BranchBBwdIdeal.nD Cert.BranchBBwdIdeal.τ).loc Cert.BranchBBwdIdeal.main_arg0) = m ((c.tc : Thread Cert.BranchBBwdIdeal.nD Cert.BranchBBwdIdeal.τ).loc Cert.BranchBBwdIdeal.main_arg0)
          ∧ r.2.mem ((c.tc : Thread Cert.BranchBBwdIdeal.nD Cert.BranchBBwdIdeal.τ).loc Cert.BranchBBwdIdeal.main_arg1) = m ((c.tc : Thread Cert.BranchBBwdIdeal.nD Cert.BranchBBwdIdeal.τ).loc Cert.BranchBBwdIdeal.main_arg1))
      ∧ θ_run (Cert.BranchBBwdRefIdeal.defs (F := Ideal)) (onTc (τ := Cert.BranchBBwdRefIdeal.τ) (Cert.BranchBBwdRefIdeal.main (F := Ideal))) ⟨m', fun _ => 0, g'⟩ (fun r => ∀ c : Dev Cert.BranchBBwdRefIdeal.nD,
          r.2.mem ((c.tc : Thread Cert.BranchBBwdRefIdeal.nD Cert.BranchBBwdRefIdeal.τ).loc Cert.BranchBBwdRefIdeal.main_v7) = v0 c
          ∧ r.2.mem ((c.tc : Thread Cert.BranchBBwdRefIdeal.nD Cert.BranchBBwdRefIdeal.τ).loc Cert.BranchBBwdRefIdeal.main_arg0) = m' ((c.tc : Thread Cert.BranchBBwdRefIdeal.nD Cert.BranchBBwdRefIdeal.τ).loc Cert.BranchBBwdRefIdeal.main_arg0)
          ∧ r.2.mem ((c.tc : Thread Cert.BranchBBwdRefIdeal.nD Cert.BranchBBwdRefIdeal.τ).loc Cert.BranchBBwdRefIdeal.main_arg1) = m' ((c.tc : Thread Cert.BranchBBwdRefIdeal.nD Cert.BranchBBwdRefIdeal.τ).loc Cert.BranchBBwdRefIdeal.main_arg1))

def preserves_DwA_DwAIdeal : Prop :=
  True

def algebraic_DwAIdeal_DwARefIdeal [hDwAIdeal : Cert.DwAIdeal.Facts] [hDwARefIdeal : Cert.DwARefIdeal.Facts] : Prop :=
  ∀ (m : (ℓ : Loc Cert.DwAIdeal.nD Cert.DwAIdeal.τ Cert.DwAIdeal.sig) → Buf (Elt Ideal) ℓ) (g : Dev Cert.DwAIdeal.nD → PrngReg)
    (m' : (ℓ : Loc Cert.DwARefIdeal.nD Cert.DwARefIdeal.τ Cert.DwARefIdeal.sig) → Buf (Elt Ideal) ℓ) (g' : Dev Cert.DwARefIdeal.nD → PrngReg), Pre_DwAIdeal m →
    (∀ c : Dev Cert.DwAIdeal.nD,
      m' ((c.tc : Thread Cert.DwARefIdeal.nD Cert.DwARefIdeal.τ).loc Cert.DwARefIdeal.main_arg0) = m ((c.tc : Thread Cert.DwAIdeal.nD Cert.DwAIdeal.τ).loc Cert.DwAIdeal.main_arg0)
      ∧ m' ((c.tc : Thread Cert.DwARefIdeal.nD Cert.DwARefIdeal.τ).loc Cert.DwARefIdeal.main_arg1) = m ((c.tc : Thread Cert.DwAIdeal.nD Cert.DwAIdeal.τ).loc Cert.DwAIdeal.main_arg1)) →
    ∃ (v0 : (c : Dev Cert.DwAIdeal.nD) → Buf (Elt Ideal) ((c.tc : Thread Cert.DwAIdeal.nD Cert.DwAIdeal.τ).loc Cert.DwAIdeal.main_v0)),
      θ_run (Cert.DwAIdeal.defs (F := Ideal)) (onTc (τ := Cert.DwAIdeal.τ) (Cert.DwAIdeal.main (F := Ideal))) ⟨m, fun _ => 0, g⟩ (fun r => ∀ c : Dev Cert.DwAIdeal.nD,
          r.2.mem ((c.tc : Thread Cert.DwAIdeal.nD Cert.DwAIdeal.τ).loc Cert.DwAIdeal.main_v0) = v0 c
          ∧ r.2.mem ((c.tc : Thread Cert.DwAIdeal.nD Cert.DwAIdeal.τ).loc Cert.DwAIdeal.main_arg0) = m ((c.tc : Thread Cert.DwAIdeal.nD Cert.DwAIdeal.τ).loc Cert.DwAIdeal.main_arg0)
          ∧ r.2.mem ((c.tc : Thread Cert.DwAIdeal.nD Cert.DwAIdeal.τ).loc Cert.DwAIdeal.main_arg1) = m ((c.tc : Thread Cert.DwAIdeal.nD Cert.DwAIdeal.τ).loc Cert.DwAIdeal.main_arg1))
      ∧ θ_run (Cert.DwARefIdeal.defs (F := Ideal)) (onTc (τ := Cert.DwARefIdeal.τ) (Cert.DwARefIdeal.main (F := Ideal))) ⟨m', fun _ => 0, g'⟩ (fun r => ∀ c : Dev Cert.DwARefIdeal.nD,
          r.2.mem ((c.tc : Thread Cert.DwARefIdeal.nD Cert.DwARefIdeal.τ).loc Cert.DwARefIdeal.main_v8) = v0 c
          ∧ r.2.mem ((c.tc : Thread Cert.DwARefIdeal.nD Cert.DwARefIdeal.τ).loc Cert.DwARefIdeal.main_arg0) = m' ((c.tc : Thread Cert.DwARefIdeal.nD Cert.DwARefIdeal.τ).loc Cert.DwARefIdeal.main_arg0)
          ∧ r.2.mem ((c.tc : Thread Cert.DwARefIdeal.nD Cert.DwARefIdeal.τ).loc Cert.DwARefIdeal.main_arg1) = m' ((c.tc : Thread Cert.DwARefIdeal.nD Cert.DwARefIdeal.τ).loc Cert.DwARefIdeal.main_arg1))

def preserves_DwB_DwBIdeal : Prop :=
  True

def algebraic_DwBIdeal_DwBRefIdeal [hDwBIdeal : Cert.DwBIdeal.Facts] [hDwBRefIdeal : Cert.DwBRefIdeal.Facts] : Prop :=
  ∀ (m : (ℓ : Loc Cert.DwBIdeal.nD Cert.DwBIdeal.τ Cert.DwBIdeal.sig) → Buf (Elt Ideal) ℓ) (g : Dev Cert.DwBIdeal.nD → PrngReg)
    (m' : (ℓ : Loc Cert.DwBRefIdeal.nD Cert.DwBRefIdeal.τ Cert.DwBRefIdeal.sig) → Buf (Elt Ideal) ℓ) (g' : Dev Cert.DwBRefIdeal.nD → PrngReg), Pre_DwBIdeal m →
    (∀ c : Dev Cert.DwBIdeal.nD,
      m' ((c.tc : Thread Cert.DwBRefIdeal.nD Cert.DwBRefIdeal.τ).loc Cert.DwBRefIdeal.main_arg0) = m ((c.tc : Thread Cert.DwBIdeal.nD Cert.DwBIdeal.τ).loc Cert.DwBIdeal.main_arg0)
      ∧ m' ((c.tc : Thread Cert.DwBRefIdeal.nD Cert.DwBRefIdeal.τ).loc Cert.DwBRefIdeal.main_arg1) = m ((c.tc : Thread Cert.DwBIdeal.nD Cert.DwBIdeal.τ).loc Cert.DwBIdeal.main_arg1)) →
    ∃ (v0 : (c : Dev Cert.DwBIdeal.nD) → Buf (Elt Ideal) ((c.tc : Thread Cert.DwBIdeal.nD Cert.DwBIdeal.τ).loc Cert.DwBIdeal.main_v0)),
      θ_run (Cert.DwBIdeal.defs (F := Ideal)) (onTc (τ := Cert.DwBIdeal.τ) (Cert.DwBIdeal.main (F := Ideal))) ⟨m, fun _ => 0, g⟩ (fun r => ∀ c : Dev Cert.DwBIdeal.nD,
          r.2.mem ((c.tc : Thread Cert.DwBIdeal.nD Cert.DwBIdeal.τ).loc Cert.DwBIdeal.main_v0) = v0 c
          ∧ r.2.mem ((c.tc : Thread Cert.DwBIdeal.nD Cert.DwBIdeal.τ).loc Cert.DwBIdeal.main_arg0) = m ((c.tc : Thread Cert.DwBIdeal.nD Cert.DwBIdeal.τ).loc Cert.DwBIdeal.main_arg0)
          ∧ r.2.mem ((c.tc : Thread Cert.DwBIdeal.nD Cert.DwBIdeal.τ).loc Cert.DwBIdeal.main_arg1) = m ((c.tc : Thread Cert.DwBIdeal.nD Cert.DwBIdeal.τ).loc Cert.DwBIdeal.main_arg1))
      ∧ θ_run (Cert.DwBRefIdeal.defs (F := Ideal)) (onTc (τ := Cert.DwBRefIdeal.τ) (Cert.DwBRefIdeal.main (F := Ideal))) ⟨m', fun _ => 0, g'⟩ (fun r => ∀ c : Dev Cert.DwBRefIdeal.nD,
          r.2.mem ((c.tc : Thread Cert.DwBRefIdeal.nD Cert.DwBRefIdeal.τ).loc Cert.DwBRefIdeal.main_v7) = v0 c
          ∧ r.2.mem ((c.tc : Thread Cert.DwBRefIdeal.nD Cert.DwBRefIdeal.τ).loc Cert.DwBRefIdeal.main_arg0) = m' ((c.tc : Thread Cert.DwBRefIdeal.nD Cert.DwBRefIdeal.τ).loc Cert.DwBRefIdeal.main_arg0)
          ∧ r.2.mem ((c.tc : Thread Cert.DwBRefIdeal.nD Cert.DwBRefIdeal.τ).loc Cert.DwBRefIdeal.main_arg1) = m' ((c.tc : Thread Cert.DwBRefIdeal.nD Cert.DwBRefIdeal.τ).loc Cert.DwBRefIdeal.main_arg1))

def preserves_MlpDownBwd_MlpDownBwdIdeal : Prop :=
  True

def algebraic_MlpDownBwdIdeal_MlpDownBwdRefIdeal [hMlpDownBwdIdeal : Cert.MlpDownBwdIdeal.Facts] [hMlpDownBwdRefIdeal : Cert.MlpDownBwdRefIdeal.Facts] : Prop :=
  ∀ (m : (ℓ : Loc Cert.MlpDownBwdIdeal.nD Cert.MlpDownBwdIdeal.τ Cert.MlpDownBwdIdeal.sig) → Buf (Elt Ideal) ℓ) (g : Dev Cert.MlpDownBwdIdeal.nD → PrngReg)
    (m' : (ℓ : Loc Cert.MlpDownBwdRefIdeal.nD Cert.MlpDownBwdRefIdeal.τ Cert.MlpDownBwdRefIdeal.sig) → Buf (Elt Ideal) ℓ) (g' : Dev Cert.MlpDownBwdRefIdeal.nD → PrngReg), Pre_MlpDownBwdIdeal m →
    (∀ c : Dev Cert.MlpDownBwdIdeal.nD,
      m' ((c.tc : Thread Cert.MlpDownBwdRefIdeal.nD Cert.MlpDownBwdRefIdeal.τ).loc Cert.MlpDownBwdRefIdeal.main_arg0) = m ((c.tc : Thread Cert.MlpDownBwdIdeal.nD Cert.MlpDownBwdIdeal.τ).loc Cert.MlpDownBwdIdeal.main_arg0)
      ∧ m' ((c.tc : Thread Cert.MlpDownBwdRefIdeal.nD Cert.MlpDownBwdRefIdeal.τ).loc Cert.MlpDownBwdRefIdeal.main_arg1) = m ((c.tc : Thread Cert.MlpDownBwdIdeal.nD Cert.MlpDownBwdIdeal.τ).loc Cert.MlpDownBwdIdeal.main_arg1)
      ∧ m' ((c.tc : Thread Cert.MlpDownBwdRefIdeal.nD Cert.MlpDownBwdRefIdeal.τ).loc Cert.MlpDownBwdRefIdeal.main_arg2) = m ((c.tc : Thread Cert.MlpDownBwdIdeal.nD Cert.MlpDownBwdIdeal.τ).loc Cert.MlpDownBwdIdeal.main_arg2)) →
    ∃ (v0 : (c : Dev Cert.MlpDownBwdIdeal.nD) → Buf (Elt Ideal) ((c.tc : Thread Cert.MlpDownBwdIdeal.nD Cert.MlpDownBwdIdeal.τ).loc Cert.MlpDownBwdIdeal.main_v0)),
      θ_run (Cert.MlpDownBwdIdeal.defs (F := Ideal)) (onTc (τ := Cert.MlpDownBwdIdeal.τ) (Cert.MlpDownBwdIdeal.main (F := Ideal))) ⟨m, fun _ => 0, g⟩ (fun r => ∀ c : Dev Cert.MlpDownBwdIdeal.nD,
          r.2.mem ((c.tc : Thread Cert.MlpDownBwdIdeal.nD Cert.MlpDownBwdIdeal.τ).loc Cert.MlpDownBwdIdeal.main_v0) = v0 c
          ∧ r.2.mem ((c.tc : Thread Cert.MlpDownBwdIdeal.nD Cert.MlpDownBwdIdeal.τ).loc Cert.MlpDownBwdIdeal.main_arg0) = m ((c.tc : Thread Cert.MlpDownBwdIdeal.nD Cert.MlpDownBwdIdeal.τ).loc Cert.MlpDownBwdIdeal.main_arg0)
          ∧ r.2.mem ((c.tc : Thread Cert.MlpDownBwdIdeal.nD Cert.MlpDownBwdIdeal.τ).loc Cert.MlpDownBwdIdeal.main_arg1) = m ((c.tc : Thread Cert.MlpDownBwdIdeal.nD Cert.MlpDownBwdIdeal.τ).loc Cert.MlpDownBwdIdeal.main_arg1)
          ∧ r.2.mem ((c.tc : Thread Cert.MlpDownBwdIdeal.nD Cert.MlpDownBwdIdeal.τ).loc Cert.MlpDownBwdIdeal.main_arg2) = m ((c.tc : Thread Cert.MlpDownBwdIdeal.nD Cert.MlpDownBwdIdeal.τ).loc Cert.MlpDownBwdIdeal.main_arg2))
      ∧ θ_run (Cert.MlpDownBwdRefIdeal.defs (F := Ideal)) (onTc (τ := Cert.MlpDownBwdRefIdeal.τ) (Cert.MlpDownBwdRefIdeal.main (F := Ideal))) ⟨m', fun _ => 0, g'⟩ (fun r => ∀ c : Dev Cert.MlpDownBwdRefIdeal.nD,
          r.2.mem ((c.tc : Thread Cert.MlpDownBwdRefIdeal.nD Cert.MlpDownBwdRefIdeal.τ).loc Cert.MlpDownBwdRefIdeal.main_v13) = v0 c
          ∧ r.2.mem ((c.tc : Thread Cert.MlpDownBwdRefIdeal.nD Cert.MlpDownBwdRefIdeal.τ).loc Cert.MlpDownBwdRefIdeal.main_arg0) = m' ((c.tc : Thread Cert.MlpDownBwdRefIdeal.nD Cert.MlpDownBwdRefIdeal.τ).loc Cert.MlpDownBwdRefIdeal.main_arg0)
          ∧ r.2.mem ((c.tc : Thread Cert.MlpDownBwdRefIdeal.nD Cert.MlpDownBwdRefIdeal.τ).loc Cert.MlpDownBwdRefIdeal.main_arg1) = m' ((c.tc : Thread Cert.MlpDownBwdRefIdeal.nD Cert.MlpDownBwdRefIdeal.τ).loc Cert.MlpDownBwdRefIdeal.main_arg1)
          ∧ r.2.mem ((c.tc : Thread Cert.MlpDownBwdRefIdeal.nD Cert.MlpDownBwdRefIdeal.τ).loc Cert.MlpDownBwdRefIdeal.main_arg2) = m' ((c.tc : Thread Cert.MlpDownBwdRefIdeal.nD Cert.MlpDownBwdRefIdeal.τ).loc Cert.MlpDownBwdRefIdeal.main_arg2))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v5) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v4) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_ProjG_ProjGIdeal : Prop :=
  True

def algebraic_ProjGIdeal_ProjGRefIdeal [hProjGIdeal : Cert.ProjGIdeal.Facts] [hProjGRefIdeal : Cert.ProjGRefIdeal.Facts] : Prop :=
  ∀ (m : (ℓ : Loc Cert.ProjGIdeal.nD Cert.ProjGIdeal.τ Cert.ProjGIdeal.sig) → Buf (Elt Ideal) ℓ) (g : Dev Cert.ProjGIdeal.nD → PrngReg)
    (m' : (ℓ : Loc Cert.ProjGRefIdeal.nD Cert.ProjGRefIdeal.τ Cert.ProjGRefIdeal.sig) → Buf (Elt Ideal) ℓ) (g' : Dev Cert.ProjGRefIdeal.nD → PrngReg), Pre_ProjGIdeal m →
    (∀ c : Dev Cert.ProjGIdeal.nD,
      m' ((c.tc : Thread Cert.ProjGRefIdeal.nD Cert.ProjGRefIdeal.τ).loc Cert.ProjGRefIdeal.main_arg0) = m ((c.tc : Thread Cert.ProjGIdeal.nD Cert.ProjGIdeal.τ).loc Cert.ProjGIdeal.main_arg0)
      ∧ m' ((c.tc : Thread Cert.ProjGRefIdeal.nD Cert.ProjGRefIdeal.τ).loc Cert.ProjGRefIdeal.main_arg1) = m ((c.tc : Thread Cert.ProjGIdeal.nD Cert.ProjGIdeal.τ).loc Cert.ProjGIdeal.main_arg1)) →
    ∃ (v0 : (c : Dev Cert.ProjGIdeal.nD) → Buf (Elt Ideal) ((c.tc : Thread Cert.ProjGIdeal.nD Cert.ProjGIdeal.τ).loc Cert.ProjGIdeal.main_v0)),
      θ_run (Cert.ProjGIdeal.defs (F := Ideal)) (onTc (τ := Cert.ProjGIdeal.τ) (Cert.ProjGIdeal.main (F := Ideal))) ⟨m, fun _ => 0, g⟩ (fun r => ∀ c : Dev Cert.ProjGIdeal.nD,
          r.2.mem ((c.tc : Thread Cert.ProjGIdeal.nD Cert.ProjGIdeal.τ).loc Cert.ProjGIdeal.main_v0) = v0 c
          ∧ r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
          ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ θ_run (Cert.ProjGRefIdeal.defs (F := Ideal)) (onTc (τ := Cert.ProjGRefIdeal.τ) (Cert.ProjGRefIdeal.main (F := Ideal))) ⟨m', fun _ => 0, g'⟩ (fun r => ∀ c : Dev Cert.ProjGRefIdeal.nD,
          r.2.mem ((c.tc : Thread Cert.ProjGRefIdeal.nD Cert.ProjGRefIdeal.τ).loc Cert.ProjGRefIdeal.main_v4) = v0 c
          ∧ r.2.mem ((c.tc : Thread Cert.ProjGRefIdeal.nD Cert.ProjGRefIdeal.τ).loc Cert.ProjGRefIdeal.main_arg0) = m' ((c.tc : Thread Cert.ProjGRefIdeal.nD Cert.ProjGRefIdeal.τ).loc Cert.ProjGRefIdeal.main_arg0)
          ∧ r.2.mem ((c.tc : Thread Cert.ProjGRefIdeal.nD Cert.ProjGRefIdeal.τ).loc Cert.ProjGRefIdeal.main_arg1) = m' ((c.tc : Thread Cert.ProjGRefIdeal.nD Cert.ProjGRefIdeal.τ).loc Cert.ProjGRefIdeal.main_arg1))

def preserves_ProjF_ProjFIdeal : Prop :=
  True

def algebraic_ProjFIdeal_ProjFRefIdeal [hProjFIdeal : Cert.ProjFIdeal.Facts] [hProjFRefIdeal : Cert.ProjFRefIdeal.Facts] : Prop :=
  ∀ (m : (ℓ : Loc Cert.ProjFIdeal.nD Cert.ProjFIdeal.τ Cert.ProjFIdeal.sig) → Buf (Elt Ideal) ℓ) (g : Dev Cert.ProjFIdeal.nD → PrngReg)
    (m' : (ℓ : Loc Cert.ProjFRefIdeal.nD Cert.ProjFRefIdeal.τ Cert.ProjFRefIdeal.sig) → Buf (Elt Ideal) ℓ) (g' : Dev Cert.ProjFRefIdeal.nD → PrngReg), Pre_ProjFIdeal m →
    (∀ c : Dev Cert.ProjFIdeal.nD,
      m' ((c.tc : Thread Cert.ProjFRefIdeal.nD Cert.ProjFRefIdeal.τ).loc Cert.ProjFRefIdeal.main_arg0) = m ((c.tc : Thread Cert.ProjFIdeal.nD Cert.ProjFIdeal.τ).loc Cert.ProjFIdeal.main_arg0)
      ∧ m' ((c.tc : Thread Cert.ProjFRefIdeal.nD Cert.ProjFRefIdeal.τ).loc Cert.ProjFRefIdeal.main_arg1) = m ((c.tc : Thread Cert.ProjFIdeal.nD Cert.ProjFIdeal.τ).loc Cert.ProjFIdeal.main_arg1)) →
    ∃ (v0 : (c : Dev Cert.ProjFIdeal.nD) → Buf (Elt Ideal) ((c.tc : Thread Cert.ProjFIdeal.nD Cert.ProjFIdeal.τ).loc Cert.ProjFIdeal.main_v0)),
      θ_run (Cert.ProjFIdeal.defs (F := Ideal)) (onTc (τ := Cert.ProjFIdeal.τ) (Cert.ProjFIdeal.main (F := Ideal))) ⟨m, fun _ => 0, g⟩ (fun r => ∀ c : Dev Cert.ProjFIdeal.nD,
          r.2.mem ((c.tc : Thread Cert.ProjFIdeal.nD Cert.ProjFIdeal.τ).loc Cert.ProjFIdeal.main_v0) = v0 c
          ∧ r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
          ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ θ_run (Cert.ProjFRefIdeal.defs (F := Ideal)) (onTc (τ := Cert.ProjFRefIdeal.τ) (Cert.ProjFRefIdeal.main (F := Ideal))) ⟨m', fun _ => 0, g'⟩ (fun r => ∀ c : Dev Cert.ProjFRefIdeal.nD,
          r.2.mem ((c.tc : Thread Cert.ProjFRefIdeal.nD Cert.ProjFRefIdeal.τ).loc Cert.ProjFRefIdeal.main_v4) = v0 c
          ∧ r.2.mem ((c.tc : Thread Cert.ProjFRefIdeal.nD Cert.ProjFRefIdeal.τ).loc Cert.ProjFRefIdeal.main_arg0) = m' ((c.tc : Thread Cert.ProjFRefIdeal.nD Cert.ProjFRefIdeal.τ).loc Cert.ProjFRefIdeal.main_arg0)
          ∧ r.2.mem ((c.tc : Thread Cert.ProjFRefIdeal.nD Cert.ProjFRefIdeal.τ).loc Cert.ProjFRefIdeal.main_arg1) = m' ((c.tc : Thread Cert.ProjFRefIdeal.nD Cert.ProjFRefIdeal.τ).loc Cert.ProjFRefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v4) = v0 c
          ∧ r.2.mem ((c.tc : Thread Cert.MlpUpRefIdeal.nD Cert.MlpUpRefIdeal.τ).loc Cert.MlpUpRefIdeal.main_v7) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDownLoss_MlpDownLossIdeal : Prop :=
  True

def algebraic_MlpDownLossIdeal_MlpDownLossRefIdeal [hMlpDownLossIdeal : Cert.MlpDownLossIdeal.Facts] [hMlpDownLossRefIdeal : Cert.MlpDownLossRefIdeal.Facts] : Prop :=
  ∀ (m : (ℓ : Loc Cert.MlpDownLossIdeal.nD Cert.MlpDownLossIdeal.τ Cert.MlpDownLossIdeal.sig) → Buf (Elt Ideal) ℓ) (g : Dev Cert.MlpDownLossIdeal.nD → PrngReg)
    (m' : (ℓ : Loc Cert.MlpDownLossRefIdeal.nD Cert.MlpDownLossRefIdeal.τ Cert.MlpDownLossRefIdeal.sig) → Buf (Elt Ideal) ℓ) (g' : Dev Cert.MlpDownLossRefIdeal.nD → PrngReg), Pre_MlpDownLossIdeal m →
    (∀ c : Dev Cert.MlpDownLossIdeal.nD,
      m' ((c.tc : Thread Cert.MlpDownLossRefIdeal.nD Cert.MlpDownLossRefIdeal.τ).loc Cert.MlpDownLossRefIdeal.main_arg0) = m ((c.tc : Thread Cert.MlpDownLossIdeal.nD Cert.MlpDownLossIdeal.τ).loc Cert.MlpDownLossIdeal.main_arg0)
      ∧ m' ((c.tc : Thread Cert.MlpDownLossRefIdeal.nD Cert.MlpDownLossRefIdeal.τ).loc Cert.MlpDownLossRefIdeal.main_arg1) = m ((c.tc : Thread Cert.MlpDownLossIdeal.nD Cert.MlpDownLossIdeal.τ).loc Cert.MlpDownLossIdeal.main_arg1)
      ∧ m' ((c.tc : Thread Cert.MlpDownLossRefIdeal.nD Cert.MlpDownLossRefIdeal.τ).loc Cert.MlpDownLossRefIdeal.main_arg2) = m ((c.tc : Thread Cert.MlpDownLossIdeal.nD Cert.MlpDownLossIdeal.τ).loc Cert.MlpDownLossIdeal.main_arg2)
      ∧ m' ((c.tc : Thread Cert.MlpDownLossRefIdeal.nD Cert.MlpDownLossRefIdeal.τ).loc Cert.MlpDownLossRefIdeal.main_arg3) = m ((c.tc : Thread Cert.MlpDownLossIdeal.nD Cert.MlpDownLossIdeal.τ).loc Cert.MlpDownLossIdeal.main_arg3)
      ∧ m' ((c.tc : Thread Cert.MlpDownLossRefIdeal.nD Cert.MlpDownLossRefIdeal.τ).loc Cert.MlpDownLossRefIdeal.main_arg4) = m ((c.tc : Thread Cert.MlpDownLossIdeal.nD Cert.MlpDownLossIdeal.τ).loc Cert.MlpDownLossIdeal.main_arg4)) →
    ∃ (v0 : (c : Dev Cert.MlpDownLossIdeal.nD) → Buf (Elt Ideal) ((c.tc : Thread Cert.MlpDownLossIdeal.nD Cert.MlpDownLossIdeal.τ).loc Cert.MlpDownLossIdeal.main_v0_0)) (v1 : (c : Dev Cert.MlpDownLossIdeal.nD) → Buf (Elt Ideal) ((c.tc : Thread Cert.MlpDownLossIdeal.nD Cert.MlpDownLossIdeal.τ).loc Cert.MlpDownLossIdeal.main_v0_1)) (v2 : (c : Dev Cert.MlpDownLossIdeal.nD) → Buf (Elt Ideal) ((c.tc : Thread Cert.MlpDownLossIdeal.nD Cert.MlpDownLossIdeal.τ).loc Cert.MlpDownLossIdeal.main_v0_2)),
      θ_run (Cert.MlpDownLossIdeal.defs (F := Ideal)) (onTc (τ := Cert.MlpDownLossIdeal.τ) (Cert.MlpDownLossIdeal.main (F := Ideal))) ⟨m, fun _ => 0, g⟩ (fun r => ∀ c : Dev Cert.MlpDownLossIdeal.nD,
          r.2.mem ((c.tc : Thread Cert.MlpDownLossIdeal.nD Cert.MlpDownLossIdeal.τ).loc Cert.MlpDownLossIdeal.main_v0_0) = v0 c
          ∧ r.2.mem ((c.tc : Thread Cert.MlpDownLossIdeal.nD Cert.MlpDownLossIdeal.τ).loc Cert.MlpDownLossIdeal.main_v0_1) = v1 c
          ∧ r.2.mem ((c.tc : Thread Cert.MlpDownLossIdeal.nD Cert.MlpDownLossIdeal.τ).loc Cert.MlpDownLossIdeal.main_v0_2) = v2 c
          ∧ r.2.mem ((c.tc : Thread Cert.MlpDownLossIdeal.nD Cert.MlpDownLossIdeal.τ).loc Cert.MlpDownLossIdeal.main_arg0) = m ((c.tc : Thread Cert.MlpDownLossIdeal.nD Cert.MlpDownLossIdeal.τ).loc Cert.MlpDownLossIdeal.main_arg0)
          ∧ r.2.mem ((c.tc : Thread Cert.MlpDownLossIdeal.nD Cert.MlpDownLossIdeal.τ).loc Cert.MlpDownLossIdeal.main_arg1) = m ((c.tc : Thread Cert.MlpDownLossIdeal.nD Cert.MlpDownLossIdeal.τ).loc Cert.MlpDownLossIdeal.main_arg1)
          ∧ r.2.mem ((c.tc : Thread Cert.MlpDownLossIdeal.nD Cert.MlpDownLossIdeal.τ).loc Cert.MlpDownLossIdeal.main_arg2) = m ((c.tc : Thread Cert.MlpDownLossIdeal.nD Cert.MlpDownLossIdeal.τ).loc Cert.MlpDownLossIdeal.main_arg2)
          ∧ r.2.mem ((c.tc : Thread Cert.MlpDownLossIdeal.nD Cert.MlpDownLossIdeal.τ).loc Cert.MlpDownLossIdeal.main_arg3) = m ((c.tc : Thread Cert.MlpDownLossIdeal.nD Cert.MlpDownLossIdeal.τ).loc Cert.MlpDownLossIdeal.main_arg3)
          ∧ r.2.mem ((c.tc : Thread Cert.MlpDownLossIdeal.nD Cert.MlpDownLossIdeal.τ).loc Cert.MlpDownLossIdeal.main_arg4) = m ((c.tc : Thread Cert.MlpDownLossIdeal.nD Cert.MlpDownLossIdeal.τ).loc Cert.MlpDownLossIdeal.main_arg4))
      ∧ θ_run (Cert.MlpDownLossRefIdeal.defs (F := Ideal)) (onTc (τ := Cert.MlpDownLossRefIdeal.τ) (Cert.MlpDownLossRefIdeal.main (F := Ideal))) ⟨m', fun _ => 0, g'⟩ (fun r => ∀ c : Dev Cert.MlpDownLossRefIdeal.nD,
          r.2.mem ((c.tc : Thread Cert.MlpDownLossRefIdeal.nD Cert.MlpDownLossRefIdeal.τ).loc Cert.MlpDownLossRefIdeal.main_v52) = v0 c
          ∧ r.2.mem ((c.tc : Thread Cert.MlpDownLossRefIdeal.nD Cert.MlpDownLossRefIdeal.τ).loc Cert.MlpDownLossRefIdeal.main_v36) = v1 c
          ∧ r.2.mem ((c.tc : Thread Cert.MlpDownLossRefIdeal.nD Cert.MlpDownLossRefIdeal.τ).loc Cert.MlpDownLossRefIdeal.main_v53) = v2 c
          ∧ r.2.mem ((c.tc : Thread Cert.MlpDownLossRefIdeal.nD Cert.MlpDownLossRefIdeal.τ).loc Cert.MlpDownLossRefIdeal.main_arg0) = m' ((c.tc : Thread Cert.MlpDownLossRefIdeal.nD Cert.MlpDownLossRefIdeal.τ).loc Cert.MlpDownLossRefIdeal.main_arg0)
          ∧ r.2.mem ((c.tc : Thread Cert.MlpDownLossRefIdeal.nD Cert.MlpDownLossRefIdeal.τ).loc Cert.MlpDownLossRefIdeal.main_arg1) = m' ((c.tc : Thread Cert.MlpDownLossRefIdeal.nD Cert.MlpDownLossRefIdeal.τ).loc Cert.MlpDownLossRefIdeal.main_arg1)
          ∧ r.2.mem ((c.tc : Thread Cert.MlpDownLossRefIdeal.nD Cert.MlpDownLossRefIdeal.τ).loc Cert.MlpDownLossRefIdeal.main_arg2) = m' ((c.tc : Thread Cert.MlpDownLossRefIdeal.nD Cert.MlpDownLossRefIdeal.τ).loc Cert.MlpDownLossRefIdeal.main_arg2)
          ∧ r.2.mem ((c.tc : Thread Cert.MlpDownLossRefIdeal.nD Cert.MlpDownLossRefIdeal.τ).loc Cert.MlpDownLossRefIdeal.main_arg3) = m' ((c.tc : Thread Cert.MlpDownLossRefIdeal.nD Cert.MlpDownLossRefIdeal.τ).loc Cert.MlpDownLossRefIdeal.main_arg3)
          ∧ r.2.mem ((c.tc : Thread Cert.MlpDownLossRefIdeal.nD Cert.MlpDownLossRefIdeal.τ).loc Cert.MlpDownLossRefIdeal.main_arg4) = m' ((c.tc : Thread Cert.MlpDownLossRefIdeal.nD Cert.MlpDownLossRefIdeal.τ).loc Cert.MlpDownLossRefIdeal.main_arg4))

def preserves_MixerTail_MixerTailIdeal : Prop :=
  True

def algebraic_MixerTailIdeal_MixerTailRefIdeal [hMixerTailIdeal : Cert.MixerTailIdeal.Facts] [hMixerTailRefIdeal : Cert.MixerTailRefIdeal.Facts] : Prop :=
  ∀ (m : (ℓ : Loc Cert.MixerTailIdeal.nD Cert.MixerTailIdeal.τ Cert.MixerTailIdeal.sig) → Buf (Elt Ideal) ℓ) (g : Dev Cert.MixerTailIdeal.nD → PrngReg)
    (m' : (ℓ : Loc Cert.MixerTailRefIdeal.nD Cert.MixerTailRefIdeal.τ Cert.MixerTailRefIdeal.sig) → Buf (Elt Ideal) ℓ) (g' : Dev Cert.MixerTailRefIdeal.nD → PrngReg), Pre_MixerTailIdeal m →
    (∀ c : Dev Cert.MixerTailIdeal.nD,
      m' ((c.tc : Thread Cert.MixerTailRefIdeal.nD Cert.MixerTailRefIdeal.τ).loc Cert.MixerTailRefIdeal.main_arg0) = m ((c.tc : Thread Cert.MixerTailIdeal.nD Cert.MixerTailIdeal.τ).loc Cert.MixerTailIdeal.main_arg0)
      ∧ m' ((c.tc : Thread Cert.MixerTailRefIdeal.nD Cert.MixerTailRefIdeal.τ).loc Cert.MixerTailRefIdeal.main_arg1) = m ((c.tc : Thread Cert.MixerTailIdeal.nD Cert.MixerTailIdeal.τ).loc Cert.MixerTailIdeal.main_arg1)
      ∧ m' ((c.tc : Thread Cert.MixerTailRefIdeal.nD Cert.MixerTailRefIdeal.τ).loc Cert.MixerTailRefIdeal.main_arg2) = m ((c.tc : Thread Cert.MixerTailIdeal.nD Cert.MixerTailIdeal.τ).loc Cert.MixerTailIdeal.main_arg2)
      ∧ m' ((c.tc : Thread Cert.MixerTailRefIdeal.nD Cert.MixerTailRefIdeal.τ).loc Cert.MixerTailRefIdeal.main_arg3) = m ((c.tc : Thread Cert.MixerTailIdeal.nD Cert.MixerTailIdeal.τ).loc Cert.MixerTailIdeal.main_arg3)
      ∧ m' ((c.tc : Thread Cert.MixerTailRefIdeal.nD Cert.MixerTailRefIdeal.τ).loc Cert.MixerTailRefIdeal.main_arg4) = m ((c.tc : Thread Cert.MixerTailIdeal.nD Cert.MixerTailIdeal.τ).loc Cert.MixerTailIdeal.main_arg4)
      ∧ m' ((c.tc : Thread Cert.MixerTailRefIdeal.nD Cert.MixerTailRefIdeal.τ).loc Cert.MixerTailRefIdeal.main_arg5) = m ((c.tc : Thread Cert.MixerTailIdeal.nD Cert.MixerTailIdeal.τ).loc Cert.MixerTailIdeal.main_arg5)
      ∧ m' ((c.tc : Thread Cert.MixerTailRefIdeal.nD Cert.MixerTailRefIdeal.τ).loc Cert.MixerTailRefIdeal.main_arg6) = m ((c.tc : Thread Cert.MixerTailIdeal.nD Cert.MixerTailIdeal.τ).loc Cert.MixerTailIdeal.main_arg6)
      ∧ m' ((c.tc : Thread Cert.MixerTailRefIdeal.nD Cert.MixerTailRefIdeal.τ).loc Cert.MixerTailRefIdeal.main_arg7) = m ((c.tc : Thread Cert.MixerTailIdeal.nD Cert.MixerTailIdeal.τ).loc Cert.MixerTailIdeal.main_arg7)) →
    ∃ (v0 : (c : Dev Cert.MixerTailIdeal.nD) → Buf (Elt Ideal) ((c.tc : Thread Cert.MixerTailIdeal.nD Cert.MixerTailIdeal.τ).loc Cert.MixerTailIdeal.main_v0_0)) (v1 : (c : Dev Cert.MixerTailIdeal.nD) → Buf (Elt Ideal) ((c.tc : Thread Cert.MixerTailIdeal.nD Cert.MixerTailIdeal.τ).loc Cert.MixerTailIdeal.main_v0_1)) (v2 : (c : Dev Cert.MixerTailIdeal.nD) → Buf (Elt Ideal) ((c.tc : Thread Cert.MixerTailIdeal.nD Cert.MixerTailIdeal.τ).loc Cert.MixerTailIdeal.main_v0_2)) (v3 : (c : Dev Cert.MixerTailIdeal.nD) → Buf (Elt Ideal) ((c.tc : Thread Cert.MixerTailIdeal.nD Cert.MixerTailIdeal.τ).loc Cert.MixerTailIdeal.main_v0_3)) (v4 : (c : Dev Cert.MixerTailIdeal.nD) → Buf (Elt Ideal) ((c.tc : Thread Cert.MixerTailIdeal.nD Cert.MixerTailIdeal.τ).loc Cert.MixerTailIdeal.main_v0_4)),
      θ_run (Cert.MixerTailIdeal.defs (F := Ideal)) (onTc (τ := Cert.MixerTailIdeal.τ) (Cert.MixerTailIdeal.main (F := Ideal))) ⟨m, fun _ => 0, g⟩ (fun r => ∀ c : Dev Cert.MixerTailIdeal.nD,
          r.2.mem ((c.tc : Thread Cert.MixerTailIdeal.nD Cert.MixerTailIdeal.τ).loc Cert.MixerTailIdeal.main_v0_0) = v0 c
          ∧ r.2.mem ((c.tc : Thread Cert.MixerTailIdeal.nD Cert.MixerTailIdeal.τ).loc Cert.MixerTailIdeal.main_v0_1) = v1 c
          ∧ r.2.mem ((c.tc : Thread Cert.MixerTailIdeal.nD Cert.MixerTailIdeal.τ).loc Cert.MixerTailIdeal.main_v0_2) = v2 c
          ∧ r.2.mem ((c.tc : Thread Cert.MixerTailIdeal.nD Cert.MixerTailIdeal.τ).loc Cert.MixerTailIdeal.main_v0_3) = v3 c
          ∧ r.2.mem ((c.tc : Thread Cert.MixerTailIdeal.nD Cert.MixerTailIdeal.τ).loc Cert.MixerTailIdeal.main_v0_4) = v4 c
          ∧ r.2.mem ((c.tc : Thread Cert.MixerTailIdeal.nD Cert.MixerTailIdeal.τ).loc Cert.MixerTailIdeal.main_arg0) = m ((c.tc : Thread Cert.MixerTailIdeal.nD Cert.MixerTailIdeal.τ).loc Cert.MixerTailIdeal.main_arg0)
          ∧ r.2.mem ((c.tc : Thread Cert.MixerTailIdeal.nD Cert.MixerTailIdeal.τ).loc Cert.MixerTailIdeal.main_arg1) = m ((c.tc : Thread Cert.MixerTailIdeal.nD Cert.MixerTailIdeal.τ).loc Cert.MixerTailIdeal.main_arg1)
          ∧ r.2.mem ((c.tc : Thread Cert.MixerTailIdeal.nD Cert.MixerTailIdeal.τ).loc Cert.MixerTailIdeal.main_arg2) = m ((c.tc : Thread Cert.MixerTailIdeal.nD Cert.MixerTailIdeal.τ).loc Cert.MixerTailIdeal.main_arg2)
          ∧ r.2.mem ((c.tc : Thread Cert.MixerTailIdeal.nD Cert.MixerTailIdeal.τ).loc Cert.MixerTailIdeal.main_arg3) = m ((c.tc : Thread Cert.MixerTailIdeal.nD Cert.MixerTailIdeal.τ).loc Cert.MixerTailIdeal.main_arg3)
          ∧ r.2.mem ((c.tc : Thread Cert.MixerTailIdeal.nD Cert.MixerTailIdeal.τ).loc Cert.MixerTailIdeal.main_arg4) = m ((c.tc : Thread Cert.MixerTailIdeal.nD Cert.MixerTailIdeal.τ).loc Cert.MixerTailIdeal.main_arg4)
          ∧ r.2.mem ((c.tc : Thread Cert.MixerTailIdeal.nD Cert.MixerTailIdeal.τ).loc Cert.MixerTailIdeal.main_arg5) = m ((c.tc : Thread Cert.MixerTailIdeal.nD Cert.MixerTailIdeal.τ).loc Cert.MixerTailIdeal.main_arg5)
          ∧ r.2.mem ((c.tc : Thread Cert.MixerTailIdeal.nD Cert.MixerTailIdeal.τ).loc Cert.MixerTailIdeal.main_arg6) = m ((c.tc : Thread Cert.MixerTailIdeal.nD Cert.MixerTailIdeal.τ).loc Cert.MixerTailIdeal.main_arg6)
          ∧ r.2.mem ((c.tc : Thread Cert.MixerTailIdeal.nD Cert.MixerTailIdeal.τ).loc Cert.MixerTailIdeal.main_arg7) = m ((c.tc : Thread Cert.MixerTailIdeal.nD Cert.MixerTailIdeal.τ).loc Cert.MixerTailIdeal.main_arg7))
      ∧ θ_run (Cert.MixerTailRefIdeal.defs (F := Ideal)) (onTc (τ := Cert.MixerTailRefIdeal.τ) (Cert.MixerTailRefIdeal.main (F := Ideal))) ⟨m', fun _ => 0, g'⟩ (fun r => ∀ c : Dev Cert.MixerTailRefIdeal.nD,
          r.2.mem ((c.tc : Thread Cert.MixerTailRefIdeal.nD Cert.MixerTailRefIdeal.τ).loc Cert.MixerTailRefIdeal.main_v4) = v0 c
          ∧ r.2.mem ((c.tc : Thread Cert.MixerTailRefIdeal.nD Cert.MixerTailRefIdeal.τ).loc Cert.MixerTailRefIdeal.main_v8) = v1 c
          ∧ r.2.mem ((c.tc : Thread Cert.MixerTailRefIdeal.nD Cert.MixerTailRefIdeal.τ).loc Cert.MixerTailRefIdeal.main_v29) = v2 c
          ∧ r.2.mem ((c.tc : Thread Cert.MixerTailRefIdeal.nD Cert.MixerTailRefIdeal.τ).loc Cert.MixerTailRefIdeal.main_v28) = v3 c
          ∧ r.2.mem ((c.tc : Thread Cert.MixerTailRefIdeal.nD Cert.MixerTailRefIdeal.τ).loc Cert.MixerTailRefIdeal.main_v42) = v4 c
          ∧ r.2.mem ((c.tc : Thread Cert.MixerTailRefIdeal.nD Cert.MixerTailRefIdeal.τ).loc Cert.MixerTailRefIdeal.main_arg0) = m' ((c.tc : Thread Cert.MixerTailRefIdeal.nD Cert.MixerTailRefIdeal.τ).loc Cert.MixerTailRefIdeal.main_arg0)
          ∧ r.2.mem ((c.tc : Thread Cert.MixerTailRefIdeal.nD Cert.MixerTailRefIdeal.τ).loc Cert.MixerTailRefIdeal.main_arg1) = m' ((c.tc : Thread Cert.MixerTailRefIdeal.nD Cert.MixerTailRefIdeal.τ).loc Cert.MixerTailRefIdeal.main_arg1)
          ∧ r.2.mem ((c.tc : Thread Cert.MixerTailRefIdeal.nD Cert.MixerTailRefIdeal.τ).loc Cert.MixerTailRefIdeal.main_arg2) = m' ((c.tc : Thread Cert.MixerTailRefIdeal.nD Cert.MixerTailRefIdeal.τ).loc Cert.MixerTailRefIdeal.main_arg2)
          ∧ r.2.mem ((c.tc : Thread Cert.MixerTailRefIdeal.nD Cert.MixerTailRefIdeal.τ).loc Cert.MixerTailRefIdeal.main_arg3) = m' ((c.tc : Thread Cert.MixerTailRefIdeal.nD Cert.MixerTailRefIdeal.τ).loc Cert.MixerTailRefIdeal.main_arg3)
          ∧ r.2.mem ((c.tc : Thread Cert.MixerTailRefIdeal.nD Cert.MixerTailRefIdeal.τ).loc Cert.MixerTailRefIdeal.main_arg4) = m' ((c.tc : Thread Cert.MixerTailRefIdeal.nD Cert.MixerTailRefIdeal.τ).loc Cert.MixerTailRefIdeal.main_arg4)
          ∧ r.2.mem ((c.tc : Thread Cert.MixerTailRefIdeal.nD Cert.MixerTailRefIdeal.τ).loc Cert.MixerTailRefIdeal.main_arg5) = m' ((c.tc : Thread Cert.MixerTailRefIdeal.nD Cert.MixerTailRefIdeal.τ).loc Cert.MixerTailRefIdeal.main_arg5)
          ∧ r.2.mem ((c.tc : Thread Cert.MixerTailRefIdeal.nD Cert.MixerTailRefIdeal.τ).loc Cert.MixerTailRefIdeal.main_arg6) = m' ((c.tc : Thread Cert.MixerTailRefIdeal.nD Cert.MixerTailRefIdeal.τ).loc Cert.MixerTailRefIdeal.main_arg6)
          ∧ r.2.mem ((c.tc : Thread Cert.MixerTailRefIdeal.nD Cert.MixerTailRefIdeal.τ).loc Cert.MixerTailRefIdeal.main_arg7) = m' ((c.tc : Thread Cert.MixerTailRefIdeal.nD Cert.MixerTailRefIdeal.τ).loc Cert.MixerTailRefIdeal.main_arg7))

def preserves_FoxDscan_FoxDscanIdeal : Prop :=
  True

def algebraic_FoxDscanIdeal_FoxDscanRefIdeal [hFoxDscanIdeal : Cert.FoxDscanIdeal.Facts] [hFoxDscanRefIdeal : Cert.FoxDscanRefIdeal.Facts] : Prop :=
  ∀ (m : (ℓ : Loc Cert.FoxDscanIdeal.nD Cert.FoxDscanIdeal.τ Cert.FoxDscanIdeal.sig) → Buf (Elt Ideal) ℓ) (g : Dev Cert.FoxDscanIdeal.nD → PrngReg)
    (m' : (ℓ : Loc Cert.FoxDscanRefIdeal.nD Cert.FoxDscanRefIdeal.τ Cert.FoxDscanRefIdeal.sig) → Buf (Elt Ideal) ℓ) (g' : Dev Cert.FoxDscanRefIdeal.nD → PrngReg), Pre_FoxDscanIdeal m →
    (∀ c : Dev Cert.FoxDscanIdeal.nD,
      m' ((c.tc : Thread Cert.FoxDscanRefIdeal.nD Cert.FoxDscanRefIdeal.τ).loc Cert.FoxDscanRefIdeal.main_arg0) = m ((c.tc : Thread Cert.FoxDscanIdeal.nD Cert.FoxDscanIdeal.τ).loc Cert.FoxDscanIdeal.main_arg0)
      ∧ m' ((c.tc : Thread Cert.FoxDscanRefIdeal.nD Cert.FoxDscanRefIdeal.τ).loc Cert.FoxDscanRefIdeal.main_arg1) = m ((c.tc : Thread Cert.FoxDscanIdeal.nD Cert.FoxDscanIdeal.τ).loc Cert.FoxDscanIdeal.main_arg1)
      ∧ m' ((c.tc : Thread Cert.FoxDscanRefIdeal.nD Cert.FoxDscanRefIdeal.τ).loc Cert.FoxDscanRefIdeal.main_arg2) = m ((c.tc : Thread Cert.FoxDscanIdeal.nD Cert.FoxDscanIdeal.τ).loc Cert.FoxDscanIdeal.main_arg2)
      ∧ m' ((c.tc : Thread Cert.FoxDscanRefIdeal.nD Cert.FoxDscanRefIdeal.τ).loc Cert.FoxDscanRefIdeal.main_arg3) = m ((c.tc : Thread Cert.FoxDscanIdeal.nD Cert.FoxDscanIdeal.τ).loc Cert.FoxDscanIdeal.main_arg3)
      ∧ m' ((c.tc : Thread Cert.FoxDscanRefIdeal.nD Cert.FoxDscanRefIdeal.τ).loc Cert.FoxDscanRefIdeal.main_arg4) = m ((c.tc : Thread Cert.FoxDscanIdeal.nD Cert.FoxDscanIdeal.τ).loc Cert.FoxDscanIdeal.main_arg4)) →
    ∃ (v0 : (c : Dev Cert.FoxDscanIdeal.nD) → Buf (Elt Ideal) ((c.tc : Thread Cert.FoxDscanIdeal.nD Cert.FoxDscanIdeal.τ).loc Cert.FoxDscanIdeal.main_v1_0)) (v1 : (c : Dev Cert.FoxDscanIdeal.nD) → Buf (Elt Ideal) ((c.tc : Thread Cert.FoxDscanIdeal.nD Cert.FoxDscanIdeal.τ).loc Cert.FoxDscanIdeal.main_v1_1)),
      θ_run (Cert.FoxDscanIdeal.defs (F := Ideal)) (onTc (τ := Cert.FoxDscanIdeal.τ) (Cert.FoxDscanIdeal.main (F := Ideal))) ⟨m, fun _ => 0, g⟩ (fun r => ∀ c : Dev Cert.FoxDscanIdeal.nD,
          r.2.mem ((c.tc : Thread Cert.FoxDscanIdeal.nD Cert.FoxDscanIdeal.τ).loc Cert.FoxDscanIdeal.main_v1_0) = v0 c
          ∧ r.2.mem ((c.tc : Thread Cert.FoxDscanIdeal.nD Cert.FoxDscanIdeal.τ).loc Cert.FoxDscanIdeal.main_v1_1) = v1 c
          ∧ r.2.mem ((c.tc : Thread Cert.FoxDscanIdeal.nD Cert.FoxDscanIdeal.τ).loc Cert.FoxDscanIdeal.main_arg0) = m ((c.tc : Thread Cert.FoxDscanIdeal.nD Cert.FoxDscanIdeal.τ).loc Cert.FoxDscanIdeal.main_arg0)
          ∧ r.2.mem ((c.tc : Thread Cert.FoxDscanIdeal.nD Cert.FoxDscanIdeal.τ).loc Cert.FoxDscanIdeal.main_arg1) = m ((c.tc : Thread Cert.FoxDscanIdeal.nD Cert.FoxDscanIdeal.τ).loc Cert.FoxDscanIdeal.main_arg1)
          ∧ r.2.mem ((c.tc : Thread Cert.FoxDscanIdeal.nD Cert.FoxDscanIdeal.τ).loc Cert.FoxDscanIdeal.main_arg2) = m ((c.tc : Thread Cert.FoxDscanIdeal.nD Cert.FoxDscanIdeal.τ).loc Cert.FoxDscanIdeal.main_arg2)
          ∧ r.2.mem ((c.tc : Thread Cert.FoxDscanIdeal.nD Cert.FoxDscanIdeal.τ).loc Cert.FoxDscanIdeal.main_arg3) = m ((c.tc : Thread Cert.FoxDscanIdeal.nD Cert.FoxDscanIdeal.τ).loc Cert.FoxDscanIdeal.main_arg3)
          ∧ r.2.mem ((c.tc : Thread Cert.FoxDscanIdeal.nD Cert.FoxDscanIdeal.τ).loc Cert.FoxDscanIdeal.main_arg4) = m ((c.tc : Thread Cert.FoxDscanIdeal.nD Cert.FoxDscanIdeal.τ).loc Cert.FoxDscanIdeal.main_arg4))
      ∧ θ_run (Cert.FoxDscanRefIdeal.defs (F := Ideal)) (onTc (τ := Cert.FoxDscanRefIdeal.τ) (Cert.FoxDscanRefIdeal.main (F := Ideal))) ⟨m', fun _ => 0, g'⟩ (fun r => ∀ c : Dev Cert.FoxDscanRefIdeal.nD,
          r.2.mem ((c.tc : Thread Cert.FoxDscanRefIdeal.nD Cert.FoxDscanRefIdeal.τ).loc Cert.FoxDscanRefIdeal.main_v17) = v0 c
          ∧ r.2.mem ((c.tc : Thread Cert.FoxDscanRefIdeal.nD Cert.FoxDscanRefIdeal.τ).loc Cert.FoxDscanRefIdeal.main_v18) = v1 c
          ∧ r.2.mem ((c.tc : Thread Cert.FoxDscanRefIdeal.nD Cert.FoxDscanRefIdeal.τ).loc Cert.FoxDscanRefIdeal.main_arg0) = m' ((c.tc : Thread Cert.FoxDscanRefIdeal.nD Cert.FoxDscanRefIdeal.τ).loc Cert.FoxDscanRefIdeal.main_arg0)
          ∧ r.2.mem ((c.tc : Thread Cert.FoxDscanRefIdeal.nD Cert.FoxDscanRefIdeal.τ).loc Cert.FoxDscanRefIdeal.main_arg1) = m' ((c.tc : Thread Cert.FoxDscanRefIdeal.nD Cert.FoxDscanRefIdeal.τ).loc Cert.FoxDscanRefIdeal.main_arg1)
          ∧ r.2.mem ((c.tc : Thread Cert.FoxDscanRefIdeal.nD Cert.FoxDscanRefIdeal.τ).loc Cert.FoxDscanRefIdeal.main_arg2) = m' ((c.tc : Thread Cert.FoxDscanRefIdeal.nD Cert.FoxDscanRefIdeal.τ).loc Cert.FoxDscanRefIdeal.main_arg2)
          ∧ r.2.mem ((c.tc : Thread Cert.FoxDscanRefIdeal.nD Cert.FoxDscanRefIdeal.τ).loc Cert.FoxDscanRefIdeal.main_arg3) = m' ((c.tc : Thread Cert.FoxDscanRefIdeal.nD Cert.FoxDscanRefIdeal.τ).loc Cert.FoxDscanRefIdeal.main_arg3)
          ∧ r.2.mem ((c.tc : Thread Cert.FoxDscanRefIdeal.nD Cert.FoxDscanRefIdeal.τ).loc Cert.FoxDscanRefIdeal.main_arg4) = m' ((c.tc : Thread Cert.FoxDscanRefIdeal.nD Cert.FoxDscanRefIdeal.τ).loc Cert.FoxDscanRefIdeal.main_arg4))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)
      ∧ m' ((c.tc : Thread Cert.AdamWInRefIdeal.nD Cert.AdamWInRefIdeal.τ).loc Cert.AdamWInRefIdeal.main_arg4) = m ((c.tc : Thread Cert.AdamWInIdeal.nD Cert.AdamWInIdeal.τ).loc Cert.AdamWInIdeal.main_arg4)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3)
          ∧ r.2.mem ((c.tc : Thread Cert.AdamWInIdeal.nD Cert.AdamWInIdeal.τ).loc Cert.AdamWInIdeal.main_arg4) = m ((c.tc : Thread Cert.AdamWInIdeal.nD Cert.AdamWInIdeal.τ).loc Cert.AdamWInIdeal.main_arg4))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v2) = v0 c
          ∧ r.2.mem ((c.tc : Thread Cert.AdamWInRefIdeal.nD Cert.AdamWInRefIdeal.τ).loc Cert.AdamWInRefIdeal.main_v26) = v1 c
          ∧ r.2.mem ((c.tc : Thread Cert.AdamWInRefIdeal.nD Cert.AdamWInRefIdeal.τ).loc Cert.AdamWInRefIdeal.main_v7) = v2 c
          ∧ r.2.mem ((c.tc : Thread Cert.AdamWInRefIdeal.nD Cert.AdamWInRefIdeal.τ).loc Cert.AdamWInRefIdeal.main_v13) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3)
          ∧ r.2.mem ((c.tc : Thread Cert.AdamWInRefIdeal.nD Cert.AdamWInRefIdeal.τ).loc Cert.AdamWInRefIdeal.main_arg4) = m' ((c.tc : Thread Cert.AdamWInRefIdeal.nD Cert.AdamWInRefIdeal.τ).loc Cert.AdamWInRefIdeal.main_arg4))

def preserves_AdamWA_AdamWAIdeal : Prop :=
  True

def algebraic_AdamWAIdeal_AdamWARefIdeal [hAdamWAIdeal : Cert.AdamWAIdeal.Facts] [hAdamWARefIdeal : Cert.AdamWARefIdeal.Facts] : Prop :=
  ∀ (m : (ℓ : Loc Cert.AdamWAIdeal.nD Cert.AdamWAIdeal.τ Cert.AdamWAIdeal.sig) → Buf (Elt Ideal) ℓ) (g : Dev Cert.AdamWAIdeal.nD → PrngReg)
    (m' : (ℓ : Loc Cert.AdamWARefIdeal.nD Cert.AdamWARefIdeal.τ Cert.AdamWARefIdeal.sig) → Buf (Elt Ideal) ℓ) (g' : Dev Cert.AdamWARefIdeal.nD → PrngReg), Pre_AdamWAIdeal m →
    (∀ c : Dev Cert.AdamWAIdeal.nD,
      m' ((c.tc : Thread Cert.AdamWARefIdeal.nD Cert.AdamWARefIdeal.τ).loc Cert.AdamWARefIdeal.main_arg0) = m ((c.tc : Thread Cert.AdamWAIdeal.nD Cert.AdamWAIdeal.τ).loc Cert.AdamWAIdeal.main_arg0)
      ∧ m' ((c.tc : Thread Cert.AdamWARefIdeal.nD Cert.AdamWARefIdeal.τ).loc Cert.AdamWARefIdeal.main_arg1) = m ((c.tc : Thread Cert.AdamWAIdeal.nD Cert.AdamWAIdeal.τ).loc Cert.AdamWAIdeal.main_arg1)
      ∧ m' ((c.tc : Thread Cert.AdamWARefIdeal.nD Cert.AdamWARefIdeal.τ).loc Cert.AdamWARefIdeal.main_arg2) = m ((c.tc : Thread Cert.AdamWAIdeal.nD Cert.AdamWAIdeal.τ).loc Cert.AdamWAIdeal.main_arg2)
      ∧ m' ((c.tc : Thread Cert.AdamWARefIdeal.nD Cert.AdamWARefIdeal.τ).loc Cert.AdamWARefIdeal.main_arg3) = m ((c.tc : Thread Cert.AdamWAIdeal.nD Cert.AdamWAIdeal.τ).loc Cert.AdamWAIdeal.main_arg3)
      ∧ m' ((c.tc : Thread Cert.AdamWARefIdeal.nD Cert.AdamWARefIdeal.τ).loc Cert.AdamWARefIdeal.main_arg4) = m ((c.tc : Thread Cert.AdamWAIdeal.nD Cert.AdamWAIdeal.τ).loc Cert.AdamWAIdeal.main_arg4)) →
    ∃ (v0 : (c : Dev Cert.AdamWAIdeal.nD) → Buf (Elt Ideal) ((c.tc : Thread Cert.AdamWAIdeal.nD Cert.AdamWAIdeal.τ).loc Cert.AdamWAIdeal.main_v0_0)) (v1 : (c : Dev Cert.AdamWAIdeal.nD) → Buf (Elt Ideal) ((c.tc : Thread Cert.AdamWAIdeal.nD Cert.AdamWAIdeal.τ).loc Cert.AdamWAIdeal.main_v0_1)) (v2 : (c : Dev Cert.AdamWAIdeal.nD) → Buf (Elt Ideal) ((c.tc : Thread Cert.AdamWAIdeal.nD Cert.AdamWAIdeal.τ).loc Cert.AdamWAIdeal.main_v0_2)) (v3 : (c : Dev Cert.AdamWAIdeal.nD) → Buf (Elt Ideal) ((c.tc : Thread Cert.AdamWAIdeal.nD Cert.AdamWAIdeal.τ).loc Cert.AdamWAIdeal.main_v0_3)),
      θ_run (Cert.AdamWAIdeal.defs (F := Ideal)) (onTc (τ := Cert.AdamWAIdeal.τ) (Cert.AdamWAIdeal.main (F := Ideal))) ⟨m, fun _ => 0, g⟩ (fun r => ∀ c : Dev Cert.AdamWAIdeal.nD,
          r.2.mem ((c.tc : Thread Cert.AdamWAIdeal.nD Cert.AdamWAIdeal.τ).loc Cert.AdamWAIdeal.main_v0_0) = v0 c
          ∧ r.2.mem ((c.tc : Thread Cert.AdamWAIdeal.nD Cert.AdamWAIdeal.τ).loc Cert.AdamWAIdeal.main_v0_1) = v1 c
          ∧ r.2.mem ((c.tc : Thread Cert.AdamWAIdeal.nD Cert.AdamWAIdeal.τ).loc Cert.AdamWAIdeal.main_v0_2) = v2 c
          ∧ r.2.mem ((c.tc : Thread Cert.AdamWAIdeal.nD Cert.AdamWAIdeal.τ).loc Cert.AdamWAIdeal.main_v0_3) = v3 c
          ∧ r.2.mem ((c.tc : Thread Cert.AdamWAIdeal.nD Cert.AdamWAIdeal.τ).loc Cert.AdamWAIdeal.main_arg0) = m ((c.tc : Thread Cert.AdamWAIdeal.nD Cert.AdamWAIdeal.τ).loc Cert.AdamWAIdeal.main_arg0)
          ∧ r.2.mem ((c.tc : Thread Cert.AdamWAIdeal.nD Cert.AdamWAIdeal.τ).loc Cert.AdamWAIdeal.main_arg1) = m ((c.tc : Thread Cert.AdamWAIdeal.nD Cert.AdamWAIdeal.τ).loc Cert.AdamWAIdeal.main_arg1)
          ∧ r.2.mem ((c.tc : Thread Cert.AdamWAIdeal.nD Cert.AdamWAIdeal.τ).loc Cert.AdamWAIdeal.main_arg2) = m ((c.tc : Thread Cert.AdamWAIdeal.nD Cert.AdamWAIdeal.τ).loc Cert.AdamWAIdeal.main_arg2)
          ∧ r.2.mem ((c.tc : Thread Cert.AdamWAIdeal.nD Cert.AdamWAIdeal.τ).loc Cert.AdamWAIdeal.main_arg3) = m ((c.tc : Thread Cert.AdamWAIdeal.nD Cert.AdamWAIdeal.τ).loc Cert.AdamWAIdeal.main_arg3)
          ∧ r.2.mem ((c.tc : Thread Cert.AdamWAIdeal.nD Cert.AdamWAIdeal.τ).loc Cert.AdamWAIdeal.main_arg4) = m ((c.tc : Thread Cert.AdamWAIdeal.nD Cert.AdamWAIdeal.τ).loc Cert.AdamWAIdeal.main_arg4))
      ∧ θ_run (Cert.AdamWARefIdeal.defs (F := Ideal)) (onTc (τ := Cert.AdamWARefIdeal.τ) (Cert.AdamWARefIdeal.main (F := Ideal))) ⟨m', fun _ => 0, g'⟩ (fun r => ∀ c : Dev Cert.AdamWARefIdeal.nD,
          r.2.mem ((c.tc : Thread Cert.AdamWARefIdeal.nD Cert.AdamWARefIdeal.τ).loc Cert.AdamWARefIdeal.main_v2) = v0 c
          ∧ r.2.mem ((c.tc : Thread Cert.AdamWARefIdeal.nD Cert.AdamWARefIdeal.τ).loc Cert.AdamWARefIdeal.main_v26) = v1 c
          ∧ r.2.mem ((c.tc : Thread Cert.AdamWARefIdeal.nD Cert.AdamWARefIdeal.τ).loc Cert.AdamWARefIdeal.main_v7) = v2 c
          ∧ r.2.mem ((c.tc : Thread Cert.AdamWARefIdeal.nD Cert.AdamWARefIdeal.τ).loc Cert.AdamWARefIdeal.main_v13) = v3 c
          ∧ r.2.mem ((c.tc : Thread Cert.AdamWARefIdeal.nD Cert.AdamWARefIdeal.τ).loc Cert.AdamWARefIdeal.main_arg0) = m' ((c.tc : Thread Cert.AdamWARefIdeal.nD Cert.AdamWARefIdeal.τ).loc Cert.AdamWARefIdeal.main_arg0)
          ∧ r.2.mem ((c.tc : Thread Cert.AdamWARefIdeal.nD Cert.AdamWARefIdeal.τ).loc Cert.AdamWARefIdeal.main_arg1) = m' ((c.tc : Thread Cert.AdamWARefIdeal.nD Cert.AdamWARefIdeal.τ).loc Cert.AdamWARefIdeal.main_arg1)
          ∧ r.2.mem ((c.tc : Thread Cert.AdamWARefIdeal.nD Cert.AdamWARefIdeal.τ).loc Cert.AdamWARefIdeal.main_arg2) = m' ((c.tc : Thread Cert.AdamWARefIdeal.nD Cert.AdamWARefIdeal.τ).loc Cert.AdamWARefIdeal.main_arg2)
          ∧ r.2.mem ((c.tc : Thread Cert.AdamWARefIdeal.nD Cert.AdamWARefIdeal.τ).loc Cert.AdamWARefIdeal.main_arg3) = m' ((c.tc : Thread Cert.AdamWARefIdeal.nD Cert.AdamWARefIdeal.τ).loc Cert.AdamWARefIdeal.main_arg3)
          ∧ r.2.mem ((c.tc : Thread Cert.AdamWARefIdeal.nD Cert.AdamWARefIdeal.τ).loc Cert.AdamWARefIdeal.main_arg4) = m' ((c.tc : Thread Cert.AdamWARefIdeal.nD Cert.AdamWARefIdeal.τ).loc Cert.AdamWARefIdeal.main_arg4))

def preserves_AdamWB_AdamWBIdeal : Prop :=
  True

def algebraic_AdamWBIdeal_AdamWBRefIdeal [hAdamWBIdeal : Cert.AdamWBIdeal.Facts] [hAdamWBRefIdeal : Cert.AdamWBRefIdeal.Facts] : Prop :=
  ∀ (m : (ℓ : Loc Cert.AdamWBIdeal.nD Cert.AdamWBIdeal.τ Cert.AdamWBIdeal.sig) → Buf (Elt Ideal) ℓ) (g : Dev Cert.AdamWBIdeal.nD → PrngReg)
    (m' : (ℓ : Loc Cert.AdamWBRefIdeal.nD Cert.AdamWBRefIdeal.τ Cert.AdamWBRefIdeal.sig) → Buf (Elt Ideal) ℓ) (g' : Dev Cert.AdamWBRefIdeal.nD → PrngReg), Pre_AdamWBIdeal m →
    (∀ c : Dev Cert.AdamWBIdeal.nD,
      m' ((c.tc : Thread Cert.AdamWBRefIdeal.nD Cert.AdamWBRefIdeal.τ).loc Cert.AdamWBRefIdeal.main_arg0) = m ((c.tc : Thread Cert.AdamWBIdeal.nD Cert.AdamWBIdeal.τ).loc Cert.AdamWBIdeal.main_arg0)
      ∧ m' ((c.tc : Thread Cert.AdamWBRefIdeal.nD Cert.AdamWBRefIdeal.τ).loc Cert.AdamWBRefIdeal.main_arg1) = m ((c.tc : Thread Cert.AdamWBIdeal.nD Cert.AdamWBIdeal.τ).loc Cert.AdamWBIdeal.main_arg1)
      ∧ m' ((c.tc : Thread Cert.AdamWBRefIdeal.nD Cert.AdamWBRefIdeal.τ).loc Cert.AdamWBRefIdeal.main_arg2) = m ((c.tc : Thread Cert.AdamWBIdeal.nD Cert.AdamWBIdeal.τ).loc Cert.AdamWBIdeal.main_arg2)
      ∧ m' ((c.tc : Thread Cert.AdamWBRefIdeal.nD Cert.AdamWBRefIdeal.τ).loc Cert.AdamWBRefIdeal.main_arg3) = m ((c.tc : Thread Cert.AdamWBIdeal.nD Cert.AdamWBIdeal.τ).loc Cert.AdamWBIdeal.main_arg3)
      ∧ m' ((c.tc : Thread Cert.AdamWBRefIdeal.nD Cert.AdamWBRefIdeal.τ).loc Cert.AdamWBRefIdeal.main_arg4) = m ((c.tc : Thread Cert.AdamWBIdeal.nD Cert.AdamWBIdeal.τ).loc Cert.AdamWBIdeal.main_arg4)) →
    ∃ (v0 : (c : Dev Cert.AdamWBIdeal.nD) → Buf (Elt Ideal) ((c.tc : Thread Cert.AdamWBIdeal.nD Cert.AdamWBIdeal.τ).loc Cert.AdamWBIdeal.main_v0_0)) (v1 : (c : Dev Cert.AdamWBIdeal.nD) → Buf (Elt Ideal) ((c.tc : Thread Cert.AdamWBIdeal.nD Cert.AdamWBIdeal.τ).loc Cert.AdamWBIdeal.main_v0_1)) (v2 : (c : Dev Cert.AdamWBIdeal.nD) → Buf (Elt Ideal) ((c.tc : Thread Cert.AdamWBIdeal.nD Cert.AdamWBIdeal.τ).loc Cert.AdamWBIdeal.main_v0_2)) (v3 : (c : Dev Cert.AdamWBIdeal.nD) → Buf (Elt Ideal) ((c.tc : Thread Cert.AdamWBIdeal.nD Cert.AdamWBIdeal.τ).loc Cert.AdamWBIdeal.main_v0_3)),
      θ_run (Cert.AdamWBIdeal.defs (F := Ideal)) (onTc (τ := Cert.AdamWBIdeal.τ) (Cert.AdamWBIdeal.main (F := Ideal))) ⟨m, fun _ => 0, g⟩ (fun r => ∀ c : Dev Cert.AdamWBIdeal.nD,
          r.2.mem ((c.tc : Thread Cert.AdamWBIdeal.nD Cert.AdamWBIdeal.τ).loc Cert.AdamWBIdeal.main_v0_0) = v0 c
          ∧ r.2.mem ((c.tc : Thread Cert.AdamWBIdeal.nD Cert.AdamWBIdeal.τ).loc Cert.AdamWBIdeal.main_v0_1) = v1 c
          ∧ r.2.mem ((c.tc : Thread Cert.AdamWBIdeal.nD Cert.AdamWBIdeal.τ).loc Cert.AdamWBIdeal.main_v0_2) = v2 c
          ∧ r.2.mem ((c.tc : Thread Cert.AdamWBIdeal.nD Cert.AdamWBIdeal.τ).loc Cert.AdamWBIdeal.main_v0_3) = v3 c
          ∧ r.2.mem ((c.tc : Thread Cert.AdamWBIdeal.nD Cert.AdamWBIdeal.τ).loc Cert.AdamWBIdeal.main_arg0) = m ((c.tc : Thread Cert.AdamWBIdeal.nD Cert.AdamWBIdeal.τ).loc Cert.AdamWBIdeal.main_arg0)
          ∧ r.2.mem ((c.tc : Thread Cert.AdamWBIdeal.nD Cert.AdamWBIdeal.τ).loc Cert.AdamWBIdeal.main_arg1) = m ((c.tc : Thread Cert.AdamWBIdeal.nD Cert.AdamWBIdeal.τ).loc Cert.AdamWBIdeal.main_arg1)
          ∧ r.2.mem ((c.tc : Thread Cert.AdamWBIdeal.nD Cert.AdamWBIdeal.τ).loc Cert.AdamWBIdeal.main_arg2) = m ((c.tc : Thread Cert.AdamWBIdeal.nD Cert.AdamWBIdeal.τ).loc Cert.AdamWBIdeal.main_arg2)
          ∧ r.2.mem ((c.tc : Thread Cert.AdamWBIdeal.nD Cert.AdamWBIdeal.τ).loc Cert.AdamWBIdeal.main_arg3) = m ((c.tc : Thread Cert.AdamWBIdeal.nD Cert.AdamWBIdeal.τ).loc Cert.AdamWBIdeal.main_arg3)
          ∧ r.2.mem ((c.tc : Thread Cert.AdamWBIdeal.nD Cert.AdamWBIdeal.τ).loc Cert.AdamWBIdeal.main_arg4) = m ((c.tc : Thread Cert.AdamWBIdeal.nD Cert.AdamWBIdeal.τ).loc Cert.AdamWBIdeal.main_arg4))
      ∧ θ_run (Cert.AdamWBRefIdeal.defs (F := Ideal)) (onTc (τ := Cert.AdamWBRefIdeal.τ) (Cert.AdamWBRefIdeal.main (F := Ideal))) ⟨m', fun _ => 0, g'⟩ (fun r => ∀ c : Dev Cert.AdamWBRefIdeal.nD,
          r.2.mem ((c.tc : Thread Cert.AdamWBRefIdeal.nD Cert.AdamWBRefIdeal.τ).loc Cert.AdamWBRefIdeal.main_v2) = v0 c
          ∧ r.2.mem ((c.tc : Thread Cert.AdamWBRefIdeal.nD Cert.AdamWBRefIdeal.τ).loc Cert.AdamWBRefIdeal.main_v26) = v1 c
          ∧ r.2.mem ((c.tc : Thread Cert.AdamWBRefIdeal.nD Cert.AdamWBRefIdeal.τ).loc Cert.AdamWBRefIdeal.main_v7) = v2 c
          ∧ r.2.mem ((c.tc : Thread Cert.AdamWBRefIdeal.nD Cert.AdamWBRefIdeal.τ).loc Cert.AdamWBRefIdeal.main_v13) = v3 c
          ∧ r.2.mem ((c.tc : Thread Cert.AdamWBRefIdeal.nD Cert.AdamWBRefIdeal.τ).loc Cert.AdamWBRefIdeal.main_arg0) = m' ((c.tc : Thread Cert.AdamWBRefIdeal.nD Cert.AdamWBRefIdeal.τ).loc Cert.AdamWBRefIdeal.main_arg0)
          ∧ r.2.mem ((c.tc : Thread Cert.AdamWBRefIdeal.nD Cert.AdamWBRefIdeal.τ).loc Cert.AdamWBRefIdeal.main_arg1) = m' ((c.tc : Thread Cert.AdamWBRefIdeal.nD Cert.AdamWBRefIdeal.τ).loc Cert.AdamWBRefIdeal.main_arg1)
          ∧ r.2.mem ((c.tc : Thread Cert.AdamWBRefIdeal.nD Cert.AdamWBRefIdeal.τ).loc Cert.AdamWBRefIdeal.main_arg2) = m' ((c.tc : Thread Cert.AdamWBRefIdeal.nD Cert.AdamWBRefIdeal.τ).loc Cert.AdamWBRefIdeal.main_arg2)
          ∧ r.2.mem ((c.tc : Thread Cert.AdamWBRefIdeal.nD Cert.AdamWBRefIdeal.τ).loc Cert.AdamWBRefIdeal.main_arg3) = m' ((c.tc : Thread Cert.AdamWBRefIdeal.nD Cert.AdamWBRefIdeal.τ).loc Cert.AdamWBRefIdeal.main_arg3)
          ∧ r.2.mem ((c.tc : Thread Cert.AdamWBRefIdeal.nD Cert.AdamWBRefIdeal.τ).loc Cert.AdamWBRefIdeal.main_arg4) = m' ((c.tc : Thread Cert.AdamWBRefIdeal.nD Cert.AdamWBRefIdeal.τ).loc Cert.AdamWBRefIdeal.main_arg4))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)
      ∧ m' ((c.tc : Thread Cert.AdamWOutRefIdeal.nD Cert.AdamWOutRefIdeal.τ).loc Cert.AdamWOutRefIdeal.main_arg4) = m ((c.tc : Thread Cert.AdamWOutIdeal.nD Cert.AdamWOutIdeal.τ).loc Cert.AdamWOutIdeal.main_arg4)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)) (v3 : (c : Dev Cert.AdamWOutIdeal.nD) → Buf (Elt Ideal) ((c.tc : Thread Cert.AdamWOutIdeal.nD Cert.AdamWOutIdeal.τ).loc Cert.AdamWOutIdeal.main_v0_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_v0_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3)
          ∧ r.2.mem ((c.tc : Thread Cert.AdamWOutIdeal.nD Cert.AdamWOutIdeal.τ).loc Cert.AdamWOutIdeal.main_arg4) = m ((c.tc : Thread Cert.AdamWOutIdeal.nD Cert.AdamWOutIdeal.τ).loc Cert.AdamWOutIdeal.main_arg4))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v2) = v0 c
          ∧ r.2.mem ((c.tc : Thread Cert.AdamWOutRefIdeal.nD Cert.AdamWOutRefIdeal.τ).loc Cert.AdamWOutRefIdeal.main_v26) = v1 c
          ∧ r.2.mem ((c.tc : Thread Cert.AdamWOutRefIdeal.nD Cert.AdamWOutRefIdeal.τ).loc Cert.AdamWOutRefIdeal.main_v7) = v2 c
          ∧ r.2.mem ((c.tc : Thread Cert.AdamWOutRefIdeal.nD Cert.AdamWOutRefIdeal.τ).loc Cert.AdamWOutRefIdeal.main_v13) = v3 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3)
          ∧ r.2.mem ((c.tc : Thread Cert.AdamWOutRefIdeal.nD Cert.AdamWOutRefIdeal.τ).loc Cert.AdamWOutRefIdeal.main_arg4) = m' ((c.tc : Thread Cert.AdamWOutRefIdeal.nD Cert.AdamWOutRefIdeal.τ).loc Cert.AdamWOutRefIdeal.main_arg4))

def preserves_AdamWUp_AdamWUpIdeal : Prop :=
  True

def algebraic_AdamWUpIdeal_AdamWUpRefIdeal [hAdamWUpIdeal : Cert.AdamWUpIdeal.Facts] [hAdamWUpRefIdeal : Cert.AdamWUpRefIdeal.Facts] : Prop :=
  ∀ (m : (ℓ : Loc Cert.AdamWUpIdeal.nD Cert.AdamWUpIdeal.τ Cert.AdamWUpIdeal.sig) → Buf (Elt Ideal) ℓ) (g : Dev Cert.AdamWUpIdeal.nD → PrngReg)
    (m' : (ℓ : Loc Cert.AdamWUpRefIdeal.nD Cert.AdamWUpRefIdeal.τ Cert.AdamWUpRefIdeal.sig) → Buf (Elt Ideal) ℓ) (g' : Dev Cert.AdamWUpRefIdeal.nD → PrngReg), Pre_AdamWUpIdeal m →
    (∀ c : Dev Cert.AdamWUpIdeal.nD,
      m' ((c.tc : Thread Cert.AdamWUpRefIdeal.nD Cert.AdamWUpRefIdeal.τ).loc Cert.AdamWUpRefIdeal.main_arg0) = m ((c.tc : Thread Cert.AdamWUpIdeal.nD Cert.AdamWUpIdeal.τ).loc Cert.AdamWUpIdeal.main_arg0)
      ∧ m' ((c.tc : Thread Cert.AdamWUpRefIdeal.nD Cert.AdamWUpRefIdeal.τ).loc Cert.AdamWUpRefIdeal.main_arg1) = m ((c.tc : Thread Cert.AdamWUpIdeal.nD Cert.AdamWUpIdeal.τ).loc Cert.AdamWUpIdeal.main_arg1)
      ∧ m' ((c.tc : Thread Cert.AdamWUpRefIdeal.nD Cert.AdamWUpRefIdeal.τ).loc Cert.AdamWUpRefIdeal.main_arg2) = m ((c.tc : Thread Cert.AdamWUpIdeal.nD Cert.AdamWUpIdeal.τ).loc Cert.AdamWUpIdeal.main_arg2)
      ∧ m' ((c.tc : Thread Cert.AdamWUpRefIdeal.nD Cert.AdamWUpRefIdeal.τ).loc Cert.AdamWUpRefIdeal.main_arg3) = m ((c.tc : Thread Cert.AdamWUpIdeal.nD Cert.AdamWUpIdeal.τ).loc Cert.AdamWUpIdeal.main_arg3)
      ∧ m' ((c.tc : Thread Cert.AdamWUpRefIdeal.nD Cert.AdamWUpRefIdeal.τ).loc Cert.AdamWUpRefIdeal.main_arg4) = m ((c.tc : Thread Cert.AdamWUpIdeal.nD Cert.AdamWUpIdeal.τ).loc Cert.AdamWUpIdeal.main_arg4)) →
    ∃ (v0 : (c : Dev Cert.AdamWUpIdeal.nD) → Buf (Elt Ideal) ((c.tc : Thread Cert.AdamWUpIdeal.nD Cert.AdamWUpIdeal.τ).loc Cert.AdamWUpIdeal.main_v0_0)) (v1 : (c : Dev Cert.AdamWUpIdeal.nD) → Buf (Elt Ideal) ((c.tc : Thread Cert.AdamWUpIdeal.nD Cert.AdamWUpIdeal.τ).loc Cert.AdamWUpIdeal.main_v0_1)) (v2 : (c : Dev Cert.AdamWUpIdeal.nD) → Buf (Elt Ideal) ((c.tc : Thread Cert.AdamWUpIdeal.nD Cert.AdamWUpIdeal.τ).loc Cert.AdamWUpIdeal.main_v0_2)) (v3 : (c : Dev Cert.AdamWUpIdeal.nD) → Buf (Elt Ideal) ((c.tc : Thread Cert.AdamWUpIdeal.nD Cert.AdamWUpIdeal.τ).loc Cert.AdamWUpIdeal.main_v0_3)),
      θ_run (Cert.AdamWUpIdeal.defs (F := Ideal)) (onTc (τ := Cert.AdamWUpIdeal.τ) (Cert.AdamWUpIdeal.main (F := Ideal))) ⟨m, fun _ => 0, g⟩ (fun r => ∀ c : Dev Cert.AdamWUpIdeal.nD,
          r.2.mem ((c.tc : Thread Cert.AdamWUpIdeal.nD Cert.AdamWUpIdeal.τ).loc Cert.AdamWUpIdeal.main_v0_0) = v0 c
          ∧ r.2.mem ((c.tc : Thread Cert.AdamWUpIdeal.nD Cert.AdamWUpIdeal.τ).loc Cert.AdamWUpIdeal.main_v0_1) = v1 c
          ∧ r.2.mem ((c.tc : Thread Cert.AdamWUpIdeal.nD Cert.AdamWUpIdeal.τ).loc Cert.AdamWUpIdeal.main_v0_2) = v2 c
          ∧ r.2.mem ((c.tc : Thread Cert.AdamWUpIdeal.nD Cert.AdamWUpIdeal.τ).loc Cert.AdamWUpIdeal.main_v0_3) = v3 c
          ∧ r.2.mem ((c.tc : Thread Cert.AdamWUpIdeal.nD Cert.AdamWUpIdeal.τ).loc Cert.AdamWUpIdeal.main_arg0) = m ((c.tc : Thread Cert.AdamWUpIdeal.nD Cert.AdamWUpIdeal.τ).loc Cert.AdamWUpIdeal.main_arg0)
          ∧ r.2.mem ((c.tc : Thread Cert.AdamWUpIdeal.nD Cert.AdamWUpIdeal.τ).loc Cert.AdamWUpIdeal.main_arg1) = m ((c.tc : Thread Cert.AdamWUpIdeal.nD Cert.AdamWUpIdeal.τ).loc Cert.AdamWUpIdeal.main_arg1)
          ∧ r.2.mem ((c.tc : Thread Cert.AdamWUpIdeal.nD Cert.AdamWUpIdeal.τ).loc Cert.AdamWUpIdeal.main_arg2) = m ((c.tc : Thread Cert.AdamWUpIdeal.nD Cert.AdamWUpIdeal.τ).loc Cert.AdamWUpIdeal.main_arg2)
          ∧ r.2.mem ((c.tc : Thread Cert.AdamWUpIdeal.nD Cert.AdamWUpIdeal.τ).loc Cert.AdamWUpIdeal.main_arg3) = m ((c.tc : Thread Cert.AdamWUpIdeal.nD Cert.AdamWUpIdeal.τ).loc Cert.AdamWUpIdeal.main_arg3)
          ∧ r.2.mem ((c.tc : Thread Cert.AdamWUpIdeal.nD Cert.AdamWUpIdeal.τ).loc Cert.AdamWUpIdeal.main_arg4) = m ((c.tc : Thread Cert.AdamWUpIdeal.nD Cert.AdamWUpIdeal.τ).loc Cert.AdamWUpIdeal.main_arg4))
      ∧ θ_run (Cert.AdamWUpRefIdeal.defs (F := Ideal)) (onTc (τ := Cert.AdamWUpRefIdeal.τ) (Cert.AdamWUpRefIdeal.main (F := Ideal))) ⟨m', fun _ => 0, g'⟩ (fun r => ∀ c : Dev Cert.AdamWUpRefIdeal.nD,
          r.2.mem ((c.tc : Thread Cert.AdamWUpRefIdeal.nD Cert.AdamWUpRefIdeal.τ).loc Cert.AdamWUpRefIdeal.main_v2) = v0 c
          ∧ r.2.mem ((c.tc : Thread Cert.AdamWUpRefIdeal.nD Cert.AdamWUpRefIdeal.τ).loc Cert.AdamWUpRefIdeal.main_v26) = v1 c
          ∧ r.2.mem ((c.tc : Thread Cert.AdamWUpRefIdeal.nD Cert.AdamWUpRefIdeal.τ).loc Cert.AdamWUpRefIdeal.main_v7) = v2 c
          ∧ r.2.mem ((c.tc : Thread Cert.AdamWUpRefIdeal.nD Cert.AdamWUpRefIdeal.τ).loc Cert.AdamWUpRefIdeal.main_v13) = v3 c
          ∧ r.2.mem ((c.tc : Thread Cert.AdamWUpRefIdeal.nD Cert.AdamWUpRefIdeal.τ).loc Cert.AdamWUpRefIdeal.main_arg0) = m' ((c.tc : Thread Cert.AdamWUpRefIdeal.nD Cert.AdamWUpRefIdeal.τ).loc Cert.AdamWUpRefIdeal.main_arg0)
          ∧ r.2.mem ((c.tc : Thread Cert.AdamWUpRefIdeal.nD Cert.AdamWUpRefIdeal.τ).loc Cert.AdamWUpRefIdeal.main_arg1) = m' ((c.tc : Thread Cert.AdamWUpRefIdeal.nD Cert.AdamWUpRefIdeal.τ).loc Cert.AdamWUpRefIdeal.main_arg1)
          ∧ r.2.mem ((c.tc : Thread Cert.AdamWUpRefIdeal.nD Cert.AdamWUpRefIdeal.τ).loc Cert.AdamWUpRefIdeal.main_arg2) = m' ((c.tc : Thread Cert.AdamWUpRefIdeal.nD Cert.AdamWUpRefIdeal.τ).loc Cert.AdamWUpRefIdeal.main_arg2)
          ∧ r.2.mem ((c.tc : Thread Cert.AdamWUpRefIdeal.nD Cert.AdamWUpRefIdeal.τ).loc Cert.AdamWUpRefIdeal.main_arg3) = m' ((c.tc : Thread Cert.AdamWUpRefIdeal.nD Cert.AdamWUpRefIdeal.τ).loc Cert.AdamWUpRefIdeal.main_arg3)
          ∧ r.2.mem ((c.tc : Thread Cert.AdamWUpRefIdeal.nD Cert.AdamWUpRefIdeal.τ).loc Cert.AdamWUpRefIdeal.main_arg4) = m' ((c.tc : Thread Cert.AdamWUpRefIdeal.nD Cert.AdamWUpRefIdeal.τ).loc Cert.AdamWUpRefIdeal.main_arg4))

def preserves_AdamWDown_AdamWDownIdeal : Prop :=
  True

def algebraic_AdamWDownIdeal_AdamWDownRefIdeal [hAdamWDownIdeal : Cert.AdamWDownIdeal.Facts] [hAdamWDownRefIdeal : Cert.AdamWDownRefIdeal.Facts] : Prop :=
  ∀ (m : (ℓ : Loc Cert.AdamWDownIdeal.nD Cert.AdamWDownIdeal.τ Cert.AdamWDownIdeal.sig) → Buf (Elt Ideal) ℓ) (g : Dev Cert.AdamWDownIdeal.nD → PrngReg)
    (m' : (ℓ : Loc Cert.AdamWDownRefIdeal.nD Cert.AdamWDownRefIdeal.τ Cert.AdamWDownRefIdeal.sig) → Buf (Elt Ideal) ℓ) (g' : Dev Cert.AdamWDownRefIdeal.nD → PrngReg), Pre_AdamWDownIdeal m →
    (∀ c : Dev Cert.AdamWDownIdeal.nD,
      m' ((c.tc : Thread Cert.AdamWDownRefIdeal.nD Cert.AdamWDownRefIdeal.τ).loc Cert.AdamWDownRefIdeal.main_arg0) = m ((c.tc : Thread Cert.AdamWDownIdeal.nD Cert.AdamWDownIdeal.τ).loc Cert.AdamWDownIdeal.main_arg0)
      ∧ m' ((c.tc : Thread Cert.AdamWDownRefIdeal.nD Cert.AdamWDownRefIdeal.τ).loc Cert.AdamWDownRefIdeal.main_arg1) = m ((c.tc : Thread Cert.AdamWDownIdeal.nD Cert.AdamWDownIdeal.τ).loc Cert.AdamWDownIdeal.main_arg1)
      ∧ m' ((c.tc : Thread Cert.AdamWDownRefIdeal.nD Cert.AdamWDownRefIdeal.τ).loc Cert.AdamWDownRefIdeal.main_arg2) = m ((c.tc : Thread Cert.AdamWDownIdeal.nD Cert.AdamWDownIdeal.τ).loc Cert.AdamWDownIdeal.main_arg2)
      ∧ m' ((c.tc : Thread Cert.AdamWDownRefIdeal.nD Cert.AdamWDownRefIdeal.τ).loc Cert.AdamWDownRefIdeal.main_arg3) = m ((c.tc : Thread Cert.AdamWDownIdeal.nD Cert.AdamWDownIdeal.τ).loc Cert.AdamWDownIdeal.main_arg3)
      ∧ m' ((c.tc : Thread Cert.AdamWDownRefIdeal.nD Cert.AdamWDownRefIdeal.τ).loc Cert.AdamWDownRefIdeal.main_arg4) = m ((c.tc : Thread Cert.AdamWDownIdeal.nD Cert.AdamWDownIdeal.τ).loc Cert.AdamWDownIdeal.main_arg4)) →
    ∃ (v0 : (c : Dev Cert.AdamWDownIdeal.nD) → Buf (Elt Ideal) ((c.tc : Thread Cert.AdamWDownIdeal.nD Cert.AdamWDownIdeal.τ).loc Cert.AdamWDownIdeal.main_v0_0)) (v1 : (c : Dev Cert.AdamWDownIdeal.nD) → Buf (Elt Ideal) ((c.tc : Thread Cert.AdamWDownIdeal.nD Cert.AdamWDownIdeal.τ).loc Cert.AdamWDownIdeal.main_v0_1)) (v2 : (c : Dev Cert.AdamWDownIdeal.nD) → Buf (Elt Ideal) ((c.tc : Thread Cert.AdamWDownIdeal.nD Cert.AdamWDownIdeal.τ).loc Cert.AdamWDownIdeal.main_v0_2)) (v3 : (c : Dev Cert.AdamWDownIdeal.nD) → Buf (Elt Ideal) ((c.tc : Thread Cert.AdamWDownIdeal.nD Cert.AdamWDownIdeal.τ).loc Cert.AdamWDownIdeal.main_v0_3)),
      θ_run (Cert.AdamWDownIdeal.defs (F := Ideal)) (onTc (τ := Cert.AdamWDownIdeal.τ) (Cert.AdamWDownIdeal.main (F := Ideal))) ⟨m, fun _ => 0, g⟩ (fun r => ∀ c : Dev Cert.AdamWDownIdeal.nD,
          r.2.mem ((c.tc : Thread Cert.AdamWDownIdeal.nD Cert.AdamWDownIdeal.τ).loc Cert.AdamWDownIdeal.main_v0_0) = v0 c
          ∧ r.2.mem ((c.tc : Thread Cert.AdamWDownIdeal.nD Cert.AdamWDownIdeal.τ).loc Cert.AdamWDownIdeal.main_v0_1) = v1 c
          ∧ r.2.mem ((c.tc : Thread Cert.AdamWDownIdeal.nD Cert.AdamWDownIdeal.τ).loc Cert.AdamWDownIdeal.main_v0_2) = v2 c
          ∧ r.2.mem ((c.tc : Thread Cert.AdamWDownIdeal.nD Cert.AdamWDownIdeal.τ).loc Cert.AdamWDownIdeal.main_v0_3) = v3 c
          ∧ r.2.mem ((c.tc : Thread Cert.AdamWDownIdeal.nD Cert.AdamWDownIdeal.τ).loc Cert.AdamWDownIdeal.main_arg0) = m ((c.tc : Thread Cert.AdamWDownIdeal.nD Cert.AdamWDownIdeal.τ).loc Cert.AdamWDownIdeal.main_arg0)
          ∧ r.2.mem ((c.tc : Thread Cert.AdamWDownIdeal.nD Cert.AdamWDownIdeal.τ).loc Cert.AdamWDownIdeal.main_arg1) = m ((c.tc : Thread Cert.AdamWDownIdeal.nD Cert.AdamWDownIdeal.τ).loc Cert.AdamWDownIdeal.main_arg1)
          ∧ r.2.mem ((c.tc : Thread Cert.AdamWDownIdeal.nD Cert.AdamWDownIdeal.τ).loc Cert.AdamWDownIdeal.main_arg2) = m ((c.tc : Thread Cert.AdamWDownIdeal.nD Cert.AdamWDownIdeal.τ).loc Cert.AdamWDownIdeal.main_arg2)
          ∧ r.2.mem ((c.tc : Thread Cert.AdamWDownIdeal.nD Cert.AdamWDownIdeal.τ).loc Cert.AdamWDownIdeal.main_arg3) = m ((c.tc : Thread Cert.AdamWDownIdeal.nD Cert.AdamWDownIdeal.τ).loc Cert.AdamWDownIdeal.main_arg3)
          ∧ r.2.mem ((c.tc : Thread Cert.AdamWDownIdeal.nD Cert.AdamWDownIdeal.τ).loc Cert.AdamWDownIdeal.main_arg4) = m ((c.tc : Thread Cert.AdamWDownIdeal.nD Cert.AdamWDownIdeal.τ).loc Cert.AdamWDownIdeal.main_arg4))
      ∧ θ_run (Cert.AdamWDownRefIdeal.defs (F := Ideal)) (onTc (τ := Cert.AdamWDownRefIdeal.τ) (Cert.AdamWDownRefIdeal.main (F := Ideal))) ⟨m', fun _ => 0, g'⟩ (fun r => ∀ c : Dev Cert.AdamWDownRefIdeal.nD,
          r.2.mem ((c.tc : Thread Cert.AdamWDownRefIdeal.nD Cert.AdamWDownRefIdeal.τ).loc Cert.AdamWDownRefIdeal.main_v2) = v0 c
          ∧ r.2.mem ((c.tc : Thread Cert.AdamWDownRefIdeal.nD Cert.AdamWDownRefIdeal.τ).loc Cert.AdamWDownRefIdeal.main_v26) = v1 c
          ∧ r.2.mem ((c.tc : Thread Cert.AdamWDownRefIdeal.nD Cert.AdamWDownRefIdeal.τ).loc Cert.AdamWDownRefIdeal.main_v7) = v2 c
          ∧ r.2.mem ((c.tc : Thread Cert.AdamWDownRefIdeal.nD Cert.AdamWDownRefIdeal.τ).loc Cert.AdamWDownRefIdeal.main_v13) = v3 c
          ∧ r.2.mem ((c.tc : Thread Cert.AdamWDownRefIdeal.nD Cert.AdamWDownRefIdeal.τ).loc Cert.AdamWDownRefIdeal.main_arg0) = m' ((c.tc : Thread Cert.AdamWDownRefIdeal.nD Cert.AdamWDownRefIdeal.τ).loc Cert.AdamWDownRefIdeal.main_arg0)
          ∧ r.2.mem ((c.tc : Thread Cert.AdamWDownRefIdeal.nD Cert.AdamWDownRefIdeal.τ).loc Cert.AdamWDownRefIdeal.main_arg1) = m' ((c.tc : Thread Cert.AdamWDownRefIdeal.nD Cert.AdamWDownRefIdeal.τ).loc Cert.AdamWDownRefIdeal.main_arg1)
          ∧ r.2.mem ((c.tc : Thread Cert.AdamWDownRefIdeal.nD Cert.AdamWDownRefIdeal.τ).loc Cert.AdamWDownRefIdeal.main_arg2) = m' ((c.tc : Thread Cert.AdamWDownRefIdeal.nD Cert.AdamWDownRefIdeal.τ).loc Cert.AdamWDownRefIdeal.main_arg2)
          ∧ r.2.mem ((c.tc : Thread Cert.AdamWDownRefIdeal.nD Cert.AdamWDownRefIdeal.τ).loc Cert.AdamWDownRefIdeal.main_arg3) = m' ((c.tc : Thread Cert.AdamWDownRefIdeal.nD Cert.AdamWDownRefIdeal.τ).loc Cert.AdamWDownRefIdeal.main_arg3)
          ∧ r.2.mem ((c.tc : Thread Cert.AdamWDownRefIdeal.nD Cert.AdamWDownRefIdeal.τ).loc Cert.AdamWDownRefIdeal.main_arg4) = m' ((c.tc : Thread Cert.AdamWDownRefIdeal.nD Cert.AdamWDownRefIdeal.τ).loc Cert.AdamWDownRefIdeal.main_arg4))

def preserves_SmallAdam_SmallAdamIdeal : Prop :=
  True

def algebraic_SmallAdamIdeal_SmallAdamRefIdeal [hSmallAdamIdeal : Cert.SmallAdamIdeal.Facts] [hSmallAdamRefIdeal : Cert.SmallAdamRefIdeal.Facts] : Prop :=
  ∀ (m : (ℓ : Loc Cert.SmallAdamIdeal.nD Cert.SmallAdamIdeal.τ Cert.SmallAdamIdeal.sig) → Buf (Elt Ideal) ℓ) (g : Dev Cert.SmallAdamIdeal.nD → PrngReg)
    (m' : (ℓ : Loc Cert.SmallAdamRefIdeal.nD Cert.SmallAdamRefIdeal.τ Cert.SmallAdamRefIdeal.sig) → Buf (Elt Ideal) ℓ) (g' : Dev Cert.SmallAdamRefIdeal.nD → PrngReg), Pre_SmallAdamIdeal m →
    (∀ c : Dev Cert.SmallAdamIdeal.nD,
      m' ((c.tc : Thread Cert.SmallAdamRefIdeal.nD Cert.SmallAdamRefIdeal.τ).loc Cert.SmallAdamRefIdeal.main_arg0) = m ((c.tc : Thread Cert.SmallAdamIdeal.nD Cert.SmallAdamIdeal.τ).loc Cert.SmallAdamIdeal.main_arg0)
      ∧ m' ((c.tc : Thread Cert.SmallAdamRefIdeal.nD Cert.SmallAdamRefIdeal.τ).loc Cert.SmallAdamRefIdeal.main_arg1) = m ((c.tc : Thread Cert.SmallAdamIdeal.nD Cert.SmallAdamIdeal.τ).loc Cert.SmallAdamIdeal.main_arg1)
      ∧ m' ((c.tc : Thread Cert.SmallAdamRefIdeal.nD Cert.SmallAdamRefIdeal.τ).loc Cert.SmallAdamRefIdeal.main_arg2) = m ((c.tc : Thread Cert.SmallAdamIdeal.nD Cert.SmallAdamIdeal.τ).loc Cert.SmallAdamIdeal.main_arg2)
      ∧ m' ((c.tc : Thread Cert.SmallAdamRefIdeal.nD Cert.SmallAdamRefIdeal.τ).loc Cert.SmallAdamRefIdeal.main_arg3) = m ((c.tc : Thread Cert.SmallAdamIdeal.nD Cert.SmallAdamIdeal.τ).loc Cert.SmallAdamIdeal.main_arg3)) →
    ∃ (v0 : (c : Dev Cert.SmallAdamIdeal.nD) → Buf (Elt Ideal) ((c.tc : Thread Cert.SmallAdamIdeal.nD Cert.SmallAdamIdeal.τ).loc Cert.SmallAdamIdeal.main_v0_0)) (v1 : (c : Dev Cert.SmallAdamIdeal.nD) → Buf (Elt Ideal) ((c.tc : Thread Cert.SmallAdamIdeal.nD Cert.SmallAdamIdeal.τ).loc Cert.SmallAdamIdeal.main_v0_1)) (v2 : (c : Dev Cert.SmallAdamIdeal.nD) → Buf (Elt Ideal) ((c.tc : Thread Cert.SmallAdamIdeal.nD Cert.SmallAdamIdeal.τ).loc Cert.SmallAdamIdeal.main_v0_2)) (v3 : (c : Dev Cert.SmallAdamIdeal.nD) → Buf (Elt Ideal) ((c.tc : Thread Cert.SmallAdamIdeal.nD Cert.SmallAdamIdeal.τ).loc Cert.SmallAdamIdeal.main_v0_3)) (v4 : (c : Dev Cert.SmallAdamIdeal.nD) → Buf (Elt Ideal) ((c.tc : Thread Cert.SmallAdamIdeal.nD Cert.SmallAdamIdeal.τ).loc Cert.SmallAdamIdeal.main_v0_4)) (v5 : (c : Dev Cert.SmallAdamIdeal.nD) → Buf (Elt Ideal) ((c.tc : Thread Cert.SmallAdamIdeal.nD Cert.SmallAdamIdeal.τ).loc Cert.SmallAdamIdeal.main_v0_5)) (v6 : (c : Dev Cert.SmallAdamIdeal.nD) → Buf (Elt Ideal) ((c.tc : Thread Cert.SmallAdamIdeal.nD Cert.SmallAdamIdeal.τ).loc Cert.SmallAdamIdeal.main_v0_6)) (v7 : (c : Dev Cert.SmallAdamIdeal.nD) → Buf (Elt Ideal) ((c.tc : Thread Cert.SmallAdamIdeal.nD Cert.SmallAdamIdeal.τ).loc Cert.SmallAdamIdeal.main_v0_7)) (v8 : (c : Dev Cert.SmallAdamIdeal.nD) → Buf (Elt Ideal) ((c.tc : Thread Cert.SmallAdamIdeal.nD Cert.SmallAdamIdeal.τ).loc Cert.SmallAdamIdeal.main_v0_8)) (v9 : (c : Dev Cert.SmallAdamIdeal.nD) → Buf (Elt Ideal) ((c.tc : Thread Cert.SmallAdamIdeal.nD Cert.SmallAdamIdeal.τ).loc Cert.SmallAdamIdeal.main_v0_9)) (v10 : (c : Dev Cert.SmallAdamIdeal.nD) → Buf (Elt Ideal) ((c.tc : Thread Cert.SmallAdamIdeal.nD Cert.SmallAdamIdeal.τ).loc Cert.SmallAdamIdeal.main_v0_10)) (v11 : (c : Dev Cert.SmallAdamIdeal.nD) → Buf (Elt Ideal) ((c.tc : Thread Cert.SmallAdamIdeal.nD Cert.SmallAdamIdeal.τ).loc Cert.SmallAdamIdeal.main_v0_11)) (v12 : (c : Dev Cert.SmallAdamIdeal.nD) → Buf (Elt Ideal) ((c.tc : Thread Cert.SmallAdamIdeal.nD Cert.SmallAdamIdeal.τ).loc Cert.SmallAdamIdeal.main_v0_12)) (v13 : (c : Dev Cert.SmallAdamIdeal.nD) → Buf (Elt Ideal) ((c.tc : Thread Cert.SmallAdamIdeal.nD Cert.SmallAdamIdeal.τ).loc Cert.SmallAdamIdeal.main_v0_13)) (v14 : (c : Dev Cert.SmallAdamIdeal.nD) → Buf (Elt Ideal) ((c.tc : Thread Cert.SmallAdamIdeal.nD Cert.SmallAdamIdeal.τ).loc Cert.SmallAdamIdeal.main_v0_14)) (v15 : (c : Dev Cert.SmallAdamIdeal.nD) → Buf (Elt Ideal) ((c.tc : Thread Cert.SmallAdamIdeal.nD Cert.SmallAdamIdeal.τ).loc Cert.SmallAdamIdeal.main_v0_15)) (v16 : (c : Dev Cert.SmallAdamIdeal.nD) → Buf (Elt Ideal) ((c.tc : Thread Cert.SmallAdamIdeal.nD Cert.SmallAdamIdeal.τ).loc Cert.SmallAdamIdeal.main_v0_16)),
      θ_run (Cert.SmallAdamIdeal.defs (F := Ideal)) (onTc (τ := Cert.SmallAdamIdeal.τ) (Cert.SmallAdamIdeal.main (F := Ideal))) ⟨m, fun _ => 0, g⟩ (fun r => ∀ c : Dev Cert.SmallAdamIdeal.nD,
          r.2.mem ((c.tc : Thread Cert.SmallAdamIdeal.nD Cert.SmallAdamIdeal.τ).loc Cert.SmallAdamIdeal.main_v0_0) = v0 c
          ∧ r.2.mem ((c.tc : Thread Cert.SmallAdamIdeal.nD Cert.SmallAdamIdeal.τ).loc Cert.SmallAdamIdeal.main_v0_1) = v1 c
          ∧ r.2.mem ((c.tc : Thread Cert.SmallAdamIdeal.nD Cert.SmallAdamIdeal.τ).loc Cert.SmallAdamIdeal.main_v0_2) = v2 c
          ∧ r.2.mem ((c.tc : Thread Cert.SmallAdamIdeal.nD Cert.SmallAdamIdeal.τ).loc Cert.SmallAdamIdeal.main_v0_3) = v3 c
          ∧ r.2.mem ((c.tc : Thread Cert.SmallAdamIdeal.nD Cert.SmallAdamIdeal.τ).loc Cert.SmallAdamIdeal.main_v0_4) = v4 c
          ∧ r.2.mem ((c.tc : Thread Cert.SmallAdamIdeal.nD Cert.SmallAdamIdeal.τ).loc Cert.SmallAdamIdeal.main_v0_5) = v5 c
          ∧ r.2.mem ((c.tc : Thread Cert.SmallAdamIdeal.nD Cert.SmallAdamIdeal.τ).loc Cert.SmallAdamIdeal.main_v0_6) = v6 c
          ∧ r.2.mem ((c.tc : Thread Cert.SmallAdamIdeal.nD Cert.SmallAdamIdeal.τ).loc Cert.SmallAdamIdeal.main_v0_7) = v7 c
          ∧ r.2.mem ((c.tc : Thread Cert.SmallAdamIdeal.nD Cert.SmallAdamIdeal.τ).loc Cert.SmallAdamIdeal.main_v0_8) = v8 c
          ∧ r.2.mem ((c.tc : Thread Cert.SmallAdamIdeal.nD Cert.SmallAdamIdeal.τ).loc Cert.SmallAdamIdeal.main_v0_9) = v9 c
          ∧ r.2.mem ((c.tc : Thread Cert.SmallAdamIdeal.nD Cert.SmallAdamIdeal.τ).loc Cert.SmallAdamIdeal.main_v0_10) = v10 c
          ∧ r.2.mem ((c.tc : Thread Cert.SmallAdamIdeal.nD Cert.SmallAdamIdeal.τ).loc Cert.SmallAdamIdeal.main_v0_11) = v11 c
          ∧ r.2.mem ((c.tc : Thread Cert.SmallAdamIdeal.nD Cert.SmallAdamIdeal.τ).loc Cert.SmallAdamIdeal.main_v0_12) = v12 c
          ∧ r.2.mem ((c.tc : Thread Cert.SmallAdamIdeal.nD Cert.SmallAdamIdeal.τ).loc Cert.SmallAdamIdeal.main_v0_13) = v13 c
          ∧ r.2.mem ((c.tc : Thread Cert.SmallAdamIdeal.nD Cert.SmallAdamIdeal.τ).loc Cert.SmallAdamIdeal.main_v0_14) = v14 c
          ∧ r.2.mem ((c.tc : Thread Cert.SmallAdamIdeal.nD Cert.SmallAdamIdeal.τ).loc Cert.SmallAdamIdeal.main_v0_15) = v15 c
          ∧ r.2.mem ((c.tc : Thread Cert.SmallAdamIdeal.nD Cert.SmallAdamIdeal.τ).loc Cert.SmallAdamIdeal.main_v0_16) = v16 c
          ∧ r.2.mem ((c.tc : Thread Cert.SmallAdamIdeal.nD Cert.SmallAdamIdeal.τ).loc Cert.SmallAdamIdeal.main_arg0) = m ((c.tc : Thread Cert.SmallAdamIdeal.nD Cert.SmallAdamIdeal.τ).loc Cert.SmallAdamIdeal.main_arg0)
          ∧ r.2.mem ((c.tc : Thread Cert.SmallAdamIdeal.nD Cert.SmallAdamIdeal.τ).loc Cert.SmallAdamIdeal.main_arg1) = m ((c.tc : Thread Cert.SmallAdamIdeal.nD Cert.SmallAdamIdeal.τ).loc Cert.SmallAdamIdeal.main_arg1)
          ∧ r.2.mem ((c.tc : Thread Cert.SmallAdamIdeal.nD Cert.SmallAdamIdeal.τ).loc Cert.SmallAdamIdeal.main_arg2) = m ((c.tc : Thread Cert.SmallAdamIdeal.nD Cert.SmallAdamIdeal.τ).loc Cert.SmallAdamIdeal.main_arg2)
          ∧ r.2.mem ((c.tc : Thread Cert.SmallAdamIdeal.nD Cert.SmallAdamIdeal.τ).loc Cert.SmallAdamIdeal.main_arg3) = m ((c.tc : Thread Cert.SmallAdamIdeal.nD Cert.SmallAdamIdeal.τ).loc Cert.SmallAdamIdeal.main_arg3))
      ∧ θ_run (Cert.SmallAdamRefIdeal.defs (F := Ideal)) (onTc (τ := Cert.SmallAdamRefIdeal.τ) (Cert.SmallAdamRefIdeal.main (F := Ideal))) ⟨m', fun _ => 0, g'⟩ (fun r => ∀ c : Dev Cert.SmallAdamRefIdeal.nD,
          r.2.mem ((c.tc : Thread Cert.SmallAdamRefIdeal.nD Cert.SmallAdamRefIdeal.τ).loc Cert.SmallAdamRefIdeal.main_v1) = v0 c
          ∧ r.2.mem ((c.tc : Thread Cert.SmallAdamRefIdeal.nD Cert.SmallAdamRefIdeal.τ).loc Cert.SmallAdamRefIdeal.main_v27) = v1 c
          ∧ r.2.mem ((c.tc : Thread Cert.SmallAdamRefIdeal.nD Cert.SmallAdamRefIdeal.τ).loc Cert.SmallAdamRefIdeal.main_v28) = v2 c
          ∧ r.2.mem ((c.tc : Thread Cert.SmallAdamRefIdeal.nD Cert.SmallAdamRefIdeal.τ).loc Cert.SmallAdamRefIdeal.main_v30) = v3 c
          ∧ r.2.mem ((c.tc : Thread Cert.SmallAdamRefIdeal.nD Cert.SmallAdamRefIdeal.τ).loc Cert.SmallAdamRefIdeal.main_v32) = v4 c
          ∧ r.2.mem ((c.tc : Thread Cert.SmallAdamRefIdeal.nD Cert.SmallAdamRefIdeal.τ).loc Cert.SmallAdamRefIdeal.main_v34) = v5 c
          ∧ r.2.mem ((c.tc : Thread Cert.SmallAdamRefIdeal.nD Cert.SmallAdamRefIdeal.τ).loc Cert.SmallAdamRefIdeal.main_v35) = v6 c
          ∧ r.2.mem ((c.tc : Thread Cert.SmallAdamRefIdeal.nD Cert.SmallAdamRefIdeal.τ).loc Cert.SmallAdamRefIdeal.main_v37) = v7 c
          ∧ r.2.mem ((c.tc : Thread Cert.SmallAdamRefIdeal.nD Cert.SmallAdamRefIdeal.τ).loc Cert.SmallAdamRefIdeal.main_v39) = v8 c
          ∧ r.2.mem ((c.tc : Thread Cert.SmallAdamRefIdeal.nD Cert.SmallAdamRefIdeal.τ).loc Cert.SmallAdamRefIdeal.main_v41) = v9 c
          ∧ r.2.mem ((c.tc : Thread Cert.SmallAdamRefIdeal.nD Cert.SmallAdamRefIdeal.τ).loc Cert.SmallAdamRefIdeal.main_v42) = v10 c
          ∧ r.2.mem ((c.tc : Thread Cert.SmallAdamRefIdeal.nD Cert.SmallAdamRefIdeal.τ).loc Cert.SmallAdamRefIdeal.main_v44) = v11 c
          ∧ r.2.mem ((c.tc : Thread Cert.SmallAdamRefIdeal.nD Cert.SmallAdamRefIdeal.τ).loc Cert.SmallAdamRefIdeal.main_v46) = v12 c
          ∧ r.2.mem ((c.tc : Thread Cert.SmallAdamRefIdeal.nD Cert.SmallAdamRefIdeal.τ).loc Cert.SmallAdamRefIdeal.main_v48) = v13 c
          ∧ r.2.mem ((c.tc : Thread Cert.SmallAdamRefIdeal.nD Cert.SmallAdamRefIdeal.τ).loc Cert.SmallAdamRefIdeal.main_v49) = v14 c
          ∧ r.2.mem ((c.tc : Thread Cert.SmallAdamRefIdeal.nD Cert.SmallAdamRefIdeal.τ).loc Cert.SmallAdamRefIdeal.main_v51) = v15 c
          ∧ r.2.mem ((c.tc : Thread Cert.SmallAdamRefIdeal.nD Cert.SmallAdamRefIdeal.τ).loc Cert.SmallAdamRefIdeal.main_v53) = v16 c
          ∧ r.2.mem ((c.tc : Thread Cert.SmallAdamRefIdeal.nD Cert.SmallAdamRefIdeal.τ).loc Cert.SmallAdamRefIdeal.main_arg0) = m' ((c.tc : Thread Cert.SmallAdamRefIdeal.nD Cert.SmallAdamRefIdeal.τ).loc Cert.SmallAdamRefIdeal.main_arg0)
          ∧ r.2.mem ((c.tc : Thread Cert.SmallAdamRefIdeal.nD Cert.SmallAdamRefIdeal.τ).loc Cert.SmallAdamRefIdeal.main_arg1) = m' ((c.tc : Thread Cert.SmallAdamRefIdeal.nD Cert.SmallAdamRefIdeal.τ).loc Cert.SmallAdamRefIdeal.main_arg1)
          ∧ r.2.mem ((c.tc : Thread Cert.SmallAdamRefIdeal.nD Cert.SmallAdamRefIdeal.τ).loc Cert.SmallAdamRefIdeal.main_arg2) = m' ((c.tc : Thread Cert.SmallAdamRefIdeal.nD Cert.SmallAdamRefIdeal.τ).loc Cert.SmallAdamRefIdeal.main_arg2)
          ∧ r.2.mem ((c.tc : Thread Cert.SmallAdamRefIdeal.nD Cert.SmallAdamRefIdeal.τ).loc Cert.SmallAdamRefIdeal.main_arg3) = m' ((c.tc : Thread Cert.SmallAdamRefIdeal.nD Cert.SmallAdamRefIdeal.τ).loc Cert.SmallAdamRefIdeal.main_arg3))

def Claim : Prop :=
  ∃ (hKernel : Cert.Kernel.Facts) (hKernelIdeal : Cert.KernelIdeal.Facts) (hDwIn : Cert.DwIn.Facts) (hDwInIdeal : Cert.DwInIdeal.Facts) (hDwInRefIdeal : Cert.DwInRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDwOut : Cert.DwOut.Facts) (hDwOutIdeal : Cert.DwOutIdeal.Facts) (hDwOutRefIdeal : Cert.DwOutRefIdeal.Facts) (hProjBwd : Cert.ProjBwd.Facts) (hProjBwdIdeal : Cert.ProjBwdIdeal.Facts) (hProjBwdRefIdeal : Cert.ProjBwdRefIdeal.Facts) (hMlpUpBwd : Cert.MlpUpBwd.Facts) (hMlpUpBwdIdeal : Cert.MlpUpBwdIdeal.Facts) (hMlpUpBwdRefIdeal : Cert.MlpUpBwdRefIdeal.Facts) (hGateBwd : Cert.GateBwd.Facts) (hGateBwdIdeal : Cert.GateBwdIdeal.Facts) (hGateBwdRefIdeal : Cert.GateBwdRefIdeal.Facts) (hBranchABwd : Cert.BranchABwd.Facts) (hBranchABwdIdeal : Cert.BranchABwdIdeal.Facts) (hBranchABwdRefIdeal : Cert.BranchABwdRefIdeal.Facts) (hBranchBBwd : Cert.BranchBBwd.Facts) (hBranchBBwdIdeal : Cert.BranchBBwdIdeal.Facts) (hBranchBBwdRefIdeal : Cert.BranchBBwdRefIdeal.Facts) (hDwA : Cert.DwA.Facts) (hDwAIdeal : Cert.DwAIdeal.Facts) (hDwARefIdeal : Cert.DwARefIdeal.Facts) (hDwB : Cert.DwB.Facts) (hDwBIdeal : Cert.DwBIdeal.Facts) (hDwBRefIdeal : Cert.DwBRefIdeal.Facts) (hMlpDownBwd : Cert.MlpDownBwd.Facts) (hMlpDownBwdIdeal : Cert.MlpDownBwdIdeal.Facts) (hMlpDownBwdRefIdeal : Cert.MlpDownBwdRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hProjG : Cert.ProjG.Facts) (hProjGIdeal : Cert.ProjGIdeal.Facts) (hProjGRefIdeal : Cert.ProjGRefIdeal.Facts) (hProjF : Cert.ProjF.Facts) (hProjFIdeal : Cert.ProjFIdeal.Facts) (hProjFRefIdeal : Cert.ProjFRefIdeal.Facts) (hMlpUp : Cert.MlpUp.Facts) (hMlpUpIdeal : Cert.MlpUpIdeal.Facts) (hMlpUpRefIdeal : Cert.MlpUpRefIdeal.Facts) (hMlpDownLoss : Cert.MlpDownLoss.Facts) (hMlpDownLossIdeal : Cert.MlpDownLossIdeal.Facts) (hMlpDownLossRefIdeal : Cert.MlpDownLossRefIdeal.Facts) (hMixerTail : Cert.MixerTail.Facts) (hMixerTailIdeal : Cert.MixerTailIdeal.Facts) (hMixerTailRefIdeal : Cert.MixerTailRefIdeal.Facts) (hFoxDscan : Cert.FoxDscan.Facts) (hFoxDscanIdeal : Cert.FoxDscanIdeal.Facts) (hFoxDscanRefIdeal : Cert.FoxDscanRefIdeal.Facts) (hAdamWIn : Cert.AdamWIn.Facts) (hAdamWInIdeal : Cert.AdamWInIdeal.Facts) (hAdamWInRefIdeal : Cert.AdamWInRefIdeal.Facts) (hAdamWA : Cert.AdamWA.Facts) (hAdamWAIdeal : Cert.AdamWAIdeal.Facts) (hAdamWARefIdeal : Cert.AdamWARefIdeal.Facts) (hAdamWB : Cert.AdamWB.Facts) (hAdamWBIdeal : Cert.AdamWBIdeal.Facts) (hAdamWBRefIdeal : Cert.AdamWBRefIdeal.Facts) (hAdamWOut : Cert.AdamWOut.Facts) (hAdamWOutIdeal : Cert.AdamWOutIdeal.Facts) (hAdamWOutRefIdeal : Cert.AdamWOutRefIdeal.Facts) (hAdamWUp : Cert.AdamWUp.Facts) (hAdamWUpIdeal : Cert.AdamWUpIdeal.Facts) (hAdamWUpRefIdeal : Cert.AdamWUpRefIdeal.Facts) (hAdamWDown : Cert.AdamWDown.Facts) (hAdamWDownIdeal : Cert.AdamWDownIdeal.Facts) (hAdamWDownRefIdeal : Cert.AdamWDownRefIdeal.Facts) (hSmallAdam : Cert.SmallAdam.Facts) (hSmallAdamIdeal : Cert.SmallAdamIdeal.Facts) (hSmallAdamRefIdeal : Cert.SmallAdamRefIdeal.Facts),
    quiescent_Kernel (hKernel := hKernel)
    ∧ quiescent_KernelIdeal (hKernelIdeal := hKernelIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_ProjBwd (hProjBwd := hProjBwd)
    ∧ quiescent_ProjBwdIdeal (hProjBwdIdeal := hProjBwdIdeal)
    ∧ quiescent_ProjBwdRefIdeal (hProjBwdRefIdeal := hProjBwdRefIdeal)
    ∧ quiescent_MlpUpBwd (hMlpUpBwd := hMlpUpBwd)
    ∧ quiescent_MlpUpBwdIdeal (hMlpUpBwdIdeal := hMlpUpBwdIdeal)
    ∧ quiescent_MlpUpBwdRefIdeal (hMlpUpBwdRefIdeal := hMlpUpBwdRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_BranchABwd (hBranchABwd := hBranchABwd)
    ∧ quiescent_BranchABwdIdeal (hBranchABwdIdeal := hBranchABwdIdeal)
    ∧ quiescent_BranchABwdRefIdeal (hBranchABwdRefIdeal := hBranchABwdRefIdeal)
    ∧ quiescent_BranchBBwd (hBranchBBwd := hBranchBBwd)
    ∧ quiescent_BranchBBwdIdeal (hBranchBBwdIdeal := hBranchBBwdIdeal)
    ∧ quiescent_BranchBBwdRefIdeal (hBranchBBwdRefIdeal := hBranchBBwdRefIdeal)
    ∧ quiescent_DwA (hDwA := hDwA)
    ∧ quiescent_DwAIdeal (hDwAIdeal := hDwAIdeal)
    ∧ quiescent_DwARefIdeal (hDwARefIdeal := hDwARefIdeal)
    ∧ quiescent_DwB (hDwB := hDwB)
    ∧ quiescent_DwBIdeal (hDwBIdeal := hDwBIdeal)
    ∧ quiescent_DwBRefIdeal (hDwBRefIdeal := hDwBRefIdeal)
    ∧ quiescent_MlpDownBwd (hMlpDownBwd := hMlpDownBwd)
    ∧ quiescent_MlpDownBwdIdeal (hMlpDownBwdIdeal := hMlpDownBwdIdeal)
    ∧ quiescent_MlpDownBwdRefIdeal (hMlpDownBwdRefIdeal := hMlpDownBwdRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_ProjG (hProjG := hProjG)
    ∧ quiescent_ProjGIdeal (hProjGIdeal := hProjGIdeal)
    ∧ quiescent_ProjGRefIdeal (hProjGRefIdeal := hProjGRefIdeal)
    ∧ quiescent_ProjF (hProjF := hProjF)
    ∧ quiescent_ProjFIdeal (hProjFIdeal := hProjFIdeal)
    ∧ quiescent_ProjFRefIdeal (hProjFRefIdeal := hProjFRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDownLoss (hMlpDownLoss := hMlpDownLoss)
    ∧ quiescent_MlpDownLossIdeal (hMlpDownLossIdeal := hMlpDownLossIdeal)
    ∧ quiescent_MlpDownLossRefIdeal (hMlpDownLossRefIdeal := hMlpDownLossRefIdeal)
    ∧ quiescent_MixerTail (hMixerTail := hMixerTail)
    ∧ quiescent_MixerTailIdeal (hMixerTailIdeal := hMixerTailIdeal)
    ∧ quiescent_MixerTailRefIdeal (hMixerTailRefIdeal := hMixerTailRefIdeal)
    ∧ quiescent_FoxDscan (hFoxDscan := hFoxDscan)
    ∧ quiescent_FoxDscanIdeal (hFoxDscanIdeal := hFoxDscanIdeal)
    ∧ quiescent_FoxDscanRefIdeal (hFoxDscanRefIdeal := hFoxDscanRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWA (hAdamWA := hAdamWA)
    ∧ quiescent_AdamWAIdeal (hAdamWAIdeal := hAdamWAIdeal)
    ∧ quiescent_AdamWARefIdeal (hAdamWARefIdeal := hAdamWARefIdeal)
    ∧ quiescent_AdamWB (hAdamWB := hAdamWB)
    ∧ quiescent_AdamWBIdeal (hAdamWBIdeal := hAdamWBIdeal)
    ∧ quiescent_AdamWBRefIdeal (hAdamWBRefIdeal := hAdamWBRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamWUp (hAdamWUp := hAdamWUp)
    ∧ quiescent_AdamWUpIdeal (hAdamWUpIdeal := hAdamWUpIdeal)
    ∧ quiescent_AdamWUpRefIdeal (hAdamWUpRefIdeal := hAdamWUpRefIdeal)
    ∧ quiescent_AdamWDown (hAdamWDown := hAdamWDown)
    ∧ quiescent_AdamWDownIdeal (hAdamWDownIdeal := hAdamWDownIdeal)
    ∧ quiescent_AdamWDownRefIdeal (hAdamWDownRefIdeal := hAdamWDownRefIdeal)
    ∧ quiescent_SmallAdam (hSmallAdam := hSmallAdam)
    ∧ quiescent_SmallAdamIdeal (hSmallAdamIdeal := hSmallAdamIdeal)
    ∧ quiescent_SmallAdamRefIdeal (hSmallAdamRefIdeal := hSmallAdamRefIdeal)
    ∧ preserves_Kernel_KernelIdeal
    ∧ preserves_DwIn_DwInIdeal
    ∧ algebraic_DwInIdeal_DwInRefIdeal (hDwInIdeal := hDwInIdeal) (hDwInRefIdeal := hDwInRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_DwOut_DwOutIdeal
    ∧ algebraic_DwOutIdeal_DwOutRefIdeal (hDwOutIdeal := hDwOutIdeal) (hDwOutRefIdeal := hDwOutRefIdeal)
    ∧ preserves_ProjBwd_ProjBwdIdeal
    ∧ algebraic_ProjBwdIdeal_ProjBwdRefIdeal (hProjBwdIdeal := hProjBwdIdeal) (hProjBwdRefIdeal := hProjBwdRefIdeal)
    ∧ preserves_MlpUpBwd_MlpUpBwdIdeal
    ∧ algebraic_MlpUpBwdIdeal_MlpUpBwdRefIdeal (hMlpUpBwdIdeal := hMlpUpBwdIdeal) (hMlpUpBwdRefIdeal := hMlpUpBwdRefIdeal)
    ∧ preserves_GateBwd_GateBwdIdeal
    ∧ algebraic_GateBwdIdeal_GateBwdRefIdeal (hGateBwdIdeal := hGateBwdIdeal) (hGateBwdRefIdeal := hGateBwdRefIdeal)
    ∧ preserves_BranchABwd_BranchABwdIdeal
    ∧ algebraic_BranchABwdIdeal_BranchABwdRefIdeal (hBranchABwdIdeal := hBranchABwdIdeal) (hBranchABwdRefIdeal := hBranchABwdRefIdeal)
    ∧ preserves_BranchBBwd_BranchBBwdIdeal
    ∧ algebraic_BranchBBwdIdeal_BranchBBwdRefIdeal (hBranchBBwdIdeal := hBranchBBwdIdeal) (hBranchBBwdRefIdeal := hBranchBBwdRefIdeal)
    ∧ preserves_DwA_DwAIdeal
    ∧ algebraic_DwAIdeal_DwARefIdeal (hDwAIdeal := hDwAIdeal) (hDwARefIdeal := hDwARefIdeal)
    ∧ preserves_DwB_DwBIdeal
    ∧ algebraic_DwBIdeal_DwBRefIdeal (hDwBIdeal := hDwBIdeal) (hDwBRefIdeal := hDwBRefIdeal)
    ∧ preserves_MlpDownBwd_MlpDownBwdIdeal
    ∧ algebraic_MlpDownBwdIdeal_MlpDownBwdRefIdeal (hMlpDownBwdIdeal := hMlpDownBwdIdeal) (hMlpDownBwdRefIdeal := hMlpDownBwdRefIdeal)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_ProjG_ProjGIdeal
    ∧ algebraic_ProjGIdeal_ProjGRefIdeal (hProjGIdeal := hProjGIdeal) (hProjGRefIdeal := hProjGRefIdeal)
    ∧ preserves_ProjF_ProjFIdeal
    ∧ algebraic_ProjFIdeal_ProjFRefIdeal (hProjFIdeal := hProjFIdeal) (hProjFRefIdeal := hProjFRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDownLoss_MlpDownLossIdeal
    ∧ algebraic_MlpDownLossIdeal_MlpDownLossRefIdeal (hMlpDownLossIdeal := hMlpDownLossIdeal) (hMlpDownLossRefIdeal := hMlpDownLossRefIdeal)
    ∧ preserves_MixerTail_MixerTailIdeal
    ∧ algebraic_MixerTailIdeal_MixerTailRefIdeal (hMixerTailIdeal := hMixerTailIdeal) (hMixerTailRefIdeal := hMixerTailRefIdeal)
    ∧ preserves_FoxDscan_FoxDscanIdeal
    ∧ algebraic_FoxDscanIdeal_FoxDscanRefIdeal (hFoxDscanIdeal := hFoxDscanIdeal) (hFoxDscanRefIdeal := hFoxDscanRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWA_AdamWAIdeal
    ∧ algebraic_AdamWAIdeal_AdamWARefIdeal (hAdamWAIdeal := hAdamWAIdeal) (hAdamWARefIdeal := hAdamWARefIdeal)
    ∧ preserves_AdamWB_AdamWBIdeal
    ∧ algebraic_AdamWBIdeal_AdamWBRefIdeal (hAdamWBIdeal := hAdamWBIdeal) (hAdamWBRefIdeal := hAdamWBRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamWUp_AdamWUpIdeal
    ∧ algebraic_AdamWUpIdeal_AdamWUpRefIdeal (hAdamWUpIdeal := hAdamWUpIdeal) (hAdamWUpRefIdeal := hAdamWUpRefIdeal)
    ∧ preserves_AdamWDown_AdamWDownIdeal
    ∧ algebraic_AdamWDownIdeal_AdamWDownRefIdeal (hAdamWDownIdeal := hAdamWDownIdeal) (hAdamWDownRefIdeal := hAdamWDownRefIdeal)
    ∧ preserves_SmallAdam_SmallAdamIdeal
    ∧ algebraic_SmallAdamIdeal_SmallAdamRefIdeal (hSmallAdamIdeal := hSmallAdamIdeal) (hSmallAdamRefIdeal := hSmallAdamRefIdeal)
-- ==== Kernel.lean ====
abbrev S2048x512 : Shape := ⟨2, ![2048, 512]⟩
abbrev S2048x8 : Shape := ⟨2, ![2048, 8]⟩
abbrev S2048x6400 : Shape := ⟨2, ![2048, 6400]⟩
abbrev S2048x8x1 : Shape := ⟨3, ![2048, 8, 1]⟩
abbrev S2048x8x64 : Shape := ⟨3, ![2048, 8, 64]⟩
abbrev S_ : Shape := ⟨0, ![]⟩
abbrev S2048x8x128 : Shape := ⟨3, ![2048, 8, 128]⟩
abbrev S2048x1024 : Shape := ⟨2, ![2048, 1024]⟩
abbrev S2048x1536 : Shape := ⟨2, ![2048, 1536]⟩
abbrev S8x2048x2048 : Shape := ⟨3, ![8, 2048, 2048]⟩
abbrev S8x2048 : Shape := ⟨2, ![8, 2048]⟩
abbrev S8x2048x1 : Shape := ⟨3, ![8, 2048, 1]⟩
abbrev S8x1x2048 : Shape := ⟨3, ![8, 1, 2048]⟩
abbrev S2048x2048 : Shape := ⟨2, ![2048, 2048]⟩
abbrev S1x2048x2048 : Shape := ⟨3, ![1, 2048, 2048]⟩
abbrev S4x2x2048 : Shape := ⟨3, ![4, 2, 2048]⟩
abbrev S4x2048x2 : Shape := ⟨3, ![4, 2048, 2]⟩
abbrev S4x2048x126 : Shape := ⟨3, ![4, 2048, 126]⟩
abbrev S4x2048x128 : Shape := ⟨3, ![4, 2048, 128]⟩
abbrev S512x256 : Shape := ⟨2, ![512, 256]⟩
abbrev S2048x256 : Shape := ⟨2, ![2048, 256]⟩
abbrev S2048x128 : Shape := ⟨2, ![2048, 128]⟩
abbrev S1x512x128 : Shape := ⟨3, ![1, 512, 128]⟩
abbrev S512x128 : Shape := ⟨2, ![512, 128]⟩
abbrev S2x512x128 : Shape := ⟨3, ![2, 512, 128]⟩
abbrev S2x2048x128 : Shape := ⟨3, ![2, 2048, 128]⟩
abbrev S2 : Shape := ⟨1, ![2]⟩
abbrev S1 : Shape := ⟨1, ![1]⟩
abbrev S8x512 : Shape := ⟨2, ![8, 512]⟩
abbrev S512x64 : Shape := ⟨2, ![512, 64]⟩
abbrev S512x512 : Shape := ⟨2, ![512, 512]⟩
abbrev S512x1 : Shape := ⟨2, ![512, 1]⟩
abbrev S512 : Shape := ⟨1, ![512]⟩
abbrev S1x512 : Shape := ⟨2, ![1, 512]⟩
abbrev S1x512x64 : Shape := ⟨3, ![1, 512, 64]⟩
abbrev S8x1024 : Shape := ⟨2, ![8, 1024]⟩
abbrev S1024x128 : Shape := ⟨2, ![1024, 128]⟩
abbrev S512x1024 : Shape := ⟨2, ![512, 1024]⟩
abbrev S1024x64 : Shape := ⟨2, ![1024, 64]⟩
abbrev S1024 : Shape := ⟨1, ![1024]⟩
abbrev S1x1024 : Shape := ⟨2, ![1, 1024]⟩
abbrev S8x1536 : Shape := ⟨2, ![8, 1536]⟩
abbrev S1536x128 : Shape := ⟨2, ![1536, 128]⟩
abbrev S512x1536 : Shape := ⟨2, ![512, 1536]⟩
abbrev S1536x64 : Shape := ⟨2, ![1536, 64]⟩
abbrev S1536 : Shape := ⟨1, ![1536]⟩
abbrev S1x1536 : Shape := ⟨2, ![1, 1536]⟩
abbrev S512x2048 : Shape := ⟨2, ![512, 2048]⟩
abbrev S2048x64 : Shape := ⟨2, ![2048, 64]⟩
abbrev S2048 : Shape := ⟨1, ![2048]⟩
abbrev S1x2048 : Shape := ⟨2, ![1, 2048]⟩
abbrev S1x2048x128 : Shape := ⟨3, ![1, 2048, 128]⟩

abbrev nBuf : Space → Nat
  | .hbm => 128
  | .vmem => 17
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x8, .f32⟩
  | .hbm, ⟨4, _⟩ => ⟨S2048x512, .f32⟩
  | .hbm, ⟨5, _⟩ => ⟨S2048x6400, .bf16⟩
  | .hbm, ⟨6, _⟩ => ⟨S2048x8, .bf16⟩
  | .hbm, ⟨7, _⟩ => ⟨S2048x8, .f32⟩
  | .hbm, ⟨8, _⟩ => ⟨S2048x8, .f32⟩
  | .hbm, ⟨9, _⟩ => ⟨S2048x8, .bf16⟩
  | .hbm, ⟨10, _⟩ => ⟨S2048x8, .f32⟩
  | .hbm, ⟨11, _⟩ => ⟨S2048x8, .f32⟩
  | .hbm, ⟨12, _⟩ => ⟨S2048x8, .bf16⟩
  | .hbm, ⟨13, _⟩ => ⟨S2048x8, .f32⟩
  | .hbm, ⟨14, _⟩ => ⟨S2048x8x1, .f32⟩
  | .hbm, ⟨15, _⟩ => ⟨S2048x8x1, .f32⟩
  | .hbm, ⟨16, _⟩ => ⟨S2048x8x1, .f32⟩
  | .hbm, ⟨17, _⟩ => ⟨S2048x8x64, .i32⟩
  | .hbm, ⟨18, _⟩ => ⟨S_, .i32⟩
  | .hbm, ⟨19, _⟩ => ⟨S2048x8x64, .i32⟩
  | .hbm, ⟨20, _⟩ => ⟨S2048x8x64, .i1⟩
  | .hbm, ⟨21, _⟩ => ⟨S_, .i32⟩
  | .hbm, ⟨22, _⟩ => ⟨S2048x8x64, .i32⟩
  | .hbm, ⟨23, _⟩ => ⟨S2048x8x64, .i1⟩
  | .hbm, ⟨24, _⟩ => ⟨S2048x8x64, .i1⟩
  | .hbm, ⟨25, _⟩ => ⟨S_, .f32⟩
  | .hbm, ⟨26, _⟩ => ⟨S_, .f32⟩
  | .hbm, ⟨27, _⟩ => ⟨S2048x8x64, .f32⟩
  | .hbm, ⟨28, _⟩ => ⟨S2048x8x64, .f32⟩
  | .hbm, ⟨29, _⟩ => ⟨S2048x8x64, .f32⟩
  | .hbm, ⟨30, _⟩ => ⟨S_, .i32⟩
  | .hbm, ⟨31, _⟩ => ⟨S2048x8x64, .i32⟩
  | .hbm, ⟨32, _⟩ => ⟨S2048x8x64, .i1⟩
  | .hbm, ⟨33, _⟩ => ⟨S_, .f32⟩
  | .hbm, ⟨34, _⟩ => ⟨S_, .f32⟩
  | .hbm, ⟨35, _⟩ => ⟨S2048x8x64, .f32⟩
  | .hbm, ⟨36, _⟩ => ⟨S2048x8x64, .f32⟩
  | .hbm, ⟨37, _⟩ => ⟨S2048x8x64, .f32⟩
  | .hbm, ⟨38, _⟩ => ⟨S_, .i32⟩
  | .hbm, ⟨39, _⟩ => ⟨S2048x8x64, .i32⟩
  | .hbm, ⟨40, _⟩ => ⟨S2048x8x64, .i1⟩
  | .hbm, ⟨41, _⟩ => ⟨S_, .i32⟩
  | .hbm, ⟨42, _⟩ => ⟨S2048x8x64, .i32⟩
  | .hbm, ⟨43, _⟩ => ⟨S2048x8x64, .i1⟩
  | .hbm, ⟨44, _⟩ => ⟨S_, .i32⟩
  | .hbm, ⟨45, _⟩ => ⟨S2048x8x64, .i32⟩
  | .hbm, ⟨46, _⟩ => ⟨S2048x8x64, .i1⟩
  | .hbm, ⟨47, _⟩ => ⟨S2048x8x64, .f32⟩
  | .hbm, ⟨48, _⟩ => ⟨S2048x8x64, .f32⟩
  | .hbm, ⟨49, _⟩ => ⟨S2048x8x64, .f32⟩
  | .hbm, ⟨50, _⟩ => ⟨S2048x8x64, .f32⟩
  | .hbm, ⟨51, _⟩ => ⟨S2048x8x64, .f32⟩
  | .hbm, ⟨52, _⟩ => ⟨S2048x8x64, .f32⟩
  | .hbm, ⟨53, _⟩ => ⟨S2048x8x64, .f32⟩
  | .hbm, ⟨54, _⟩ => ⟨S_, .i32⟩
  | .hbm, ⟨55, _⟩ => ⟨S2048x8x64, .i32⟩
  | .hbm, ⟨56, _⟩ => ⟨S2048x8x64, .i1⟩
  | .hbm, ⟨57, _⟩ => ⟨S2048x8x1, .f32⟩
  | .hbm, ⟨58, _⟩ => ⟨S_, .i32⟩
  | .hbm, ⟨59, _⟩ => ⟨S2048x8x64, .i32⟩
  | .hbm, ⟨60, _⟩ => ⟨S2048x8x64, .i1⟩
  | .hbm, ⟨61, _⟩ => ⟨S2048x8x1, .f32⟩
  | .hbm, ⟨62, _⟩ => ⟨S_, .i32⟩
  | .hbm, ⟨63, _⟩ => ⟨S2048x8x64, .i32⟩
  | .hbm, ⟨64, _⟩ => ⟨S2048x8x64, .i1⟩
  | .hbm, ⟨65, _⟩ => ⟨S2048x8x1, .f32⟩
  | .hbm, ⟨66, _⟩ => ⟨S2048x8x64, .f32⟩
  | .hbm, ⟨67, _⟩ => ⟨S2048x8x64, .f32⟩
  | .hbm, ⟨68, _⟩ => ⟨S2048x8x64, .f32⟩
  | .hbm, ⟨69, _⟩ => ⟨S2048x8x64, .f32⟩
  | .hbm, ⟨70, _⟩ => ⟨S2048x8x64, .f32⟩
  | .hbm, ⟨71, _⟩ => ⟨S2048x8x64, .f32⟩
  | .hbm, ⟨72, _⟩ => ⟨S2048x8x64, .f32⟩
  | .hbm, ⟨73, _⟩ => ⟨S2048x8x64, .f32⟩
  | .hbm, ⟨74, _⟩ => ⟨S_, .f32⟩
  | .hbm, ⟨75, _⟩ => ⟨S2048x8x64, .f32⟩
  | .hbm, ⟨76, _⟩ => ⟨S2048x8x64, .f32⟩
  | .hbm, ⟨77, _⟩ => ⟨S2048x8x128, .f32⟩
  | .hbm, ⟨78, _⟩ => ⟨S2048x8x128, .bf16⟩
  | .hbm, ⟨79, _⟩ => ⟨S2048x1024, .bf16⟩
  | .hbm, ⟨80, _⟩ => ⟨S2048x8x64, .f32⟩
  | .hbm, ⟨81, _⟩ => ⟨S2048x8x128, .f32⟩
  | .hbm, ⟨82, _⟩ => ⟨S2048x8x128, .bf16⟩
  | .hbm, ⟨83, _⟩ => ⟨S2048x1024, .bf16⟩
  | .hbm, ⟨84, _⟩ => ⟨S2048x1536, .f32⟩
  | .hbm, ⟨85, _⟩ => ⟨S2048x1536, .bf16⟩
  | .hbm, ⟨86, _⟩ => ⟨S2048x8x64, .f32⟩
  | .hbm, ⟨87, _⟩ => ⟨S2048x8x64, .f32⟩
  | .hbm, ⟨88, _⟩ => ⟨S8x2048x2048, .f32⟩
  | .hbm, ⟨89, _⟩ => ⟨S_, .f32⟩
  | .hbm, ⟨90, _⟩ => ⟨S8x2048x2048, .f32⟩
  | .hbm, ⟨91, _⟩ => ⟨S8x2048x2048, .f32⟩
  | .hbm, ⟨92, _⟩ => ⟨S8x2048, .f32⟩
  | .hbm, ⟨93, _⟩ => ⟨S8x2048x1, .f32⟩
  | .hbm, ⟨94, _⟩ => ⟨S8x2048x2048, .f32⟩
  | .hbm, ⟨95, _⟩ => ⟨S8x2048x2048, .f32⟩
  | .hbm, ⟨96, _⟩ => ⟨S8x2048, .f32⟩
  | .hbm, ⟨97, _⟩ => ⟨S8x1x2048, .f32⟩
  | .hbm, ⟨98, _⟩ => ⟨S8x2048x2048, .f32⟩
  | .hbm, ⟨99, _⟩ => ⟨S8x2048x2048, .f32⟩
  | .hbm, ⟨100, _⟩ => ⟨S2048x2048, .i32⟩
  | .hbm, ⟨101, _⟩ => ⟨S2048x2048, .i32⟩
  | .hbm, ⟨102, _⟩ => ⟨S2048x2048, .i1⟩
  | .hbm, ⟨103, _⟩ => ⟨S1x2048x2048, .i1⟩
  | .hbm, ⟨104, _⟩ => ⟨S_, .f32⟩
  | .hbm, ⟨105, _⟩ => ⟨S_, .f32⟩
  | .hbm, ⟨106, _⟩ => ⟨S8x2048x2048, .i1⟩
  | .hbm, ⟨107, _⟩ => ⟨S8x2048x2048, .f32⟩
  | .hbm, ⟨108, _⟩ => ⟨S8x2048x2048, .f32⟩
  | .hbm, ⟨109, _⟩ => ⟨S_, .f32⟩
  | .hbm, ⟨110, _⟩ => ⟨S8x2048, .f32⟩
  | .hbm, ⟨111, _⟩ => ⟨S8x2048x1, .f32⟩
  | .hbm, ⟨112, _⟩ => ⟨S8x2048x2048, .f32⟩
  | .hbm, ⟨113, _⟩ => ⟨S8x2048x2048, .f32⟩
  | .hbm, ⟨114, _⟩ => ⟨S8x2048x2048, .f32⟩
  | .hbm, ⟨115, _⟩ => ⟨S_, .f32⟩
  | .hbm, ⟨116, _⟩ => ⟨S8x2048, .f32⟩
  | .hbm, ⟨117, _⟩ => ⟨S8x2048, .f32⟩
  | .hbm, ⟨118, _⟩ => ⟨S8x2048, .f32⟩
  | .hbm, ⟨119, _⟩ => ⟨S4x2x2048, .f32⟩
  | .hbm, ⟨120, _⟩ => ⟨S4x2048x2, .f32⟩
  | .hbm, ⟨121, _⟩ => ⟨S_, .f32⟩
  | .hbm, ⟨122, _⟩ => ⟨S4x2048x126, .f32⟩
  | .hbm, ⟨123, _⟩ => ⟨S4x2048x128, .f32⟩
  | .hbm, ⟨124, _⟩ => ⟨S2048x512, .bf16⟩
  | .hbm, ⟨125, _⟩ => ⟨S2048x6400, .bf16⟩
  | .hbm, ⟨126, _⟩ => ⟨S4x2048x128, .f32⟩
  | .hbm, ⟨127, _⟩ => ⟨S8x2048, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S1x512x128, .f32⟩
  | .local _ .vmem, ⟨7, _⟩ => ⟨S1x512x128, .f32⟩
  | .local _ .vmem, ⟨8, _⟩ => ⟨S512x128, .bf16⟩
  | .local _ .vmem, ⟨9, _⟩ => ⟨S512x128, .bf16⟩
  | .local _ .vmem, ⟨10, _⟩ => ⟨S1x512x128, .f32⟩
  | .local _ .vmem, ⟨11, _⟩ => ⟨S1x512x128, .f32⟩
  | .local _ .vmem, ⟨12, _⟩ => ⟨S8x2048, .f32⟩
  | .local _ .vmem, ⟨13, _⟩ => ⟨S2048x128, .f32⟩
  | .local _ .vmem, ⟨14, _⟩ => ⟨S2048x128, .f32⟩
  | .local _ .vmem, ⟨15, _⟩ => ⟨S2x512x128, .bf16⟩
  | .local _ .vmem, ⟨16, _⟩ => ⟨S2x2048x128, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_call2_v0 : Ref sig .tc := ⟨.hbm, 47, rfl⟩
abbrev main_call2_v1 : Ref sig .tc := ⟨.hbm, 48, rfl⟩
abbrev main_v27 : Ref sig .tc := ⟨.hbm, 49, rfl⟩
abbrev main_call3_v0 : Ref sig .tc := ⟨.hbm, 50, rfl⟩
abbrev main_v28 : Ref sig .tc := ⟨.hbm, 51, rfl⟩
abbrev main_call4_v0 : Ref sig .tc := ⟨.hbm, 52, rfl⟩
abbrev main_v29 : Ref sig .tc := ⟨.hbm, 53, rfl⟩
abbrev main_c_8 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_10 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call5_v0 : Ref sig .tc := ⟨.hbm, 66, rfl⟩
abbrev main_call5_v1 : Ref sig .tc := ⟨.hbm, 67, rfl⟩
abbrev main_v39 : Ref sig .tc := ⟨.hbm, 68, rfl⟩
abbrev main_call6_v0 : Ref sig .tc := ⟨.hbm, 69, rfl⟩
abbrev main_v40 : Ref sig .tc := ⟨.hbm, 70, rfl⟩
abbrev main_call7_v0 : Ref sig .tc := ⟨.hbm, 71, rfl⟩
abbrev main_v41 : Ref sig .tc := ⟨.hbm, 72, rfl⟩
abbrev main_v42 : Ref sig .tc := ⟨.hbm, 73, rfl⟩
abbrev main_cst_11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_13 : Ref sig .tc := ⟨.hbm, 104, rfl⟩
abbrev main_call8_v0 : Ref sig .tc := ⟨.hbm, 105, rfl⟩
abbrev main_call8_v1 : Ref sig .tc := ⟨.hbm, 106, rfl⟩
abbrev main_call8_v2 : Ref sig .tc := ⟨.hbm, 107, rfl⟩
abbrev main_v71 : Ref sig .tc := ⟨.hbm, 108, rfl⟩
abbrev main_cst_14 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_15 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_16 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85_0 : Ref sig .tc := ⟨.hbm, 125, rfl⟩
abbrev main_v85_1 : Ref sig .tc := ⟨.hbm, 126, rfl⟩
abbrev main_v85_2 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg0 : BitVec 32 := BitVec.ofNat 32 (i 0).val
  let c128_i32 : BitVec 32 := 128#32
  let v10 : BitVec 32 := Scalar.muli arg0 c128_i32
  v10
def k0_cond3 (i : grid0.Coords) : BitVec 1 :=
  let arg1 : BitVec 32 := BitVec.ofNat 32 (i 1).val
  let c2_i32_8 : BitVec 32 := 2#32
  let v20 : BitVec 1 := Scalar.cmpi .sge arg1 c2_i32_8
  let v21 : BitVec 32 := Scalar.extui v20
  let c0_i32_9 : BitVec 32 := 0#32
  let v22 : BitVec 1 := Scalar.cmpi .ne v21 c0_i32_9
  v22

def k0_mult2 (i : grid0.Coords) : BitVec 32 :=
  let arg1 : BitVec 32 := BitVec.ofNat 32 (i 1).val
  let c2_i32_21 : BitVec 32 := 2#32
  let v46 : BitVec 32 := Scalar.subi arg1 c2_i32_21
  let c512_i32_22 : BitVec 32 := 512#32
  let v47 : BitVec 32 := Scalar.muli v46 c512_i32_22
  v47
def k0_off1 (i : grid0.Coords) : Fin 1 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 2 → Nat :=
  let arg1 : BitVec 32 := BitVec.ofNat 32 (i 1).val
  let c2_i32_21 : BitVec 32 := 2#32
  let v46 : BitVec 32 := Scalar.subi arg1 c2_i32_21
  let c512_i32_22 : BitVec 32 := 512#32
  let v47 : BitVec 32 := Scalar.muli v46 c512_i32_22
  let v48 : BitVec 32 := v47
  let arg0 : BitVec 32 := BitVec.ofNat 32 (i 0).val
  let c128_i32 : BitVec 32 := 128#32
  let v10 : BitVec 32 := Scalar.muli arg0 c128_i32
  let v11 : BitVec 32 := v10
  ![v48.toNat, v11.toNat]
def k0_off3 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_23 : BitVec 32 := 0#32
  let c0_i32_24 : BitVec 32 := 0#32
  ![v9.toNat, 0, 0]
def k0_cond4 (i : grid0.Coords) : BitVec 1 :=
  let arg1 : BitVec 32 := BitVec.ofNat 32 (i 1).val
  let c0_i32_10 : BitVec 32 := 0#32
  let v24 : BitVec 1 := Scalar.cmpi .eq arg1 c0_i32_10
  let v25 : BitVec 32 := Scalar.extui v24
  let c0_i32_11 : BitVec 32 := 0#32
  let v26 : BitVec 1 := Scalar.cmpi .ne v25 c0_i32_11
  v26

def k0_off4 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v102 : Index := Scalar.indexCast v9
  let c0_47 : Index := 0#32
  let c0_48 : Index := 0#32
  ![v102.toNat, 0, 0]
def k0_off5 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v173 : Index := Scalar.indexCast v9
  let c0_81 : Index := 0#32
  let c64_82 : Index := 64#32
  ![v173.toNat, 0, 64]
def k0_cond5 (i : grid0.Coords) : BitVec 1 :=
  let arg1 : BitVec 32 := BitVec.ofNat 32 (i 1).val
  let c1_i32_12 : BitVec 32 := 1#32
  let v27 : BitVec 1 := Scalar.cmpi .eq arg1 c1_i32_12
  let v28 : BitVec 32 := Scalar.extui v27
  let c0_i32_13 : BitVec 32 := 0#32
  let v29 : BitVec 1 := Scalar.cmpi .ne v28 c0_i32_13
  v29

def k0_off6 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v105 : Index := Scalar.indexCast v9
  let c0_47 : Index := 0#32
  let c0_48 : Index := 0#32
  ![v105.toNat, 0, 0]
def k0_off7 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v179 : Index := Scalar.indexCast v9
  let c0_81 : Index := 0#32
  let c64_82 : Index := 64#32
  ![v179.toNat, 0, 64]
def k0_cond6 (i : grid0.Coords) : BitVec 1 :=
  let arg1 : BitVec 32 := BitVec.ofNat 32 (i 1).val
  let c2_i32_14 : BitVec 32 := 2#32
  let v30 : BitVec 1 := Scalar.cmpi .eq arg1 c2_i32_14
  let v31 : BitVec 32 := Scalar.extui v30
  let c0_i32_15 : BitVec 32 := 0#32
  let v32 : BitVec 1 := Scalar.cmpi .ne v31 c0_i32_15
  v32

def k0_off8 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v105 : Index := Scalar.indexCast v9
  let c0_47 : Index := 0#32
  let c0_48 : Index := 0#32
  ![v105.toNat, 0, 0]
def k0_off9 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v179 : Index := Scalar.indexCast v9
  let c0_81 : Index := 0#32
  let c64_82 : Index := 64#32
  ![v179.toNat, 0, 64]
def k0_cond7 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_16 : BitVec 32 := 0#32
  let v35 : BitVec 1 := Scalar.cmpi .ne v34 c0_i32_16
  v35

def k0_off10 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v105 : Index := Scalar.indexCast v9
  let c0_47 : Index := 0#32
  let c0_48 : Index := 0#32
  ![v105.toNat, 0, 0]
def k0_off11 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v179 : Index := Scalar.indexCast v9
  let c0_81 : Index := 0#32
  let c64_82 : Index := 64#32
  ![v179.toNat, 0, 64]
def k0_mult3 (i : grid0.Coords) : BitVec 32 :=
  let arg1 : BitVec 32 := BitVec.ofNat 32 (i 1).val
  let c512_i32 : BitVec 32 := 512#32
  let v36 : BitVec 32 := Scalar.muli arg1 c512_i32
  v36
def k0_off12 (i : grid0.Coords) : Fin 1 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off13 (i : grid0.Coords) : Fin 2 → Nat :=
  let arg1 : BitVec 32 := BitVec.ofNat 32 (i 1).val
  let c512_i32 : BitVec 32 := 512#32
  let v36 : BitVec 32 := Scalar.muli arg1 c512_i32
  let v37 : BitVec 32 := v36
  let arg0 : BitVec 32 := BitVec.ofNat 32 (i 0).val
  let c128_i32 : BitVec 32 := 128#32
  let v10 : BitVec 32 := Scalar.muli arg0 c128_i32
  let v11 : BitVec 32 := v10
  ![v37.toNat, v11.toNat]
def k0_off14 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_17 : BitVec 32 := 0#32
  let c0_i32_18 : BitVec 32 := 0#32
  ![v9.toNat, 0, 0]
def k0_cond8 (i : grid0.Coords) : BitVec 1 :=
  let arg1 : BitVec 32 := BitVec.ofNat 32 (i 1).val
  let c3_i32_19 : BitVec 32 := 3#32
  let v43 : BitVec 1 := Scalar.cmpi .eq arg1 c3_i32_19
  let v44 : BitVec 32 := Scalar.extui v43
  let c0_i32_20 : BitVec 32 := 0#32
  let v45 : BitVec 1 := Scalar.cmpi .ne v44 c0_i32_20
  v45

def k0_mult4 (i : grid0.Coords) : BitVec 32 :=
  let arg1 : BitVec 32 := BitVec.ofNat 32 (i 1).val
  let c1_i32_21 : BitVec 32 := 1#32
  let v46 : BitVec 32 := Scalar.subi arg1 c1_i32_21
  let c512_i32_23 : BitVec 32 := 512#32
  let v48 : BitVec 32 := Scalar.muli v46 c512_i32_23
  v48
def k0_off15 (i : grid0.Coords) : Fin 1 → Nat :=
  let c1_i32_22 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v47 : BitVec 32 := Scalar.subi c1_i32_22 v9
  ![v47.toNat]
def k0_off16 (i : grid0.Coords) : Fin 2 → Nat :=
  let arg1 : BitVec 32 := BitVec.ofNat 32 (i 1).val
  let c1_i32_21 : BitVec 32 := 1#32
  let v46 : BitVec 32 := Scalar.subi arg1 c1_i32_21
  let c512_i32_23 : BitVec 32 := 512#32
  let v48 : BitVec 32 := Scalar.muli v46 c512_i32_23
  let v49 : BitVec 32 := v48
  let arg0 : BitVec 32 := BitVec.ofNat 32 (i 0).val
  let c128_i32 : BitVec 32 := 128#32
  let v10 : BitVec 32 := Scalar.muli arg0 c128_i32
  let v11 : BitVec 32 := v10
  ![v49.toNat, v11.toNat]
def k0_off17 (i : grid0.Coords) : Fin 3 → Nat :=
  let c1_i32_22 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v47 : BitVec 32 := Scalar.subi c1_i32_22 v9
  let c0_i32_24 : BitVec 32 := 0#32
  let c0_i32_25 : BitVec 32 := 0#32
  ![v47.toNat, 0, 0]
def k0_mult5 (i : grid0.Coords) : BitVec 32 :=
  let arg1 : BitVec 32 := BitVec.ofNat 32 (i 1).val
  let c512_i32_26 : BitVec 32 := 512#32
  let v55 : BitVec 32 := Scalar.muli arg1 c512_i32_26
  v55
def k0_off18 (i : grid0.Coords) : Fin 1 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off19 (i : grid0.Coords) : Fin 2 → Nat :=
  let arg1 : BitVec 32 := BitVec.ofNat 32 (i 1).val
  let c512_i32_26 : BitVec 32 := 512#32
  let v55 : BitVec 32 := Scalar.muli arg1 c512_i32_26
  let v56 : BitVec 32 := v55
  let arg0 : BitVec 32 := BitVec.ofNat 32 (i 0).val
  let c128_i32 : BitVec 32 := 128#32
  let v10 : BitVec 32 := Scalar.muli arg0 c128_i32
  let v11 : BitVec 32 := v10
  ![v56.toNat, v11.toNat]
def k0_off20 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_27 : BitVec 32 := 0#32
  let c0_i32_28 : BitVec 32 := 0#32
  ![v9.toNat, 0, 0]
def k0_mult6 (i : grid0.Coords) : BitVec 32 :=
  let c512_i32_38 : BitVec 32 := 512#32
  let arg0 : BitVec 32 := BitVec.ofNat 32 (i 0).val
  let c128_i32_37 : BitVec 32 := 128#32
  let v72 : BitVec 32 := Scalar.muli arg0 c128_i32_37
  let v73 : BitVec 32 := Scalar.addi c512_i32_38 v72
  v73
def k0_mult7 (i : grid0.Coords) : BitVec 32 :=
  let c1024_i32 : BitVec 32 := 1024#32
  let arg0 : BitVec 32 := BitVec.ofNat 32 (i 0).val
  let c128_i32_39 : BitVec 32 := 128#32
  let v75 : BitVec 32 := Scalar.muli arg0 c128_i32_39
  let v76 : BitVec 32 := Scalar.addi c1024_i32 v75
  v76
def k0_off21 (i : grid0.Coords) (c512_i32_38 : BitVec 32) : Fin 2 → Nat :=
  let c0_i32_42 : BitVec 32 := 0#32
  let arg0 : BitVec 32 := BitVec.ofNat 32 (i 0).val
  let c128_i32_37 : BitVec 32 := 128#32
  let v72 : BitVec 32 := Scalar.muli arg0 c128_i32_37
  let v73 : BitVec 32 := Scalar.addi c512_i32_38 v72
  let v74 : BitVec 32 := v73
  ![0, v74.toNat]
def k0_cond2 (i : grid0.Coords) : BitVec 1 :=
  let arg1 : BitVec 32 := BitVec.ofNat 32 (i 1).val
  let c0_i32_5 : BitVec 32 := 0#32
  let v15 : BitVec 1 := Scalar.cmpi .eq arg1 c0_i32_5
  let arg0 : BitVec 32 := BitVec.ofNat 32 (i 0).val
  let c0_i32_6 : BitVec 32 := 0#32
  let v16 : BitVec 1 := Scalar.cmpi .eq arg0 c0_i32_6
  let v17 : BitVec 1 := Scalar.andi v15 v16
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== KernelIdeal.lean ====
variable {F : FTy → Type} [FloatOps F] [Named F]
def κ : String → Option EReal := fun
  | "mask" => some ⊥
  | _ => none
-- ==== DwIn.lean ====
abbrev S2048x6400 : Shape := ⟨2, ![2048, 6400]⟩
abbrev S2048x1024 : Shape := ⟨2, ![2048, 1024]⟩
abbrev S6400x1024 : Shape := ⟨2, ![6400, 1024]⟩
abbrev S2048x640 : Shape := ⟨2, ![2048, 640]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x6400, .bf16⟩
  | .hbm, ⟨1, _⟩ => ⟨S2048x1024, .bf16⟩
  | .hbm, ⟨2, _⟩ => ⟨S6400x1024, .f32⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S640x1024, .f32⟩
  | .local _ .vmem, ⟨4, _⟩ => ⟨S640x1024, .f32⟩
  | _, _ => ⟨S2048x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![10, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInRefIdeal.lean ====
abbrev S2048x6400 : Shape := ⟨2, ![2048, 6400]⟩
abbrev S2048x1024 : Shape := ⟨2, ![2048, 1024]⟩
abbrev S_ : Shape := ⟨0, ![]⟩
abbrev S1024x6400 : Shape := ⟨2, ![1024, 6400]⟩
abbrev S6400x1024 : Shape := ⟨2, ![6400, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x6400, .bf16⟩
  | .hbm, ⟨1, _⟩ => ⟨S2048x1024, .bf16⟩
  | .hbm, ⟨2, _⟩ => ⟨S_, .f32⟩
  | .hbm, ⟨3, _⟩ => ⟨S1024x6400, .f32⟩
  | .hbm, ⟨4, _⟩ => ⟨S2048x1024, .f32⟩
  | .hbm, ⟨5, _⟩ => ⟨S2048x6400, .f32⟩
  | .hbm, ⟨6, _⟩ => ⟨S2048x6400, .f32⟩
  | .hbm, ⟨7, _⟩ => ⟨S6400x1024, .f32⟩
  | .hbm, ⟨8, _⟩ => ⟨S1024x6400, .f32⟩
  | .hbm, ⟨9, _⟩ => ⟨S6400x1024, .f32⟩
  | _, _ => ⟨S2048x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwDown.lean ====
abbrev S2048x4096 : Shape := ⟨2, ![2048, 4096]⟩
abbrev S2048x1024 : Shape := ⟨2, ![2048, 1024]⟩
abbrev S4096x1024 : Shape := ⟨2, ![4096, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S4096x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S512x1024, .f32⟩
  | .local _ .vmem, ⟨4, _⟩ => ⟨S512x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwDownRefIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S2048x4096, .f32⟩
  | .hbm, ⟨5, _⟩ => ⟨S2048x1024, .f32⟩
  | .hbm, ⟨6, _⟩ => ⟨S1024x4096, .f32⟩
  | .hbm, ⟨7, _⟩ => ⟨S4096x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwUp.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .f32⟩
  | .local _ .vmem, ⟨4, _⟩ => ⟨S1x1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwUpRefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwOut.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .f32⟩
  | .local _ .vmem, ⟨2, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DwOutRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjBwd.lean ====
abbrev S2048x6400 : Shape := ⟨2, ![2048, 6400]⟩
abbrev S6400x1024 : Shape := ⟨2, ![6400, 1024]⟩
abbrev S2048x1024 : Shape := ⟨2, ![2048, 1024]⟩
abbrev S1x1024 : Shape := ⟨2, ![1, 1024]⟩
abbrev S256x6400 : Shape := ⟨2, ![256, 6400]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x6400, .bf16⟩
  | .hbm, ⟨1, _⟩ => ⟨S6400x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S256x6400, .bf16⟩
  | .local _ .vmem, ⟨1, _⟩ => ⟨S256x6400, .bf16⟩
  | .local _ .vmem, ⟨2, _⟩ => ⟨S6400x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2048x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6400 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6400x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ProjBwdRefIdeal.lean ====
abbrev S2048x6400 : Shape := ⟨2, ![2048, 6400]⟩
abbrev S6400x1024 : Shape := ⟨2, ![6400, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x6400 : Shape := ⟨2, ![1024, 6400]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S2048x6400, .bf16⟩
  | .hbm, ⟨1, _⟩ => ⟨S6400x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S6400x1024, .f32⟩
  | .hbm, ⟨25, _⟩ => ⟨S1024x6400, .f32⟩
  | .hbm, ⟨26, _⟩ => ⟨S2048x6400, .f32⟩
  | .hbm, ⟨27, _⟩ => ⟨S2048x6400, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | _, _ => ⟨S2048x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MlpUpBwd.lean ====
abbrev S2048x4096 : Shape := ⟨2, ![2048, 4096]⟩
abbrev S8x1024x512 : Shape := ⟨3, ![8, 1024, 512]⟩
abbrev S2048x1024 : Shape := ⟨2, ![2048, 1024]⟩
abbrev S1x1024 : Shape := ⟨2, ![1, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x4096, .bf16⟩
  | .hbm, ⟨1, _⟩ => ⟨S8x1024x512, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MlpUpBwdRefIdeal.lean ====
abbrev S2048x4096 : Shape := ⟨2, ![2048, 4096]⟩
abbrev S8x1024x512 : Shape := ⟨3, ![8, 1024, 512]⟩
abbrev S2048x1024 : Shape := ⟨2, ![2048, 1024]⟩
abbrev S1x1024 : Shape := ⟨2, ![1, 1024]⟩
abbrev S1024x8x512 : Shape := ⟨3, ![1024, 8, 512]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S8x1024x512, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S8x1024x512, .f32⟩
  | .hbm, ⟨6, _⟩ => ⟨S1024x8x512, .f32⟩
  | .hbm, ⟨7, _⟩ => ⟨S1024x4096, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x4096, .f32⟩
  | .hbm, ⟨28, _⟩ => ⟨S2048x4096, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== GateBwd.lean ====
abbrev S2048x1024 : Shape := ⟨2, ![2048, 1024]⟩
abbrev S1024x1024 : Shape := ⟨2, ![1024, 1024]⟩
abbrev S2048x2048 : Shape := ⟨2, ![2048, 2048]⟩
abbrev S2048x6400 : Shape := ⟨2, ![2048, 6400]⟩
abbrev S512x1024 : Shape := ⟨2, ![512, 1024]⟩
abbrev S512x2048 : Shape := ⟨2, ![512, 2048]⟩

abbrev nBuf : Space → Nat
  | .hbm => 8
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x2048, .bf16⟩
  | .hbm, ⟨6, _⟩ => ⟨S2048x6400, .bf16⟩
  | .hbm, ⟨7, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x2048, .f32⟩
  | .local _ .vmem, ⟨4, _⟩ => ⟨S512x2048, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateBwdRefIdeal.lean ====
abbrev S2048x1024 : Shape := ⟨2, ![2048, 1024]⟩
abbrev S1024x1024 : Shape := ⟨2, ![1024, 1024]⟩
abbrev S2048x2048 : Shape := ⟨2, ![2048, 2048]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x2048, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S1024x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x2048, .f32⟩
  | .hbm, ⟨44, _⟩ => ⟨S2048x1024, .f32⟩
  | .hbm, ⟨45, _⟩ => ⟨S_, .f32⟩
  | .hbm, ⟨46, _⟩ => ⟨S2048x2048, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S2048x1024, .f32⟩
  | .hbm, ⟨53, _⟩ => ⟨S_, .f32⟩
  | .hbm, ⟨54, _⟩ => ⟨S2048x2048, .f32⟩
  | .hbm, ⟨55, _⟩ => ⟨S2048x2048, .f32⟩
  | .hbm, ⟨56, _⟩ => ⟨S2048x2048, .bf16⟩
  | .hbm, ⟨57, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== BranchABwd.lean ====
abbrev S2048x2048 : Shape := ⟨2, ![2048, 2048]⟩
abbrev S8x512x128 : Shape := ⟨3, ![8, 512, 128]⟩
abbrev S2048x512 : Shape := ⟨2, ![2048, 512]⟩
abbrev S2048x1024 : Shape := ⟨2, ![2048, 1024]⟩
abbrev S1x512x128 : Shape := ⟨3, ![1, 512, 128]⟩
abbrev S512x128 : Shape := ⟨2, ![512, 128]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x2048, .bf16⟩
  | .hbm, ⟨1, _⟩ => ⟨S8x512x128, .bf16⟩
  | .hbm, ⟨2, _⟩ => ⟨S2048x512, .bf16⟩
  | .local _ .vmem, ⟨0, _⟩ => ⟨S2048x1024, .bf16⟩
  | .local _ .vmem, ⟨1, _⟩ => ⟨S8x512x128, .bf16⟩
  | .local _ .vmem, ⟨2, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S8x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== BranchABwdRefIdeal.lean ====
abbrev S2048x2048 : Shape := ⟨2, ![2048, 2048]⟩
abbrev S8x512x128 : Shape := ⟨3, ![8, 512, 128]⟩
abbrev S_ : Shape := ⟨0, ![]⟩
abbrev S2048x512 : Shape := ⟨2, ![2048, 512]⟩
abbrev S2048x1024 : Shape := ⟨2, ![2048, 1024]⟩
abbrev S512x8x128 : Shape := ⟨3, ![512, 8, 128]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x512x128, .bf16⟩
  | .hbm, ⟨2, _⟩ => ⟨S_, .f32⟩
  | .hbm, ⟨3, _⟩ => ⟨S2048x512, .f32⟩
  | .hbm, ⟨4, _⟩ => ⟨S2048x1024, .bf16⟩
  | .hbm, ⟨5, _⟩ => ⟨S8x512x128, .f32⟩
  | .hbm, ⟨6, _⟩ => ⟨S512x8x128, .f32⟩
  | .hbm, ⟨7, _⟩ => ⟨S512x1024, .f32⟩
  | .hbm, ⟨8, _⟩ => ⟨S2048x1024, .f32⟩
  | .hbm, ⟨9, _⟩ => ⟨S2048x1024, .f32⟩
  | .hbm, ⟨10, _⟩ => ⟨S2048x512, .f32⟩
  | .hbm, ⟨11, _⟩ => ⟨S2048x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BranchBBwd.lean ====
abbrev S2048x2048 : Shape := ⟨2, ![2048, 2048]⟩
abbrev S8x256x128 : Shape := ⟨3, ![8, 256, 128]⟩
abbrev S2048x256 : Shape := ⟨2, ![2048, 256]⟩
abbrev S2048x1024 : Shape := ⟨2, ![2048, 1024]⟩
abbrev S1x256x128 : Shape := ⟨3, ![1, 256, 128]⟩
abbrev S256x128 : Shape := ⟨2, ![256, 128]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x2048, .bf16⟩
  | .hbm, ⟨1, _⟩ => ⟨S8x256x128, .bf16⟩
  | .hbm, ⟨2, _⟩ => ⟨S2048x256, .f32⟩
  | .local _ .vmem, ⟨0, _⟩ => ⟨S2048x1024, .bf16⟩
  | .local _ .vmem, ⟨1, _⟩ => ⟨S8x256x128, .bf16⟩
  | .local _ .vmem, ⟨2, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S8x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== BranchBBwdRefIdeal.lean ====
abbrev S2048x2048 : Shape := ⟨2, ![2048, 2048]⟩
abbrev S8x256x128 : Shape := ⟨3, ![8, 256, 128]⟩
abbrev S_ : Shape := ⟨0, ![]⟩
abbrev S2048x256 : Shape := ⟨2, ![2048, 256]⟩
abbrev S2048x1024 : Shape := ⟨2, ![2048, 1024]⟩
abbrev S256x8x128 : Shape := ⟨3, ![256, 8, 128]⟩
abbrev S256x1024 : Shape := ⟨2, ![256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x256x128, .bf16⟩
  | .hbm, ⟨2, _⟩ => ⟨S_, .f32⟩
  | .hbm, ⟨3, _⟩ => ⟨S2048x256, .f32⟩
  | .hbm, ⟨4, _⟩ => ⟨S2048x1024, .bf16⟩
  | .hbm, ⟨5, _⟩ => ⟨S8x256x128, .f32⟩
  | .hbm, ⟨6, _⟩ => ⟨S256x8x128, .f32⟩
  | .hbm, ⟨7, _⟩ => ⟨S256x1024, .f32⟩
  | .hbm, ⟨8, _⟩ => ⟨S2048x1024, .f32⟩
  | .hbm, ⟨9, _⟩ => ⟨S2048x1024, .f32⟩
  | .hbm, ⟨10, _⟩ => ⟨S2048x256, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwA.lean ====
abbrev S2048x512 : Shape := ⟨2, ![2048, 512]⟩
abbrev S2048x2048 : Shape := ⟨2, ![2048, 2048]⟩
abbrev S8x512x128 : Shape := ⟨3, ![8, 512, 128]⟩
abbrev S2048x1024 : Shape := ⟨2, ![2048, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 3
  | .vmem => 3
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S8x512x128, .f32⟩
  | .local _ .vmem, ⟨0, _⟩ => ⟨S2048x512, .bf16⟩
  | .local _ .vmem, ⟨1, _⟩ => ⟨S2048x1024, .bf16⟩
  | .local _ .vmem, ⟨2, _⟩ => ⟨S8x512x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwARefIdeal.lean ====
abbrev S2048x512 : Shape := ⟨2, ![2048, 512]⟩
abbrev S2048x2048 : Shape := ⟨2, ![2048, 2048]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S2048x1024, .bf16⟩
  | .hbm, ⟨3, _⟩ => ⟨S_, .f32⟩
  | .hbm, ⟨4, _⟩ => ⟨S512x1024, .f32⟩
  | .hbm, ⟨5, _⟩ => ⟨S2048x512, .f32⟩
  | .hbm, ⟨6, _⟩ => ⟨S2048x1024, .f32⟩
  | .hbm, ⟨7, _⟩ => ⟨S2048x1024, .f32⟩
  | .hbm, ⟨8, _⟩ => ⟨S1024x512, .f32⟩
  | .hbm, ⟨9, _⟩ => ⟨S512x1024, .f32⟩
  | .hbm, ⟨10, _⟩ => ⟨S512x8x128, .f32⟩
  | .hbm, ⟨11, _⟩ => ⟨S8x512x128, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwB.lean ====
abbrev S2048x256 : Shape := ⟨2, ![2048, 256]⟩
abbrev S2048x2048 : Shape := ⟨2, ![2048, 2048]⟩
abbrev S8x256x128 : Shape := ⟨3, ![8, 256, 128]⟩
abbrev S2048x1024 : Shape := ⟨2, ![2048, 1024]⟩
abbrev S256x1024 : Shape := ⟨2, ![256, 1024]⟩
abbrev S256x128 : Shape := ⟨2, ![256, 128]⟩
abbrev S1x256x128 : Shape := ⟨3, ![1, 256, 128]⟩

abbrev nBuf : Space → Nat
  | .hbm => 3
  | .vmem => 3
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S8x256x128, .f32⟩
  | .local _ .vmem, ⟨0, _⟩ => ⟨S2048x256, .f32⟩
  | .local _ .vmem, ⟨1, _⟩ => ⟨S2048x1024, .bf16⟩
  | .local _ .vmem, ⟨2, _⟩ => ⟨S8x256x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwBRefIdeal.lean ====
abbrev S2048x256 : Shape := ⟨2, ![2048, 256]⟩
abbrev S2048x2048 : Shape := ⟨2, ![2048, 2048]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 11
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S2048x1024, .bf16⟩
  | .hbm, ⟨3, _⟩ => ⟨S_, .f32⟩
  | .hbm, ⟨4, _⟩ => ⟨S256x1024, .f32⟩
  | .hbm, ⟨5, _⟩ => ⟨S2048x1024, .f32⟩
  | .hbm, ⟨6, _⟩ => ⟨S2048x1024, .f32⟩
  | .hbm, ⟨7, _⟩ => ⟨S1024x256, .f32⟩
  | .hbm, ⟨8, _⟩ => ⟨S256x1024, .f32⟩
  | .hbm, ⟨9, _⟩ => ⟨S256x8x128, .f32⟩
  | .hbm, ⟨10, _⟩ => ⟨S8x256x128, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MlpDownBwd.lean ====
abbrev S2048x1024 : Shape := ⟨2, ![2048, 1024]⟩
abbrev S4096x1024 : Shape := ⟨2, ![4096, 1024]⟩
abbrev S2048x4096 : Shape := ⟨2, ![2048, 4096]⟩
abbrev S512x1024 : Shape := ⟨2, ![512, 1024]⟩
abbrev S2048x512 : Shape := ⟨2, ![2048, 512]⟩
abbrev S3x2048x512 : Shape := ⟨3, ![3, 2048, 512]⟩
abbrev S3 : Shape := ⟨1, ![3]⟩
abbrev S1 : Shape := ⟨1, ![1]⟩
abbrev S_ : Shape := ⟨0, ![]⟩
abbrev S1x2048x512 : Shape := ⟨3, ![1, 2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4096x1024, .bf16⟩
  | .hbm, ⟨2, _⟩ => ⟨S2048x4096, .f32⟩
  | .hbm, ⟨3, _⟩ => ⟨S2048x4096, .bf16⟩
  | .local _ .vmem, ⟨0, _⟩ => ⟨S2048x1024, .f32⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S3x2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_24 : BitVec 32 := 0#32
  c0_i32_24
def k0_mult2 : BitVec 32 :=
  let c512_i32_30 : BitVec 32 := 512#32
  c512_i32_30
def k0_cond2 (i : grid0.Coords) : BitVec 1 :=
  let arg0 : BitVec 32 := BitVec.ofNat 32 (i 0).val
  let c2_i32 : BitVec 32 := 2#32
  let v7 : BitVec 32 := Scalar.addi arg0 c2_i32
  let c8_i32 : BitVec 32 := 8#32
  let v8 : BitVec 1 := Scalar.cmpi .slt v7 c8_i32
  let v9 : BitVec 32 := Scalar.extui v8
  let c0_i32_4 : BitVec 32 := 0#32
  let v10 : BitVec 1 := Scalar.cmpi .ne v9 c0_i32_4
  v10

def k0_mult3 (i : grid0.Coords) : BitVec 32 :=
  let arg0 : BitVec 32 := BitVec.ofNat 32 (i 0).val
  let c2_i32_24 : BitVec 32 := 2#32
  let v48 : BitVec 32 := Scalar.addi arg0 c2_i32_24
  let c512_i32_31 : BitVec 32 := 512#32
  let v59 : BitVec 32 := Scalar.muli v48 c512_i32_31
  v59
def k0_off1 (i : grid0.Coords) : Fin 1 → Nat :=
  let arg0 : BitVec 32 := BitVec.ofNat 32 (i 0).val
  let c2_i32_24 : BitVec 32 := 2#32
  let v48 : BitVec 32 := Scalar.addi arg0 c2_i32_24
  let c3_i32_25 : BitVec 32 := 3#32
  let c0_i32_26 : BitVec 32 := 0#32
  let v49 : BitVec 1 := Scalar.cmpi .eq c3_i32_25 c0_i32_26
  let c1_i32_27 : BitVec 32 := 1#32
  let v50 : BitVec 32 := Scalar.select v49 c1_i32_27 c3_i32_25
  let v51 : BitVec 32 := Scalar.remsi v48 v50
  let c0_i32_29 : BitVec 32 := 0#32
  let v53 : BitVec 1 := Scalar.cmpi .slt v51 c0_i32_29
  let c0_i32_30 : BitVec 32 := 0#32
  let v54 : BitVec 1 := Scalar.cmpi .slt v50 c0_i32_30
  let v55 : BitVec 1 := Scalar.xori v53 v54
  let c0_i32_28 : BitVec 32 := 0#32
  let v52 : BitVec 1 := Scalar.cmpi .ne v51 c0_i32_28
  let v56 : BitVec 1 := Scalar.andi v55 v52
  let v57 : BitVec 32 := Scalar.addi v51 v50
  let v58 : BitVec 32 := Scalar.select v56 v57 v51
  ![v58.toNat]
def k0_off2 (i : grid0.Coords) : Fin 3 → Nat :=
  let arg0 : BitVec 32 := BitVec.ofNat 32 (i 0).val
  let c2_i32_24 : BitVec 32 := 2#32
  let v48 : BitVec 32 := Scalar.addi arg0 c2_i32_24
  let c3_i32_25 : BitVec 32 := 3#32
  let c0_i32_26 : BitVec 32 := 0#32
  let v49 : BitVec 1 := Scalar.cmpi .eq c3_i32_25 c0_i32_26
  let c1_i32_27 : BitVec 32 := 1#32
  let v50 : BitVec 32 := Scalar.select v49 c1_i32_27 c3_i32_25
  let v51 : BitVec 32 := Scalar.remsi v48 v50
  let c0_i32_29 : BitVec 32 := 0#32
  let v53 : BitVec 1 := Scalar.cmpi .slt v51 c0_i32_29
  let c0_i32_30 : BitVec 32 := 0#32
  let v54 : BitVec 1 := Scalar.cmpi .slt v50 c0_i32_30
  let v55 : BitVec 1 := Scalar.xori v53 v54
  let c0_i32_28 : BitVec 32 := 0#32
  let v52 : BitVec 1 := Scalar.cmpi .ne v51 c0_i32_28
  let v56 : BitVec 1 := Scalar.andi v55 v52
  let v57 : BitVec 32 := Scalar.addi v51 v50
  let v58 : BitVec 32 := Scalar.select v56 v57 v51
  let c0_i32_32 : BitVec 32 := 0#32
  let c0_i32_33 : BitVec 32 := 0#32
  ![v58.toNat, 0, 0]
def k0_off3 (i : grid0.Coords) : Fin 2 → Nat :=
  let c0_i32_34 : BitVec 32 := 0#32
  let arg0 : BitVec 32 := BitVec.ofNat 32 (i 0).val
  let c2_i32_24 : BitVec 32 := 2#32
  let v48 : BitVec 32 := Scalar.addi arg0 c2_i32_24
  let c512_i32_31 : BitVec 32 := 512#32
  let v59 : BitVec 32 := Scalar.muli v48 c512_i32_31
  let v60 : BitVec 32 := v59
  ![0, v60.toNat]
def k0_mult4 (i : grid0.Coords) : BitVec 32 :=
  let arg0 : BitVec 32 := BitVec.ofNat 32 (i 0).val
  let c512_i32 : BitVec 32 := 512#32
  let v21 : BitVec 32 := Scalar.muli arg0 c512_i32
  v21
def k0_off4 (i : grid0.Coords) : Fin 1 → Nat :=
  let arg0 : BitVec 32 := BitVec.ofNat 32 (i 0).val
  let c3_i32 : BitVec 32 := 3#32
  let c0_i32_5 : BitVec 32 := 0#32
  let v11 : BitVec 1 := Scalar.cmpi .eq c3_i32 c0_i32_5
  let c1_i32 : BitVec 32 := 1#32
  let v12 : BitVec 32 := Scalar.select v11 c1_i32 c3_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  ![v20.toNat]
def k0_off5 (i : grid0.Coords) : Fin 3 → Nat :=
  let arg0 : BitVec 32 := BitVec.ofNat 32 (i 0).val
  let c3_i32 : BitVec 32 := 3#32
  let c0_i32_5 : BitVec 32 := 0#32
  let v11 : BitVec 1 := Scalar.cmpi .eq c3_i32 c0_i32_5
  let c1_i32 : BitVec 32 := 1#32
  let v12 : BitVec 32 := Scalar.select v11 c1_i32 c3_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c0_i32_9 : BitVec 32 := 0#32
  let c0_i32_10 : BitVec 32 := 0#32
  ![v20.toNat, 0, 0]
def k0_off6 (i : grid0.Coords) : Fin 2 → Nat :=
  let c0_i32_11 : BitVec 32 := 0#32
  let arg0 : BitVec 32 := BitVec.ofNat 32 (i 0).val
  let c512_i32 : BitVec 32 := 512#32
  let v21 : BitVec 32 := Scalar.muli arg0 c512_i32
  let v22 : BitVec 32 := v21
  ![0, v22.toNat]
def k0_off7 (i : grid0.Coords) : Fin 3 → Nat :=
  let arg0 : BitVec 32 := BitVec.ofNat 32 (i 0).val
  let c3_i32_12 : BitVec 32 := 3#32
  let c0_i32_13 : BitVec 32 := 0#32
  let v28 : BitVec 1 := Scalar.cmpi .eq c3_i32_12 c0_i32_13
  let c1_i32_14 : BitVec 32 := 1#32
  let v29 : BitVec 32 := Scalar.select v28 c1_i32_14 c3_i32_12
  let v30 : BitVec 32 := Scalar.remsi arg0 v29
  let c0_i32_16 : BitVec 32 := 0#32
  let v32 : BitVec 1 := Scalar.cmpi .slt v30 c0_i32_16
  let c0_i32_17 : BitVec 32 := 0#32
  let v33 : BitVec 1 := Scalar.cmpi .slt v29 c0_i32_17
  let v34 : BitVec 1 := Scalar.xori v32 v33
  let c0_i32_15 : BitVec 32 := 0#32
  let v31 : BitVec 1 := Scalar.cmpi .ne v30 c0_i32_15
  let v35 : BitVec 1 := Scalar.andi v34 v31
  let v36 : BitVec 32 := Scalar.addi v30 v29
  let v37 : BitVec 32 := Scalar.select v35 v36 v30
  let v38 : Index := Scalar.indexCast v37
  let c0_18 : Index := 0#32
  let c0_19 : Index := 0#32
  ![v38.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MlpDownBwdRefIdeal.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .bf16⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S4096x1024, .f32⟩
  | .hbm, ⟨16, _⟩ => ⟨S2048x1024, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== ProjA.lean ====
abbrev S2048x1024 : Shape := ⟨2, ![2048, 1024]⟩
abbrev S6400x1024 : Shape := ⟨2, ![6400, 1024]⟩
abbrev S2048x1536 : Shape := ⟨2, ![2048, 1536]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S6400x1024, .bf16⟩
  | .hbm, ⟨2, _⟩ => ⟨S2048x1536, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjARefIdeal.lean ====
abbrev S2048x1024 : Shape := ⟨2, ![2048, 1024]⟩
abbrev S6400x1024 : Shape := ⟨2, ![6400, 1024]⟩
abbrev S1536x1024 : Shape := ⟨2, ![1536, 1024]⟩
abbrev S1024x1536 : Shape := ⟨2, ![1024, 1536]⟩
abbrev S2048x1536 : Shape := ⟨2, ![2048, 1536]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S6400x1024, .bf16⟩
  | .hbm, ⟨2, _⟩ => ⟨S2048x1024, .f32⟩
  | .hbm, ⟨3, _⟩ => ⟨S1536x1024, .bf16⟩
  | .hbm, ⟨4, _⟩ => ⟨S1536x1024, .f32⟩
  | .hbm, ⟨5, _⟩ => ⟨S1024x1536, .f32⟩
  | .hbm, ⟨6, _⟩ => ⟨S2048x1536, .f32⟩
  | .hbm, ⟨7, _⟩ => ⟨S2048x1536, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProjB.lean ====
abbrev S2048x1024 : Shape := ⟨2, ![2048, 1024]⟩
abbrev S6400x1024 : Shape := ⟨2, ![6400, 1024]⟩
abbrev S2048x2304 : Shape := ⟨2, ![2048, 2304]⟩
abbrev S768x1024 : Shape := ⟨2, ![768, 1024]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S6400x1024, .bf16⟩
  | .hbm, ⟨2, _⟩ => ⟨S2048x2304, .f32⟩
  | .local _ .vmem, ⟨0, _⟩ => ⟨S2048x1024, .bf16⟩
  | .local _ .vmem, ⟨1, _⟩ => ⟨S768x1024, .bf16⟩
  | .local _ .vmem, ⟨2, _⟩ => ⟨S768x1024, .bf16⟩
  | .local _ .vmem, ⟨3, _⟩ => ⟨S2048x768, .f32⟩
  | .local _ .vmem, ⟨4, _⟩ => ⟨S2048x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjBRefIdeal.lean ====
abbrev S2048x1024 : Shape := ⟨2, ![2048, 1024]⟩
abbrev S6400x1024 : Shape := ⟨2, ![6400, 1024]⟩
abbrev S2304x1024 : Shape := ⟨2, ![2304, 1024]⟩
abbrev S1024x2304 : Shape := ⟨2, ![1024, 2304]⟩
abbrev S2048x2304 : Shape := ⟨2, ![2048, 2304]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S6400x1024, .bf16⟩
  | .hbm, ⟨2, _⟩ => ⟨S2048x1024, .f32⟩
  | .hbm, ⟨3, _⟩ => ⟨S2304x1024, .bf16⟩
  | .hbm, ⟨4, _⟩ => ⟨S2304x1024, .f32⟩
  | .hbm, ⟨5, _⟩ => ⟨S1024x2304, .f32⟩
  | .hbm, ⟨6, _⟩ => ⟨S2048x2304, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjG.lean ====
abbrev S2048x1024 : Shape := ⟨2, ![2048, 1024]⟩
abbrev S6400x1024 : Shape := ⟨2, ![6400, 1024]⟩
abbrev S2048x2048 : Shape := ⟨2, ![2048, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S6400x1024, .bf16⟩
  | .hbm, ⟨2, _⟩ => ⟨S2048x2048, .f32⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGRefIdeal.lean ====
abbrev S2048x1024 : Shape := ⟨2, ![2048, 1024]⟩
abbrev S6400x1024 : Shape := ⟨2, ![6400, 1024]⟩
abbrev S1024x2048 : Shape := ⟨2, ![1024, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S6400x1024, .bf16⟩
  | .hbm, ⟨2, _⟩ => ⟨S2048x1024, .f32⟩
  | .hbm, ⟨3, _⟩ => ⟨S2048x1024, .bf16⟩
  | .hbm, ⟨4, _⟩ => ⟨S2048x1024, .f32⟩
  | .hbm, ⟨5, _⟩ => ⟨S1024x2048, .f32⟩
  | .hbm, ⟨6, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjF.lean ====
abbrev S2048x1024 : Shape := ⟨2, ![2048, 1024]⟩
abbrev S6400x1024 : Shape := ⟨2, ![6400, 1024]⟩
abbrev S2048x128 : Shape := ⟨2, ![2048, 128]⟩
abbrev S128x1024 : Shape := ⟨2, ![128, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S6400x1024, .bf16⟩
  | .hbm, ⟨2, _⟩ => ⟨S2048x128, .f32⟩
  | .local _ .vmem, ⟨0, _⟩ => ⟨S2048x1024, .bf16⟩
  | .local _ .vmem, ⟨1, _⟩ => ⟨S128x1024, .bf16⟩
  | .local _ .vmem, ⟨2, _⟩ => ⟨S2048x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi arg1 c48_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ProjFRefIdeal.lean ====
abbrev S2048x1024 : Shape := ⟨2, ![2048, 1024]⟩
abbrev S6400x1024 : Shape := ⟨2, ![6400, 1024]⟩
abbrev S128x1024 : Shape := ⟨2, ![128, 1024]⟩
abbrev S1024x128 : Shape := ⟨2, ![1024, 128]⟩
abbrev S2048x128 : Shape := ⟨2, ![2048, 128]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S6400x1024, .bf16⟩
  | .hbm, ⟨2, _⟩ => ⟨S2048x1024, .f32⟩
  | .hbm, ⟨3, _⟩ => ⟨S128x1024, .bf16⟩
  | .hbm, ⟨4, _⟩ => ⟨S128x1024, .f32⟩
  | .hbm, ⟨5, _⟩ => ⟨S1024x128, .f32⟩
  | .hbm, ⟨6, _⟩ => ⟨S2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MlpUp.lean ====
abbrev S2048x1024 : Shape := ⟨2, ![2048, 1024]⟩
abbrev S8x1024x512 : Shape := ⟨3, ![8, 1024, 512]⟩
abbrev S2048x4096 : Shape := ⟨2, ![2048, 4096]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S8x1024x512, .bf16⟩
  | .hbm, ⟨2, _⟩ => ⟨S2048x4096, .f32⟩
  | .hbm, ⟨3, _⟩ => ⟨S2048x4096, .bf16⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlpUpRefIdeal.lean ====
abbrev S2048x1024 : Shape := ⟨2, ![2048, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S2048x4096 : Shape := ⟨2, ![2048, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x512, .bf16⟩
  | .hbm, ⟨2, _⟩ => ⟨S2048x1024, .f32⟩
  | .hbm, ⟨3, _⟩ => ⟨S8x1024x512, .f32⟩
  | .hbm, ⟨4, _⟩ => ⟨S1024x8x512, .f32⟩
  | .hbm, ⟨5, _⟩ => ⟨S1024x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MlpDownLoss.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .hbm, ⟨7, _⟩ => ⟨S1x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x128, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpDownLossRefIdeal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x4096, .f32⟩
  | .hbm, ⟨6, _⟩ => ⟨S4096x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S1x128, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== MixerTail.lean ====
abbrev S2048x512 : Shape := ⟨2, ![2048, 512]⟩
abbrev S2048x256 : Shape := ⟨2, ![2048, 256]⟩
abbrev S8x512x128 : Shape := ⟨3, ![8, 512, 128]⟩
abbrev S8x256x128 : Shape := ⟨3, ![8, 256, 128]⟩
abbrev S1024x1024 : Shape := ⟨2, ![1024, 1024]⟩
abbrev S2048x2048 : Shape := ⟨2, ![2048, 2048]⟩
abbrev S2048x1024 : Shape := ⟨2, ![2048, 1024]⟩
abbrev S1x1024 : Shape := ⟨2, ![1, 1024]⟩
abbrev S512x512 : Shape := ⟨2, ![512, 512]⟩
abbrev S512x256 : Shape := ⟨2, ![512, 256]⟩
abbrev S512x2048 : Shape := ⟨2, ![512, 2048]⟩
abbrev S512x1024 : Shape := ⟨2, ![512, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S256x1024 : Shape := ⟨2, ![256, 1024]⟩
abbrev S512 : Shape := ⟨1, ![512]⟩
abbrev S512x1 : Shape := ⟨2, ![512, 1]⟩

abbrev nBuf : Space → Nat
  | .hbm => 13
  | .vmem => 22
  | .smem => 0
  | _ => 0

abbrev bufTy : (tb : Table) → Fin (tcTables nBuf tb) → BufTy
  | .hbm, ⟨0, _⟩ => ⟨S2048x512, .bf16⟩
  | .hbm, ⟨1, _⟩ => ⟨S2048x256, .f32⟩
  | .hbm, ⟨2, _⟩ => ⟨S8x512x128, .bf16⟩
  | .hbm, ⟨3, _⟩ => ⟨S8x256x128, .bf16⟩
  | .hbm, ⟨4, _⟩ => ⟨S1024x1024, .bf16⟩
  | .hbm, ⟨5, _⟩ => ⟨S2048x2048, .f32⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .bf16⟩
  | .local _ .vmem, ⟨0, _⟩ => ⟨S512x512, .bf16⟩
  | .local _ .vmem, ⟨1, _⟩ => ⟨S512x512, .bf16⟩
  | .local _ .vmem, ⟨2, _⟩ => ⟨S512x256, .f32⟩
  | .local _ .vmem, ⟨3, _⟩ => ⟨S512x256, .f32⟩
  | .local _ .vmem, ⟨4, _⟩ => ⟨S8x512x128, .bf16⟩
  | .local _ .vmem, ⟨5, _⟩ => ⟨S8x256x128, .bf16⟩
  | .local _ .vmem, ⟨6, _⟩ => ⟨S1024x1024, .bf16⟩
  | .local _ .vmem, ⟨7, _⟩ => ⟨S512x2048, .f32⟩
  | .local _ .vmem, ⟨8, _⟩ => ⟨S512x2048, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixerTailRefIdeal.lean ====
abbrev S2048x512 : Shape := ⟨2, ![2048, 512]⟩
abbrev S2048x256 : Shape := ⟨2, ![2048, 256]⟩
abbrev S8x512x128 : Shape := ⟨3, ![8, 512, 128]⟩
abbrev S8x256x128 : Shape := ⟨3, ![8, 256, 128]⟩
abbrev S1024x1024 : Shape := ⟨2, ![1024, 1024]⟩
abbrev S2048x2048 : Shape := ⟨2, ![2048, 2048]⟩
abbrev S2048x1024 : Shape := ⟨2, ![2048, 1024]⟩
abbrev S1x1024 : Shape := ⟨2, ![1, 1024]⟩
abbrev S512x8x128 : Shape := ⟨3, ![512, 8, 128]⟩
abbrev S512x1024 : Shape := ⟨2, ![512, 1024]⟩
abbrev S256x8x128 : Shape := ⟨3, ![256, 8, 128]⟩
abbrev S256x1024 : Shape := ⟨2, ![256, 1024]⟩
abbrev S_ : Shape := ⟨0, ![]⟩
abbrev S2048 : Shape := ⟨1, ![2048]⟩
abbrev S2048x1 : Shape := ⟨2, ![2048, 1]⟩

abbrev nBuf : Space → Nat
  | .hbm => 58
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x256, .f32⟩
  | .hbm, ⟨2, _⟩ => ⟨S8x512x128, .bf16⟩
  | .hbm, ⟨3, _⟩ => ⟨S8x256x128, .bf16⟩
  | .hbm, ⟨4, _⟩ => ⟨S1024x1024, .bf16⟩
  | .hbm, ⟨5, _⟩ => ⟨S2048x2048, .f32⟩
  | .hbm, ⟨6, _⟩ => ⟨S2048x1024, .f32⟩
  | .hbm, ⟨7, _⟩ => ⟨S1x1024, .f32⟩
  | .hbm, ⟨8, _⟩ => ⟨S2048x512, .f32⟩
  | .hbm, ⟨9, _⟩ => ⟨S8x512x128, .f32⟩
  | .hbm, ⟨10, _⟩ => ⟨S512x8x128, .f32⟩
  | .hbm, ⟨11, _⟩ => ⟨S512x1024, .f32⟩
  | .hbm, ⟨12, _⟩ => ⟨S2048x1024, .f32⟩
  | .hbm, ⟨13, _⟩ => ⟨S8x256x128, .f32⟩
  | .hbm, ⟨14, _⟩ => ⟨S256x8x128, .f32⟩
  | .hbm, ⟨15, _⟩ => ⟨S256x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S1024x1024, .f32⟩
  | .hbm, ⟨39, _⟩ => ⟨S2048x1024, .f32⟩
  | .hbm, ⟨40, _⟩ => ⟨S2048x1024, .f32⟩
  | .hbm, ⟨41, _⟩ => ⟨S2048x1024, .bf16⟩
  | .hbm, ⟨42, _⟩ => ⟨S2048x1024, .f32⟩
  | .hbm, ⟨43, _⟩ => ⟨S_, .f32⟩
  | .hbm, ⟨44, _⟩ => ⟨S2048, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S2048x1, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== FoxDscan.lean ====
abbrev S4x2048x2 : Shape := ⟨3, ![4, 2048, 2]⟩
abbrev S8x2048 : Shape := ⟨2, ![8, 2048]⟩
abbrev S2048x128 : Shape := ⟨2, ![2048, 128]⟩
abbrev S1x128 : Shape := ⟨2, ![1, 128]⟩
abbrev S2048x6400 : Shape := ⟨2, ![2048, 6400]⟩
abbrev S_ : Shape := ⟨0, ![]⟩
abbrev S4x2048x128 : Shape := ⟨3, ![4, 2048, 128]⟩
abbrev S2048x256 : Shape := ⟨2, ![2048, 256]⟩
abbrev S120x2048 : Shape := ⟨2, ![120, 2048]⟩
abbrev S128x2048 : Shape := ⟨2, ![128, 2048]⟩
abbrev S1x2048x128 : Shape := ⟨3, ![1, 2048, 128]⟩
abbrev S128 : Shape := ⟨1, ![128]⟩

abbrev nBuf : Space → Nat
  | .hbm => 10
  | .vmem => 6
  | .smem => 0
  | _ => 0

abbrev bufTy : (tb : Table) → Fin (tcTables nBuf tb) → BufTy
  | .hbm, ⟨0, _⟩ => ⟨S4x2048x2, .f32⟩
  | .hbm, ⟨1, _⟩ => ⟨S8x2048, .f32⟩
  | .hbm, ⟨2, _⟩ => ⟨S2048x128, .f32⟩
  | .hbm, ⟨3, _⟩ => ⟨S1x128, .f32⟩
  | .hbm, ⟨4, _⟩ => ⟨S2048x6400, .bf16⟩
  | .hbm, ⟨5, _⟩ => ⟨S_, .i32⟩
  | .hbm, ⟨6, _⟩ => ⟨S_, .f32⟩
  | .hbm, ⟨7, _⟩ => ⟨S4x2048x128, .f32⟩
  | .hbm, ⟨8, _⟩ => ⟨S2048x6400, .bf16⟩
  | .hbm, ⟨9, _⟩ => ⟨S1x128, .f32⟩
  | .local _ .vmem, ⟨0, _⟩ => ⟨S4x2048x128, .f32⟩
  | .local _ .vmem, ⟨1, _⟩ => ⟨S8x2048, .f32⟩
  | .local _ .vmem, ⟨2, _⟩ => ⟨S2048x128, .f32⟩
  | .local _ .vmem, ⟨3, _⟩ => ⟨S1x128, .f32⟩
  | .local _ .vmem, ⟨4, _⟩ => ⟨S2048x256, .bf16⟩
  | .local _ .vmem, ⟨5, _⟩ => ⟨S1x128, .f32⟩
  | _, _ => ⟨S4x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c24_i32 : BitVec 32 := 24#32
  let c0_i32_0 : BitVec 32 := 0#32
  ![c0_i32.toNat, c24_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FoxDscanRefIdeal.lean ====
abbrev S4x2048x2 : Shape := ⟨3, ![4, 2048, 2]⟩
abbrev S8x2048 : Shape := ⟨2, ![8, 2048]⟩
abbrev S2048x128 : Shape := ⟨2, ![2048, 128]⟩
abbrev S1x128 : Shape := ⟨2, ![1, 128]⟩
abbrev S2048x6400 : Shape := ⟨2, ![2048, 6400]⟩
abbrev S2048x4x2 : Shape := ⟨3, ![2048, 4, 2]⟩
abbrev S2048x8 : Shape := ⟨2, ![2048, 8]⟩
abbrev S1x8 : Shape := ⟨2, ![1, 8]⟩
abbrev S_ : Shape := ⟨0, ![]⟩
abbrev S8 : Shape := ⟨1, ![8]⟩
abbrev S2048x256 : Shape := ⟨2, ![2048, 256]⟩
abbrev S2048x6144 : Shape := ⟨2, ![2048, 6144]⟩

abbrev nBuf : Space → Nat
  | .hbm => 82
  | .vmem => 0
  | .smem => 0
  | _ => 0

abbrev bufTy : (tb : Table) → Fin (tcTables nBuf tb) → BufTy
  | .hbm, ⟨0, _⟩ => ⟨S4x2048x2, .f32⟩
  | .hbm, ⟨1, _⟩ => ⟨S8x2048, .f32⟩
  | .hbm, ⟨2, _⟩ => ⟨S2048x128, .f32⟩
  | .hbm, ⟨3, _⟩ => ⟨S1x128, .f32⟩
  | .hbm, ⟨4, _⟩ => ⟨S2048x6400, .bf16⟩
  | .hbm, ⟨5, _⟩ => ⟨S2048x4x2, .f32⟩
  | .hbm, ⟨6, _⟩ => ⟨S2048x8, .f32⟩
  | .hbm, ⟨7, _⟩ => ⟨S2048x8, .f32⟩
  | .hbm, ⟨8, _⟩ => ⟨S2048x8, .f32⟩
  | .hbm, ⟨9, _⟩ => ⟨S2048x8, .f32⟩
  | .hbm, ⟨10, _⟩ => ⟨S1x8, .f32⟩
  | .hbm, ⟨11, _⟩ => ⟨S2048x8, .f32⟩
  | .hbm, ⟨12, _⟩ => ⟨S2048x8, .f32⟩
  | .hbm, ⟨13, _⟩ => ⟨S2048x8, .f32⟩
  | .hbm, ⟨14, _⟩ => ⟨S_, .f32⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .i1⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S_, .f32⟩
  | .hbm, ⟨29, _⟩ => ⟨S2048x8, .f32⟩
  | .hbm, ⟨30, _⟩ => ⟨S2048x8, .i1⟩
  | .hbm, ⟨31, _⟩ => ⟨S_, .f32⟩
  | .hbm, ⟨32, _⟩ => ⟨S2048x8, .f32⟩
  | .hbm, ⟨33, _⟩ => ⟨S2048x8, .f32⟩
  | .hbm, ⟨34, _⟩ => ⟨S_, .f32⟩
  | .hbm, ⟨35, _⟩ => ⟨S2048x8, .f32⟩
  | .hbm, ⟨36, _⟩ => ⟨S2048x8, .i1⟩
  | .hbm, ⟨37, _⟩ => ⟨S_, .f32⟩
  | .hbm, ⟨38, _⟩ => ⟨S2048x8, .f32⟩
  | .hbm, ⟨39, _⟩ => ⟨S2048x8, .f32⟩
  | .hbm, ⟨40, _⟩ => ⟨S2048x8, .f32⟩
  | .hbm, ⟨41, _⟩ => ⟨S2048x8, .f32⟩
  | .hbm, ⟨42, _⟩ => ⟨S_, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2048x8, .f32⟩
  | .hbm, ⟨50, _⟩ => ⟨S2048x8, .i1⟩
  | .hbm, ⟨51, _⟩ => ⟨S_, .f32⟩
  | .hbm, ⟨52, _⟩ => ⟨S2048x8, .f32⟩
  | .hbm, ⟨53, _⟩ => ⟨S2048x8, .f32⟩
  | .hbm, ⟨54, _⟩ => ⟨S2048x8, .f32⟩
  | .hbm, ⟨55, _⟩ => ⟨S2048x8, .f32⟩
  | .hbm, ⟨56, _⟩ => ⟨S2048x8, .f32⟩
  | .hbm, ⟨57, _⟩ => ⟨S_, .f32⟩
  | .hbm, ⟨58, _⟩ => ⟨S2048x8, .f32⟩
  | .hbm, ⟨59, _⟩ => ⟨S2048x8, .f32⟩
  | .hbm, ⟨60, _⟩ => ⟨S2048x8, .f32⟩
  | .hbm, ⟨61, _⟩ => ⟨S_, .f32⟩
  | .hbm, ⟨62, _⟩ => ⟨S_, .f32⟩
  | .hbm, ⟨63, _⟩ => ⟨S2048x8, .f32⟩
  | .hbm, ⟨64, _⟩ => ⟨S_, .f32⟩
  | .hbm, ⟨65, _⟩ => ⟨S_, .f32⟩
  | .hbm, ⟨66, _⟩ => ⟨S2048x8, .f32⟩
  | .hbm, ⟨67, _⟩ => ⟨S2048x8, .f32⟩
  | .hbm, ⟨68, _⟩ => ⟨S2048x8, .f32⟩
  | .hbm, ⟨69, _⟩ => ⟨S2048x8, .f32⟩
  | .hbm, ⟨70, _⟩ => ⟨S_, .f32⟩
  | .hbm, ⟨71, _⟩ => ⟨S8, .f32⟩
  | .hbm, ⟨72, _⟩ => ⟨S1x8, .f32⟩
  | .hbm, ⟨73, _⟩ => ⟨S2048x8, .bf16⟩
  | .hbm, ⟨74, _⟩ => ⟨S_, .i32⟩
  | .hbm, ⟨75, _⟩ => ⟨S_, .bf16⟩
  | .hbm, ⟨76, _⟩ => ⟨S2048x256, .bf16⟩
  | .hbm, ⟨77, _⟩ => ⟨S2048x6144, .bf16⟩
  | .hbm, ⟨78, _⟩ => ⟨S2048x6400, .bf16⟩
  | .hbm, ⟨79, _⟩ => ⟨S_, .i32⟩
  | .hbm, ⟨80, _⟩ => ⟨S_, .f32⟩
  | .hbm, ⟨81, _⟩ => ⟨S1x128, .f32⟩
  | _, _ => ⟨S4x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1_0 : Ref sig .tc := ⟨.hbm, 27, rfl⟩
abbrev main_call0_call0_cst_0 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_cst_1 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_cst_2 : Ref sig .tc := ⟨.hbm, 34, rfl⟩
abbrev main_call0_call0_v17 : Ref sig .tc := ⟨.hbm, 35, rfl⟩
abbrev main_call0_call0_v18 : Ref sig .tc := ⟨.hbm, 36, rfl⟩
abbrev main_call0_call0_cst_3 : Ref sig .tc := ⟨.hbm, 37, rfl⟩
abbrev main_call0_call0_v19 : Ref sig .tc := ⟨.hbm, 38, rfl⟩
abbrev main_call0_call0_v20 : Ref sig .tc := ⟨.hbm, 39, rfl⟩
abbrev main_call0_call0_v21 : Ref sig .tc := ⟨.hbm, 40, rfl⟩
abbrev main_v8_1 : Ref sig .tc := ⟨.hbm, 41, rfl⟩
abbrev main_call0_call0_cst_4 : Ref sig .tc := ⟨.hbm, 42, rfl⟩
abbrev main_call0_call0_cst_5 : Ref sig .tc := ⟨.hbm, 43, rfl⟩
abbrev main_call0_call0_v23 : Ref sig .tc := ⟨.hbm, 44, rfl⟩
abbrev main_call0_call0_cst_6 : Ref sig .tc := ⟨.hbm, 45, rfl⟩
abbrev main_call0_call0_cst_7 : Ref sig .tc := ⟨.hbm, 46, rfl⟩
abbrev main_call0_call0_v24 : Ref sig .tc := ⟨.hbm, 47, rfl⟩
abbrev main_call0_call0_cst_8 : Ref sig .tc := ⟨.hbm, 48, rfl⟩
abbrev main_call0_call0_v25 : Ref sig .tc := ⟨.hbm, 49, rfl⟩
abbrev main_call0_call0_v26 : Ref sig .tc := ⟨.hbm, 50, rfl⟩
abbrev main_call0_call0_cst_9 : Ref sig .tc := ⟨.hbm, 51, rfl⟩
abbrev main_call0_call0_v27 : Ref sig .tc := ⟨.hbm, 52, rfl⟩
abbrev main_call0_call0_v28 : Ref sig .tc := ⟨.hbm, 53, rfl⟩
abbrev main_call0_call0_v29 : Ref sig .tc := ⟨.hbm, 54, rfl⟩
abbrev main_call0_call0_v30 : Ref sig .tc := ⟨.hbm, 55, rfl⟩
abbrev main_call0_call0_v31 : Ref sig .tc := ⟨.hbm, 56, rfl⟩
abbrev main_call0_call0_cst_10 : Ref sig .tc := ⟨.hbm, 57, rfl⟩
abbrev main_call0_call0_v32 : Ref sig .tc := ⟨.hbm, 58, rfl⟩
abbrev main_v8_2 : Ref sig .tc := ⟨.hbm, 59, rfl⟩
abbrev main_v8_0 : Ref sig .tc := ⟨.hbm, 60, rfl⟩
abbrev main_call1_call0_cst : Ref sig .tc := ⟨.hbm, 61, rfl⟩
abbrev main_call1_call0_v0 : Ref sig .tc := ⟨.hbm, 62, rfl⟩
abbrev main_v9 : Ref sig .tc := ⟨.hbm, 63, rfl⟩
abbrev main_call2_call0_cst : Ref sig .tc := ⟨.hbm, 64, rfl⟩
abbrev main_call2_call0_v0 : Ref sig .tc := ⟨.hbm, 65, rfl⟩
abbrev main_v10 : Ref sig .tc := ⟨.hbm, 66, rfl⟩
abbrev main_call3_v0 : Ref sig .tc := ⟨.hbm, 67, rfl⟩
abbrev main_call3_v1 : Ref sig .tc := ⟨.hbm, 68, rfl⟩
abbrev main_v11 : Ref sig .tc := ⟨.hbm, 69, rfl⟩
abbrev main_cst : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_c : Ref sig .tc := ⟨.hbm, 74, rfl⟩
abbrev main_call4_v0 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_c_0 : Ref sig .tc := ⟨.hbm, 79, rfl⟩
abbrev main_call5_v0 : Ref sig .tc := ⟨.hbm, 80, rfl⟩
abbrev main_v18 : Ref sig .tc := ⟨.hbm, 81, rfl⟩

abbrev nD : Nat := 1
abbrev τ : Topo := Topo.v7x

variable {F : FTy → Type} [FloatOps F]
-- ==== AdamWIn.lean ====
abbrev S737x1024 : Shape := ⟨2, ![737, 1024]⟩
abbrev S3x737x1024 : Shape := ⟨3, ![3, 737, 1024]⟩
abbrev S737x512 : Shape := ⟨2, ![737, 512]⟩
abbrev S3x737x512 : Shape := ⟨3, ![3, 737, 512]⟩
abbrev S1x737x512 : Shape := ⟨3, ![1, 737, 512]⟩

abbrev nBuf : Space → Nat
  | .hbm => 9
  | .vmem => 18
  | .smem => 0
  | _ => 0

abbrev bufTy : (tb : Table) → Fin (tcTables nBuf tb) → BufTy
  | .hbm, ⟨0, _⟩ => ⟨S737x1024, .f32⟩
  | .hbm, ⟨1, _⟩ => ⟨S3x737x1024, .bf16⟩
  | .hbm, ⟨2, _⟩ => ⟨S737x1024, .f32⟩
  | .hbm, ⟨3, _⟩ => ⟨S737x1024, .f32⟩
  | .hbm, ⟨4, _⟩ => ⟨S737x1024, .f32⟩
  | .hbm, ⟨5, _⟩ => ⟨S737x1024, .f32⟩
  | .hbm, ⟨6, _⟩ => ⟨S737x1024, .f32⟩
  | .hbm, ⟨7, _⟩ => ⟨S737x1024, .f32⟩
  | .hbm, ⟨8, _⟩ => ⟨S737x1024, .f32⟩
  | .local _ .vmem, ⟨0, _⟩ => ⟨S737x512, .f32⟩
  | .local _ .vmem, ⟨1, _⟩ => ⟨S737x512, .f32⟩
  | .local _ .vmem, ⟨2, _⟩ => ⟨S3x737x512, .bf16⟩
  | .local _ .vmem, ⟨3, _⟩ => ⟨S3x737x512, .bf16⟩
  | .local _ .vmem, ⟨4, _⟩ => ⟨S737x512, .f32⟩
  | .local _ .vmem, ⟨5, _⟩ => ⟨S737x512, .f32⟩
  | .local _ .vmem, ⟨6, _⟩ => ⟨S737x512, .f32⟩
  | .local _ .vmem, ⟨7, _⟩ => ⟨S737x512, .f32⟩
  | .local _ .vmem, ⟨8, _⟩ => ⟨S737x512, .f32⟩
  | .local _ .vmem, ⟨9, _⟩ => ⟨S737x512, .f32⟩
  | .local _ .vmem, ⟨10, _⟩ => ⟨S737x512, .f32⟩
  | .local _ .vmem, ⟨11, _⟩ => ⟨S737x512, .f32⟩
  | .local _ .vmem, ⟨12, _⟩ => ⟨S737x512, .f32⟩
  | .local _ .vmem, ⟨13, _⟩ => ⟨S737x512, .f32⟩
  | .local _ .vmem, ⟨14, _⟩ => ⟨S737x512, .f32⟩
  | .local _ .vmem, ⟨15, _⟩ => ⟨S737x512, .f32⟩
  | .local _ .vmem, ⟨16, _⟩ => ⟨S737x512, .f32⟩
  | .local _ .vmem, ⟨17, _⟩ => ⟨S737x512, .f32⟩
  | _, _ => ⟨S737x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S737x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x737x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S737x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S737x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S737x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S737x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S737x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S737x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S737x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWInIdeal.lean ====
abbrev S737x1024 : Shape := ⟨2, ![737, 1024]⟩
abbrev S3x737x1024 : Shape := ⟨3, ![3, 737, 1024]⟩
abbrev S737x512 : Shape := ⟨2, ![737, 512]⟩
abbrev S3x737x512 : Shape := ⟨3, ![3, 737, 512]⟩
abbrev S1x737x512 : Shape := ⟨3, ![1, 737, 512]⟩

abbrev nBuf : Space → Nat
  | .hbm => 9
  | .vmem => 18
  | .smem => 0
  | _ => 0

abbrev bufTy : (tb : Table) → Fin (tcTables nBuf tb) → BufTy
  | .hbm, ⟨0, _⟩ => ⟨S737x1024, .f32⟩
  | .hbm, ⟨1, _⟩ => ⟨S3x737x1024, .bf16⟩
  | .hbm, ⟨2, _⟩ => ⟨S737x1024, .f32⟩
  | .hbm, ⟨3, _⟩ => ⟨S737x1024, .f32⟩
  | .hbm, ⟨4, _⟩ => ⟨S737x1024, .f32⟩
  | .hbm, ⟨5, _⟩ => ⟨S737x1024, .f32⟩
  | .hbm, ⟨6, _⟩ => ⟨S737x1024, .f32⟩
  | .hbm, ⟨7, _⟩ => ⟨S737x1024, .f32⟩
  | .hbm, ⟨8, _⟩ => ⟨S737x1024, .f32⟩
  | .local _ .vmem, ⟨0, _⟩ => ⟨S737x512, .f32⟩
  | .local _ .vmem, ⟨1, _⟩ => ⟨S737x512, .f32⟩
  | .local _ .vmem, ⟨2, _⟩ => ⟨S3x737x512, .bf16⟩
  | .local _ .vmem, ⟨3, _⟩ => ⟨S3x737x512, .bf16⟩
  | .local _ .vmem, ⟨4, _⟩ => ⟨S737x512, .f32⟩
  | .local _ .vmem, ⟨5, _⟩ => ⟨S737x512, .f32⟩
  | .local _ .vmem, ⟨6, _⟩ => ⟨S737x512, .f32⟩
  | .local _ .vmem, ⟨7, _⟩ => ⟨S737x512, .f32⟩
  | .local _ .vmem, ⟨8, _⟩ => ⟨S737x512, .f32⟩
  | .local _ .vmem, ⟨9, _⟩ => ⟨S737x512, .f32⟩
  | .local _ .vmem, ⟨10, _⟩ => ⟨S737x512, .f32⟩
  | .local _ .vmem, ⟨11, _⟩ => ⟨S737x512, .f32⟩
  | .local _ .vmem, ⟨12, _⟩ => ⟨S737x512, .f32⟩
  | .local _ .vmem, ⟨13, _⟩ => ⟨S737x512, .f32⟩
  | .local _ .vmem, ⟨14, _⟩ => ⟨S737x512, .f32⟩
  | .local _ .vmem, ⟨15, _⟩ => ⟨S737x512, .f32⟩
  | .local _ .vmem, ⟨16, _⟩ => ⟨S737x512, .f32⟩
  | .local _ .vmem, ⟨17, _⟩ => ⟨S737x512, .f32⟩
  | _, _ => ⟨S737x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S737x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x737x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S737x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S737x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S737x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S737x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S737x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S737x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S737x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWInRefIdeal.lean ====
abbrev S737x1024 : Shape := ⟨2, ![737, 1024]⟩
abbrev S3x737x1024 : Shape := ⟨3, ![3, 737, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S737x1024, .f32⟩
  | .hbm, ⟨1, _⟩ => ⟨S3x737x1024, .bf16⟩
  | .hbm, ⟨2, _⟩ => ⟨S737x1024, .f32⟩
  | .hbm, ⟨3, _⟩ => ⟨S737x1024, .f32⟩
  | .hbm, ⟨4, _⟩ => ⟨S737x1024, .f32⟩
  | .hbm, ⟨5, _⟩ => ⟨S3x737x1024, .f32⟩
  | .hbm, ⟨6, _⟩ => ⟨S_, .f32⟩
  | .hbm, ⟨7, _⟩ => ⟨S737x1024, .f32⟩
  | .hbm, ⟨8, _⟩ => ⟨S737x1024, .f32⟩
  | .hbm, ⟨9, _⟩ => ⟨S_, .f32⟩
  | .hbm, ⟨10, _⟩ => ⟨S737x1024, .f32⟩
  | .hbm, ⟨11, _⟩ => ⟨S737x1024, .f32⟩
  | .hbm, ⟨12, _⟩ => ⟨S_, .f32⟩
  | .hbm, ⟨13, _⟩ => ⟨S737x1024, .f32⟩
  | .hbm, ⟨14, _⟩ => ⟨S737x1024, .f32⟩
  | .hbm, ⟨15, _⟩ => ⟨S737x1024, .f32⟩
  | .hbm, ⟨16, _⟩ => ⟨S_, .f32⟩
  | .hbm, ⟨17, _⟩ => ⟨S737x1024, .f32⟩
  | .hbm, ⟨18, _⟩ => ⟨S737x1024, .f32⟩
  | .hbm, ⟨19, _⟩ => ⟨S737x1024, .f32⟩
  | .hbm, ⟨20, _⟩ => ⟨S_, .f32⟩
  | .hbm, ⟨21, _⟩ => ⟨S737x1024, .f32⟩
  | .hbm, ⟨22, _⟩ => ⟨S737x1024, .f32⟩
  | .hbm, ⟨23, _⟩ => ⟨S737x1024, .f32⟩
  | .hbm, ⟨24, _⟩ => ⟨S_, .f32⟩
  | .hbm, ⟨25, _⟩ => ⟨S737x1024, .f32⟩
  | .hbm, ⟨26, _⟩ => ⟨S737x1024, .f32⟩
  | .hbm, ⟨27, _⟩ => ⟨S_, .f32⟩
  | .hbm, ⟨28, _⟩ => ⟨S737x1024, .f32⟩
  | .hbm, ⟨29, _⟩ => ⟨S737x1024, .f32⟩
  | .hbm, ⟨30, _⟩ => ⟨S737x1024, .f32⟩
  | .hbm, ⟨31, _⟩ => ⟨S_, .f32⟩
  | .hbm, ⟨32, _⟩ => ⟨S737x1024, .f32⟩
  | .hbm, ⟨33, _⟩ => ⟨S737x1024, .f32⟩
  | .hbm, ⟨34, _⟩ => ⟨S737x1024, .f32⟩
  | .hbm, ⟨35, _⟩ => ⟨S_, .f32⟩
  | .hbm, ⟨36, _⟩ => ⟨S737x1024, .f32⟩
  | .hbm, ⟨37, _⟩ => ⟨S737x1024, .f32⟩
  | .hbm, ⟨38, _⟩ => ⟨S737x1024, .f32⟩
  | .hbm, ⟨39, _⟩ => ⟨S_, .f32⟩
  | .hbm, ⟨40, _⟩ => ⟨S737x1024, .f32⟩
  | .hbm, ⟨41, _⟩ => ⟨S737x1024, .f32⟩
  | _, _ => ⟨S737x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamWA.lean ====
abbrev S512x128 : Shape := ⟨2, ![512, 128]⟩
abbrev S3x512x128 : Shape := ⟨3, ![3, 512, 128]⟩
abbrev S1x512x128 : Shape := ⟨3, ![1, 512, 128]⟩

abbrev nBuf : Space → Nat
  | .hbm => 9
  | .vmem => 9
  | .smem => 0
  | _ => 0

abbrev bufTy : (tb : Table) → Fin (tcTables nBuf tb) → BufTy
  | .hbm, ⟨0, _⟩ => ⟨S512x128, .f32⟩
  | .hbm, ⟨1, _⟩ => ⟨S3x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .local _ .vmem, ⟨0, _⟩ => ⟨S512x128, .f32⟩
  | .local _ .vmem, ⟨1, _⟩ => ⟨S3x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamWAIdeal.lean ====
abbrev S512x128 : Shape := ⟨2, ![512, 128]⟩
abbrev S3x512x128 : Shape := ⟨3, ![3, 512, 128]⟩
abbrev S1x512x128 : Shape := ⟨3, ![1, 512, 128]⟩

abbrev nBuf : Space → Nat
  | .hbm => 9
  | .vmem => 9
  | .smem => 0
  | _ => 0

abbrev bufTy : (tb : Table) → Fin (tcTables nBuf tb) → BufTy
  | .hbm, ⟨0, _⟩ => ⟨S512x128, .f32⟩
  | .hbm, ⟨1, _⟩ => ⟨S3x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .local _ .vmem, ⟨0, _⟩ => ⟨S512x128, .f32⟩
  | .local _ .vmem, ⟨1, _⟩ => ⟨S3x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamWARefIdeal.lean ====
abbrev S512x128 : Shape := ⟨2, ![512, 128]⟩
abbrev S3x512x128 : Shape := ⟨3, ![3, 512, 128]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S3x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S3x512x128, .f32⟩
  | .hbm, ⟨6, _⟩ => ⟨S_, .f32⟩
  | .hbm, ⟨7, _⟩ => ⟨S512x128, .f32⟩
  | .hbm, ⟨8, _⟩ => ⟨S512x128, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S512x128, .f32⟩
  | .hbm, ⟨14, _⟩ => ⟨S512x128, .f32⟩
  | .hbm, ⟨15, _⟩ => ⟨S512x128, .f32⟩
  | .hbm, ⟨16, _⟩ => ⟨S_, .f32⟩
  | .hbm, ⟨17, _⟩ => ⟨S512x128, .f32⟩
  | .hbm, ⟨18, _⟩ => ⟨S512x128, .f32⟩
  | .hbm, ⟨19, _⟩ => ⟨S512x128, .f32⟩
  | .hbm, ⟨20, _⟩ => ⟨S_, .f32⟩
  | .hbm, ⟨21, _⟩ => ⟨S512x128, .f32⟩
  | .hbm, ⟨22, _⟩ => ⟨S512x128, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S512x128, .f32⟩
  | .hbm, ⟨31, _⟩ => ⟨S_, .f32⟩
  | .hbm, ⟨32, _⟩ => ⟨S512x128, .f32⟩
  | .hbm, ⟨33, _⟩ => ⟨S512x128, .f32⟩
  | .hbm, ⟨34, _⟩ => ⟨S512x128, .f32⟩
  | .hbm, ⟨35, _⟩ => ⟨S_, .f32⟩
  | .hbm, ⟨36, _⟩ => ⟨S512x128, .f32⟩
  | .hbm, ⟨37, _⟩ => ⟨S512x128, .f32⟩
  | .hbm, ⟨38, _⟩ => ⟨S512x128, .f32⟩
  | .hbm, ⟨39, _⟩ => ⟨S_, .f32⟩
  | .hbm, ⟨40, _⟩ => ⟨S512x128, .f32⟩
  | .hbm, ⟨41, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamWB.lean ====
abbrev S256x128 : Shape := ⟨2, ![256, 128]⟩
abbrev S3x256x128 : Shape := ⟨3, ![3, 256, 128]⟩
abbrev S1x256x128 : Shape := ⟨3, ![1, 256, 128]⟩

abbrev nBuf : Space → Nat
  | .hbm => 9
  | .vmem => 9
  | .smem => 0
  | _ => 0

abbrev bufTy : (tb : Table) → Fin (tcTables nBuf tb) → BufTy
  | .hbm, ⟨0, _⟩ => ⟨S256x128, .f32⟩
  | .hbm, ⟨1, _⟩ => ⟨S3x256x128, .bf16⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S256x128, .f32⟩
  | .local _ .vmem, ⟨0, _⟩ => ⟨S256x128, .f32⟩
  | .local _ .vmem, ⟨1, _⟩ => ⟨S3x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamWBIdeal.lean ====
abbrev S256x128 : Shape := ⟨2, ![256, 128]⟩
abbrev S3x256x128 : Shape := ⟨3, ![3, 256, 128]⟩
abbrev S1x256x128 : Shape := ⟨3, ![1, 256, 128]⟩

abbrev nBuf : Space → Nat
  | .hbm => 9
  | .vmem => 9
  | .smem => 0
  | _ => 0

abbrev bufTy : (tb : Table) → Fin (tcTables nBuf tb) → BufTy
  | .hbm, ⟨0, _⟩ => ⟨S256x128, .f32⟩
  | .hbm, ⟨1, _⟩ => ⟨S3x256x128, .bf16⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S256x128, .f32⟩
  | .local _ .vmem, ⟨0, _⟩ => ⟨S256x128, .f32⟩
  | .local _ .vmem, ⟨1, _⟩ => ⟨S3x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamWBRefIdeal.lean ====
abbrev S256x128 : Shape := ⟨2, ![256, 128]⟩
abbrev S3x256x128 : Shape := ⟨3, ![3, 256, 128]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S3x256x128, .bf16⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S3x256x128, .f32⟩
  | .hbm, ⟨6, _⟩ => ⟨S_, .f32⟩
  | .hbm, ⟨7, _⟩ => ⟨S256x128, .f32⟩
  | .hbm, ⟨8, _⟩ => ⟨S256x128, .f32⟩
  | .hbm, ⟨9, _⟩ => ⟨S_, .f32⟩
  | .hbm, ⟨10, _⟩ => ⟨S256x128, .f32⟩
  | .hbm, ⟨11, _⟩ => ⟨S256x128, .f32⟩
  | .hbm, ⟨12, _⟩ => ⟨S_, .f32⟩
  | .hbm, ⟨13, _⟩ => ⟨S256x128, .f32⟩
  | .hbm, ⟨14, _⟩ => ⟨S256x128, .f32⟩
  | .hbm, ⟨15, _⟩ => ⟨S256x128, .f32⟩
  | .hbm, ⟨16, _⟩ => ⟨S_, .f32⟩
  | .hbm, ⟨17, _⟩ => ⟨S256x128, .f32⟩
  | .hbm, ⟨18, _⟩ => ⟨S256x128, .f32⟩
  | .hbm, ⟨19, _⟩ => ⟨S256x128, .f32⟩
  | .hbm, ⟨20, _⟩ => ⟨S_, .f32⟩
  | .hbm, ⟨21, _⟩ => ⟨S256x128, .f32⟩
  | .hbm, ⟨22, _⟩ => ⟨S256x128, .f32⟩
  | .hbm, ⟨23, _⟩ => ⟨S256x128, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S_, .f32⟩
  | .hbm, ⟨28, _⟩ => ⟨S256x128, .f32⟩
  | .hbm, ⟨29, _⟩ => ⟨S256x128, .f32⟩
  | .hbm, ⟨30, _⟩ => ⟨S256x128, .f32⟩
  | .hbm, ⟨31, _⟩ => ⟨S_, .f32⟩
  | .hbm, ⟨32, _⟩ => ⟨S256x128, .f32⟩
  | .hbm, ⟨33, _⟩ => ⟨S256x128, .f32⟩
  | .hbm, ⟨34, _⟩ => ⟨S256x128, .f32⟩
  | .hbm, ⟨35, _⟩ => ⟨S_, .f32⟩
  | .hbm, ⟨36, _⟩ => ⟨S256x128, .f32⟩
  | .hbm, ⟨37, _⟩ => ⟨S256x128, .f32⟩
  | .hbm, ⟨38, _⟩ => ⟨S256x128, .f32⟩
  | .hbm, ⟨39, _⟩ => ⟨S_, .f32⟩
  | .hbm, ⟨40, _⟩ => ⟨S256x128, .f32⟩
  | .hbm, ⟨41, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamWOut.lean ====
abbrev S128x1024 : Shape := ⟨2, ![128, 1024]⟩
abbrev S3x128x1024 : Shape := ⟨3, ![3, 128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S3x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamWOutIdeal.lean ====
abbrev S128x1024 : Shape := ⟨2, ![128, 1024]⟩
abbrev S3x128x1024 : Shape := ⟨3, ![3, 128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S3x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamWOutRefIdeal.lean ====
abbrev S128x1024 : Shape := ⟨2, ![128, 1024]⟩
abbrev S3x128x1024 : Shape := ⟨3, ![3, 128, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S3x128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamWUp.lean ====
abbrev S1024x512 : Shape := ⟨2, ![1024, 512]⟩
abbrev S3x1024x512 : Shape := ⟨3, ![3, 1024, 512]⟩
abbrev S512x512 : Shape := ⟨2, ![512, 512]⟩
abbrev S3x512x512 : Shape := ⟨3, ![3, 512, 512]⟩
abbrev S1x512x512 : Shape := ⟨3, ![1, 512, 512]⟩

abbrev nBuf : Space → Nat
  | .hbm => 9
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S3x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S3x512x512, .bf16⟩
  | .local _ .vmem, ⟨3, _⟩ => ⟨S3x512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWUpIdeal.lean ====
abbrev S1024x512 : Shape := ⟨2, ![1024, 512]⟩
abbrev S3x1024x512 : Shape := ⟨3, ![3, 1024, 512]⟩
abbrev S512x512 : Shape := ⟨2, ![512, 512]⟩
abbrev S3x512x512 : Shape := ⟨3, ![3, 512, 512]⟩
abbrev S1x512x512 : Shape := ⟨3, ![1, 512, 512]⟩

abbrev nBuf : Space → Nat
  | .hbm => 9
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S3x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S3x512x512, .bf16⟩
  | .local _ .vmem, ⟨3, _⟩ => ⟨S3x512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWUpRefIdeal.lean ====
abbrev S1024x512 : Shape := ⟨2, ![1024, 512]⟩
abbrev S3x1024x512 : Shape := ⟨3, ![3, 1024, 512]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S3x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S3x1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S_, .f32⟩
  | .hbm, ⟨40, _⟩ => ⟨S1024x512, .f32⟩
  | .hbm, ⟨41, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamWDown.lean ====
abbrev S512x1024 : Shape := ⟨2, ![512, 1024]⟩
abbrev S3x512x1024 : Shape := ⟨3, ![3, 512, 1024]⟩
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S3x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S3x256x1024, .bf16⟩
  | .local _ .vmem, ⟨3, _⟩ => ⟨S3x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWDownRefIdeal.lean ====
abbrev S512x1024 : Shape := ⟨2, ![512, 1024]⟩
abbrev S3x512x1024 : Shape := ⟨3, ![3, 512, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S3x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S3x512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S_, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S_, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S_, .f32⟩
  | .hbm, ⟨40, _⟩ => ⟨S512x1024, .f32⟩
  | .hbm, ⟨41, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== SmallAdam.lean ====
abbrev S8x32x128 : Shape := ⟨3, ![8, 32, 128]⟩
abbrev S32x128 : Shape := ⟨2, ![32, 128]⟩
abbrev S1x1 : Shape := ⟨2, ![1, 1]⟩
abbrev S1x1024 : Shape := ⟨2, ![1, 1024]⟩
abbrev S1x8 : Shape := ⟨2, ![1, 8]⟩
abbrev S1x32x128 : Shape := ⟨3, ![1, 32, 128]⟩
abbrev S1x128 : Shape := ⟨2, ![1, 128]⟩

abbrev nBuf : Space → Nat
  | .hbm => 21
  | .vmem => 21
  | .smem => 0
  | _ => 0

abbrev bufTy : (tb : Table) → Fin (tcTables nBuf tb) → BufTy
  | .hbm, ⟨0, _⟩ => ⟨S8x32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S1x1, .f32⟩
  | .hbm, ⟨5, _⟩ => ⟨S1x1024, .f32⟩
  | .hbm, ⟨6, _⟩ => ⟨S1x8, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x8, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x8, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x8, .f32⟩
  | .hbm, ⟨19, _⟩ => ⟨S1x1024, .f32⟩
  | .hbm, ⟨20, _⟩ => ⟨S1x1024, .f32⟩
  | .local _ .vmem, ⟨0, _⟩ => ⟨S8x32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S1x1, .f32⟩
  | .local _ .vmem, ⟨5, _⟩ => ⟨S1x1024, .f32⟩
  | .local _ .vmem, ⟨6, _⟩ => ⟨S1x8, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x8, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x8, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x8, .f32⟩
  | .local _ .vmem, ⟨19, _⟩ => ⟨S1x1024, .f32⟩
  | .local _ .vmem, ⟨20, _⟩ => ⟨S1x1024, .f32⟩
  | _, _ => ⟨S8x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev main_v0_8 : Ref sig .tc := ⟨.hbm, 12, rfl⟩
abbrev main_v0_9 : Ref sig .tc := ⟨.hbm, 13, rfl⟩
abbrev main_v0_10 : Ref sig .tc := ⟨.hbm, 14, rfl⟩
abbrev main_v0_11 : Ref sig .tc := ⟨.hbm, 15, rfl⟩
abbrev main_v0_12 : Ref sig .tc := ⟨.hbm, 16, rfl⟩
abbrev main_v0_13 : Ref sig .tc := ⟨.hbm, 17, rfl⟩
abbrev main_v0_14 : Ref sig .tc := ⟨.hbm, 18, rfl⟩
abbrev main_v0_15 : Ref sig .tc := ⟨.hbm, 19, rfl⟩
abbrev main_v0_16 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S8x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== SmallAdamRefIdeal.lean ====
abbrev S8x32x128 : Shape := ⟨3, ![8, 32, 128]⟩
abbrev S32x128 : Shape := ⟨2, ![32, 128]⟩
abbrev S_ : Shape := ⟨0, ![]⟩
abbrev S1x1 : Shape := ⟨2, ![1, 1]⟩
abbrev S8x128 : Shape := ⟨2, ![8, 128]⟩
abbrev S1x1024 : Shape := ⟨2, ![1, 1024]⟩
abbrev S1x8 : Shape := ⟨2, ![1, 8]⟩

abbrev nBuf : Space → Nat
  | .hbm => 68
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S_, .f32⟩
  | .hbm, ⟨5, _⟩ => ⟨S32x128, .f32⟩
  | .hbm, ⟨6, _⟩ => ⟨S1x1, .f32⟩
  | .hbm, ⟨7, _⟩ => ⟨S_, .f32⟩
  | .hbm, ⟨8, _⟩ => ⟨S32x128, .f32⟩
  | .hbm, ⟨9, _⟩ => ⟨S32x128, .f32⟩
  | .hbm, ⟨10, _⟩ => ⟨S_, .f32⟩
  | .hbm, ⟨11, _⟩ => ⟨S32x128, .f32⟩
  | .hbm, ⟨12, _⟩ => ⟨S32x128, .f32⟩
  | .hbm, ⟨13, _⟩ => ⟨S32x128, .f32⟩
  | .hbm, ⟨14, _⟩ => ⟨S_, .f32⟩
  | .hbm, ⟨15, _⟩ => ⟨S32x128, .f32⟩
  | .hbm, ⟨16, _⟩ => ⟨S32x128, .f32⟩
  | .hbm, ⟨17, _⟩ => ⟨S32x128, .f32⟩
  | .hbm, ⟨18, _⟩ => ⟨S_, .f32⟩
  | .hbm, ⟨19, _⟩ => ⟨S32x128, .f32⟩
  | .hbm, ⟨20, _⟩ => ⟨S32x128, .f32⟩
  | .hbm, ⟨21, _⟩ => ⟨S32x128, .f32⟩
  | .hbm, ⟨22, _⟩ => ⟨S_, .f32⟩
  | .hbm, ⟨23, _⟩ => ⟨S32x128, .f32⟩
  | .hbm, ⟨24, _⟩ => ⟨S32x128, .f32⟩
  | .hbm, ⟨25, _⟩ => ⟨S_, .f32⟩
  | .hbm, ⟨26, _⟩ => ⟨S32x128, .f32⟩
  | .hbm, ⟨27, _⟩ => ⟨S32x128, .f32⟩
  | .hbm, ⟨28, _⟩ => ⟨S32x128, .f32⟩
  | .hbm, ⟨29, _⟩ => ⟨S_, .f32⟩
  | .hbm, ⟨30, _⟩ => ⟨S32x128, .f32⟩
  | .hbm, ⟨31, _⟩ => ⟨S32x128, .f32⟩
  | .hbm, ⟨32, _⟩ => ⟨S32x128, .f32⟩
  | .hbm, ⟨33, _⟩ => ⟨S_, .f32⟩
  | .hbm, ⟨34, _⟩ => ⟨S32x128, .f32⟩
  | .hbm, ⟨35, _⟩ => ⟨S32x128, .f32⟩
  | .hbm, ⟨36, _⟩ => ⟨S32x128, .f32⟩
  | .hbm, ⟨37, _⟩ => ⟨S_, .f32⟩
  | .hbm, ⟨38, _⟩ => ⟨S32x128, .f32⟩
  | .hbm, ⟨39, _⟩ => ⟨S32x128, .f32⟩
  | .hbm, ⟨40, _⟩ => ⟨S8x128, .f32⟩
  | .hbm, ⟨41, _⟩ => ⟨S1x1024, .f32⟩
  | .hbm, ⟨42, _⟩ => ⟨S1x8, .f32⟩
  | .hbm, ⟨43, _⟩ => ⟨S8x128, .f32⟩
  | .hbm, ⟨44, _⟩ => ⟨S1x1024, .f32⟩
  | .hbm, ⟨45, _⟩ => ⟨S8x128, .f32⟩
  | .hbm, ⟨46, _⟩ => ⟨S1x1024, .f32⟩
  | .hbm, ⟨47, _⟩ => ⟨S8x128, .f32⟩
  | .hbm, ⟨48, _⟩ => ⟨S1x1024, .f32⟩
  | .hbm, ⟨49, _⟩ => ⟨S1x8, .f32⟩
  | .hbm, ⟨50, _⟩ => ⟨S8x128, .f32⟩
  | .hbm, ⟨51, _⟩ => ⟨S1x1024, .f32⟩
  | .hbm, ⟨52, _⟩ => ⟨S8x128, .f32⟩
  | .hbm, ⟨53, _⟩ => ⟨S1x1024, .f32⟩
  | .hbm, ⟨54, _⟩ => ⟨S8x128, .f32⟩
  | .hbm, ⟨55, _⟩ => ⟨S1x1024, .f32⟩
  | .hbm, ⟨56, _⟩ => ⟨S1x8, .f32⟩
  | .hbm, ⟨57, _⟩ => ⟨S8x128, .f32⟩
  | .hbm, ⟨58, _⟩ => ⟨S1x1024, .f32⟩
  | .hbm, ⟨59, _⟩ => ⟨S8x128, .f32⟩
  | .hbm, ⟨60, _⟩ => ⟨S1x1024, .f32⟩
  | .hbm, ⟨61, _⟩ => ⟨S8x128, .f32⟩
  | .hbm, ⟨62, _⟩ => ⟨S1x1024, .f32⟩
  | .hbm, ⟨63, _⟩ => ⟨S1x8, .f32⟩
  | .hbm, ⟨64, _⟩ => ⟨S8x128, .f32⟩
  | .hbm, ⟨65, _⟩ => ⟨S1x1024, .f32⟩
  | .hbm, ⟨66, _⟩ => ⟨S8x128, .f32⟩
  | .hbm, ⟨67, _⟩ => ⟨S1x1024, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Proof.FoxRun.lean ====
/-
  The kernel body at one grid point, run once for each place a point has in its pair of heads.
-/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

/-- The grid point at head pair `hp` and query block `t`. -/
abbrev pt (hp t : Fin 4) : grid0.Coords := fun a => match a with
  | ⟨0, _⟩ => hp
  | ⟨1, _⟩ => t

/-! ## The offsets in closed form -/

instance (hp : Fin 4) : ClosedOff (k0_off1 (pt hp 2)) := ⟨![0], by revert hp; decide +kernel⟩
instance (hp : Fin 4) : ClosedOff (k0_off1 (pt hp 3)) := ⟨![1], by revert hp; decide +kernel⟩
instance (hp : Fin 4) : ClosedOff (k0_off2 (pt hp 2)) := ⟨![0, 128 * hp.val], by revert hp; decide +kernel⟩
instance (hp : Fin 4) : ClosedOff (k0_off2 (pt hp 3)) := ⟨![512, 128 * hp.val], by revert hp; decide +kernel⟩
instance (hp : Fin 4) : ClosedOff (k0_off3 (pt hp 2)) := ⟨![0, 0, 0], by revert hp; decide +kernel⟩
instance (hp : Fin 4) : ClosedOff (k0_off3 (pt hp 3)) := ⟨![1, 0, 0], by revert hp; decide +kernel⟩
instance (hp : Fin 4) : ClosedOff (k0_off4 (pt hp 0)) := ⟨![0, 0, 0], by revert hp; decide +kernel⟩
instance (hp : Fin 4) : ClosedOff (k0_off5 (pt hp 0)) := ⟨![0, 0, 64], by revert hp; decide +kernel⟩
instance (hp : Fin 4) : ClosedOff (k0_off6 (pt hp 1)) := ⟨![1, 0, 0], by revert hp; decide +kernel⟩
instance (hp : Fin 4) : ClosedOff (k0_off7 (pt hp 1)) := ⟨![1, 0, 64], by revert hp; decide +kernel⟩
instance (hp : Fin 4) : ClosedOff (k0_off8 (pt hp 2)) := ⟨![0, 0, 0], by revert hp; decide +kernel⟩
instance (hp : Fin 4) : ClosedOff (k0_off9 (pt hp 2)) := ⟨![0, 0, 64], by revert hp; decide +kernel⟩
instance (hp : Fin 4) : ClosedOff (k0_off10 (pt hp 3)) := ⟨![1, 0, 0], by revert hp; decide +kernel⟩
instance (hp : Fin 4) : ClosedOff (k0_off11 (pt hp 3)) := ⟨![1, 0, 64], by revert hp; decide +kernel⟩
instance (hp : Fin 4) : ClosedOff (k0_off12 (pt hp 0)) := ⟨![0], by revert hp; decide +kernel⟩
instance (hp : Fin 4) : ClosedOff (k0_off12 (pt hp 1)) := ⟨![1], by revert hp; decide +kernel⟩
instance (hp : Fin 4) : ClosedOff (k0_off12 (pt hp 2)) := ⟨![0], by revert hp; decide +kernel⟩
instance (hp : Fin 4) : ClosedOff (k0_off12 (pt hp 3)) := ⟨![1], by revert hp; decide +kernel⟩
instance (hp : Fin 4) : ClosedOff (k0_off13 (pt hp 0)) := ⟨![0, 128 * hp.val], by revert hp; decide +kernel⟩
instance (hp : Fin 4) : ClosedOff (k0_off13 (pt hp 1)) := ⟨![512, 128 * hp.val], by revert hp; decide +kernel⟩
instance (hp : Fin 4) : ClosedOff (k0_off13 (pt hp 2)) := ⟨![1024, 128 * hp.val], by revert hp; decide +kernel⟩
instance (hp : Fin 4) : ClosedOff (k0_off13 (pt hp 3)) := ⟨![1536, 128 * hp.val], by revert hp; decide +kernel⟩
instance (hp : Fin 4) : ClosedOff (k0_off14 (pt hp 0)) := ⟨![0, 0, 0], by revert hp; decide +kernel⟩
instance (hp : Fin 4) : ClosedOff (k0_off14 (pt hp 1)) := ⟨![1, 0, 0], by revert hp; decide +kernel⟩
instance (hp : Fin 4) : ClosedOff (k0_off14 (pt hp 2)) := ⟨![0, 0, 0], by revert hp; decide +kernel⟩
instance (hp : Fin 4) : ClosedOff (k0_off14 (pt hp 3)) := ⟨![1, 0, 0], by revert hp; decide +kernel⟩
instance (hp : Fin 4) : ClosedOff (k0_off15 (pt hp 3)) := ⟨![0], by revert hp; decide +kernel⟩
instance (hp : Fin 4) : ClosedOff (k0_off16 (pt hp 3)) := ⟨![1024, 128 * hp.val], by revert hp; decide +kernel⟩
instance (hp : Fin 4) : ClosedOff (k0_off17 (pt hp 3)) := ⟨![0, 0, 0], by revert hp; decide +kernel⟩
instance (hp : Fin 4) : ClosedOff (k0_off18 (pt hp 3)) := ⟨![1], by revert hp; decide +kernel⟩
instance (hp : Fin 4) : ClosedOff (k0_off19 (pt hp 3)) := ⟨![1536, 128 * hp.val], by revert hp; decide +kernel⟩
instance (hp : Fin 4) : ClosedOff (k0_off20 (pt hp 3)) := ⟨![1, 0, 0], by revert hp; decide +kernel⟩
instance (hp : Fin 4) : ClosedOff (k0_off21 (pt hp 3) 512#32) := ⟨![0, 512 + 128 * hp.val], by revert hp; decide +kernel⟩
instance (hp : Fin 4) : ClosedOff (k0_off21 (pt hp 3) 1024#32) := ⟨![0, 1024 + 128 * hp.val], by revert hp; decide +kernel⟩

/-! ## The windows the copies move -/

theorem dqInb (hp : Fin 4) (r : ℕ) (hr : r + 512 ≤ 2048) : ∀ a, (![r, 128 * hp.val] : Fin 2 → ℕ) a + S512x128.size a ≤ S2048x6400.size a := by
  intro a; have := hp.isLt
  match a with
  | ⟨0, _⟩ => exact hr
  | ⟨1, _⟩ => show 128 * hp.val + 128 ≤ 6400; omega
theorem kvInb (hp : Fin 4) (q : ℕ) (hq : q ≤ 1024) : ∀ a, (![0, q + 128 * hp.val] : Fin 2 → ℕ) a + S2048x128.size a ≤ S2048x6400.size a := by
  intro a; have := hp.isLt
  match a with
  | ⟨0, _⟩ => exact le_rfl
  | ⟨1, _⟩ => show q + 128 * hp.val + 128 ≤ 6400; omega

/-- Rows `r … r + 511` of the pair's columns of the query gradient. -/
abbrev dqW (hp : Fin 4) (r : ℕ) (hr : r + 512 ≤ 2048) : Memref sig .tc .hbm S512x128 .bf16 :=
  (Memref.whole main_v85_0 : Memref sig .tc .hbm S2048x6400 .bf16).slice (Rect.unit (s := S2048x6400) ![r, 128 * hp.val] S512x128.size (dqInb hp r hr)) (fun _ => rfl)
/-- The pair's columns of the key gradient (`q = 512`) or of the value gradient (`q = 1024`). -/
abbrev kvW (hp : Fin 4) (q : ℕ) (hq : q ≤ 1024) : Memref sig .tc .hbm S2048x128 .bf16 :=
  (Memref.whole main_v85_0 : Memref sig .tc .hbm S2048x6400 .bf16).slice (Rect.unit (s := S2048x6400) ![0, q + 128 * hp.val] S2048x128.size (kvInb hp q hq)) (fun _ => rfl)

theorem slotInb (s : ℕ) (hs : s < 2) : ∀ a, (![s, 0, 0] : Fin 3 → ℕ) a + S1x512x128.size a ≤ S2x512x128.size a := by
  intro a
  match a with
  | ⟨0, _⟩ => exact hs
  | ⟨1, _⟩ => exact le_rfl
  | ⟨2, _⟩ => exact le_rfl
/-- Slot `s` of the query gradient's buffer. -/
abbrev slotM (s : ℕ) (hs : s < 2) : Memref sig .tc .vmem S512x128 .bf16 :=
  ((Memref.whole cc0_scratch2 : Memref sig .tc .vmem S2x512x128 .bf16).slice (Rect.unit (s := S2x512x128) ![s, 0, 0] S1x512x128.size (slotInb s hs)) (fun _ => rfl)).squeeze S512x128 squeezes_S1x512x128_S512x128

abbrev HBuf (c : Dev nD) {sp : Space} {S : Shape} {e : EltTy} (M : Memref sig .tc sp S e) : Type := Buf (Elt F) (M.view.loc (c : Thread nD τ))
/-- `M`'s elements at contents `f`. -/
abbrev held (c : Dev nD) {sp : Space} {S : Shape} {e : EltTy} (M : Memref sig .tc sp S e) (f : HBuf (F := F) c M) : sProp 𝕄 :=
  M.view.loc (c : Thread nD τ) ↦[M.view.set]{fullShare} f
/-- A copy of slot `s` to rows `r …` under way on cell `k`. -/
abbrev flying (c : Dev nD) (k : DmaSem sig) (hp : Fin 4) (r : ℕ) (hr : r + 512 ≤ 2048) (s : ℕ) (hs : s < 2)
    (g : HBuf (F := F) c (dqW hp r hr)) (h : HBuf (F := F) c (slotM s hs)) : sProp 𝕄 :=
  Transfers.Flight (countersEmb (U := Pipeline.UD sig nD τ)) (c : Thread nD τ) (.dma k) default (4096)
    iprop(held c (dqW hp r hr) g ∗ held c (slotM s hs) h)

abbrev sc0 : Memref sig .tc .vmem S2048x128 .f32 := Memref.whole cc0_scratch0
abbrev sc1 : Memref sig .tc .vmem S2048x128 .f32 := Memref.whole cc0_scratch1
abbrev sc2 : Memref sig .tc .vmem S2x512x128 .bf16 := Memref.whole cc0_scratch2
abbrev sc3 : Memref sig .tc .vmem S2x2048x128 .bf16 := Memref.whole cc0_scratch3
abbrev hb : Memref sig .tc .hbm S2048x6400 .bf16 := Memref.whole main_v85_0

/-! ## The copies' ends, in the windows' spelling -/

/-- The cell of slot `s`'s copies. -/
abbrev cellM (s : ℕ) (hs : s < 2) : DmaSem sig :=
  ((SemArray.slice (cc0_scratch4 : DmaSems sig S2) (Rect.unit (s := S2) ![s] S1.size (fun a => match a with | ⟨0, _⟩ => hs))).squeeze S_ squeezes_S1_S_).sem
theorem cell_eq (off : Fin 1 → ℕ) (s : ℕ) (hs : s < 2) (h : off = ![s]) (p : ∀ a, off a + S1.size a ≤ S2.size a) (q) :
    ((SemArray.slice (cc0_scratch4 : DmaSems sig S2) (Rect.unit (s := S2) off S1.size p)).squeeze S_ q).sem = cellM s hs := by
  subst h; rfl
theorem dq_eq (off : Fin 2 → ℕ) (hp : Fin 4) (r : ℕ) (hr : r + 512 ≤ 2048) (h : off = ![r, 128 * hp.val])
    (p : ∀ a, off a + S512x128.size a ≤ S2048x6400.size a) (q) :
    hb.slice (Rect.unit (s := S2048x6400) off S512x128.size p) q = dqW hp r hr := by
  subst h; rfl
theorem slot_eq (off : Fin 3 → ℕ) (s : ℕ) (hs : s < 2) (h : off = ![s, 0, 0]) (p : ∀ a, off a + S1x512x128.size a ≤ S2x512x128.size a) (q q') :
    (sc2.slice (Rect.unit (s := S2x512x128) off S1x512x128.size p) q).squeeze S512x128 q' = slotM s hs := by
  subst h; rfl
theorem kv_eq (off : Fin 2 → ℕ) (hp : Fin 4) (w : ℕ) (hw : w ≤ 1024) (h : off = ![0, w + 128 * hp.val])
    (p : ∀ a, off a + S2048x128.size a ≤ S2048x6400.size a) (q) :
    hb.slice (Rect.unit (s := S2048x6400) off S2048x128.size p) q = kvW hp w hw := by
  subst h; rfl

/-! ## The conditions in closed form -/

theorem cond3_0 : ∀ hp : Fin 4, ¬ k0_cond3 (pt hp 0) = 1#1 := by decide +kernel
theorem cond4_0 : ∀ hp : Fin 4, k0_cond4 (pt hp 0) = 1#1 := by decide +kernel
theorem cond5_0 : ∀ hp : Fin 4, ¬ k0_cond5 (pt hp 0) = 1#1 := by decide +kernel
theorem cond6_0 : ∀ hp : Fin 4, ¬ k0_cond6 (pt hp 0) = 1#1 := by decide +kernel
theorem cond7_0 : ∀ hp : Fin 4, ¬ k0_cond7 (pt hp 0) = 1#1 := by decide +kernel
theorem cond8_0 : ∀ hp : Fin 4, ¬ k0_cond8 (pt hp 0) = 1#1 := by decide +kernel
theorem cond2_1 : ∀ hp : Fin 4, ¬ k0_cond2 (pt hp 1) = 1#1 := by decide +kernel
theorem cond3_1 : ∀ hp : Fin 4, ¬ k0_cond3 (pt hp 1) = 1#1 := by decide +kernel
theorem cond4_1 : ∀ hp : Fin 4, ¬ k0_cond4 (pt hp 1) = 1#1 := by decide +kernel
theorem cond5_1 : ∀ hp : Fin 4, k0_cond5 (pt hp 1) = 1#1 := by decide +kernel
theorem cond6_1 : ∀ hp : Fin 4, ¬ k0_cond6 (pt hp 1) = 1#1 := by decide +kernel
theorem cond7_1 : ∀ hp : Fin 4, ¬ k0_cond7 (pt hp 1) = 1#1 := by decide +kernel
theorem cond8_1 : ∀ hp : Fin 4, ¬ k0_cond8 (pt hp 1) = 1#1 := by decide +kernel
theorem cond2_2 : ∀ hp : Fin 4, ¬ k0_cond2 (pt hp 2) = 1#1 := by decide +kernel
theorem cond3_2 : ∀ hp : Fin 4, k0_cond3 (pt hp 2) = 1#1 := by decide +kernel
theorem cond4_2 : ∀ hp : Fin 4, ¬ k0_cond4 (pt hp 2) = 1#1 := by decide +kernel
theorem cond5_2 : ∀ hp : Fin 4, ¬ k0_cond5 (pt hp 2) = 1#1 := by decide +kernel
theorem cond6_2 : ∀ hp : Fin 4, k0_cond6 (pt hp 2) = 1#1 := by decide +kernel
theorem cond7_2 : ∀ hp : Fin 4, ¬ k0_cond7 (pt hp 2) = 1#1 := by decide +kernel
theorem cond8_2 : ∀ hp : Fin 4, ¬ k0_cond8 (pt hp 2) = 1#1 := by decide +kernel
theorem cond2_3 : ∀ hp : Fin 4, ¬ k0_cond2 (pt hp 3) = 1#1 := by decide +kernel
theorem cond3_3 : ∀ hp : Fin 4, k0_cond3 (pt hp 3) = 1#1 := by decide +kernel
theorem cond4_3 : ∀ hp : Fin 4, ¬ k0_cond4 (pt hp 3) = 1#1 := by decide +kernel
theorem cond5_3 : ∀ hp : Fin 4, ¬ k0_cond5 (pt hp 3) = 1#1 := by decide +kernel
theorem cond6_3 : ∀ hp : Fin 4, ¬ k0_cond6 (pt hp 3) = 1#1 := by decide +kernel
theorem cond7_3 : ∀ hp : Fin 4, k0_cond7 (pt hp 3) = 1#1 := by decide +kernel
theorem cond8_3 : ∀ hp : Fin 4, k0_cond8 (pt hp 3) = 1#1 := by decide +kernel

section Runs

variable (c : Dev nD) (hp : Fin 4)
  (arg2 : Memref sig .tc .vmem S512x256 .bf16) (harg2 : arg2.IsWhole) (arg3 : Memref sig .tc .vmem S2048x256 .bf16) (harg3 : arg3.IsWhole)
  (arg4 : Memref sig .tc .vmem S2048x128 .bf16) (harg4 : arg4.IsWhole) (arg5 : Memref sig .tc .vmem S1x512x128 .f32) (harg5 : arg5.IsWhole)
  (arg6 : Memref sig .tc .vmem S512x128 .bf16) (harg6 : arg6.IsWhole)
  (arg9 : Memref sig .tc .vmem S1x512x128 .f32) (harg9 : arg9.IsWhole) (arg10 : Memref sig .tc .vmem S8x2048 .f32) (harg10 : arg10.IsWhole)

/-- The body at the grid point `(hp, t)`. -/
abbrev bodyP (t : Fin 4) : Prog (TpuEff nD τ sig (Elt F) Λ₀ .tc) PUnit :=
  cc0_fox_bwd (pt hp t) arg2 harg2 arg3 harg3 arg4 harg4 arg5 harg5 arg6 harg6 hb (Memref.isWhole_whole _) hb (Memref.isWhole_whole _)
    arg9 harg9 arg10 harg10 sc0 (Memref.isWhole_whole _) sc1 (Memref.isWhole_whole _) sc2 (Memref.isWhole_whole _) sc3 (Memref.isWhole_whole _)
    cc0_scratch4 cc0_scratch5

set_option maxHeartbeats 400000 in
/-- The run at the first point of all: what it leaves in the buffers it writes. -/
def run0A (x2 : HBuf (F := F) c arg2) (x3 : HBuf (F := F) c arg3) (x4 : HBuf (F := F) c arg4) (x5 : HBuf (F := F) c arg5) (x6 : HBuf (F := F) c arg6)
    (h2 : k0_cond2 (pt hp 0) = 1#1) (f9 : HBuf (F := F) c arg9) (f10 : HBuf (F := F) c arg10) (f0 : HBuf (F := F) c sc0) (f1 : HBuf (F := F) c sc1) (fd : HBuf (F := F) c (dqW hp 0 (by decide))) (fs : HBuf (F := F) c (slotM 0 (by decide))) :
    { R : HBuf (F := F) c arg9 × HBuf (F := F) c arg10 × HBuf (F := F) c sc0 × HBuf (F := F) c sc1 × HBuf (F := F) c (dqW hp 0 (by decide)) × HBuf (F := F) c (slotM 0 (by decide)) //
      ∀ (W : Waits sig Unit) (K : PUnit → sProp 𝕄),
        iprop(held c arg2 x2 ∗ held c arg3 x3 ∗ held c arg4 x4 ∗ held c arg5 x5 ∗ held c arg6 x6
            ∗ held c arg9 f9
            ∗ held c arg10 f10
            ∗ held c sc0 f0
            ∗ held c sc1 f1
            ∗ held c (slotM 0 (by decide)) fs
            ∗ semVal ((c : Thread nD τ), SemLoc.dma ⟨13, by decide⟩) 0
            ∗ held c (dqW hp 0 (by decide)) fd
            ∗ owes (c : Thread nD τ) 0 W
            ∗ (iprop(held c arg2 x2 ∗ held c arg3 x3 ∗ held c arg4 x4 ∗ held c arg5 x5 ∗ held c arg6 x6
                ∗ held c arg9 R.1
            ∗ held c arg10 R.2.1
            ∗ held c sc0 R.2.2.1
            ∗ held c sc1 R.2.2.2.1
            ∗ flying c ⟨13, by decide⟩ hp 0 (by decide) 0 (by decide) R.2.2.2.2.1 R.2.2.2.2.2
                ∗ (∃ W', owes (c : Thread nD τ) 0 W')) -∗ K ⟨⟩))
          ⊢ wp frame (wpE (defs₀ (F := F)) Variants.none c none) Set.univ
              (bodyP hp arg2 harg2 arg3 harg3 arg4 harg4 arg5 harg5 arg6 harg6 arg9 harg9 arg10 harg10 0) K } := by
  have hc2 : k0_cond2 (pt hp 0) = 1#1 := h2
  have hc3 : ¬ k0_cond3 (pt hp 0) = 1#1 := cond3_0 hp
  have hc4 : k0_cond4 (pt hp 0) = 1#1 := cond4_0 hp
  have hc5 : ¬ k0_cond5 (pt hp 0) = 1#1 := cond5_0 hp
  have hc6 : ¬ k0_cond6 (pt hp 0) = 1#1 := cond6_0 hp
  have hc7 : ¬ k0_cond7 (pt hp 0) = 1#1 := cond7_0 hp
  have hc8 : ¬ k0_cond8 (pt hp 0) = 1#1 := cond8_0 hp
  refine ⟨⟨?_, ?_, ?_, ?_, ?_, ?_⟩, fun W K => ?run⟩
  case run =>
    unfold bodyP
    simp only [cc0_fox_bwd_eq_skeleton]; unfold cc0_fox_bwd_skel
    simp only [k0_part1_eq_skeleton, k0_part2_eq_skeleton, k0_part3_eq_skeleton, k0_part4_eq_skeleton, k0_part18_eq_skeleton]
    simp only [cell_eq (k0_off12 (pt hp 0)) 0 (by decide) ClosedOff.eq, dq_eq (k0_off13 (pt hp 0)) hp 0 (by decide) ClosedOff.eq, slot_eq (k0_off14 (pt hp 0)) 0 (by decide) ClosedOff.eq]
    iintro ⟨H2, H3, H4, H5, H6, H9, H10, HS0, HS1, HSl, Hq, HD, HW, Hk⟩
    sl_exec
    sl_step
    iapply Hk
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [HS0]; · iexact HS0
    isplitl [HS1]; · iexact HS1
    isplitl [Hq]; · iexact Hq
    iexists _; iexact HW

set_option maxHeartbeats 400000 in
/-- The run at the first query block of a later pair: what it leaves in the buffers it writes. -/
def run0B (x2 : HBuf (F := F) c arg2) (x3 : HBuf (F := F) c arg3) (x4 : HBuf (F := F) c arg4) (x5 : HBuf (F := F) c arg5) (x6 : HBuf (F := F) c arg6)
    (h2 : ¬ k0_cond2 (pt hp 0) = 1#1) (f9 : HBuf (F := F) c arg9) (f10 : HBuf (F := F) c arg10) (f0 : HBuf (F := F) c sc0) (f1 : HBuf (F := F) c sc1) (fd : HBuf (F := F) c (dqW hp 0 (by decide))) (fs : HBuf (F := F) c (slotM 0 (by decide))) :
    { R : HBuf (F := F) c arg9 × HBuf (F := F) c arg10 × HBuf (F := F) c sc0 × HBuf (F := F) c sc1 × HBuf (F := F) c (dqW hp 0 (by decide)) × HBuf (F := F) c (slotM 0 (by decide)) //
      ∀ (W : Waits sig Unit) (K : PUnit → sProp 𝕄),
        iprop(held c arg2 x2 ∗ held c arg3 x3 ∗ held c arg4 x4 ∗ held c arg5 x5 ∗ held c arg6 x6
            ∗ held c arg9 f9
            ∗ held c arg10 f10
            ∗ held c sc0 f0
            ∗ held c sc1 f1
            ∗ held c (slotM 0 (by decide)) fs
            ∗ semVal ((c : Thread nD τ), SemLoc.dma ⟨13, by decide⟩) 0
            ∗ held c (dqW hp 0 (by decide)) fd
            ∗ owes (c : Thread nD τ) 0 W
            ∗ (iprop(held c arg2 x2 ∗ held c arg3 x3 ∗ held c arg4 x4 ∗ held c arg5 x5 ∗ held c arg6 x6
                ∗ held c arg9 R.1
            ∗ held c arg10 R.2.1
            ∗ held c sc0 R.2.2.1
            ∗ held c sc1 R.2.2.2.1
            ∗ flying c ⟨13, by decide⟩ hp 0 (by decide) 0 (by decide) R.2.2.2.2.1 R.2.2.2.2.2
                ∗ (∃ W', owes (c : Thread nD τ) 0 W')) -∗ K ⟨⟩))
          ⊢ wp frame (wpE (defs₀ (F := F)) Variants.none c none) Set.univ
              (bodyP hp arg2 harg2 arg3 harg3 arg4 harg4 arg5 harg5 arg6 harg6 arg9 harg9 arg10 harg10 0) K } := by
  have hc2 : ¬ k0_cond2 (pt hp 0) = 1#1 := h2
  have hc3 : ¬ k0_cond3 (pt hp 0) = 1#1 := cond3_0 hp
  have hc4 : k0_cond4 (pt hp 0) = 1#1 := cond4_0 hp
  have hc5 : ¬ k0_cond5 (pt hp 0) = 1#1 := cond5_0 hp
  have hc6 : ¬ k0_cond6 (pt hp 0) = 1#1 := cond6_0 hp
  have hc7 : ¬ k0_cond7 (pt hp 0) = 1#1 := cond7_0 hp
  have hc8 : ¬ k0_cond8 (pt hp 0) = 1#1 := cond8_0 hp
  refine ⟨⟨?_, ?_, ?_, ?_, ?_, ?_⟩, fun W K => ?run⟩
  case run =>
    unfold bodyP
    simp only [cc0_fox_bwd_eq_skeleton]; unfold cc0_fox_bwd_skel
    simp only [k0_part1_eq_skeleton, k0_part2_eq_skeleton, k0_part3_eq_skeleton, k0_part4_eq_skeleton, k0_part18_eq_skeleton]
    simp only [cell_eq (k0_off12 (pt hp 0)) 0 (by decide) ClosedOff.eq, dq_eq (k0_off13 (pt hp 0)) hp 0 (by decide) ClosedOff.eq, slot_eq (k0_off14 (pt hp 0)) 0 (by decide) ClosedOff.eq]
    iintro ⟨H2, H3, H4, H5, H6, H9, H10, HS0, HS1, HSl, Hq, HD, HW, Hk⟩
    sl_exec
    sl_step
    iapply Hk
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [HS0]; · iexact HS0
    isplitl [HS1]; · iexact HS1
    isplitl [Hq]; · iexact Hq
    iexists _; iexact HW

set_option maxHeartbeats 400000 in
/-- The run at the second query block: what it leaves in the buffers it writes. -/
def run1 (x2 : HBuf (F := F) c arg2) (x3 : HBuf (F := F) c arg3) (x4 : HBuf (F := F) c arg4) (x5 : HBuf (F := F) c arg5) (x6 : HBuf (F := F) c arg6)
    (f9 : HBuf (F := F) c arg9) (f10 : HBuf (F := F) c arg10) (f0 : HBuf (F := F) c sc0) (f1 : HBuf (F := F) c sc1) (fd : HBuf (F := F) c (dqW hp 512 (by decide))) (fs : HBuf (F := F) c (slotM 1 (by decide))) :
    { R : HBuf (F := F) c arg9 × HBuf (F := F) c arg10 × HBuf (F := F) c sc0 × HBuf (F := F) c sc1 × HBuf (F := F) c (dqW hp 512 (by decide)) × HBuf (F := F) c (slotM 1 (by decide)) //
      ∀ (W : Waits sig Unit) (K : PUnit → sProp 𝕄),
        iprop(held c arg2 x2 ∗ held c arg3 x3 ∗ held c arg4 x4 ∗ held c arg5 x5 ∗ held c arg6 x6
            ∗ held c arg9 f9
            ∗ held c arg10 f10
            ∗ held c sc0 f0
            ∗ held c sc1 f1
            ∗ held c (slotM 1 (by decide)) fs
            ∗ semVal ((c : Thread nD τ), SemLoc.dma ⟨14, by decide⟩) 0
            ∗ held c (dqW hp 512 (by decide)) fd
            ∗ owes (c : Thread nD τ) 0 W
            ∗ (iprop(held c arg2 x2 ∗ held c arg3 x3 ∗ held c arg4 x4 ∗ held c arg5 x5 ∗ held c arg6 x6
                ∗ held c arg9 R.1
            ∗ held c arg10 R.2.1
            ∗ held c sc0 R.2.2.1
            ∗ held c sc1 R.2.2.2.1
            ∗ flying c ⟨14, by decide⟩ hp 512 (by decide) 1 (by decide) R.2.2.2.2.1 R.2.2.2.2.2
                ∗ (∃ W', owes (c : Thread nD τ) 0 W')) -∗ K ⟨⟩))
          ⊢ wp frame (wpE (defs₀ (F := F)) Variants.none c none) Set.univ
              (bodyP hp arg2 harg2 arg3 harg3 arg4 harg4 arg5 harg5 arg6 harg6 arg9 harg9 arg10 harg10 1) K } := by
  have hc2 : ¬ k0_cond2 (pt hp 1) = 1#1 := cond2_1 hp
  have hc3 : ¬ k0_cond3 (pt hp 1) = 1#1 := cond3_1 hp
  have hc4 : ¬ k0_cond4 (pt hp 1) = 1#1 := cond4_1 hp
  have hc5 : k0_cond5 (pt hp 1) = 1#1 := cond5_1 hp
  have hc6 : ¬ k0_cond6 (pt hp 1) = 1#1 := cond6_1 hp
  have hc7 : ¬ k0_cond7 (pt hp 1) = 1#1 := cond7_1 hp
  have hc8 : ¬ k0_cond8 (pt hp 1) = 1#1 := cond8_1 hp
  refine ⟨⟨?_, ?_, ?_, ?_, ?_, ?_⟩, fun W K => ?run⟩
  case run =>
    unfold bodyP
    simp only [cc0_fox_bwd_eq_skeleton]; unfold cc0_fox_bwd_skel
    simp only [k0_part5_eq_skeleton, k0_part6_eq_skeleton, k0_part7_eq_skeleton, k0_part8_eq_skeleton, k0_part18_eq_skeleton]
    simp only [cell_eq (k0_off12 (pt hp 1)) 1 (by decide) ClosedOff.eq, dq_eq (k0_off13 (pt hp 1)) hp 512 (by decide) ClosedOff.eq, slot_eq (k0_off14 (pt hp 1)) 1 (by decide) ClosedOff.eq]
    iintro ⟨H2, H3, H4, H5, H6, H9, H10, HS0, HS1, HSl, Hq, HD, HW, Hk⟩
    sl_exec
    sl_step
    iapply Hk
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [HS0]; · iexact HS0
    isplitl [HS1]; · iexact HS1
    isplitl [Hq]; · iexact Hq
    iexists _; iexact HW

set_option maxHeartbeats 400000 in
/-- The run at the third query block: what it leaves in the buffers it writes. -/
def run2 (x2 : HBuf (F := F) c arg2) (x3 : HBuf (F := F) c arg3) (x4 : HBuf (F := F) c arg4) (x5 : HBuf (F := F) c arg5) (x6 : HBuf (F := F) c arg6)
    (f9 : HBuf (F := F) c arg9) (f10 : HBuf (F := F) c arg10) (f0 : HBuf (F := F) c sc0) (f1 : HBuf (F := F) c sc1) (fd : HBuf (F := F) c (dqW hp 1024 (by decide))) (g : HBuf (F := F) c (dqW hp 0 (by decide))) (h : HBuf (F := F) c (slotM 0 (by decide))) :
    { R : HBuf (F := F) c arg9 × HBuf (F := F) c arg10 × HBuf (F := F) c sc0 × HBuf (F := F) c sc1 × HBuf (F := F) c (dqW hp 1024 (by decide)) × HBuf (F := F) c (slotM 0 (by decide)) //
      ∀ (W : Waits sig Unit) (K : PUnit → sProp 𝕄),
        iprop(held c arg2 x2 ∗ held c arg3 x3 ∗ held c arg4 x4 ∗ held c arg5 x5 ∗ held c arg6 x6
            ∗ held c arg9 f9
            ∗ held c arg10 f10
            ∗ held c sc0 f0
            ∗ held c sc1 f1
            ∗ flying c ⟨13, by decide⟩ hp 0 (by decide) 0 (by decide) g h
            ∗ held c (dqW hp 1024 (by decide)) fd
            ∗ owes (c : Thread nD τ) 0 W
            ∗ (iprop(held c arg2 x2 ∗ held c arg3 x3 ∗ held c arg4 x4 ∗ held c arg5 x5 ∗ held c arg6 x6
                ∗ held c arg9 R.1
            ∗ held c arg10 R.2.1
            ∗ held c sc0 R.2.2.1
            ∗ held c sc1 R.2.2.2.1
            ∗ flying c ⟨13, by decide⟩ hp 1024 (by decide) 0 (by decide) R.2.2.2.2.1 R.2.2.2.2.2
            ∗ held c (dqW hp 0 (by decide)) g
                ∗ (∃ W', owes (c : Thread nD τ) 0 W')) -∗ K ⟨⟩))
          ⊢ wp frame (wpE (defs₀ (F := F)) Variants.none c none) Set.univ
              (bodyP hp arg2 harg2 arg3 harg3 arg4 harg4 arg5 harg5 arg6 harg6 arg9 harg9 arg10 harg10 2) K } := by
  have hc2 : ¬ k0_cond2 (pt hp 2) = 1#1 := cond2_2 hp
  have hc3 : k0_cond3 (pt hp 2) = 1#1 := cond3_2 hp
  have hc4 : ¬ k0_cond4 (pt hp 2) = 1#1 := cond4_2 hp
  have hc5 : ¬ k0_cond5 (pt hp 2) = 1#1 := cond5_2 hp
  have hc6 : k0_cond6 (pt hp 2) = 1#1 := cond6_2 hp
  have hc7 : ¬ k0_cond7 (pt hp 2) = 1#1 := cond7_2 hp
  have hc8 : ¬ k0_cond8 (pt hp 2) = 1#1 := cond8_2 hp
  refine ⟨⟨?_, ?_, ?_, ?_, ?_, ?_⟩, fun W K => ?run⟩
  case run =>
    unfold bodyP
    simp only [cc0_fox_bwd_eq_skeleton]; unfold cc0_fox_bwd_skel
    simp only [k0_part9_eq_skeleton, k0_part10_eq_skeleton, k0_part11_eq_skeleton, k0_part12_eq_skeleton, k0_part18_eq_skeleton]
    unfold k0_part18_skel
    simp only [cell_eq (k0_off12 (pt hp 2)) 0 (by decide) ClosedOff.eq, dq_eq (k0_off13 (pt hp 2)) hp 1024 (by decide) ClosedOff.eq, slot_eq (k0_off14 (pt hp 2)) 0 (by decide) ClosedOff.eq, cell_eq (k0_off1 (pt hp 2)) 0 (by decide) ClosedOff.eq, dq_eq (k0_off2 (pt hp 2)) hp 0 (by decide) ClosedOff.eq, slot_eq (k0_off3 (pt hp 2)) 0 (by decide) ClosedOff.eq]
    iintro ⟨H2, H3, H4, H5, H6, H9, H10, HS0, HS1, Hq, HD, HW, Hk⟩
    sl_exec
    sl_step
    iapply Hk
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [HS0]; · iexact HS0
    isplitl [HS1]; · iexact HS1
    isplitl [Hq]; · iexact Hq
    isplitl [Hq_dst]; · iexact Hq_dst
    iexists _; iexact HW

set_option maxHeartbeats 400000 in
/-- The run at the last query block: what it leaves in the buffers it writes. -/
def run3 (x2 : HBuf (F := F) c arg2) (x3 : HBuf (F := F) c arg3) (x4 : HBuf (F := F) c arg4) (x5 : HBuf (F := F) c arg5) (x6 : HBuf (F := F) c arg6)
    (f9 : HBuf (F := F) c arg9) (f10 : HBuf (F := F) c arg10) (f0 : HBuf (F := F) c sc0) (f1 : HBuf (F := F) c sc1) (fd : HBuf (F := F) c (dqW hp 1536 (by decide))) (g1 : HBuf (F := F) c (dqW hp 512 (by decide))) (h1 : HBuf (F := F) c (slotM 1 (by decide))) (g0 : HBuf (F := F) c (dqW hp 1024 (by decide))) (h0 : HBuf (F := F) c (slotM 0 (by decide))) (fk : HBuf (F := F) c (kvW hp 512 (by decide))) (fv : HBuf (F := F) c (kvW hp 1024 (by decide))) (f3 : HBuf (F := F) c sc3) :
    { R : HBuf (F := F) c arg9 × HBuf (F := F) c arg10 × HBuf (F := F) c sc0 × HBuf (F := F) c sc1 × HBuf (F := F) c (dqW hp 1536 (by decide)) × HBuf (F := F) c (slotM 1 (by decide)) × HBuf (F := F) c (kvW hp 512 (by decide)) × HBuf (F := F) c (kvW hp 1024 (by decide)) × HBuf (F := F) c sc3 //
      ∀ (W : Waits sig Unit) (K : PUnit → sProp 𝕄),
        iprop(held c arg2 x2 ∗ held c arg3 x3 ∗ held c arg4 x4 ∗ held c arg5 x5 ∗ held c arg6 x6
            ∗ held c arg9 f9
            ∗ held c arg10 f10
            ∗ held c sc0 f0
            ∗ held c sc1 f1
            ∗ flying c ⟨14, by decide⟩ hp 512 (by decide) 1 (by decide) g1 h1
            ∗ flying c ⟨13, by decide⟩ hp 1024 (by decide) 0 (by decide) g0 h0
            ∗ held c (dqW hp 1536 (by decide)) fd
            ∗ held c (kvW hp 512 (by decide)) fk
            ∗ held c (kvW hp 1024 (by decide)) fv
            ∗ held c sc3 f3
            ∗ semVal ((c : Thread nD τ), SemLoc.dma ⟨15, by decide⟩) 0
            ∗ semVal ((c : Thread nD τ), SemLoc.dma ⟨16, by decide⟩) 0
            ∗ owes (c : Thread nD τ) 0 W
            ∗ (iprop(held c arg2 x2 ∗ held c arg3 x3 ∗ held c arg4 x4 ∗ held c arg5 x5 ∗ held c arg6 x6
                ∗ held c arg9 R.1
            ∗ held c arg10 R.2.1
            ∗ held c sc0 R.2.2.1
            ∗ held c sc1 R.2.2.2.1
            ∗ held c (dqW hp 1536 (by decide)) R.2.2.2.2.1
            ∗ held c (slotM 1 (by decide)) R.2.2.2.2.2.1
            ∗ held c (kvW hp 512 (by decide)) R.2.2.2.2.2.2.1
            ∗ held c (kvW hp 1024 (by decide)) R.2.2.2.2.2.2.2.1
            ∗ held c sc3 R.2.2.2.2.2.2.2.2
            ∗ held c (dqW hp 512 (by decide)) g1
            ∗ held c (dqW hp 1024 (by decide)) g0
            ∗ held c (slotM 0 (by decide)) h0
            ∗ semVal ((c : Thread nD τ), SemLoc.dma ⟨13, by decide⟩) 0
            ∗ semVal ((c : Thread nD τ), SemLoc.dma ⟨14, by decide⟩) 0
            ∗ semVal ((c : Thread nD τ), SemLoc.dma ⟨15, by decide⟩) 0
            ∗ semVal ((c : Thread nD τ), SemLoc.dma ⟨16, by decide⟩) 0
                ∗ (∃ W', owes (c : Thread nD τ) 0 W')) -∗ K ⟨⟩))
          ⊢ wp frame (wpE (defs₀ (F := F)) Variants.none c none) Set.univ
              (bodyP hp arg2 harg2 arg3 harg3 arg4 harg4 arg5 harg5 arg6 harg6 arg9 harg9 arg10 harg10 3) K } := by
  have hc2 : ¬ k0_cond2 (pt hp 3) = 1#1 := cond2_3 hp
  have hc3 : k0_cond3 (pt hp 3) = 1#1 := cond3_3 hp
  have hc4 : ¬ k0_cond4 (pt hp 3) = 1#1 := cond4_3 hp
  have hc5 : ¬ k0_cond5 (pt hp 3) = 1#1 := cond5_3 hp
  have hc6 : ¬ k0_cond6 (pt hp 3) = 1#1 := cond6_3 hp
  have hc7 : k0_cond7 (pt hp 3) = 1#1 := cond7_3 hp
  have hc8 : k0_cond8 (pt hp 3) = 1#1 := cond8_3 hp
  refine ⟨⟨?_, ?_, ?_, ?_, ?_, ?_, ?_, ?_, ?_⟩, fun W K => ?run⟩
  case run =>
    unfold bodyP
    simp only [cc0_fox_bwd_eq_skeleton]; unfold cc0_fox_bwd_skel
    simp only [k0_part13_eq_skeleton, k0_part14_eq_skeleton, k0_part15_eq_skeleton, k0_part16_eq_skeleton, k0_part17_eq_skeleton, k0_part18_eq_skeleton]
    unfold k0_part17_skel; unfold k0_part18_skel
    simp only [cell_eq (k0_off12 (pt hp 3)) 1 (by decide) ClosedOff.eq, dq_eq (k0_off13 (pt hp 3)) hp 1536 (by decide) ClosedOff.eq, slot_eq (k0_off14 (pt hp 3)) 1 (by decide) ClosedOff.eq, cell_eq (k0_off1 (pt hp 3)) 1 (by decide) ClosedOff.eq, dq_eq (k0_off2 (pt hp 3)) hp 512 (by decide) ClosedOff.eq, slot_eq (k0_off3 (pt hp 3)) 1 (by decide) ClosedOff.eq, cell_eq (k0_off15 (pt hp 3)) 0 (by decide) ClosedOff.eq, dq_eq (k0_off16 (pt hp 3)) hp 1024 (by decide) ClosedOff.eq, slot_eq (k0_off17 (pt hp 3)) 0 (by decide) ClosedOff.eq, cell_eq (k0_off18 (pt hp 3)) 1 (by decide) ClosedOff.eq, dq_eq (k0_off19 (pt hp 3)) hp 1536 (by decide) ClosedOff.eq, slot_eq (k0_off20 (pt hp 3)) 1 (by decide) ClosedOff.eq, kv_eq (k0_off21 (pt hp 3) 512#32) hp 512 (by decide) ClosedOff.eq, kv_eq (k0_off21 (pt hp 3) 1024#32) hp 1024 (by decide) ClosedOff.eq]
    iintro ⟨H2, H3, H4, H5, H6, H9, H10, HS0, HS1, Hq1, Hq0, HD, HK, HV, HS3, Hp0, Hp1, HW, Hk⟩
    sl_exec
    sl_step
    iapply Hk
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [HS0]; · iexact HS0
    isplitl [HS1]; · iexact HS1
    isplitl [HD]; · iexact HD
    isplitl [Hq1_src]; · iexact Hq1_src
    isplitl [HK]; · iexact HK
    isplitl [HV]; · iexact HV
    isplitl [HS3]; · iexact HS3
    isplitl [Hq1_dst]; · iexact Hq1_dst
    isplitl [Hq0_dst]; · iexact Hq0_dst
    isplitl [Hq0_src]; · iexact Hq0_src
    isplitl [Hq0]; · iexact Hq0
    isplitl [Hq1]; · iexact Hq1
    isplitl [Hp0]; · iexact Hp0
    isplitl [Hp1]; · iexact Hp1
    iexists _; iexact HW

end Runs

end Cert.KernelIdeal.Hand

end
-- ==== Proof.FoxVal.lean ====
/-
  What a run of the body leaves does not depend on what the buffers it overwrites held before.
-/
module

public import proofs.«01_k».proof.Proof.FoxRun
public import Idealize.ShloMosaic.Lib.ValueLayout
public import Idealize.ShloMosaic.Lib.WritesUnit
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic Idealize.ShloMosaic.ValueIdx
variable {F : FTy → Type} [FloatOps F] [Named F]

/-- A slot read at an index is the buffer at the slot's row. -/
theorem slot_at (s : ℕ) (hs : s < 2) (f : sc2.view.ty.Contents (Elt F)) (x : Fin 512) (y : Fin 128) :
    (slotM s hs).view.read (Elt F) f (ix2 x y) = sc2.view.read (Elt F) f (ix3 ⟨s, hs⟩ x y) := by
  refine (congrFun (Memref.read_squeeze_slice sc2 _ _ _ (show S1x512x128.ShapeCasts S512x128 from by decide) f) (ix2 x y)).trans ?_
  refine (shapeCast_1ab_ab_apply _ _ x y).trans ?_
  refine congrArg f (funext fun a => Fin.ext ?_)
  match a with
  | ⟨0, _⟩ => rfl
  | ⟨1, _⟩ => show 0 + 1 * x.val = x.val; omega
  | ⟨2, _⟩ => show 0 + 1 * y.val = y.val; omega

/-- The two halves stored into a slot, read back. -/
theorem slot_two (s : ℕ) (hs : s < 2) (off off' : Fin 3 → ℕ) (ho : off = ![s, 0, 0]) (ho' : off' = ![s, 0, 64]) (p) (p') (f : sc2.view.ty.Contents (Elt F))
    (A B : FVec F S1x512x64 .bf16) (x : Fin 512) (y : Fin 128) :
    (slotM s hs).view.read (Elt F) (View.write (Elt F) (sc2.access (Rect.unit (s := S2x512x128) off' S1x512x64.size p'))
        (View.write (Elt F) (sc2.access (Rect.unit (s := S2x512x128) off S1x512x64.size p)) f A Finset.univ) B Finset.univ) (ix2 x y)
      = if h : y.val < 64 then A (ix3 0 x ⟨y.val, h⟩) else B (ix3 0 x ⟨y.val - 64, by omega⟩) := by
  rw [slot_at]
  show sc2.view.read (Elt F) (sc2.view.writes (Elt F) f [⟨Rect.unit (s := S2x512x128) off' S1x512x64.size p', B⟩, ⟨Rect.unit (s := S2x512x128) off S1x512x64.size p, A⟩]) _ = _
  split
  · rename_i h
    rw [View.read_writes_cons_unit_of_not_mem sc2.view f p' B _ _ ho' (2 : Fin 3) (Or.inl (by show y.val < 64; exact h)),
      View.read_writes_cons_unit_of_mem sc2.view f p A _ _ (ix3 (0 : Fin 1) x (⟨y.val, h⟩ : Fin 64)) ho]
    intro a
    match a with
    | ⟨0, _⟩ => rfl
    | ⟨1, _⟩ => show x.val = 0 + x.val; omega
    | ⟨2, _⟩ => show y.val = 0 + y.val; omega
  · rename_i h
    rw [View.read_writes_cons_unit_of_mem sc2.view f p' B _ _ (ix3 (0 : Fin 1) x (⟨y.val - 64, by omega⟩ : Fin 64)) ho']
    intro a
    match a with
    | ⟨0, _⟩ => rfl
    | ⟨1, _⟩ => show x.val = 0 + x.val; omega
    | ⟨2, _⟩ => show y.val = 64 + (y.val - 64); omega
theorem slot_indep (s : ℕ) (hs : s < 2) (off off' : Fin 3 → ℕ) (ho : off = ![s, 0, 0]) (ho' : off' = ![s, 0, 64]) (p) (p') (f f' : sc2.view.ty.Contents (Elt F))
    (A B : FVec F S1x512x64 .bf16) :
    (slotM s hs).view.read (Elt F) (View.write (Elt F) (sc2.access (Rect.unit (s := S2x512x128) off' S1x512x64.size p'))
        (View.write (Elt F) (sc2.access (Rect.unit (s := S2x512x128) off S1x512x64.size p)) f A Finset.univ) B Finset.univ)
    = (slotM s hs).view.read (Elt F) (View.write (Elt F) (sc2.access (Rect.unit (s := S2x512x128) off' S1x512x64.size p'))
        (View.write (Elt F) (sc2.access (Rect.unit (s := S2x512x128) off S1x512x64.size p)) f' A Finset.univ) B Finset.univ) := by
  funext j
  obtain ⟨x, y, rfl⟩ : ∃ (x : Fin 512) (y : Fin 128), j = ix2 x y := ⟨j 0, j 1, by funext a; match a with | ⟨0, _⟩ => rfl | ⟨1, _⟩ => rfl⟩
  exact (slot_two s hs off off' ho ho' p p' f A B x y).trans (slot_two s hs off off' ho ho' p p' f' A B x y).symm

theorem sc0_cover (f f' : sc0.view.ty.Contents (Elt F)) (L : List (View.Piece (Elt F) S2048x128 .f32)) (h : ∀ y, ∃ p ∈ L, y ∈ p.1.set) :
    (View.whole cc0_scratch0).writes (Elt F) f L = (View.whole cc0_scratch0).writes (Elt F) f' L :=
  View.read_writes_of_cover (Val := Elt F) (View.whole cc0_scratch0) f (View.whole cc0_scratch0) f' L h
theorem sc1_cover (f f' : sc1.view.ty.Contents (Elt F)) (L : List (View.Piece (Elt F) S2048x128 .f32)) (h : ∀ y, ∃ p ∈ L, y ∈ p.1.set) :
    (View.whole cc0_scratch1).writes (Elt F) f L = (View.whole cc0_scratch1).writes (Elt F) f' L :=
  View.read_writes_of_cover (Val := Elt F) (View.whole cc0_scratch1) f (View.whole cc0_scratch1) f' L h
theorem sc3_cover (f f' : sc3.view.ty.Contents (Elt F)) (L : List (View.Piece (Elt F) S2x2048x128 .bf16)) (h : ∀ y, ∃ p ∈ L, y ∈ p.1.set) :
    (View.whole cc0_scratch3).writes (Elt F) f L = (View.whole cc0_scratch3).writes (Elt F) f' L :=
  View.read_writes_of_cover (Val := Elt F) (View.whole cc0_scratch3) f (View.whole cc0_scratch3) f' L h

section
variable (c : Dev nD) (hp : Fin 4)
  (arg2 : Memref sig .tc .vmem S512x256 .bf16) (harg2 : arg2.IsWhole) (arg3 : Memref sig .tc .vmem S2048x256 .bf16) (harg3 : arg3.IsWhole)
  (arg4 : Memref sig .tc .vmem S2048x128 .bf16) (harg4 : arg4.IsWhole) (arg5 : Memref sig .tc .vmem S1x512x128 .f32) (harg5 : arg5.IsWhole)
  (arg6 : Memref sig .tc .vmem S512x128 .bf16) (harg6 : arg6.IsWhole)
  (arg9 : Memref sig .tc .vmem S1x512x128 .f32) (harg9 : arg9.IsWhole) (arg10 : Memref sig .tc .vmem S8x2048 .f32) (harg10 : arg10.IsWhole)
  (x2 : HBuf (F := F) c arg2) (x3 : HBuf (F := F) c arg3) (x4 : HBuf (F := F) c arg4) (x5 : HBuf (F := F) c arg5) (x6 : HBuf (F := F) c arg6)

set_option maxHeartbeats 800000 in
theorem run0A_val (h2 : k0_cond2 (pt hp 0) = 1#1) (f9 f9' : HBuf (F := F) c arg9) (f10 f10' : HBuf (F := F) c arg10) (f0 f0' : HBuf (F := F) c sc0) (f1 f1' : HBuf (F := F) c sc1)
    (fd : HBuf (F := F) c (dqW hp 0 (by decide))) (fs fs' : HBuf (F := F) c (slotM 0 (by decide))) :
    let R := (run0A c hp arg2 harg2 arg3 harg3 arg4 harg4 arg5 harg5 arg6 harg6 arg9 harg9 arg10 harg10 x2 x3 x4 x5 x6 h2 f9 f10 f0 f1 fd fs).1
    let R' := (run0A c hp arg2 harg2 arg3 harg3 arg4 harg4 arg5 harg5 arg6 harg6 arg9 harg9 arg10 harg10 x2 x3 x4 x5 x6 h2 f9' f10' f0' f1' fd fs').1
    arg9.view.read (Elt F) R.1 = arg9.view.read (Elt F) R'.1 ∧ arg10.view.read (Elt F) R.2.1 = arg10.view.read (Elt F) R'.2.1 ∧ R.2.2.1 = R'.2.2.1 ∧ R.2.2.2.1 = R'.2.2.2.1 ∧ R.2.2.2.2.1 = R'.2.2.2.2.1 := by
  unfold run0A
  dsimp only
  refine ⟨?_, ?_, ?_, ?_, ?_⟩
  · exact View.read_writes_of_cover _ _ _ _ _ (fun y => View.cover_of_tiledL _ S1x512x128.size (by sl_kernel_rfl) y)
  · exact View.read_writes_of_cover _ _ _ _ _ (fun y => View.cover_of_tiledL _ S8x2048.size (by sl_kernel_rfl) y)
  · exact sc0_cover f0 f0' _ (fun y => View.cover_of_tiledL _ S2048x128.size (by sl_kernel_rfl) y)
  · exact sc1_cover f1 f1' _ (fun y => View.cover_of_tiledL _ S2048x128.size (by sl_kernel_rfl) y)
  · refine congrArg (fun w => (dqW hp 0 (by decide)).view.writes (Elt F) fd [⟨Rect.whole S512x128, w⟩]) ?_
    exact slot_indep 0 (by decide) _ _ ClosedOff.eq ClosedOff.eq _ _ fs fs' _ _

set_option maxHeartbeats 800000 in
theorem run0B_val (h2 : ¬ k0_cond2 (pt hp 0) = 1#1) (f9 f9' : HBuf (F := F) c arg9) (f10 : HBuf (F := F) c arg10) (f0 f0' : HBuf (F := F) c sc0) (f1 f1' : HBuf (F := F) c sc1)
    (fd : HBuf (F := F) c (dqW hp 0 (by decide))) (fs fs' : HBuf (F := F) c (slotM 0 (by decide))) :
    let R := (run0B c hp arg2 harg2 arg3 harg3 arg4 harg4 arg5 harg5 arg6 harg6 arg9 harg9 arg10 harg10 x2 x3 x4 x5 x6 h2 f9 f10 f0 f1 fd fs).1
    let R' := (run0B c hp arg2 harg2 arg3 harg3 arg4 harg4 arg5 harg5 arg6 harg6 arg9 harg9 arg10 harg10 x2 x3 x4 x5 x6 h2 f9' f10 f0' f1' fd fs').1
    arg9.view.read (Elt F) R.1 = arg9.view.read (Elt F) R'.1 ∧ R.2.1 = R'.2.1 ∧ R.2.2.1 = R'.2.2.1 ∧ R.2.2.2.1 = R'.2.2.2.1 ∧ R.2.2.2.2.1 = R'.2.2.2.2.1 := by
  unfold run0B
  dsimp only
  refine ⟨?_, ?_, ?_, ?_, ?_⟩
  · exact View.read_writes_of_cover _ _ _ _ _ (fun y => View.cover_of_tiledL _ S1x512x128.size (by sl_kernel_rfl) y)
  · with_reducible rfl
  · exact sc0_cover f0 f0' _ (fun y => View.cover_of_tiledL _ S2048x128.size (by sl_kernel_rfl) y)
  · exact sc1_cover f1 f1' _ (fun y => View.cover_of_tiledL _ S2048x128.size (by sl_kernel_rfl) y)
  · refine congrArg (fun w => (dqW hp 0 (by decide)).view.writes (Elt F) fd [⟨Rect.whole S512x128, w⟩]) ?_
    exact slot_indep 0 (by decide) _ _ ClosedOff.eq ClosedOff.eq _ _ fs fs' _ _

theorem run1_val (f9 f9' : HBuf (F := F) c arg9) (f10 : HBuf (F := F) c arg10) (f0 : HBuf (F := F) c sc0) (f1 : HBuf (F := F) c sc1)
    (fd : HBuf (F := F) c (dqW hp 512 (by decide))) (fs fs' : HBuf (F := F) c (slotM 1 (by decide))) :
    let R := (run1 c hp arg2 harg2 arg3 harg3 arg4 harg4 arg5 harg5 arg6 harg6 arg9 harg9 arg10 harg10 x2 x3 x4 x5 x6 f9 f10 f0 f1 fd fs).1
    let R' := (run1 c hp arg2 harg2 arg3 harg3 arg4 harg4 arg5 harg5 arg6 harg6 arg9 harg9 arg10 harg10 x2 x3 x4 x5 x6 f9' f10 f0 f1 fd fs').1
    arg9.view.read (Elt F) R.1 = arg9.view.read (Elt F) R'.1 ∧ R.2.1 = R'.2.1 ∧ R.2.2.1 = R'.2.2.1 ∧ R.2.2.2.1 = R'.2.2.2.1 ∧ R.2.2.2.2.1 = R'.2.2.2.2.1 := by
  unfold run1
  dsimp only
  refine ⟨?_, ?_, ?_, ?_, ?_⟩
  · exact View.read_writes_of_cover _ _ _ _ _ (fun y => View.cover_of_tiledL _ S1x512x128.size (by sl_kernel_rfl) y)
  · with_reducible rfl
  · with_reducible rfl
  · with_reducible rfl
  · refine congrArg (fun w => (dqW hp 512 (by decide)).view.writes (Elt F) fd [⟨Rect.whole S512x128, w⟩]) ?_
    exact slot_indep 1 (by decide) _ _ ClosedOff.eq ClosedOff.eq _ _ fs fs' _ _

theorem run2_val (f9 f9' : HBuf (F := F) c arg9) (f10 : HBuf (F := F) c arg10) (f0 : HBuf (F := F) c sc0) (f1 : HBuf (F := F) c sc1)
    (fd : HBuf (F := F) c (dqW hp 1024 (by decide))) (g g' : HBuf (F := F) c (dqW hp 0 (by decide))) (fs fs' : HBuf (F := F) c (slotM 0 (by decide))) :
    let R := (run2 c hp arg2 harg2 arg3 harg3 arg4 harg4 arg5 harg5 arg6 harg6 arg9 harg9 arg10 harg10 x2 x3 x4 x5 x6 f9 f10 f0 f1 fd g fs).1
    let R' := (run2 c hp arg2 harg2 arg3 harg3 arg4 harg4 arg5 harg5 arg6 harg6 arg9 harg9 arg10 harg10 x2 x3 x4 x5 x6 f9' f10 f0 f1 fd g' fs').1
    arg9.view.read (Elt F) R.1 = arg9.view.read (Elt F) R'.1 ∧ R.2.1 = R'.2.1 ∧ R.2.2.1 = R'.2.2.1 ∧ R.2.2.2.1 = R'.2.2.2.1 ∧ R.2.2.2.2.1 = R'.2.2.2.2.1 := by
  unfold run2
  dsimp only
  refine ⟨?_, ?_, ?_, ?_, ?_⟩
  · exact View.read_writes_of_cover _ _ _ _ _ (fun y => View.cover_of_tiledL _ S1x512x128.size (by sl_kernel_rfl) y)
  · with_reducible rfl
  · with_reducible rfl
  · with_reducible rfl
  · refine congrArg (fun w => (dqW hp 1024 (by decide)).view.writes (Elt F) fd [⟨Rect.whole S512x128, w⟩]) ?_
    exact slot_indep 0 (by decide) _ _ ClosedOff.eq ClosedOff.eq _ _ fs fs' _ _

set_option maxHeartbeats 800000 in
theorem run3_val (f9 f9' : HBuf (F := F) c arg9) (f10 : HBuf (F := F) c arg10) (f0 : HBuf (F := F) c sc0) (f1 : HBuf (F := F) c sc1)
    (fd : HBuf (F := F) c (dqW hp 1536 (by decide))) (g1 g1' : HBuf (F := F) c (dqW hp 512 (by decide))) (fs fs' : HBuf (F := F) c (slotM 1 (by decide)))
    (g0 g0' : HBuf (F := F) c (dqW hp 1024 (by decide))) (h0 h0' : HBuf (F := F) c (slotM 0 (by decide))) (fk : HBuf (F := F) c (kvW hp 512 (by decide))) (fv : HBuf (F := F) c (kvW hp 1024 (by decide)))
    (f3 f3' : HBuf (F := F) c sc3) :
    let R := (run3 c hp arg2 harg2 arg3 harg3 arg4 harg4 arg5 harg5 arg6 harg6 arg9 harg9 arg10 harg10 x2 x3 x4 x5 x6 f9 f10 f0 f1 fd g1 fs g0 h0 fk fv f3).1
    let R' := (run3 c hp arg2 harg2 arg3 harg3 arg4 harg4 arg5 harg5 arg6 harg6 arg9 harg9 arg10 harg10 x2 x3 x4 x5 x6 f9' f10 f0 f1 fd g1' fs' g0' h0' fk fv f3').1
    arg9.view.read (Elt F) R.1 = arg9.view.read (Elt F) R'.1 ∧ R.2.1 = R'.2.1 ∧ R.2.2.1 = R'.2.2.1 ∧ R.2.2.2.1 = R'.2.2.2.1 ∧ R.2.2.2.2.1 = R'.2.2.2.2.1
      ∧ R.2.2.2.2.2.2.1 = R'.2.2.2.2.2.2.1 ∧ R.2.2.2.2.2.2.2.1 = R'.2.2.2.2.2.2.2.1 := by
  unfold run3
  dsimp only
  refine ⟨?_, ?_, ?_, ?_, ?_, ?_, ?_⟩
  · exact View.read_writes_of_cover _ _ _ _ _ (fun y => View.cover_of_tiledL _ S1x512x128.size (by sl_kernel_rfl) y)
  · with_reducible rfl
  · with_reducible rfl
  · with_reducible rfl
  · refine congrArg (fun w => (dqW hp 1536 (by decide)).view.writes (Elt F) fd [⟨Rect.whole S512x128, w⟩]) ?_
    exact slot_indep 1 (by decide) _ _ ClosedOff.eq ClosedOff.eq _ _ fs fs' _ _
  · refine congrArg (fun w => (kvW hp 512 (by decide)).view.writes (Elt F) fk [⟨Rect.whole S2048x128, w⟩]) ?_
    exact congrArg (fun w => ReadAs.same.apply (View.read (Elt F) (((Memref.whole cc0_scratch3).slice (Rect.unit (s := S2x2048x128) ![0, 0, 0] ![1, 2048, 128] inb_S2x2048x128_S1x2048x128_0_0_0) (fun _ => rfl)).squeeze S2048x128 squeezes_S1x2048x128_S2048x128).view w))
      (sc3_cover f3 f3' _ (fun y => View.cover_of_tiledL (s := S2x2048x128) _ ![1, 2048, 128] (by sl_kernel_rfl) y))
  · refine congrArg (fun w => (kvW hp 1024 (by decide)).view.writes (Elt F) fv [⟨Rect.whole S2048x128, w⟩]) ?_
    exact congrArg (fun w => ReadAs.same.apply (View.read (Elt F) (((Memref.whole cc0_scratch3).slice (Rect.unit (s := S2x2048x128) ![1, 0, 0] ![1, 2048, 128] inb_S2x2048x128_S1x2048x128_1_0_0) (fun _ => rfl)).squeeze S2048x128 squeezes_S1x2048x128_S2048x128).view w))
      (sc3_cover f3 f3' _ (fun y => View.cover_of_tiledL (s := S2x2048x128) _ ![1, 2048, 128] (by sl_kernel_rfl) y))

end
end Cert.KernelIdeal.Hand
-- ==== Proof.FoxGeo.lean ====
/-
  The grid's points, and the result buffer cut into the windows the copies move.
-/
module

public import proofs.«01_k».proof.Proof.FoxVal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## Points -/

theorem N_c : cfg0.N = 16 := N_0
/-- The point of head pair `hp` and query block `t`. -/
abbrev pnt (hp t : Fin 4) : Fin cfg0.N := ⟨4 * hp.val + t.val, by have := hp.isLt; have := t.isLt; rw [N_c]; omega⟩
theorem coords_0 : ∀ hp t : Fin 4, (grid0.coords (pnt hp t) (0 : Fin 2)).val = hp.val := by decide +kernel
theorem coords_1 : ∀ hp t : Fin 4, (grid0.coords (pnt hp t) (1 : Fin 2)).val = t.val := by decide +kernel
theorem coords_pnt : ∀ hp t : Fin 4, grid0.coords (pnt hp t) = pt hp t := by
  intro hp t
  funext a
  match a with
  | ⟨0, _⟩ => exact Fin.ext (coords_0 hp t)
  | ⟨1, _⟩ => exact Fin.ext (coords_1 hp t)

/-- The pair a point number belongs to, and its place in the pair. -/
def pr (n : ℕ) : Fin 4 := ⟨n / 4 % 4, by omega⟩
def tm (n : ℕ) : Fin 4 := ⟨n % 4, by omega⟩
theorem pr_pnt (hp t : Fin 4) : pr (4 * hp.val + t.val) = hp := Fin.ext (by have := hp.isLt; have := t.isLt; show (4 * hp.val + t.val) / 4 % 4 = hp.val; omega)
theorem tm_pnt (hp t : Fin 4) : tm (4 * hp.val + t.val) = t := Fin.ext (by have := t.isLt; show (4 * hp.val + t.val) % 4 = t.val; omega)
theorem eq_pnt (t : Fin cfg0.N) : t = pnt (pr t.val) (tm t.val) := Fin.ext (by
  have := lt_of_lt_of_eq t.isLt N_c
  show t.val = 4 * (t.val / 4 % 4) + t.val % 4; omega)

/-! ## The windows of the result are disjoint -/

theorem p0 : 0 + 512 ≤ 2048 := by decide
theorem p512 : 512 + 512 ≤ 2048 := by decide
theorem p1024 : 1024 + 512 ≤ 2048 := by decide
theorem p1536 : 1536 + 512 ≤ 2048 := by decide
theorem q512 : 512 ≤ 1024 := by decide
theorem q1024 : 1024 ≤ 1024 := by decide
theorem l0 : 0 < 2 := by decide
theorem l1 : 1 < 2 := by decide

theorem dq_dq (hp : Fin 4) (r r' : ℕ) (hr hr') (h : r + 512 ≤ r' ∨ r' + 512 ≤ r) :
    Disjoint (dqW hp r hr).view.set (dqW hp r' hr').view.set := by
  rw [Finset.disjoint_left]
  intro i hi hi'
  obtain ⟨x, -, rfl⟩ := Finset.mem_map.mp hi
  obtain ⟨y, -, e⟩ := Finset.mem_map.mp hi'
  have e0 := congrArg Fin.val (congrFun e (0 : Fin 2))
  change r' + 1 * (y 0).val = r + 1 * (x 0).val at e0
  have h1 : (x 0).val < 512 := (x 0).isLt
  have h2 : (y 0).val < 512 := (y 0).isLt
  omega
theorem dq_kv (hp : Fin 4) (r q : ℕ) (hr hq) (h : 512 ≤ q) : Disjoint (dqW hp r hr).view.set (kvW hp q hq).view.set := by
  rw [Finset.disjoint_left]
  intro i hi hi'
  obtain ⟨x, -, rfl⟩ := Finset.mem_map.mp hi
  obtain ⟨y, -, e⟩ := Finset.mem_map.mp hi'
  have e0 := congrArg Fin.val (congrFun e (1 : Fin 2))
  change q + 128 * hp.val + 1 * (y 1).val = 128 * hp.val + 1 * (x 1).val at e0
  have h1 : (x 1).val < 128 := (x 1).isLt
  omega
theorem kv_kv (hp : Fin 4) : Disjoint (kvW hp 512 q512).view.set (kvW hp 1024 q1024).view.set := by
  rw [Finset.disjoint_left]
  intro i hi hi'
  obtain ⟨x, -, rfl⟩ := Finset.mem_map.mp hi
  obtain ⟨y, -, e⟩ := Finset.mem_map.mp hi'
  have e0 := congrArg Fin.val (congrFun e (1 : Fin 2))
  change 1024 + 128 * hp.val + 1 * (y 1).val = 512 + 128 * hp.val + 1 * (x 1).val at e0
  have h1 : (x 1).val < 128 := (x 1).isLt
  omega
theorem slot_slot : Disjoint (slotM 0 l0).view.set (slotM 1 l1).view.set := by
  rw [Finset.disjoint_left]
  intro i hi hi'
  obtain ⟨x, -, rfl⟩ := Finset.mem_map.mp hi
  obtain ⟨y, -, e⟩ := Finset.mem_map.mp hi'
  have e0 := congrArg Fin.val (congrFun e (0 : Fin 3))
  change 1 + 1 * (_ : Fin 1).val = 0 + 1 * (_ : Fin 1).val at e0
  omega

/-- The result's contents. -/
structure Cnt (c : Dev nD) where
  v : Buf (Elt F) ((c : Thread nD τ).loc main_v85_0)
/-- The contents as a window of the query gradient's, or of the other two gradients', sees them, and back. -/
def Cnt.toW {c : Dev nD} (f : Cnt (F := F) c) (hp : Fin 4) (r : ℕ) (hr : r + 512 ≤ 2048) : HBuf (F := F) c (dqW hp r hr) := f.v
def Cnt.toK {c : Dev nD} (f : Cnt (F := F) c) (hp : Fin 4) (q : ℕ) (hq : q ≤ 1024) : HBuf (F := F) c (kvW hp q hq) := f.v
def ofW {c : Dev nD} {hp : Fin 4} {r : ℕ} {hr : r + 512 ≤ 2048} (f : HBuf (F := F) c (dqW hp r hr)) : Cnt (F := F) c := ⟨f⟩
def ofK {c : Dev nD} {hp : Fin 4} {q : ℕ} {hq : q ≤ 1024} (f : HBuf (F := F) c (kvW hp q hq)) : Cnt (F := F) c := ⟨f⟩
theorem toW_ofW {c : Dev nD} {hp : Fin 4} {r : ℕ} {hr : r + 512 ≤ 2048} (f : HBuf (F := F) c (dqW hp r hr)) : (ofW f).toW hp r hr = f := rfl
theorem toK_ofK {c : Dev nD} {hp : Fin 4} {q : ℕ} {hq : q ≤ 1024} (f : HBuf (F := F) c (kvW hp q hq)) : (ofK f).toK hp q hq = f := rfl

abbrev IxB (c : Dev nD) : Type := Idx ((c : Thread nD τ).loc main_v85_0)
/-- The elements of the windows. -/
def WS (c : Dev nD) (hp : Fin 4) (r : ℕ) (hr : r + 512 ≤ 2048) : Finset (IxB c) := (dqW hp r hr).view.set
def KS (c : Dev nD) (hp : Fin 4) (q : ℕ) (hq : q ≤ 1024) : Finset (IxB c) := (kvW hp q hq).view.set
theorem ws_ws (c : Dev nD) (hp : Fin 4) (r r' : ℕ) (hr hr') (h : r + 512 ≤ r' ∨ r' + 512 ≤ r) : Disjoint (WS c hp r hr) (WS c hp r' hr') := dq_dq hp r r' hr hr' h
theorem ks_ws (c : Dev nD) (hp : Fin 4) (r q : ℕ) (hr hq) (h : 512 ≤ q) : Disjoint (KS c hp q hq) (WS c hp r hr) := (dq_kv hp r q hr hq h).symm
theorem ks_ks (c : Dev nD) (hp : Fin 4) : Disjoint (KS c hp 1024 q1024) (KS c hp 512 q512) := (kv_kv hp).symm

abbrev heldW (c : Dev nD) (hp : Fin 4) (r : ℕ) (hr : r + 512 ≤ 2048) (f : Cnt (F := F) c) : sProp 𝕄 := held c (dqW hp r hr) (f.toW hp r hr)
abbrev heldK (c : Dev nD) (hp : Fin 4) (q : ℕ) (hq : q ≤ 1024) (f : Cnt (F := F) c) : sProp 𝕄 := held c (kvW hp q hq) (f.toK hp q hq)
/-- The result's elements in `S` at contents `f`. -/
def onB (c : Dev nD) (S : Finset (IxB c)) (f : Cnt (F := F) c) : sProp 𝕄 := (c : Thread nD τ).loc main_v85_0 ↦[S]{fullShare} f.v
theorem heldW_eq (c : Dev nD) (hp : Fin 4) (r : ℕ) (hr : r + 512 ≤ 2048) (f : Cnt (F := F) c) : heldW c hp r hr f = onB c (WS c hp r hr) f := rfl
theorem heldK_eq (c : Dev nD) (hp : Fin 4) (q : ℕ) (hq : q ≤ 1024) (f : Cnt (F := F) c) : heldK c hp q hq f = onB c (KS c hp q hq) f := rfl
theorem onB_split (c : Dev nD) {I S : Finset (IxB c)} (h : I ⊆ S) (f : Cnt (F := F) c) : onB c S f ⊢ iprop(onB c I f ∗ onB c (S \ I) f) :=
  (pointsTo_split_subset h).1
theorem onB_join (c : Dev nD) {I S : Finset (IxB c)} (h : I ⊆ S) (f g : Cnt (F := F) c) : iprop(onB c I g ∗ onB c (S \ I) f) ⊢ onB c S ⟨I.piecewise g.v f.v⟩ :=
  pointsTo_join_subset h

/-- What is left once the pair's windows are cut out, one after the other. -/
abbrev U1 (c : Dev nD) (hp : Fin 4) : Finset (IxB c) := Finset.univ \ WS c hp 0 p0
abbrev U2 (c : Dev nD) (hp : Fin 4) : Finset (IxB c) := U1 c hp \ WS c hp 512 p512
abbrev U3 (c : Dev nD) (hp : Fin 4) : Finset (IxB c) := U2 c hp \ WS c hp 1024 p1024
abbrev U4 (c : Dev nD) (hp : Fin 4) : Finset (IxB c) := U3 c hp \ WS c hp 1536 p1536
abbrev U5 (c : Dev nD) (hp : Fin 4) : Finset (IxB c) := U4 c hp \ KS c hp 512 q512
abbrev U6 (c : Dev nD) (hp : Fin 4) : Finset (IxB c) := U5 c hp \ KS c hp 1024 q1024

theorem sub1 (c : Dev nD) (hp : Fin 4) : WS c hp 512 p512 ⊆ U1 c hp :=
  Finset.subset_sdiff.mpr ⟨Finset.subset_univ _, ws_ws c hp 512 0 _ _ (by decide)⟩
theorem sub2 (c : Dev nD) (hp : Fin 4) : WS c hp 1024 p1024 ⊆ U2 c hp :=
  Finset.subset_sdiff.mpr ⟨Finset.subset_sdiff.mpr ⟨Finset.subset_univ _, ws_ws c hp 1024 0 _ _ (by decide)⟩, ws_ws c hp 1024 512 _ _ (by decide)⟩
theorem sub3 (c : Dev nD) (hp : Fin 4) : WS c hp 1536 p1536 ⊆ U3 c hp :=
  Finset.subset_sdiff.mpr ⟨Finset.subset_sdiff.mpr ⟨Finset.subset_sdiff.mpr ⟨Finset.subset_univ _, ws_ws c hp 1536 0 _ _ (by decide)⟩,
    ws_ws c hp 1536 512 _ _ (by decide)⟩, ws_ws c hp 1536 1024 _ _ (by decide)⟩
theorem subk (c : Dev nD) (hp : Fin 4) (q : ℕ) (hq) (h : 512 ≤ q) : KS c hp q hq ⊆ U4 c hp :=
  Finset.subset_sdiff.mpr ⟨Finset.subset_sdiff.mpr ⟨Finset.subset_sdiff.mpr ⟨Finset.subset_sdiff.mpr ⟨Finset.subset_univ _, ks_ws c hp 0 q _ _ h⟩,
    ks_ws c hp 512 q _ _ h⟩, ks_ws c hp 1024 q _ _ h⟩, ks_ws c hp 1536 q _ _ h⟩
theorem sub4 (c : Dev nD) (hp : Fin 4) : KS c hp 512 q512 ⊆ U4 c hp := subk c hp 512 _ (by decide)
theorem sub5 (c : Dev nD) (hp : Fin 4) : KS c hp 1024 q1024 ⊆ U5 c hp :=
  Finset.subset_sdiff.mpr ⟨subk c hp 1024 _ (by decide), ks_ks c hp⟩

/-- What is left in the result once the pair's six copies have landed. -/
def merge (c : Dev nD) (hp : Fin 4) (g0 g1 g2 g3 gk gv D : Cnt (F := F) c) : Cnt (F := F) c :=
  ⟨(WS c hp 0 p0).piecewise g0.v ((WS c hp 512 p512).piecewise g1.v ((WS c hp 1024 p1024).piecewise g2.v ((WS c hp 1536 p1536).piecewise g3.v
    ((KS c hp 512 q512).piecewise gk.v ((KS c hp 1024 q1024).piecewise gv.v D.v)))))⟩

/-- The whole result at contents `D`. -/
abbrev heldB (c : Dev nD) (D : Cnt (F := F) c) : sProp 𝕄 := onB c Finset.univ D
abbrev rest (c : Dev nD) (hp : Fin 4) (D : Cnt (F := F) c) : sProp 𝕄 := onB c (U6 c hp) D

theorem hb_split (c : Dev nD) (hp : Fin 4) (D : Cnt (F := F) c) :
    heldB c D ⊢ iprop(heldW c hp 0 p0 D ∗ heldW c hp 512 p512 D ∗ heldW c hp 1024 p1024 D ∗ heldW c hp 1536 p1536 D
      ∗ heldK c hp 512 q512 D ∗ heldK c hp 1024 q1024 D ∗ rest c hp D) := by
  rw [heldW_eq, heldW_eq, heldW_eq, heldW_eq, heldK_eq, heldK_eq]
  refine (onB_split c (Finset.subset_univ (WS c hp 0 p0)) D).trans (sep_mono .rfl ?_)
  refine (onB_split c (sub1 c hp) D).trans (sep_mono .rfl ?_)
  refine (onB_split c (sub2 c hp) D).trans (sep_mono .rfl ?_)
  refine (onB_split c (sub3 c hp) D).trans (sep_mono .rfl ?_)
  refine (onB_split c (sub4 c hp) D).trans (sep_mono .rfl ?_)
  exact onB_split c (sub5 c hp) D
theorem hb_join (c : Dev nD) (hp : Fin 4) (g0 g1 g2 g3 gk gv D : Cnt (F := F) c) :
    iprop(heldW c hp 0 p0 g0 ∗ heldW c hp 512 p512 g1 ∗ heldW c hp 1024 p1024 g2 ∗ heldW c hp 1536 p1536 g3
      ∗ heldK c hp 512 q512 gk ∗ heldK c hp 1024 q1024 gv ∗ rest c hp D) ⊢ heldB c (merge c hp g0 g1 g2 g3 gk gv D) := by
  rw [heldW_eq, heldW_eq, heldW_eq, heldW_eq, heldK_eq, heldK_eq]
  refine (sep_mono .rfl (sep_mono .rfl (sep_mono .rfl (sep_mono .rfl (sep_mono .rfl (onB_join c (sub5 c hp) D gv)))))).trans ?_
  refine (sep_mono .rfl (sep_mono .rfl (sep_mono .rfl (sep_mono .rfl (onB_join c (sub4 c hp) _ gk))))).trans ?_
  refine (sep_mono .rfl (sep_mono .rfl (sep_mono .rfl (onB_join c (sub3 c hp) _ g3)))).trans ?_
  refine (sep_mono .rfl (sep_mono .rfl (onB_join c (sub2 c hp) _ g2))).trans ?_
  refine (sep_mono .rfl (onB_join c (sub1 c hp) _ g1)).trans ?_
  exact onB_join c (Finset.subset_univ (WS c hp 0 p0)) _ g0

/-- The buffer of the two slots, held whole, and what neither slot is. -/
abbrev held2 (c : Dev nD) (f : HBuf (F := F) c sc2) : sProp 𝕄 := (c : Thread nD τ).loc cc0_scratch2 ↦{fullShare} f
abbrev T0 : Finset sc2.view.ty.Idx := (slotM 0 l0).view.set
abbrev T1 : Finset sc2.view.ty.Idx := (slotM 1 l1).view.set
abbrev rest2 (c : Dev nD) (f : HBuf (F := F) c sc2) : sProp 𝕄 := (c : Thread nD τ).loc cc0_scratch2 ↦[(Finset.univ \ T0) \ T1]{fullShare} f
theorem subT : T1 ⊆ Finset.univ \ T0 := Finset.subset_sdiff.mpr ⟨Finset.subset_univ _, slot_slot.symm⟩
theorem slots_split (c : Dev nD) (f : HBuf (F := F) c sc2) :
    held2 c f ⊢ iprop(held c (slotM 0 l0) f ∗ held c (slotM 1 l1) f ∗ rest2 c f) := by
  refine (pointsTo_split_subset (Finset.subset_univ T0)).1.trans (sep_mono .rfl ?_)
  exact (pointsTo_split_subset subT).1
theorem slots_join (c : Dev nD) (f g h : HBuf (F := F) c sc2) :
    iprop(held c (slotM 0 l0) f ∗ held c (slotM 1 l1) g ∗ rest2 c h) ⊢ held2 c (T0.piecewise f (T1.piecewise g h)) := by
  refine (sep_mono .rfl (pointsTo_join_subset subT)).trans ?_
  exact pointsTo_join_subset (Finset.subset_univ T0)

end Cert.KernelIdeal.Hand

end
-- ==== Proof.FoxState.lean ====
/-
  What each grid point leaves, point by point.
-/
module

public import proofs.«01_k».proof.Proof.FoxGeo

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What each point leaves -/

/-- What the points before a point have left: the forget gradient's last block, the keys' sums of the decays, the two accumulators,
    the result as the pair found it, and the query gradient's blocks of this pair. -/
structure Left (c : Dev nD) where
  o9 : Vec F S1x512x128 .f32
  d10 : Vec F S8x2048 .f32
  a0 : HBuf (F := F) c sc0
  a1 : HBuf (F := F) c sc1
  D : Cnt (F := F) c
  g0 : Cnt (F := F) c
  g1 : Cnt (F := F) c
  g2 : Cnt (F := F) c

/-- The input of window `k` at the point, as its staging buffer holds it. -/
abbrev i2 (c : Dev nD) (t : Fin cfg0.N) : HBuf (F := F) c (st0_0 t) := (hstage0_0 ((cfg0.slots t 0).cast nbuf0_0)).unread (iblk m c 0 t)
abbrev i3 (c : Dev nD) (t : Fin cfg0.N) : HBuf (F := F) c (st0_1 t) := (hstage0_1 ((cfg0.slots t 1).cast nbuf0_1)).unread (iblk m c 1 t)
abbrev i4 (c : Dev nD) (t : Fin cfg0.N) : HBuf (F := F) c (st0_2 t) := (hstage0_2 ((cfg0.slots t 2).cast nbuf0_2)).unread (iblk m c 2 t)
abbrev i5 (c : Dev nD) (t : Fin cfg0.N) : HBuf (F := F) c (st0_3 t) := (hstage0_3 ((cfg0.slots t 3).cast nbuf0_3)).unread (iblk m c 3 t)
abbrev i6 (c : Dev nD) (t : Fin cfg0.N) : HBuf (F := F) c (st0_4 t) := (hstage0_4 ((cfg0.slots t 4).cast nbuf0_4)).unread (iblk m c 4 t)
abbrev j10 (c : Dev nD) (t : Fin cfg0.N) (d : Vec F S8x2048 .f32) : HBuf (F := F) c (st0_6 t) := (hstage0_6 ((cfg0.slots t 6).cast nbuf0_6)).unread d

set_option maxHeartbeats 1000000
abbrev r0A (c : Dev nD) (hp : Fin 4) (h2 : k0_cond2 (pt hp 0) = 1#1) (f9 : HBuf (F := F) c (st0_5 (pnt hp 0))) (f10 : HBuf (F := F) c (st0_6 (pnt hp 0))) (f0 : HBuf (F := F) c sc0) (f1 : HBuf (F := F) c sc1) (fd : HBuf (F := F) c (dqW hp 0 p0)) (fs : HBuf (F := F) c (slotM 0 l0)) := run0A c hp (st0_0 (pnt hp 0)) (hstage0_0 ((cfg0.slots (pnt hp 0) 0).cast nbuf0_0)) (st0_1 (pnt hp 0)) (hstage0_1 ((cfg0.slots (pnt hp 0) 1).cast nbuf0_1)) (st0_2 (pnt hp 0)) (hstage0_2 ((cfg0.slots (pnt hp 0) 2).cast nbuf0_2)) (st0_3 (pnt hp 0)) (hstage0_3 ((cfg0.slots (pnt hp 0) 3).cast nbuf0_3)) (st0_4 (pnt hp 0)) (hstage0_4 ((cfg0.slots (pnt hp 0) 4).cast nbuf0_4)) (st0_5 (pnt hp 0)) (hstage0_5 ((cfg0.slots (pnt hp 0) 5).cast nbuf0_5)) (st0_6 (pnt hp 0)) (hstage0_6 ((cfg0.slots (pnt hp 0) 6).cast nbuf0_6)) (i2 m c (pnt hp 0)) (i3 m c (pnt hp 0)) (i4 m c (pnt hp 0)) (i5 m c (pnt hp 0)) (i6 m c (pnt hp 0)) h2 f9 f10 f0 f1 fd fs
abbrev r0B (c : Dev nD) (hp : Fin 4) (h2 : ¬ k0_cond2 (pt hp 0) = 1#1) (f9 : HBuf (F := F) c (st0_5 (pnt hp 0))) (f10 : HBuf (F := F) c (st0_6 (pnt hp 0))) (f0 : HBuf (F := F) c sc0) (f1 : HBuf (F := F) c sc1) (fd : HBuf (F := F) c (dqW hp 0 p0)) (fs : HBuf (F := F) c (slotM 0 l0)) := run0B c hp (st0_0 (pnt hp 0)) (hstage0_0 ((cfg0.slots (pnt hp 0) 0).cast nbuf0_0)) (st0_1 (pnt hp 0)) (hstage0_1 ((cfg0.slots (pnt hp 0) 1).cast nbuf0_1)) (st0_2 (pnt hp 0)) (hstage0_2 ((cfg0.slots (pnt hp 0) 2).cast nbuf0_2)) (st0_3 (pnt hp 0)) (hstage0_3 ((cfg0.slots (pnt hp 0) 3).cast nbuf0_3)) (st0_4 (pnt hp 0)) (hstage0_4 ((cfg0.slots (pnt hp 0) 4).cast nbuf0_4)) (st0_5 (pnt hp 0)) (hstage0_5 ((cfg0.slots (pnt hp 0) 5).cast nbuf0_5)) (st0_6 (pnt hp 0)) (hstage0_6 ((cfg0.slots (pnt hp 0) 6).cast nbuf0_6)) (i2 m c (pnt hp 0)) (i3 m c (pnt hp 0)) (i4 m c (pnt hp 0)) (i5 m c (pnt hp 0)) (i6 m c (pnt hp 0)) h2 f9 f10 f0 f1 fd fs
abbrev r1 (c : Dev nD) (hp : Fin 4) (f9 : HBuf (F := F) c (st0_5 (pnt hp 1))) (f10 : HBuf (F := F) c (st0_6 (pnt hp 1))) (f0 : HBuf (F := F) c sc0) (f1 : HBuf (F := F) c sc1) (fd : HBuf (F := F) c (dqW hp 512 p512)) (fs : HBuf (F := F) c (slotM 1 l1)) := run1 c hp (st0_0 (pnt hp 1)) (hstage0_0 ((cfg0.slots (pnt hp 1) 0).cast nbuf0_0)) (st0_1 (pnt hp 1)) (hstage0_1 ((cfg0.slots (pnt hp 1) 1).cast nbuf0_1)) (st0_2 (pnt hp 1)) (hstage0_2 ((cfg0.slots (pnt hp 1) 2).cast nbuf0_2)) (st0_3 (pnt hp 1)) (hstage0_3 ((cfg0.slots (pnt hp 1) 3).cast nbuf0_3)) (st0_4 (pnt hp 1)) (hstage0_4 ((cfg0.slots (pnt hp 1) 4).cast nbuf0_4)) (st0_5 (pnt hp 1)) (hstage0_5 ((cfg0.slots (pnt hp 1) 5).cast nbuf0_5)) (st0_6 (pnt hp 1)) (hstage0_6 ((cfg0.slots (pnt hp 1) 6).cast nbuf0_6)) (i2 m c (pnt hp 1)) (i3 m c (pnt hp 1)) (i4 m c (pnt hp 1)) (i5 m c (pnt hp 1)) (i6 m c (pnt hp 1)) f9 f10 f0 f1 fd fs
abbrev r2 (c : Dev nD) (hp : Fin 4) (f9 : HBuf (F := F) c (st0_5 (pnt hp 2))) (f10 : HBuf (F := F) c (st0_6 (pnt hp 2))) (f0 : HBuf (F := F) c sc0) (f1 : HBuf (F := F) c sc1) (fd : HBuf (F := F) c (dqW hp 1024 p1024)) (g : HBuf (F := F) c (dqW hp 0 p0)) (h : HBuf (F := F) c (slotM 0 l0)) := run2 c hp (st0_0 (pnt hp 2)) (hstage0_0 ((cfg0.slots (pnt hp 2) 0).cast nbuf0_0)) (st0_1 (pnt hp 2)) (hstage0_1 ((cfg0.slots (pnt hp 2) 1).cast nbuf0_1)) (st0_2 (pnt hp 2)) (hstage0_2 ((cfg0.slots (pnt hp 2) 2).cast nbuf0_2)) (st0_3 (pnt hp 2)) (hstage0_3 ((cfg0.slots (pnt hp 2) 3).cast nbuf0_3)) (st0_4 (pnt hp 2)) (hstage0_4 ((cfg0.slots (pnt hp 2) 4).cast nbuf0_4)) (st0_5 (pnt hp 2)) (hstage0_5 ((cfg0.slots (pnt hp 2) 5).cast nbuf0_5)) (st0_6 (pnt hp 2)) (hstage0_6 ((cfg0.slots (pnt hp 2) 6).cast nbuf0_6)) (i2 m c (pnt hp 2)) (i3 m c (pnt hp 2)) (i4 m c (pnt hp 2)) (i5 m c (pnt hp 2)) (i6 m c (pnt hp 2)) f9 f10 f0 f1 fd g h
abbrev r3 (c : Dev nD) (hp : Fin 4) (f9 : HBuf (F := F) c (st0_5 (pnt hp 3))) (f10 : HBuf (F := F) c (st0_6 (pnt hp 3))) (f0 : HBuf (F := F) c sc0) (f1 : HBuf (F := F) c sc1) (fd : HBuf (F := F) c (dqW hp 1536 p1536)) (g1 : HBuf (F := F) c (dqW hp 512 p512)) (h1 : HBuf (F := F) c (slotM 1 l1)) (g0 : HBuf (F := F) c (dqW hp 1024 p1024)) (h0 : HBuf (F := F) c (slotM 0 l0)) (fk : HBuf (F := F) c (kvW hp 512 q512)) (fv : HBuf (F := F) c (kvW hp 1024 q1024)) (f3 : HBuf (F := F) c sc3) := run3 c hp (st0_0 (pnt hp 3)) (hstage0_0 ((cfg0.slots (pnt hp 3) 0).cast nbuf0_0)) (st0_1 (pnt hp 3)) (hstage0_1 ((cfg0.slots (pnt hp 3) 1).cast nbuf0_1)) (st0_2 (pnt hp 3)) (hstage0_2 ((cfg0.slots (pnt hp 3) 2).cast nbuf0_2)) (st0_3 (pnt hp 3)) (hstage0_3 ((cfg0.slots (pnt hp 3) 3).cast nbuf0_3)) (st0_4 (pnt hp 3)) (hstage0_4 ((cfg0.slots (pnt hp 3) 4).cast nbuf0_4)) (st0_5 (pnt hp 3)) (hstage0_5 ((cfg0.slots (pnt hp 3) 5).cast nbuf0_5)) (st0_6 (pnt hp 3)) (hstage0_6 ((cfg0.slots (pnt hp 3) 6).cast nbuf0_6)) (i2 m c (pnt hp 3)) (i3 m c (pnt hp 3)) (i4 m c (pnt hp 3)) (i5 m c (pnt hp 3)) (i6 m c (pnt hp 3)) f9 f10 f0 f1 fd g1 h1 g0 h0 fk fv f3

/-- After the pair's first query block. -/
def step0 (c : Dev nD) (hp : Fin 4) (s : Left (F := F) c) : Left (F := F) c :=
  if h2 : k0_cond2 (pt hp 0) = 1#1 then
    let R := (r0A m c hp h2 (st0_5 (pnt hp 0)).view.junk (st0_6 (pnt hp 0)).view.junk sc0.view.junk sc1.view.junk (s.D.toW hp 0 p0) sc2.view.junk).1
    ⟨(st0_5 (pnt hp 0)).view.read (Elt F) R.1, (st0_6 (pnt hp 0)).view.read (Elt F) R.2.1, R.2.2.1, R.2.2.2.1, s.D, ofW R.2.2.2.2.1, s.g1, s.g2⟩
  else
    let R := (r0B m c hp h2 (st0_5 (pnt hp 0)).view.junk (j10 c (pnt hp 0) s.d10) sc0.view.junk sc1.view.junk (s.D.toW hp 0 p0) sc2.view.junk).1
    ⟨(st0_5 (pnt hp 0)).view.read (Elt F) R.1, (st0_6 (pnt hp 0)).view.read (Elt F) R.2.1, R.2.2.1, R.2.2.2.1, s.D, ofW R.2.2.2.2.1, s.g1, s.g2⟩
/-- After the second. -/
def step1 (c : Dev nD) (hp : Fin 4) (s : Left (F := F) c) : Left (F := F) c :=
  let R := (r1 m c hp (st0_5 (pnt hp 1)).view.junk (j10 c (pnt hp 1) s.d10) s.a0 s.a1 (s.D.toW hp 512 p512) sc2.view.junk).1
  ⟨(st0_5 (pnt hp 1)).view.read (Elt F) R.1, (st0_6 (pnt hp 1)).view.read (Elt F) R.2.1, R.2.2.1, R.2.2.2.1, s.D, s.g0, ofW R.2.2.2.2.1, s.g2⟩
/-- After the third. -/
def step2 (c : Dev nD) (hp : Fin 4) (s : Left (F := F) c) : Left (F := F) c :=
  let R := (r2 m c hp (st0_5 (pnt hp 2)).view.junk (j10 c (pnt hp 2) s.d10) s.a0 s.a1 (s.D.toW hp 1024 p1024) (s.D.toW hp 0 p0) sc2.view.junk).1
  ⟨(st0_5 (pnt hp 2)).view.read (Elt F) R.1, (st0_6 (pnt hp 2)).view.read (Elt F) R.2.1, R.2.2.1, R.2.2.2.1, s.D, s.g0, s.g1, ofW R.2.2.2.2.1⟩
/-- After the fourth, the pair's six copies all landed. -/
def step3 (c : Dev nD) (hp : Fin 4) (s : Left (F := F) c) : Left (F := F) c :=
  let R := (r3 m c hp (st0_5 (pnt hp 3)).view.junk (j10 c (pnt hp 3) s.d10) s.a0 s.a1 (s.D.toW hp 1536 p1536) (s.D.toW hp 512 p512) sc2.view.junk (s.D.toW hp 1024 p1024) sc2.view.junk
    (s.D.toK hp 512 q512) (s.D.toK hp 1024 q1024) sc3.view.junk).1
  ⟨(st0_5 (pnt hp 3)).view.read (Elt F) R.1, (st0_6 (pnt hp 3)).view.read (Elt F) R.2.1, R.2.2.1, R.2.2.2.1,
    merge c hp s.g0 s.g1 s.g2 (ofW R.2.2.2.2.1) (ofK R.2.2.2.2.2.2.1) (ofK R.2.2.2.2.2.2.2.1) s.D, s.g0, s.g1, s.g2⟩

/-- What the first `n` points leave. -/
def st (c : Dev nD) : ℕ → Left (F := F) c
  | 0 => ⟨(st0_5 (pnt 0 0)).view.read (Elt F) (st0_5 (pnt 0 0)).view.junk, (st0_6 (pnt 0 0)).view.read (Elt F) (st0_6 (pnt 0 0)).view.junk, sc0.view.junk, sc1.view.junk, ⟨V m c main_v85_0⟩, ⟨V m c main_v85_0⟩, ⟨V m c main_v85_0⟩, ⟨V m c main_v85_0⟩⟩
  | n + 1 => match tm n with
    | ⟨0, _⟩ => step0 m c (pr n) (st c n)
    | ⟨1, _⟩ => step1 m c (pr n) (st c n)
    | ⟨2, _⟩ => step2 m c (pr n) (st c n)
    | ⟨3, _⟩ => step3 m c (pr n) (st c n)

theorem st_succ0 (c : Dev nD) (hp : Fin 4) : st m c (4 * hp.val + 1) = step0 m c hp (st m c (4 * hp.val)) := by
  have h := tm_pnt hp 0; have h' := pr_pnt hp 0
  rw [show 4 * hp.val + (0 : Fin 4).val = 4 * hp.val from rfl] at h h'
  rw [st, h, h']
theorem st_succ1 (c : Dev nD) (hp : Fin 4) : st m c (4 * hp.val + 2) = step1 m c hp (st m c (4 * hp.val + 1)) := by
  have h := tm_pnt hp 1; have h' := pr_pnt hp 1
  rw [show 4 * hp.val + (1 : Fin 4).val = 4 * hp.val + 1 from rfl] at h h'
  rw [st, h, h']
theorem st_succ2 (c : Dev nD) (hp : Fin 4) : st m c (4 * hp.val + 3) = step2 m c hp (st m c (4 * hp.val + 2)) := by
  have h := tm_pnt hp 2; have h' := pr_pnt hp 2
  rw [show 4 * hp.val + (2 : Fin 4).val = 4 * hp.val + 2 from rfl] at h h'
  rw [st, h, h']
theorem st_succ3 (c : Dev nD) (hp : Fin 4) : st m c (4 * hp.val + 4) = step3 m c hp (st m c (4 * hp.val + 3)) := by
  have h := tm_pnt hp 3; have h' := pr_pnt hp 3
  rw [show 4 * hp.val + (3 : Fin 4).val = 4 * hp.val + 3 from rfl] at h h'
  rw [st, h, h']

end Cert.KernelIdeal.Hand

end
-- ==== Proof.FoxBase.lean ====
/-
  The proof data: what holds before each point, and what each staging buffer holds.
-/
module

public import proofs.«01_k».proof.Proof.FoxState
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The buffer the body writes itself. -/
def R0 : Finset (Ref sig .tc) := {main_v85_0}

/-! ## @main up to the region -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

theorem frame_of (dats : (p : Fin 1) → (c : Dev nD) → Dat τ (Elt F) Unit ℕ (Pipeline.UD sig nD τ) ℕ (cfgs p) c)
    (h : θ_run defs (onTc (τ := τ) (main (F := F))) (s₀ m ρ) (fun r => Pipeline.FramePostR cfgs dats 0 R0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) h

/-! ## The body's cells and buffers -/

abbrev osem0 : Fin 4 → SemLoc sig := fun j => (![SemLoc.dma ⟨13, by decide⟩, SemLoc.dma ⟨14, by decide⟩, SemLoc.dma ⟨15, by decide⟩, SemLoc.dma ⟨16, by decide⟩] : Fin 4 → SemLoc sig) j
theorem ownSemFacts0 : Pipeline.OwnSemFacts spec0 osem0 := by decide
/-- A cell of the body's at zero. -/
abbrev idle (c : Dev nD) (k : DmaSem sig) : sProp 𝕄 := semVal ((c : Thread nD τ), SemLoc.dma k) 0
theorem ownSems00_eq (c : Dev nD) :
    (Pipeline.ownSems0 (Ix := Unit) (Name := ℕ) (U := Pipeline.UD sig nD τ) (Lvl := ℕ) (Val := Elt F) (τ := τ) osem0 c : sProp 𝕄)
      = iprop(idle c ⟨13, by decide⟩ ∗ idle c ⟨14, by decide⟩ ∗ idle c ⟨15, by decide⟩ ∗ idle c ⟨16, by decide⟩) := by
  rw [Pipeline.ownSems0_eq_of_list c osem0 [0, 1, 2, 3] (by decide) (by decide)]; rfl
def H0 : Finset (Ref sig .tc) := ∅
theorem H0_sub : H0 ⊆ Pipeline.restRefs sig spec0 := Finset.empty_subset _
theorem R0_sub : R0 ⊆ Pipeline.restRefs sig spec0 \ H0 := by
  intro b hb
  rw [R0, Finset.mem_singleton] at hb
  subst hb
  exact Finset.mem_sdiff.mpr ⟨Pipeline.mem_restRefs_of main_v85_0 (by decide) (by decide), by simp [H0]⟩

/-- The core's buffers at the region's end, the result among them. -/
def G (c : Dev nD) : (b : Ref sig .tc) → Buf (Elt F) ((c : Thread nD τ).loc b) := Function.update (V m c) main_v85_0 (st m c 16).D.v

theorem read_eq (c : Dev nD) : (bigSep H0 fun b => ((c.tc : Thread nD τ).loc b) ↦{fullShare} V m c b : sProp 𝕄) = BI.emp := by
  unfold H0; exact bigSep_empty
set_option maxHeartbeats 1000000 in
theorem routed_eq (c : Dev nD) (W : (b : Ref sig .tc) → Buf (Elt F) ((c : Thread nD τ).loc b)) :
    (Pipeline.routed R0 c W : sProp 𝕄) = heldB c ⟨W main_v85_0⟩ := by
  unfold Pipeline.routed R0; exact bigSep_singleton

/-! ## What holds before each point -/

abbrev c13 : DmaSem sig := ⟨13, by decide⟩
abbrev c14 : DmaSem sig := ⟨14, by decide⟩
abbrev c15 : DmaSem sig := ⟨15, by decide⟩
abbrev c16 : DmaSem sig := ⟨16, by decide⟩
/-- A copy of slot `s` under way that leaves `g` in its window. -/
abbrev onWay (c : Dev nD) (k : DmaSem sig) (hp : Fin 4) (r : ℕ) (hr : r + 512 ≤ 2048) (s : ℕ) (hs : s < 2) (g : Cnt (F := F) c) : sProp 𝕄 :=
  iprop(∃ h, flying c k hp r hr s hs (g.toW hp r hr) h)

/-- Before a pair: nothing under way, the result at `D`. -/
def I0 (c : Dev nD) (D : Cnt (F := F) c) : sProp 𝕄 :=
  iprop((∃ f, held c sc0 f) ∗ (∃ f, held c sc1 f) ∗ (∃ f, held2 c f) ∗ (∃ f, held c sc3 f) ∗ (∃ r, prngReg c r)
    ∗ idle c c13 ∗ idle c c14 ∗ idle c c15 ∗ idle c c16 ∗ heldB c D)
/-- After the pair's first query block: its gradient's copy under way. -/
def I1 (c : Dev nD) (hp : Fin 4) (s : Left (F := F) c) : sProp 𝕄 :=
  iprop(held c sc0 s.a0 ∗ held c sc1 s.a1 ∗ (∃ f, held c sc3 f) ∗ (∃ r, prngReg c r) ∗ (∃ f, rest2 c f) ∗ (∃ f, held c (slotM 1 l1) f)
    ∗ onWay c c13 hp 0 p0 0 l0 s.g0 ∗ idle c c14 ∗ idle c c15 ∗ idle c c16
    ∗ heldW c hp 512 p512 s.D ∗ heldW c hp 1024 p1024 s.D ∗ heldW c hp 1536 p1536 s.D ∗ heldK c hp 512 q512 s.D ∗ heldK c hp 1024 q1024 s.D ∗ rest c hp s.D)
/-- After the second: two copies under way. -/
def I2 (c : Dev nD) (hp : Fin 4) (s : Left (F := F) c) : sProp 𝕄 :=
  iprop(held c sc0 s.a0 ∗ held c sc1 s.a1 ∗ (∃ f, held c sc3 f) ∗ (∃ r, prngReg c r) ∗ (∃ f, rest2 c f)
    ∗ onWay c c13 hp 0 p0 0 l0 s.g0 ∗ onWay c c14 hp 512 p512 1 l1 s.g1 ∗ idle c c15 ∗ idle c c16
    ∗ heldW c hp 1024 p1024 s.D ∗ heldW c hp 1536 p1536 s.D ∗ heldK c hp 512 q512 s.D ∗ heldK c hp 1024 q1024 s.D ∗ rest c hp s.D)
/-- After the third: the first has landed, two more are under way. -/
def I3 (c : Dev nD) (hp : Fin 4) (s : Left (F := F) c) : sProp 𝕄 :=
  iprop(held c sc0 s.a0 ∗ held c sc1 s.a1 ∗ (∃ f, held c sc3 f) ∗ (∃ r, prngReg c r) ∗ (∃ f, rest2 c f)
    ∗ onWay c c14 hp 512 p512 1 l1 s.g1 ∗ onWay c c13 hp 1024 p1024 0 l0 s.g2 ∗ idle c c15 ∗ idle c c16
    ∗ heldW c hp 0 p0 s.g0 ∗ heldW c hp 1536 p1536 s.D ∗ heldK c hp 512 q512 s.D ∗ heldK c hp 1024 q1024 s.D ∗ rest c hp s.D)

def Inv (c : Dev nD) (n : ℕ) : sProp 𝕄 := match tm n with
  | ⟨0, _⟩ => I0 c (st m c n).D
  | ⟨1, _⟩ => I1 c (pr n) (st m c n)
  | ⟨2, _⟩ => I2 c (pr n) (st m c n)
  | ⟨3, _⟩ => I3 c (pr n) (st m c n)
theorem Inv_0 (c : Dev nD) (hp : Fin 4) : Inv m c (4 * hp.val) = I0 c (st m c (4 * hp.val)).D := by
  unfold Inv; rw [show tm (4 * hp.val) = 0 from tm_pnt hp 0]
theorem Inv_1 (c : Dev nD) (hp : Fin 4) : Inv m c (4 * hp.val + 1) = I1 c hp (st m c (4 * hp.val + 1)) := by
  unfold Inv; rw [show tm (4 * hp.val + 1) = 1 from tm_pnt hp 1, show pr (4 * hp.val + 1) = hp from pr_pnt hp 1]
theorem Inv_2 (c : Dev nD) (hp : Fin 4) : Inv m c (4 * hp.val + 2) = I2 c hp (st m c (4 * hp.val + 2)) := by
  unfold Inv; rw [show tm (4 * hp.val + 2) = 2 from tm_pnt hp 2, show pr (4 * hp.val + 2) = hp from pr_pnt hp 2]
theorem Inv_3 (c : Dev nD) (hp : Fin 4) : Inv m c (4 * hp.val + 3) = I3 c hp (st m c (4 * hp.val + 3)) := by
  unfold Inv; rw [show tm (4 * hp.val + 3) = 3 from tm_pnt hp 3, show pr (4 * hp.val + 3) = hp from pr_pnt hp 3]
theorem Inv_4 (c : Dev nD) (hp : Fin 4) : Inv m c (4 * hp.val + 4) = I0 c (st m c (4 * hp.val + 4)).D := by
  unfold Inv; rw [show tm (4 * hp.val + 4) = 0 from Fin.ext (by show (4 * hp.val + 4) % 4 = 0; omega)]

/-! ## The proof data -/

/-- The arrays as the region finds them; the inputs' buffers left as they are, the outputs' at what the points leave. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (st m c (t.val + 1)).o9
    | ⟨6, _⟩ => (st m c (t.val + 1)).d10
  Φ n := Inv m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (st m c (t.val + 1)).o9 := by dsimp only [dats]
theorem after0_6 (c : Dev nD) (t : Fin cfg0.N) : (dats m 0 c).after 6 t = (st m c (t.val + 1)).d10 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- Neither output is left alone at any point. -/
theorem idle5 : ∀ hp t : Fin 4, idle0 5 (pt hp t) = false := by decide +kernel
theorem idle6 : ∀ hp t : Fin 4, idle0 6 (pt hp t) = false := by decide +kernel
theorem pt_eta (i : grid0.Coords) : i = pt (i 0) (i 1) := by
  funext a
  match a with
  | ⟨0, _⟩ => rfl
  | ⟨1, _⟩ => rfl
theorem idle5' (i : grid0.Coords) : idle0 5 i = false := by rw [pt_eta i]; exact idle5 _ _
theorem idle6' (i : grid0.Coords) : idle0 6 i = false := by rw [pt_eta i]; exact idle6 _ _
theorem before0_6 (c : Dev nD) (t : Fin cfg0.N) (ht : t.val ≠ 0) (d) : (dats m 0 c).before 6 t d = (st m c t.val).d10 := by
  have ht16 := lt_of_lt_of_eq t.isLt N_c
  have hfl : (cfg0.win 6).flush ⟨t.val - 1, Nat.lt_of_le_of_lt (Nat.sub_le _ _) t.isLt⟩ = false := by
    rw [Bool.eq_false_iff]; intro h
    have := (flush0_6 _).mp h
    simp only at this; omega
  rw [Dat.before_out_kept (dats m 0 c) 6 rfl t ht hfl idle6' (fun _ _ => rfl) d, after0_6]
  show (st m c (t.val - 1 + 1)).d10 = _
  rw [Nat.sub_add_cancel (Nat.one_le_iff_ne_zero.mpr ht)]

/-! ## The body at each point -/

/-- The inputs' staging buffers at their blocks. -/
abbrev ins (c : Dev nD) (t : Fin cfg0.N) : sProp 𝕄 :=
  iprop(held c (st0_0 t) (i2 m c t) ∗ held c (st0_1 t) (i3 m c t) ∗ held c (st0_2 t) (i4 m c t) ∗ held c (st0_3 t) (i5 m c t) ∗ held c (st0_4 t) (i6 m c t))
/-- The outputs' staging buffers at the blocks `s` names. -/
abbrev outs (c : Dev nD) (t : Fin cfg0.N) (s : Left (F := F) c) : sProp 𝕄 :=
  iprop(owns (c : Thread nD τ) (st0_5 t) fullShare s.o9 ∗ owns (c : Thread nD τ) (st0_6 t) fullShare s.d10)
/-- What a point is handed of the second output: nothing known of it at the first point, else what the point before left. -/
abbrev in6 (c : Dev nD) (t : Fin cfg0.N) (s : Left (F := F) c) : sProp 𝕄 :=
  iprop(∃ f : HBuf (F := F) c (st0_6 t), ⌜t.val ≠ 0 → f = j10 c t s.d10⌝ ∗ held c (st0_6 t) f)

/-- The point's claim: from the invariant before it to the invariant after it. -/
def Good (c : Dev nD) (t : Fin cfg0.N) : Prop := ∀ (W : Waits sig Unit) (K : PUnit → sProp 𝕄),
  iprop(Inv m c t.val ∗ ins m c t ∗ (∃ f : HBuf (F := F) c (st0_5 t), held c (st0_5 t) f) ∗ in6 c t (st m c t.val) ∗ owes (c : Thread nD τ) 0 W
      ∗ (iprop(Inv m c (t.val + 1) ∗ ins m c t ∗ outs c t (st m c (t.val + 1)) ∗ (∃ W', owes (c : Thread nD τ) 0 W')) -∗ K ⟨⟩))
    ⊢ wp frame (wpE (defs₀ (F := F)) Variants.none c none) Set.univ (bodyAt0 t) K

theorem cond2_0 : ∀ hp : Fin 4, k0_cond2 (pt hp 0) = 1#1 ↔ hp.val = 0 := by decide +kernel

end Cert.KernelIdeal.Hand

end
-- ==== Proof.FoxSame.lean ====
/-
  A point's results do not hang on what the buffers it overwrites held before.
-/
module

public import proofs.«01_k».proof.Proof.FoxState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## A point's results do not hang on what its buffers held before -/

set_option maxHeartbeats 2000000 in
theorem r0A_val (c : Dev nD) (hp : Fin 4) (h2 : k0_cond2 (pt hp 0) = 1#1) (f9 f9' : HBuf (F := F) c (st0_5 (pnt hp 0))) (f10 f10' : HBuf (F := F) c (st0_6 (pnt hp 0))) (f0 f0' : HBuf (F := F) c sc0) (f1 f1' : HBuf (F := F) c sc1) (fd : HBuf (F := F) c (dqW hp 0 p0)) (fs fs' : HBuf (F := F) c (slotM 0 l0))  :
    let R := (r0A m c hp h2 f9 f10 f0 f1 fd fs).1
    let R' := (r0A m c hp h2 f9' f10' f0' f1' fd fs').1
    (st0_5 (pnt hp 0)).view.read (Elt F) R.1 = (st0_5 (pnt hp 0)).view.read (Elt F) R'.1 ∧ (st0_6 (pnt hp 0)).view.read (Elt F) R.2.1 = (st0_6 (pnt hp 0)).view.read (Elt F) R'.2.1 ∧ R.2.2.1 = R'.2.2.1 ∧ R.2.2.2.1 = R'.2.2.2.1 ∧ R.2.2.2.2.1 = R'.2.2.2.2.1 :=
  run0A_val c hp (st0_0 (pnt hp 0)) (hstage0_0 ((cfg0.slots (pnt hp 0) 0).cast nbuf0_0)) (st0_1 (pnt hp 0)) (hstage0_1 ((cfg0.slots (pnt hp 0) 1).cast nbuf0_1)) (st0_2 (pnt hp 0)) (hstage0_2 ((cfg0.slots (pnt hp 0) 2).cast nbuf0_2)) (st0_3 (pnt hp 0)) (hstage0_3 ((cfg0.slots (pnt hp 0) 3).cast nbuf0_3)) (st0_4 (pnt hp 0)) (hstage0_4 ((cfg0.slots (pnt hp 0) 4).cast nbuf0_4)) (st0_5 (pnt hp 0)) (hstage0_5 ((cfg0.slots (pnt hp 0) 5).cast nbuf0_5)) (st0_6 (pnt hp 0)) (hstage0_6 ((cfg0.slots (pnt hp 0) 6).cast nbuf0_6)) (i2 m c (pnt hp 0)) (i3 m c (pnt hp 0)) (i4 m c (pnt hp 0)) (i5 m c (pnt hp 0)) (i6 m c (pnt hp 0)) h2 f9 f9' f10 f10' f0 f0' f1 f1' fd fs fs'

set_option maxHeartbeats 2000000 in
theorem r0B_val (c : Dev nD) (hp : Fin 4) (h2 : ¬ k0_cond2 (pt hp 0) = 1#1) (f9 f9' : HBuf (F := F) c (st0_5 (pnt hp 0))) (f10 : HBuf (F := F) c (st0_6 (pnt hp 0))) (f0 f0' : HBuf (F := F) c sc0) (f1 f1' : HBuf (F := F) c sc1) (fd : HBuf (F := F) c (dqW hp 0 p0)) (fs fs' : HBuf (F := F) c (slotM 0 l0))  :
    let R := (r0B m c hp h2 f9 f10 f0 f1 fd fs).1
    let R' := (r0B m c hp h2 f9' f10 f0' f1' fd fs').1
    (st0_5 (pnt hp 0)).view.read (Elt F) R.1 = (st0_5 (pnt hp 0)).view.read (Elt F) R'.1 ∧ R.2.1 = R'.2.1 ∧ R.2.2.1 = R'.2.2.1 ∧ R.2.2.2.1 = R'.2.2.2.1 ∧ R.2.2.2.2.1 = R'.2.2.2.2.1 :=
  run0B_val c hp (st0_0 (pnt hp 0)) (hstage0_0 ((cfg0.slots (pnt hp 0) 0).cast nbuf0_0)) (st0_1 (pnt hp 0)) (hstage0_1 ((cfg0.slots (pnt hp 0) 1).cast nbuf0_1)) (st0_2 (pnt hp 0)) (hstage0_2 ((cfg0.slots (pnt hp 0) 2).cast nbuf0_2)) (st0_3 (pnt hp 0)) (hstage0_3 ((cfg0.slots (pnt hp 0) 3).cast nbuf0_3)) (st0_4 (pnt hp 0)) (hstage0_4 ((cfg0.slots (pnt hp 0) 4).cast nbuf0_4)) (st0_5 (pnt hp 0)) (hstage0_5 ((cfg0.slots (pnt hp 0) 5).cast nbuf0_5)) (st0_6 (pnt hp 0)) (hstage0_6 ((cfg0.slots (pnt hp 0) 6).cast nbuf0_6)) (i2 m c (pnt hp 0)) (i3 m c (pnt hp 0)) (i4 m c (pnt hp 0)) (i5 m c (pnt hp 0)) (i6 m c (pnt hp 0)) h2 f9 f9' f10 f0 f0' f1 f1' fd fs fs'

set_option maxHeartbeats 2000000 in
theorem r1_val (c : Dev nD) (hp : Fin 4) (f9 f9' : HBuf (F := F) c (st0_5 (pnt hp 1))) (f10 : HBuf (F := F) c (st0_6 (pnt hp 1))) (f0 : HBuf (F := F) c sc0) (f1 : HBuf (F := F) c sc1) (fd : HBuf (F := F) c (dqW hp 512 p512)) (fs fs' : HBuf (F := F) c (slotM 1 l1))  :
    let R := (r1 m c hp f9 f10 f0 f1 fd fs).1
    let R' := (r1 m c hp f9' f10 f0 f1 fd fs').1
    (st0_5 (pnt hp 1)).view.read (Elt F) R.1 = (st0_5 (pnt hp 1)).view.read (Elt F) R'.1 ∧ R.2.1 = R'.2.1 ∧ R.2.2.1 = R'.2.2.1 ∧ R.2.2.2.1 = R'.2.2.2.1 ∧ R.2.2.2.2.1 = R'.2.2.2.2.1 :=
  run1_val c hp (st0_0 (pnt hp 1)) (hstage0_0 ((cfg0.slots (pnt hp 1) 0).cast nbuf0_0)) (st0_1 (pnt hp 1)) (hstage0_1 ((cfg0.slots (pnt hp 1) 1).cast nbuf0_1)) (st0_2 (pnt hp 1)) (hstage0_2 ((cfg0.slots (pnt hp 1) 2).cast nbuf0_2)) (st0_3 (pnt hp 1)) (hstage0_3 ((cfg0.slots (pnt hp 1) 3).cast nbuf0_3)) (st0_4 (pnt hp 1)) (hstage0_4 ((cfg0.slots (pnt hp 1) 4).cast nbuf0_4)) (st0_5 (pnt hp 1)) (hstage0_5 ((cfg0.slots (pnt hp 1) 5).cast nbuf0_5)) (st0_6 (pnt hp 1)) (hstage0_6 ((cfg0.slots (pnt hp 1) 6).cast nbuf0_6)) (i2 m c (pnt hp 1)) (i3 m c (pnt hp 1)) (i4 m c (pnt hp 1)) (i5 m c (pnt hp 1)) (i6 m c (pnt hp 1)) f9 f9' f10 f0 f1 fd fs fs'

set_option maxHeartbeats 2000000 in
theorem r2_val (c : Dev nD) (hp : Fin 4) (f9 f9' : HBuf (F := F) c (st0_5 (pnt hp 2))) (f10 : HBuf (F := F) c (st0_6 (pnt hp 2))) (f0 : HBuf (F := F) c sc0) (f1 : HBuf (F := F) c sc1) (fd : HBuf (F := F) c (dqW hp 1024 p1024)) (g g' : HBuf (F := F) c (dqW hp 0 p0)) (fs fs' : HBuf (F := F) c (slotM 0 l0))  :
    let R := (r2 m c hp f9 f10 f0 f1 fd g fs).1
    let R' := (r2 m c hp f9' f10 f0 f1 fd g' fs').1
    (st0_5 (pnt hp 2)).view.read (Elt F) R.1 = (st0_5 (pnt hp 2)).view.read (Elt F) R'.1 ∧ R.2.1 = R'.2.1 ∧ R.2.2.1 = R'.2.2.1 ∧ R.2.2.2.1 = R'.2.2.2.1 ∧ R.2.2.2.2.1 = R'.2.2.2.2.1 :=
  run2_val c hp (st0_0 (pnt hp 2)) (hstage0_0 ((cfg0.slots (pnt hp 2) 0).cast nbuf0_0)) (st0_1 (pnt hp 2)) (hstage0_1 ((cfg0.slots (pnt hp 2) 1).cast nbuf0_1)) (st0_2 (pnt hp 2)) (hstage0_2 ((cfg0.slots (pnt hp 2) 2).cast nbuf0_2)) (st0_3 (pnt hp 2)) (hstage0_3 ((cfg0.slots (pnt hp 2) 3).cast nbuf0_3)) (st0_4 (pnt hp 2)) (hstage0_4 ((cfg0.slots (pnt hp 2) 4).cast nbuf0_4)) (st0_5 (pnt hp 2)) (hstage0_5 ((cfg0.slots (pnt hp 2) 5).cast nbuf0_5)) (st0_6 (pnt hp 2)) (hstage0_6 ((cfg0.slots (pnt hp 2) 6).cast nbuf0_6)) (i2 m c (pnt hp 2)) (i3 m c (pnt hp 2)) (i4 m c (pnt hp 2)) (i5 m c (pnt hp 2)) (i6 m c (pnt hp 2)) f9 f9' f10 f0 f1 fd g g' fs fs'

set_option maxHeartbeats 2000000 in
theorem r3_val (c : Dev nD) (hp : Fin 4) (f9 f9' : HBuf (F := F) c (st0_5 (pnt hp 3))) (f10 : HBuf (F := F) c (st0_6 (pnt hp 3))) (f0 : HBuf (F := F) c sc0) (f1 : HBuf (F := F) c sc1) (fd : HBuf (F := F) c (dqW hp 1536 p1536)) (g1 g1' : HBuf (F := F) c (dqW hp 512 p512)) (fs fs' : HBuf (F := F) c (slotM 1 l1)) (g0 g0' : HBuf (F := F) c (dqW hp 1024 p1024)) (h0 h0' : HBuf (F := F) c (slotM 0 l0)) (fk : HBuf (F := F) c (kvW hp 512 q512)) (fv : HBuf (F := F) c (kvW hp 1024 q1024)) (f3 f3' : HBuf (F := F) c sc3)  :
    let R := (r3 m c hp f9 f10 f0 f1 fd g1 fs g0 h0 fk fv f3).1
    let R' := (r3 m c hp f9' f10 f0 f1 fd g1' fs' g0' h0' fk fv f3').1
    (st0_5 (pnt hp 3)).view.read (Elt F) R.1 = (st0_5 (pnt hp 3)).view.read (Elt F) R'.1 ∧ R.2.1 = R'.2.1 ∧ R.2.2.1 = R'.2.2.1 ∧ R.2.2.2.1 = R'.2.2.2.1 ∧ R.2.2.2.2.1 = R'.2.2.2.2.1 ∧ R.2.2.2.2.2.2.1 = R'.2.2.2.2.2.2.1 ∧ R.2.2.2.2.2.2.2.1 = R'.2.2.2.2.2.2.2.1 :=
  run3_val c hp (st0_0 (pnt hp 3)) (hstage0_0 ((cfg0.slots (pnt hp 3) 0).cast nbuf0_0)) (st0_1 (pnt hp 3)) (hstage0_1 ((cfg0.slots (pnt hp 3) 1).cast nbuf0_1)) (st0_2 (pnt hp 3)) (hstage0_2 ((cfg0.slots (pnt hp 3) 2).cast nbuf0_2)) (st0_3 (pnt hp 3)) (hstage0_3 ((cfg0.slots (pnt hp 3) 3).cast nbuf0_3)) (st0_4 (pnt hp 3)) (hstage0_4 ((cfg0.slots (pnt hp 3) 4).cast nbuf0_4)) (st0_5 (pnt hp 3)) (hstage0_5 ((cfg0.slots (pnt hp 3) 5).cast nbuf0_5)) (st0_6 (pnt hp 3)) (hstage0_6 ((cfg0.slots (pnt hp 3) 6).cast nbuf0_6)) (i2 m c (pnt hp 3)) (i3 m c (pnt hp 3)) (i4 m c (pnt hp 3)) (i5 m c (pnt hp 3)) (i6 m c (pnt hp 3)) f9 f9' f10 f0 f1 fd g1 g1' fs fs' g0 g0' h0 h0' fk fv f3 f3'

end Cert.KernelIdeal.Hand

end
-- ==== Proof.FoxBody.lean ====
/-
  The body at each point of the grid.
-/
module

public import proofs.«01_k».proof.Proof.FoxBase
public import proofs.«01_k».proof.Proof.FoxSame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

attribute [local irreducible] run0A run0B run1 run2 run3

set_option maxHeartbeats 4000000 in
theorem core0A (c : Dev nD) (hp : Fin 4) (s : Left (F := F) c) (h2 : k0_cond2 (pt hp 0) = 1#1)
    (X : ∀ (f9 : HBuf (F := F) c (st0_5 (pnt hp 0))) (f10 : HBuf (F := F) c (st0_6 (pnt hp 0))) (f0 : HBuf (F := F) c sc0) (f1 : HBuf (F := F) c sc1) (f2 : HBuf (F := F) c sc2), type_of% (r0A m c hp h2 f9 f10 f0 f1 (s.D.toW hp 0 p0) f2))
    (R' : HBuf (F := F) c (st0_5 (pnt hp 0)) × HBuf (F := F) c (st0_6 (pnt hp 0)) × HBuf (F := F) c sc0 × HBuf (F := F) c sc1 × HBuf (F := F) c (dqW hp 0 p0) × HBuf (F := F) c (slotM 0 l0))
    (hv : ∀ (f9 : HBuf (F := F) c (st0_5 (pnt hp 0))) (f10 : HBuf (F := F) c (st0_6 (pnt hp 0))) (f0 : HBuf (F := F) c sc0) (f1 : HBuf (F := F) c sc1) (f2 : HBuf (F := F) c sc2), (st0_5 (pnt hp 0)).view.read (Elt F) (X f9 f10 f0 f1 f2).1.1 = (st0_5 (pnt hp 0)).view.read (Elt F) R'.1 ∧ (st0_6 (pnt hp 0)).view.read (Elt F) (X f9 f10 f0 f1 f2).1.2.1 = (st0_6 (pnt hp 0)).view.read (Elt F) R'.2.1 ∧ (X f9 f10 f0 f1 f2).1.2.2.1 = R'.2.2.1 ∧ (X f9 f10 f0 f1 f2).1.2.2.2.1 = R'.2.2.2.1 ∧ (X f9 f10 f0 f1 f2).1.2.2.2.2.1 = R'.2.2.2.2.1)
    (W : Waits sig Unit) (K : PUnit → sProp 𝕄) :
    iprop(I0 c s.D ∗ ins m c (pnt hp 0) ∗ (∃ f : HBuf (F := F) c (st0_5 (pnt hp 0)), held c (st0_5 (pnt hp 0)) f) ∗ in6 c (pnt hp 0) s ∗ owes (c : Thread nD τ) 0 W
        ∗ (iprop(I1 c hp (⟨(st0_5 (pnt hp 0)).view.read (Elt F) R'.1, (st0_6 (pnt hp 0)).view.read (Elt F) R'.2.1, R'.2.2.1, R'.2.2.2.1, s.D, ofW R'.2.2.2.2.1, s.g1, s.g2⟩ : Left (F := F) c) ∗ ins m c (pnt hp 0) ∗ outs c (pnt hp 0) (⟨(st0_5 (pnt hp 0)).view.read (Elt F) R'.1, (st0_6 (pnt hp 0)).view.read (Elt F) R'.2.1, R'.2.2.1, R'.2.2.2.1, s.D, ofW R'.2.2.2.2.1, s.g1, s.g2⟩ : Left (F := F) c) ∗ (∃ W', owes (c : Thread nD τ) 0 W')) -∗ K ⟨⟩))
      ⊢ wp frame (wpE (defs₀ (F := F)) Variants.none c none) Set.univ (bodyP hp (st0_0 (pnt hp 0)) (hstage0_0 ((cfg0.slots (pnt hp 0) 0).cast nbuf0_0)) (st0_1 (pnt hp 0)) (hstage0_1 ((cfg0.slots (pnt hp 0) 1).cast nbuf0_1)) (st0_2 (pnt hp 0)) (hstage0_2 ((cfg0.slots (pnt hp 0) 2).cast nbuf0_2)) (st0_3 (pnt hp 0)) (hstage0_3 ((cfg0.slots (pnt hp 0) 3).cast nbuf0_3)) (st0_4 (pnt hp 0)) (hstage0_4 ((cfg0.slots (pnt hp 0) 4).cast nbuf0_4)) (st0_5 (pnt hp 0)) (hstage0_5 ((cfg0.slots (pnt hp 0) 5).cast nbuf0_5)) (st0_6 (pnt hp 0)) (hstage0_6 ((cfg0.slots (pnt hp 0) 6).cast nbuf0_6)) 0) K := by
  unfold I0 I1
  iintro ⟨⟨⟨%f0, HS0⟩, ⟨%f1, HS1⟩, ⟨%f2, HS2⟩, HS3, Hg, Hq0, Hq1, Hq2, Hq3, HB⟩, ⟨H2, H3, H4, H5, H6⟩, ⟨%f9, H9⟩, ⟨%f10, %h10, H10⟩, HW, Hk⟩
  ihave HB := (hb_split c hp s.D) $$ HB
  icases HB with ⟨HD, HD1, HD2, HD3, HK, HVw, HR⟩
  ihave HS2 := (slots_split c f2) $$ HS2
  icases HS2 with ⟨HT0, HT1, HT2⟩
  have hv := hv f9 f10 f0 f1 f2
  generalize X f9 f10 f0 f1 f2 = Y at hv
  obtain ⟨R, hrun⟩ := Y
  obtain ⟨b9, b10, b0, b1, bd, bs⟩ := R
  obtain ⟨a9, a10, a0, a1, ad, u2⟩ := R'
  dsimp only at hv ⊢
  obtain ⟨h9, h10', rfl, rfl, rfl⟩ := hv
  iapply (hrun W K)
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [HS0]; · iexact HS0
  isplitl [HS1]; · iexact HS1
  isplitl [HT0]; · iexact HT0
  isplitl [Hq0]; · iexact Hq0
  isplitl [HD]; · iexact HD
  isplitl [HW]; · iexact HW
  iintro ⟨H2, H3, H4, H5, H6, H9, H10, HS0, HS1, HF, HW⟩
  iapply Hk
  isplitl [HS0 HS1 HS3 Hg HT2 HT1 HF Hq1 Hq2 Hq3 HD1 HD2 HD3 HK HVw HR]
  · isplitl [HS0]; · iexact HS0
    isplitl [HS1]; · iexact HS1
    isplitl [HS3]; · iexact HS3
    isplitl [Hg]; · iexact Hg
    isplitl [HT2]; · iexists _; iexact HT2
    isplitl [HT1]; · iexists _; iexact HT1
    isplitl [HF]; · iexists _; iexact HF
    isplitl [Hq1]; · iexact Hq1
    isplitl [Hq2]; · iexact Hq2
    isplitl [Hq3]; · iexact Hq3
    isplitl [HD1]; · iexact HD1
    isplitl [HD2]; · iexact HD2
    isplitl [HD3]; · iexact HD3
    isplitl [HK]; · iexact HK
    isplitl [HVw]; · iexact HVw
    iexact HR
  isplitl [H2 H3 H4 H5 H6]
  · isplitl [H2]; · iexact H2
    isplitl [H3]; · iexact H3
    isplitl [H4]; · iexact H4
    isplitl [H5]; · iexact H5
    iexact H6
  isplitl [H9 H10]
  · isplitl [H9]
    · unfold owns; iexists _; isplitr
      swap; · iexact H9
      ipureintro; exact h9
    unfold owns; iexists _; isplitr
    swap; · iexact H10
    ipureintro; exact h10'
  iexact HW

theorem step0A_eq (c : Dev nD) (hp : Fin 4) (s : Left (F := F) c) (h2 : k0_cond2 (pt hp 0) = 1#1) : step0 m c hp s = (⟨(st0_5 (pnt hp 0)).view.read (Elt F) (r0A m c hp h2 (st0_5 (pnt hp 0)).view.junk (st0_6 (pnt hp 0)).view.junk sc0.view.junk sc1.view.junk (s.D.toW hp 0 p0) sc2.view.junk).1.1, (st0_6 (pnt hp 0)).view.read (Elt F) (r0A m c hp h2 (st0_5 (pnt hp 0)).view.junk (st0_6 (pnt hp 0)).view.junk sc0.view.junk sc1.view.junk (s.D.toW hp 0 p0) sc2.view.junk).1.2.1, (r0A m c hp h2 (st0_5 (pnt hp 0)).view.junk (st0_6 (pnt hp 0)).view.junk sc0.view.junk sc1.view.junk (s.D.toW hp 0 p0) sc2.view.junk).1.2.2.1, (r0A m c hp h2 (st0_5 (pnt hp 0)).view.junk (st0_6 (pnt hp 0)).view.junk sc0.view.junk sc1.view.junk (s.D.toW hp 0 p0) sc2.view.junk).1.2.2.2.1, s.D, ofW (r0A m c hp h2 (st0_5 (pnt hp 0)).view.junk (st0_6 (pnt hp 0)).view.junk sc0.view.junk sc1.view.junk (s.D.toW hp 0 p0) sc2.view.junk).1.2.2.2.2.1, s.g1, s.g2⟩ : Left (F := F) c) := by
  unfold step0; rw [dif_pos h2]
set_option maxHeartbeats 4000000 in
theorem good0A (c : Dev nD) (hp : Fin 4) (h2 : k0_cond2 (pt hp 0) = 1#1) : Good m c (pnt hp 0) := by
  intro W K
  rw [show (pnt hp 0).val = 4 * hp.val from rfl, Inv_0, Inv_1, st_succ0]
  unfold bodyAt0
  rw [coords_pnt]
  generalize st m c (4 * hp.val) = s
  rw [step0A_eq m c hp s h2]
  exact core0A m c hp s h2 (fun f9 f10 f0 f1 f2 => r0A m c hp h2 f9 f10 f0 f1 (s.D.toW hp 0 p0) f2) (r0A m c hp h2 (st0_5 (pnt hp 0)).view.junk (st0_6 (pnt hp 0)).view.junk sc0.view.junk sc1.view.junk (s.D.toW hp 0 p0) sc2.view.junk).1 (fun f9 f10 f0 f1 f2 => r0A_val m c hp h2 f9 (st0_5 (pnt hp 0)).view.junk f10 (st0_6 (pnt hp 0)).view.junk f0 sc0.view.junk f1 sc1.view.junk (s.D.toW hp 0 p0) f2 sc2.view.junk) W K

set_option maxHeartbeats 4000000 in
theorem core0B (c : Dev nD) (hp : Fin 4) (s : Left (F := F) c) (h2 : ¬ k0_cond2 (pt hp 0) = 1#1)
    (X : ∀ (f9 : HBuf (F := F) c (st0_5 (pnt hp 0))) (f0 : HBuf (F := F) c sc0) (f1 : HBuf (F := F) c sc1) (f2 : HBuf (F := F) c sc2), type_of% (r0B m c hp h2 f9 (j10 c (pnt hp 0) s.d10) f0 f1 (s.D.toW hp 0 p0) f2))
    (R' : HBuf (F := F) c (st0_5 (pnt hp 0)) × HBuf (F := F) c (st0_6 (pnt hp 0)) × HBuf (F := F) c sc0 × HBuf (F := F) c sc1 × HBuf (F := F) c (dqW hp 0 p0) × HBuf (F := F) c (slotM 0 l0))
    (hv : ∀ (f9 : HBuf (F := F) c (st0_5 (pnt hp 0))) (f0 : HBuf (F := F) c sc0) (f1 : HBuf (F := F) c sc1) (f2 : HBuf (F := F) c sc2), (st0_5 (pnt hp 0)).view.read (Elt F) (X f9 f0 f1 f2).1.1 = (st0_5 (pnt hp 0)).view.read (Elt F) R'.1 ∧ (X f9 f0 f1 f2).1.2.1 = R'.2.1 ∧ (X f9 f0 f1 f2).1.2.2.1 = R'.2.2.1 ∧ (X f9 f0 f1 f2).1.2.2.2.1 = R'.2.2.2.1 ∧ (X f9 f0 f1 f2).1.2.2.2.2.1 = R'.2.2.2.2.1)
    (W : Waits sig Unit) (K : PUnit → sProp 𝕄) :
    iprop(I0 c s.D ∗ ins m c (pnt hp 0) ∗ (∃ f : HBuf (F := F) c (st0_5 (pnt hp 0)), held c (st0_5 (pnt hp 0)) f) ∗ in6 c (pnt hp 0) s ∗ owes (c : Thread nD τ) 0 W
        ∗ (iprop(I1 c hp (⟨(st0_5 (pnt hp 0)).view.read (Elt F) R'.1, (st0_6 (pnt hp 0)).view.read (Elt F) R'.2.1, R'.2.2.1, R'.2.2.2.1, s.D, ofW R'.2.2.2.2.1, s.g1, s.g2⟩ : Left (F := F) c) ∗ ins m c (pnt hp 0) ∗ outs c (pnt hp 0) (⟨(st0_5 (pnt hp 0)).view.read (Elt F) R'.1, (st0_6 (pnt hp 0)).view.read (Elt F) R'.2.1, R'.2.2.1, R'.2.2.2.1, s.D, ofW R'.2.2.2.2.1, s.g1, s.g2⟩ : Left (F := F) c) ∗ (∃ W', owes (c : Thread nD τ) 0 W')) -∗ K ⟨⟩))
      ⊢ wp frame (wpE (defs₀ (F := F)) Variants.none c none) Set.univ (bodyP hp (st0_0 (pnt hp 0)) (hstage0_0 ((cfg0.slots (pnt hp 0) 0).cast nbuf0_0)) (st0_1 (pnt hp 0)) (hstage0_1 ((cfg0.slots (pnt hp 0) 1).cast nbuf0_1)) (st0_2 (pnt hp 0)) (hstage0_2 ((cfg0.slots (pnt hp 0) 2).cast nbuf0_2)) (st0_3 (pnt hp 0)) (hstage0_3 ((cfg0.slots (pnt hp 0) 3).cast nbuf0_3)) (st0_4 (pnt hp 0)) (hstage0_4 ((cfg0.slots (pnt hp 0) 4).cast nbuf0_4)) (st0_5 (pnt hp 0)) (hstage0_5 ((cfg0.slots (pnt hp 0) 5).cast nbuf0_5)) (st0_6 (pnt hp 0)) (hstage0_6 ((cfg0.slots (pnt hp 0) 6).cast nbuf0_6)) 0) K := by
  unfold I0 I1
  iintro ⟨⟨⟨%f0, HS0⟩, ⟨%f1, HS1⟩, ⟨%f2, HS2⟩, HS3, Hg, Hq0, Hq1, Hq2, Hq3, HB⟩, ⟨H2, H3, H4, H5, H6⟩, ⟨%f9, H9⟩, ⟨%f10, %h10, H10⟩, HW, Hk⟩
  ihave HB := (hb_split c hp s.D) $$ HB
  icases HB with ⟨HD, HD1, HD2, HD3, HK, HVw, HR⟩
  ihave HS2 := (slots_split c f2) $$ HS2
  icases HS2 with ⟨HT0, HT1, HT2⟩
  have h10 : f10 = j10 c (pnt hp 0) s.d10 := h10 (fun e => h2 ((cond2_0 hp).mpr (by have : 4 * hp.val = 0 := e; omega)))
  subst h10
  have hv := hv f9 f0 f1 f2
  generalize X f9 f0 f1 f2 = Y at hv
  obtain ⟨R, hrun⟩ := Y
  obtain ⟨b9, b10, b0, b1, bd, bs⟩ := R
  obtain ⟨a9, a10, a0, a1, ad, u2⟩ := R'
  dsimp only at hv ⊢
  obtain ⟨h9, h10', rfl, rfl, rfl⟩ := hv
  iapply (hrun W K)
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [HS0]; · iexact HS0
  isplitl [HS1]; · iexact HS1
  isplitl [HT0]; · iexact HT0
  isplitl [Hq0]; · iexact Hq0
  isplitl [HD]; · iexact HD
  isplitl [HW]; · iexact HW
  iintro ⟨H2, H3, H4, H5, H6, H9, H10, HS0, HS1, HF, HW⟩
  iapply Hk
  isplitl [HS0 HS1 HS3 Hg HT2 HT1 HF Hq1 Hq2 Hq3 HD1 HD2 HD3 HK HVw HR]
  · isplitl [HS0]; · iexact HS0
    isplitl [HS1]; · iexact HS1
    isplitl [HS3]; · iexact HS3
    isplitl [Hg]; · iexact Hg
    isplitl [HT2]; · iexists _; iexact HT2
    isplitl [HT1]; · iexists _; iexact HT1
    isplitl [HF]; · iexists _; iexact HF
    isplitl [Hq1]; · iexact Hq1
    isplitl [Hq2]; · iexact Hq2
    isplitl [Hq3]; · iexact Hq3
    isplitl [HD1]; · iexact HD1
    isplitl [HD2]; · iexact HD2
    isplitl [HD3]; · iexact HD3
    isplitl [HK]; · iexact HK
    isplitl [HVw]; · iexact HVw
    iexact HR
  isplitl [H2 H3 H4 H5 H6]
  · isplitl [H2]; · iexact H2
    isplitl [H3]; · iexact H3
    isplitl [H4]; · iexact H4
    isplitl [H5]; · iexact H5
    iexact H6
  isplitl [H9 H10]
  · isplitl [H9]
    · unfold owns; iexists _; isplitr
      swap; · iexact H9
      ipureintro; exact h9
    unfold owns; iexists _; isplitr
    swap; · iexact H10
    ipureintro; exact congrArg _ h10'
  iexact HW

theorem step0B_eq (c : Dev nD) (hp : Fin 4) (s : Left (F := F) c) (h2 : ¬ k0_cond2 (pt hp 0) = 1#1) : step0 m c hp s = (⟨(st0_5 (pnt hp 0)).view.read (Elt F) (r0B m c hp h2 (st0_5 (pnt hp 0)).view.junk (j10 c (pnt hp 0) s.d10) sc0.view.junk sc1.view.junk (s.D.toW hp 0 p0) sc2.view.junk).1.1, (st0_6 (pnt hp 0)).view.read (Elt F) (r0B m c hp h2 (st0_5 (pnt hp 0)).view.junk (j10 c (pnt hp 0) s.d10) sc0.view.junk sc1.view.junk (s.D.toW hp 0 p0) sc2.view.junk).1.2.1, (r0B m c hp h2 (st0_5 (pnt hp 0)).view.junk (j10 c (pnt hp 0) s.d10) sc0.view.junk sc1.view.junk (s.D.toW hp 0 p0) sc2.view.junk).1.2.2.1, (r0B m c hp h2 (st0_5 (pnt hp 0)).view.junk (j10 c (pnt hp 0) s.d10) sc0.view.junk sc1.view.junk (s.D.toW hp 0 p0) sc2.view.junk).1.2.2.2.1, s.D, ofW (r0B m c hp h2 (st0_5 (pnt hp 0)).view.junk (j10 c (pnt hp 0) s.d10) sc0.view.junk sc1.view.junk (s.D.toW hp 0 p0) sc2.view.junk).1.2.2.2.2.1, s.g1, s.g2⟩ : Left (F := F) c) := by
  unfold step0; rw [dif_neg h2]
set_option maxHeartbeats 4000000 in
theorem good0B (c : Dev nD) (hp : Fin 4) (h2 : ¬ k0_cond2 (pt hp 0) = 1#1) : Good m c (pnt hp 0) := by
  intro W K
  rw [show (pnt hp 0).val = 4 * hp.val from rfl, Inv_0, Inv_1, st_succ0]
  unfold bodyAt0
  rw [coords_pnt]
  generalize st m c (4 * hp.val) = s
  rw [step0B_eq m c hp s h2]
  exact core0B m c hp s h2 (fun f9 f0 f1 f2 => r0B m c hp h2 f9 (j10 c (pnt hp 0) s.d10) f0 f1 (s.D.toW hp 0 p0) f2) (r0B m c hp h2 (st0_5 (pnt hp 0)).view.junk (j10 c (pnt hp 0) s.d10) sc0.view.junk sc1.view.junk (s.D.toW hp 0 p0) sc2.view.junk).1 (fun f9 f0 f1 f2 => r0B_val m c hp h2 f9 (st0_5 (pnt hp 0)).view.junk (j10 c (pnt hp 0) s.d10) f0 sc0.view.junk f1 sc1.view.junk (s.D.toW hp 0 p0) f2 sc2.view.junk) W K

set_option maxHeartbeats 4000000 in
theorem core1 (c : Dev nD) (hp : Fin 4) (s : Left (F := F) c)
    (X : ∀ (f9 : HBuf (F := F) c (st0_5 (pnt hp 1))) (f2 : HBuf (F := F) c sc2), type_of% (r1 m c hp f9 (j10 c (pnt hp 1) s.d10) s.a0 s.a1 (s.D.toW hp 512 p512) f2))
    (R' : HBuf (F := F) c (st0_5 (pnt hp 1)) × HBuf (F := F) c (st0_6 (pnt hp 1)) × HBuf (F := F) c sc0 × HBuf (F := F) c sc1 × HBuf (F := F) c (dqW hp 512 p512) × HBuf (F := F) c (slotM 1 l1))
    (hv : ∀ (f9 : HBuf (F := F) c (st0_5 (pnt hp 1))) (f2 : HBuf (F := F) c sc2), (st0_5 (pnt hp 1)).view.read (Elt F) (X f9 f2).1.1 = (st0_5 (pnt hp 1)).view.read (Elt F) R'.1 ∧ (X f9 f2).1.2.1 = R'.2.1 ∧ (X f9 f2).1.2.2.1 = R'.2.2.1 ∧ (X f9 f2).1.2.2.2.1 = R'.2.2.2.1 ∧ (X f9 f2).1.2.2.2.2.1 = R'.2.2.2.2.1)
    (W : Waits sig Unit) (K : PUnit → sProp 𝕄) :
    iprop(I1 c hp s ∗ ins m c (pnt hp 1) ∗ (∃ f : HBuf (F := F) c (st0_5 (pnt hp 1)), held c (st0_5 (pnt hp 1)) f) ∗ in6 c (pnt hp 1) s ∗ owes (c : Thread nD τ) 0 W
        ∗ (iprop(I2 c hp (⟨(st0_5 (pnt hp 1)).view.read (Elt F) R'.1, (st0_6 (pnt hp 1)).view.read (Elt F) R'.2.1, R'.2.2.1, R'.2.2.2.1, s.D, s.g0, ofW R'.2.2.2.2.1, s.g2⟩ : Left (F := F) c) ∗ ins m c (pnt hp 1) ∗ outs c (pnt hp 1) (⟨(st0_5 (pnt hp 1)).view.read (Elt F) R'.1, (st0_6 (pnt hp 1)).view.read (Elt F) R'.2.1, R'.2.2.1, R'.2.2.2.1, s.D, s.g0, ofW R'.2.2.2.2.1, s.g2⟩ : Left (F := F) c) ∗ (∃ W', owes (c : Thread nD τ) 0 W')) -∗ K ⟨⟩))
      ⊢ wp frame (wpE (defs₀ (F := F)) Variants.none c none) Set.univ (bodyP hp (st0_0 (pnt hp 1)) (hstage0_0 ((cfg0.slots (pnt hp 1) 0).cast nbuf0_0)) (st0_1 (pnt hp 1)) (hstage0_1 ((cfg0.slots (pnt hp 1) 1).cast nbuf0_1)) (st0_2 (pnt hp 1)) (hstage0_2 ((cfg0.slots (pnt hp 1) 2).cast nbuf0_2)) (st0_3 (pnt hp 1)) (hstage0_3 ((cfg0.slots (pnt hp 1) 3).cast nbuf0_3)) (st0_4 (pnt hp 1)) (hstage0_4 ((cfg0.slots (pnt hp 1) 4).cast nbuf0_4)) (st0_5 (pnt hp 1)) (hstage0_5 ((cfg0.slots (pnt hp 1) 5).cast nbuf0_5)) (st0_6 (pnt hp 1)) (hstage0_6 ((cfg0.slots (pnt hp 1) 6).cast nbuf0_6)) 1) K := by
  unfold I1 I2
  iintro ⟨⟨HS0, HS1, HS3, Hg, HT2, ⟨%f2, HT1⟩, HF0, Hq1, Hq2, Hq3, HD1, HD2, HD3, HK, HVw, HR⟩, ⟨H2, H3, H4, H5, H6⟩, ⟨%f9, H9⟩, ⟨%f10, %h10, H10⟩, HW, Hk⟩
  have h10 : f10 = j10 c (pnt hp 1) s.d10 := h10 (Nat.succ_ne_zero _)
  subst h10
  have hv := hv f9 f2
  generalize X f9 f2 = Y at hv
  obtain ⟨R, hrun⟩ := Y
  obtain ⟨b9, b10, b0, b1, bd, bs⟩ := R
  obtain ⟨a9, a10, a0, a1, ad, u2⟩ := R'
  dsimp only at hv ⊢
  obtain ⟨h9, h10', rfl, rfl, rfl⟩ := hv
  iapply (hrun W K)
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [HS0]; · iexact HS0
  isplitl [HS1]; · iexact HS1
  isplitl [HT1]; · iexact HT1
  isplitl [Hq1]; · iexact Hq1
  isplitl [HD1]; · iexact HD1
  isplitl [HW]; · iexact HW
  iintro ⟨H2, H3, H4, H5, H6, H9, H10, HS0, HS1, HF1, HW⟩
  iapply Hk
  isplitl [HS0 HS1 HS3 Hg HT2 HF0 HF1 Hq2 Hq3 HD2 HD3 HK HVw HR]
  · isplitl [HS0]; · iexact HS0
    isplitl [HS1]; · iexact HS1
    isplitl [HS3]; · iexact HS3
    isplitl [Hg]; · iexact Hg
    isplitl [HT2]; · iexact HT2
    isplitl [HF0]; · iexact HF0
    isplitl [HF1]; · iexists _; iexact HF1
    isplitl [Hq2]; · iexact Hq2
    isplitl [Hq3]; · iexact Hq3
    isplitl [HD2]; · iexact HD2
    isplitl [HD3]; · iexact HD3
    isplitl [HK]; · iexact HK
    isplitl [HVw]; · iexact HVw
    iexact HR
  isplitl [H2 H3 H4 H5 H6]
  · isplitl [H2]; · iexact H2
    isplitl [H3]; · iexact H3
    isplitl [H4]; · iexact H4
    isplitl [H5]; · iexact H5
    iexact H6
  isplitl [H9 H10]
  · isplitl [H9]
    · unfold owns; iexists _; isplitr
      swap; · iexact H9
      ipureintro; exact h9
    unfold owns; iexists _; isplitr
    swap; · iexact H10
    ipureintro; exact congrArg _ h10'
  iexact HW

theorem step1_eq (c : Dev nD) (hp : Fin 4) (s : Left (F := F) c) : step1 m c hp s = (⟨(st0_5 (pnt hp 1)).view.read (Elt F) (r1 m c hp (st0_5 (pnt hp 1)).view.junk (j10 c (pnt hp 1) s.d10) s.a0 s.a1 (s.D.toW hp 512 p512) sc2.view.junk).1.1, (st0_6 (pnt hp 1)).view.read (Elt F) (r1 m c hp (st0_5 (pnt hp 1)).view.junk (j10 c (pnt hp 1) s.d10) s.a0 s.a1 (s.D.toW hp 512 p512) sc2.view.junk).1.2.1, (r1 m c hp (st0_5 (pnt hp 1)).view.junk (j10 c (pnt hp 1) s.d10) s.a0 s.a1 (s.D.toW hp 512 p512) sc2.view.junk).1.2.2.1, (r1 m c hp (st0_5 (pnt hp 1)).view.junk (j10 c (pnt hp 1) s.d10) s.a0 s.a1 (s.D.toW hp 512 p512) sc2.view.junk).1.2.2.2.1, s.D, s.g0, ofW (r1 m c hp (st0_5 (pnt hp 1)).view.junk (j10 c (pnt hp 1) s.d10) s.a0 s.a1 (s.D.toW hp 512 p512) sc2.view.junk).1.2.2.2.2.1, s.g2⟩ : Left (F := F) c) := by
  rfl
set_option maxHeartbeats 4000000 in
theorem good1 (c : Dev nD) (hp : Fin 4) : Good m c (pnt hp 1) := by
  intro W K
  rw [show (pnt hp 1).val = 4 * hp.val + 1 from rfl, Inv_1, Inv_2, st_succ1]
  unfold bodyAt0
  rw [coords_pnt]
  generalize st m c (4 * hp.val + 1) = s
  rw [step1_eq m c hp s]
  exact core1 m c hp s (fun f9 f2 => r1 m c hp f9 (j10 c (pnt hp 1) s.d10) s.a0 s.a1 (s.D.toW hp 512 p512) f2) (r1 m c hp (st0_5 (pnt hp 1)).view.junk (j10 c (pnt hp 1) s.d10) s.a0 s.a1 (s.D.toW hp 512 p512) sc2.view.junk).1 (fun f9 f2 => r1_val m c hp f9 (st0_5 (pnt hp 1)).view.junk (j10 c (pnt hp 1) s.d10) s.a0 s.a1 (s.D.toW hp 512 p512) f2 sc2.view.junk) W K

set_option maxHeartbeats 4000000 in
theorem core2 (c : Dev nD) (hp : Fin 4) (s : Left (F := F) c)
    (X : ∀ (f9 : HBuf (F := F) c (st0_5 (pnt hp 2))) (w0 : HBuf (F := F) c (slotM 0 l0)), type_of% (r2 m c hp f9 (j10 c (pnt hp 2) s.d10) s.a0 s.a1 (s.D.toW hp 1024 p1024) (s.g0.toW hp 0 p0) w0))
    (R' : HBuf (F := F) c (st0_5 (pnt hp 2)) × HBuf (F := F) c (st0_6 (pnt hp 2)) × HBuf (F := F) c sc0 × HBuf (F := F) c sc1 × HBuf (F := F) c (dqW hp 1024 p1024) × HBuf (F := F) c (slotM 0 l0))
    (hv : ∀ (f9 : HBuf (F := F) c (st0_5 (pnt hp 2))) (w0 : HBuf (F := F) c (slotM 0 l0)), (st0_5 (pnt hp 2)).view.read (Elt F) (X f9 w0).1.1 = (st0_5 (pnt hp 2)).view.read (Elt F) R'.1 ∧ (X f9 w0).1.2.1 = R'.2.1 ∧ (X f9 w0).1.2.2.1 = R'.2.2.1 ∧ (X f9 w0).1.2.2.2.1 = R'.2.2.2.1 ∧ (X f9 w0).1.2.2.2.2.1 = R'.2.2.2.2.1)
    (W : Waits sig Unit) (K : PUnit → sProp 𝕄) :
    iprop(I2 c hp s ∗ ins m c (pnt hp 2) ∗ (∃ f : HBuf (F := F) c (st0_5 (pnt hp 2)), held c (st0_5 (pnt hp 2)) f) ∗ in6 c (pnt hp 2) s ∗ owes (c : Thread nD τ) 0 W
        ∗ (iprop(I3 c hp (⟨(st0_5 (pnt hp 2)).view.read (Elt F) R'.1, (st0_6 (pnt hp 2)).view.read (Elt F) R'.2.1, R'.2.2.1, R'.2.2.2.1, s.D, s.g0, s.g1, ofW R'.2.2.2.2.1⟩ : Left (F := F) c) ∗ ins m c (pnt hp 2) ∗ outs c (pnt hp 2) (⟨(st0_5 (pnt hp 2)).view.read (Elt F) R'.1, (st0_6 (pnt hp 2)).view.read (Elt F) R'.2.1, R'.2.2.1, R'.2.2.2.1, s.D, s.g0, s.g1, ofW R'.2.2.2.2.1⟩ : Left (F := F) c) ∗ (∃ W', owes (c : Thread nD τ) 0 W')) -∗ K ⟨⟩))
      ⊢ wp frame (wpE (defs₀ (F := F)) Variants.none c none) Set.univ (bodyP hp (st0_0 (pnt hp 2)) (hstage0_0 ((cfg0.slots (pnt hp 2) 0).cast nbuf0_0)) (st0_1 (pnt hp 2)) (hstage0_1 ((cfg0.slots (pnt hp 2) 1).cast nbuf0_1)) (st0_2 (pnt hp 2)) (hstage0_2 ((cfg0.slots (pnt hp 2) 2).cast nbuf0_2)) (st0_3 (pnt hp 2)) (hstage0_3 ((cfg0.slots (pnt hp 2) 3).cast nbuf0_3)) (st0_4 (pnt hp 2)) (hstage0_4 ((cfg0.slots (pnt hp 2) 4).cast nbuf0_4)) (st0_5 (pnt hp 2)) (hstage0_5 ((cfg0.slots (pnt hp 2) 5).cast nbuf0_5)) (st0_6 (pnt hp 2)) (hstage0_6 ((cfg0.slots (pnt hp 2) 6).cast nbuf0_6)) 2) K := by
  unfold I2 I3
  iintro ⟨⟨HS0, HS1, HS3, Hg, HT2, ⟨%w0, HF0⟩, HF1, Hq2, Hq3, HD2, HD3, HK, HVw, HR⟩, ⟨H2, H3, H4, H5, H6⟩, ⟨%f9, H9⟩, ⟨%f10, %h10, H10⟩, HW, Hk⟩
  have h10 : f10 = j10 c (pnt hp 2) s.d10 := h10 (Nat.succ_ne_zero _)
  subst h10
  have hv := hv f9 w0
  generalize X f9 w0 = Y at hv
  obtain ⟨R, hrun⟩ := Y
  obtain ⟨b9, b10, b0, b1, bd, bs⟩ := R
  obtain ⟨a9, a10, a0, a1, ad, u2⟩ := R'
  dsimp only at hv ⊢
  obtain ⟨h9, h10', rfl, rfl, rfl⟩ := hv
  iapply (hrun W K)
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [HS0]; · iexact HS0
  isplitl [HS1]; · iexact HS1
  isplitl [HF0]; · iexact HF0
  isplitl [HD2]; · iexact HD2
  isplitl [HW]; · iexact HW
  iintro ⟨H2, H3, H4, H5, H6, H9, H10, HS0, HS1, HF2, HD0, HW⟩
  iapply Hk
  isplitl [HS0 HS1 HS3 Hg HT2 HF1 HF2 Hq2 Hq3 HD0 HD3 HK HVw HR]
  · isplitl [HS0]; · iexact HS0
    isplitl [HS1]; · iexact HS1
    isplitl [HS3]; · iexact HS3
    isplitl [Hg]; · iexact Hg
    isplitl [HT2]; · iexact HT2
    isplitl [HF1]; · iexact HF1
    isplitl [HF2]; · iexists _; iexact HF2
    isplitl [Hq2]; · iexact Hq2
    isplitl [Hq3]; · iexact Hq3
    isplitl [HD0]; · iexact HD0
    isplitl [HD3]; · iexact HD3
    isplitl [HK]; · iexact HK
    isplitl [HVw]; · iexact HVw
    iexact HR
  isplitl [H2 H3 H4 H5 H6]
  · isplitl [H2]; · iexact H2
    isplitl [H3]; · iexact H3
    isplitl [H4]; · iexact H4
    isplitl [H5]; · iexact H5
    iexact H6
  isplitl [H9 H10]
  · isplitl [H9]
    · unfold owns; iexists _; isplitr
      swap; · iexact H9
      ipureintro; exact h9
    unfold owns; iexists _; isplitr
    swap; · iexact H10
    ipureintro; exact congrArg _ h10'
  iexact HW

theorem step2_eq (c : Dev nD) (hp : Fin 4) (s : Left (F := F) c) : step2 m c hp s = (⟨(st0_5 (pnt hp 2)).view.read (Elt F) (r2 m c hp (st0_5 (pnt hp 2)).view.junk (j10 c (pnt hp 2) s.d10) s.a0 s.a1 (s.D.toW hp 1024 p1024) (s.D.toW hp 0 p0) sc2.view.junk).1.1, (st0_6 (pnt hp 2)).view.read (Elt F) (r2 m c hp (st0_5 (pnt hp 2)).view.junk (j10 c (pnt hp 2) s.d10) s.a0 s.a1 (s.D.toW hp 1024 p1024) (s.D.toW hp 0 p0) sc2.view.junk).1.2.1, (r2 m c hp (st0_5 (pnt hp 2)).view.junk (j10 c (pnt hp 2) s.d10) s.a0 s.a1 (s.D.toW hp 1024 p1024) (s.D.toW hp 0 p0) sc2.view.junk).1.2.2.1, (r2 m c hp (st0_5 (pnt hp 2)).view.junk (j10 c (pnt hp 2) s.d10) s.a0 s.a1 (s.D.toW hp 1024 p1024) (s.D.toW hp 0 p0) sc2.view.junk).1.2.2.2.1, s.D, s.g0, s.g1, ofW (r2 m c hp (st0_5 (pnt hp 2)).view.junk (j10 c (pnt hp 2) s.d10) s.a0 s.a1 (s.D.toW hp 1024 p1024) (s.D.toW hp 0 p0) sc2.view.junk).1.2.2.2.2.1⟩ : Left (F := F) c) := by
  rfl
set_option maxHeartbeats 4000000 in
theorem good2 (c : Dev nD) (hp : Fin 4) : Good m c (pnt hp 2) := by
  intro W K
  rw [show (pnt hp 2).val = 4 * hp.val + 2 from rfl, Inv_2, Inv_3, st_succ2]
  unfold bodyAt0
  rw [coords_pnt]
  generalize st m c (4 * hp.val + 2) = s
  rw [step2_eq m c hp s]
  exact core2 m c hp s (fun f9 w0 => r2 m c hp f9 (j10 c (pnt hp 2) s.d10) s.a0 s.a1 (s.D.toW hp 1024 p1024) (s.g0.toW hp 0 p0) w0) (r2 m c hp (st0_5 (pnt hp 2)).view.junk (j10 c (pnt hp 2) s.d10) s.a0 s.a1 (s.D.toW hp 1024 p1024) (s.D.toW hp 0 p0) sc2.view.junk).1 (fun f9 w0 => r2_val m c hp f9 (st0_5 (pnt hp 2)).view.junk (j10 c (pnt hp 2) s.d10) s.a0 s.a1 (s.D.toW hp 1024 p1024) (s.g0.toW hp 0 p0) (s.D.toW hp 0 p0) w0 sc2.view.junk) W K

set_option maxHeartbeats 4000000 in
theorem core3 (c : Dev nD) (hp : Fin 4) (s : Left (F := F) c)
    (X : ∀ (f9 : HBuf (F := F) c (st0_5 (pnt hp 3))) (f3 : HBuf (F := F) c sc3) (w1 : HBuf (F := F) c (slotM 1 l1)) (w0 : HBuf (F := F) c (slotM 0 l0)), type_of% (r3 m c hp f9 (j10 c (pnt hp 3) s.d10) s.a0 s.a1 (s.D.toW hp 1536 p1536) (s.g1.toW hp 512 p512) w1 (s.g2.toW hp 1024 p1024) w0 (s.D.toK hp 512 q512) (s.D.toK hp 1024 q1024) f3))
    (R' : HBuf (F := F) c (st0_5 (pnt hp 3)) × HBuf (F := F) c (st0_6 (pnt hp 3)) × HBuf (F := F) c sc0 × HBuf (F := F) c sc1 × HBuf (F := F) c (dqW hp 1536 p1536) × HBuf (F := F) c (slotM 1 l1) × HBuf (F := F) c (kvW hp 512 q512) × HBuf (F := F) c (kvW hp 1024 q1024) × HBuf (F := F) c sc3)
    (hv : ∀ (f9 : HBuf (F := F) c (st0_5 (pnt hp 3))) (f3 : HBuf (F := F) c sc3) (w1 : HBuf (F := F) c (slotM 1 l1)) (w0 : HBuf (F := F) c (slotM 0 l0)), (st0_5 (pnt hp 3)).view.read (Elt F) (X f9 f3 w1 w0).1.1 = (st0_5 (pnt hp 3)).view.read (Elt F) R'.1 ∧ (X f9 f3 w1 w0).1.2.1 = R'.2.1 ∧ (X f9 f3 w1 w0).1.2.2.1 = R'.2.2.1 ∧ (X f9 f3 w1 w0).1.2.2.2.1 = R'.2.2.2.1 ∧ (X f9 f3 w1 w0).1.2.2.2.2.1 = R'.2.2.2.2.1 ∧ (X f9 f3 w1 w0).1.2.2.2.2.2.2.1 = R'.2.2.2.2.2.2.1 ∧ (X f9 f3 w1 w0).1.2.2.2.2.2.2.2.1 = R'.2.2.2.2.2.2.2.1)
    (W : Waits sig Unit) (K : PUnit → sProp 𝕄) :
    iprop(I3 c hp s ∗ ins m c (pnt hp 3) ∗ (∃ f : HBuf (F := F) c (st0_5 (pnt hp 3)), held c (st0_5 (pnt hp 3)) f) ∗ in6 c (pnt hp 3) s ∗ owes (c : Thread nD τ) 0 W
        ∗ (iprop(I0 c (⟨(st0_5 (pnt hp 3)).view.read (Elt F) R'.1, (st0_6 (pnt hp 3)).view.read (Elt F) R'.2.1, R'.2.2.1, R'.2.2.2.1, merge c hp s.g0 s.g1 s.g2 (ofW R'.2.2.2.2.1) (ofK R'.2.2.2.2.2.2.1) (ofK R'.2.2.2.2.2.2.2.1) s.D, s.g0, s.g1, s.g2⟩ : Left (F := F) c).D ∗ ins m c (pnt hp 3) ∗ outs c (pnt hp 3) (⟨(st0_5 (pnt hp 3)).view.read (Elt F) R'.1, (st0_6 (pnt hp 3)).view.read (Elt F) R'.2.1, R'.2.2.1, R'.2.2.2.1, merge c hp s.g0 s.g1 s.g2 (ofW R'.2.2.2.2.1) (ofK R'.2.2.2.2.2.2.1) (ofK R'.2.2.2.2.2.2.2.1) s.D, s.g0, s.g1, s.g2⟩ : Left (F := F) c) ∗ (∃ W', owes (c : Thread nD τ) 0 W')) -∗ K ⟨⟩))
      ⊢ wp frame (wpE (defs₀ (F := F)) Variants.none c none) Set.univ (bodyP hp (st0_0 (pnt hp 3)) (hstage0_0 ((cfg0.slots (pnt hp 3) 0).cast nbuf0_0)) (st0_1 (pnt hp 3)) (hstage0_1 ((cfg0.slots (pnt hp 3) 1).cast nbuf0_1)) (st0_2 (pnt hp 3)) (hstage0_2 ((cfg0.slots (pnt hp 3) 2).cast nbuf0_2)) (st0_3 (pnt hp 3)) (hstage0_3 ((cfg0.slots (pnt hp 3) 3).cast nbuf0_3)) (st0_4 (pnt hp 3)) (hstage0_4 ((cfg0.slots (pnt hp 3) 4).cast nbuf0_4)) (st0_5 (pnt hp 3)) (hstage0_5 ((cfg0.slots (pnt hp 3) 5).cast nbuf0_5)) (st0_6 (pnt hp 3)) (hstage0_6 ((cfg0.slots (pnt hp 3) 6).cast nbuf0_6)) 3) K := by
  unfold I3 I0
  iintro ⟨⟨HS0, HS1, ⟨%f3, HS3⟩, Hg, ⟨%f2, HT2⟩, ⟨%w1, HF1⟩, ⟨%w0, HF0⟩, Hq2, Hq3, HD0, HD3, HK, HVw, HR⟩, ⟨H2, H3, H4, H5, H6⟩, ⟨%f9, H9⟩, ⟨%f10, %h10, H10⟩, HW, Hk⟩
  have h10 : f10 = j10 c (pnt hp 3) s.d10 := h10 (Nat.succ_ne_zero _)
  subst h10
  have hv := hv f9 f3 w1 w0
  generalize X f9 f3 w1 w0 = Y at hv
  obtain ⟨R, hrun⟩ := Y
  obtain ⟨b9, b10, b0, b1, bd, bs, bk, bv, b3⟩ := R
  obtain ⟨a9, a10, a0, a1, ad, u2, ak, av, a3⟩ := R'
  dsimp only at hv ⊢
  obtain ⟨h9, h10', rfl, rfl, rfl, rfl, rfl⟩ := hv
  iapply (hrun W K)
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [HS0]; · iexact HS0
  isplitl [HS1]; · iexact HS1
  isplitl [HF1]; · iexact HF1
  isplitl [HF0]; · iexact HF0
  isplitl [HD3]; · iexact HD3
  isplitl [HK]; · iexact HK
  isplitl [HVw]; · iexact HVw
  isplitl [HS3]; · iexact HS3
  isplitl [Hq2]; · iexact Hq2
  isplitl [Hq3]; · iexact Hq3
  isplitl [HW]; · iexact HW
  iintro ⟨H2, H3, H4, H5, H6, H9, H10, HS0, HS1, HD3, HT1, HK, HVw, HS3, HD1, HD2, HT0, Hq0, Hq1, Hq2, Hq3, HW⟩
  iapply Hk
  ihave HS2 := (slots_join c w0 bs f2) $$ [HT0 HT1 HT2]
  · isplitl [HT0]; · iexact HT0
    isplitl [HT1]; · iexact HT1
    iexact HT2
  ihave HB := (hb_join c hp s.g0 s.g1 s.g2 (ofW bd) (ofK bk) (ofK bv) s.D) $$ [HD0 HD1 HD2 HD3 HK HVw HR]
  · isplitl [HD0]; · iexact HD0
    isplitl [HD1]; · iexact HD1
    isplitl [HD2]; · iexact HD2
    isplitl [HD3]; · iexact HD3
    isplitl [HK]; · iexact HK
    isplitl [HVw]; · iexact HVw
    iexact HR
  isplitl [HS0 HS1 HS2 HS3 Hg Hq0 Hq1 Hq2 Hq3 HB]
  · isplitl [HS0]; · iexists _; iexact HS0
    isplitl [HS1]; · iexists _; iexact HS1
    isplitl [HS2]; · iexists _; iexact HS2
    isplitl [HS3]; · iexists _; iexact HS3
    isplitl [Hg]; · iexact Hg
    isplitl [Hq0]; · iexact Hq0
    isplitl [Hq1]; · iexact Hq1
    isplitl [Hq2]; · iexact Hq2
    isplitl [Hq3]; · iexact Hq3
    iexact HB
  isplitl [H2 H3 H4 H5 H6]
  · isplitl [H2]; · iexact H2
    isplitl [H3]; · iexact H3
    isplitl [H4]; · iexact H4
    isplitl [H5]; · iexact H5
    iexact H6
  isplitl [H9 H10]
  · isplitl [H9]
    · unfold owns; iexists _; isplitr
      swap; · iexact H9
      ipureintro; exact h9
    unfold owns; iexists _; isplitr
    swap; · iexact H10
    ipureintro; exact congrArg _ h10'
  iexact HW

theorem step3_eq (c : Dev nD) (hp : Fin 4) (s : Left (F := F) c) : step3 m c hp s = (⟨(st0_5 (pnt hp 3)).view.read (Elt F) (r3 m c hp (st0_5 (pnt hp 3)).view.junk (j10 c (pnt hp 3) s.d10) s.a0 s.a1 (s.D.toW hp 1536 p1536) (s.D.toW hp 512 p512) sc2.view.junk (s.D.toW hp 1024 p1024) sc2.view.junk (s.D.toK hp 512 q512) (s.D.toK hp 1024 q1024) sc3.view.junk).1.1, (st0_6 (pnt hp 3)).view.read (Elt F) (r3 m c hp (st0_5 (pnt hp 3)).view.junk (j10 c (pnt hp 3) s.d10) s.a0 s.a1 (s.D.toW hp 1536 p1536) (s.D.toW hp 512 p512) sc2.view.junk (s.D.toW hp 1024 p1024) sc2.view.junk (s.D.toK hp 512 q512) (s.D.toK hp 1024 q1024) sc3.view.junk).1.2.1, (r3 m c hp (st0_5 (pnt hp 3)).view.junk (j10 c (pnt hp 3) s.d10) s.a0 s.a1 (s.D.toW hp 1536 p1536) (s.D.toW hp 512 p512) sc2.view.junk (s.D.toW hp 1024 p1024) sc2.view.junk (s.D.toK hp 512 q512) (s.D.toK hp 1024 q1024) sc3.view.junk).1.2.2.1, (r3 m c hp (st0_5 (pnt hp 3)).view.junk (j10 c (pnt hp 3) s.d10) s.a0 s.a1 (s.D.toW hp 1536 p1536) (s.D.toW hp 512 p512) sc2.view.junk (s.D.toW hp 1024 p1024) sc2.view.junk (s.D.toK hp 512 q512) (s.D.toK hp 1024 q1024) sc3.view.junk).1.2.2.2.1, merge c hp s.g0 s.g1 s.g2 (ofW (r3 m c hp (st0_5 (pnt hp 3)).view.junk (j10 c (pnt hp 3) s.d10) s.a0 s.a1 (s.D.toW hp 1536 p1536) (s.D.toW hp 512 p512) sc2.view.junk (s.D.toW hp 1024 p1024) sc2.view.junk (s.D.toK hp 512 q512) (s.D.toK hp 1024 q1024) sc3.view.junk).1.2.2.2.2.1) (ofK (r3 m c hp (st0_5 (pnt hp 3)).view.junk (j10 c (pnt hp 3) s.d10) s.a0 s.a1 (s.D.toW hp 1536 p1536) (s.D.toW hp 512 p512) sc2.view.junk (s.D.toW hp 1024 p1024) sc2.view.junk (s.D.toK hp 512 q512) (s.D.toK hp 1024 q1024) sc3.view.junk).1.2.2.2.2.2.2.1) (ofK (r3 m c hp (st0_5 (pnt hp 3)).view.junk (j10 c (pnt hp 3) s.d10) s.a0 s.a1 (s.D.toW hp 1536 p1536) (s.D.toW hp 512 p512) sc2.view.junk (s.D.toW hp 1024 p1024) sc2.view.junk (s.D.toK hp 512 q512) (s.D.toK hp 1024 q1024) sc3.view.junk).1.2.2.2.2.2.2.2.1) s.D, s.g0, s.g1, s.g2⟩ : Left (F := F) c) := by
  rfl
set_option maxHeartbeats 4000000 in
theorem good3 (c : Dev nD) (hp : Fin 4) : Good m c (pnt hp 3) := by
  intro W K
  rw [show (pnt hp 3).val = 4 * hp.val + 3 from rfl, Inv_3, Inv_4, st_succ3]
  unfold bodyAt0
  rw [coords_pnt]
  generalize st m c (4 * hp.val + 3) = s
  rw [step3_eq m c hp s]
  exact core3 m c hp s (fun f9 f3 w1 w0 => r3 m c hp f9 (j10 c (pnt hp 3) s.d10) s.a0 s.a1 (s.D.toW hp 1536 p1536) (s.g1.toW hp 512 p512) w1 (s.g2.toW hp 1024 p1024) w0 (s.D.toK hp 512 q512) (s.D.toK hp 1024 q1024) f3) (r3 m c hp (st0_5 (pnt hp 3)).view.junk (j10 c (pnt hp 3) s.d10) s.a0 s.a1 (s.D.toW hp 1536 p1536) (s.D.toW hp 512 p512) sc2.view.junk (s.D.toW hp 1024 p1024) sc2.view.junk (s.D.toK hp 512 q512) (s.D.toK hp 1024 q1024) sc3.view.junk).1 (fun f9 f3 w1 w0 => r3_val m c hp f9 (st0_5 (pnt hp 3)).view.junk (j10 c (pnt hp 3) s.d10) s.a0 s.a1 (s.D.toW hp 1536 p1536) (s.g1.toW hp 512 p512) (s.D.toW hp 512 p512) w1 sc2.view.junk (s.g2.toW hp 1024 p1024) (s.D.toW hp 1024 p1024) w0 sc2.view.junk (s.D.toK hp 512 q512) (s.D.toK hp 1024 q1024) f3 sc3.view.junk) W K

end Cert.KernelIdeal.Hand

end
-- ==== Proof.FoxFrame.lean ====
/-
  The body's obligation, the run of the whole program, its frame, and where its results lie.
-/
module

public import proofs.«01_k».proof.Proof.FoxBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

theorem good_all (c : Dev nD) (t : Fin cfg0.N) : Good m c t := by
  rw [eq_pnt t]
  generalize pr t.val = hp
  generalize tm t.val = k
  match k with
  | ⟨0, _⟩ =>
    by_cases h2 : k0_cond2 (pt hp 0) = 1#1
    · exact good0A m c hp h2
    · exact good0B m c hp h2
  | ⟨1, _⟩ => exact good1 m c hp
  | ⟨2, _⟩ => exact good2 m c hp
  | ⟨3, _⟩ => exact good3 m c hp

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.castSucc = Inv m c t.val from rfl, show (dats m 0 c).Φ t.succ = Inv m c (t.val + 1) from rfl]
  simp only [before0_0, before0_1, before0_2, before0_3, before0_4, after0_0, after0_1, after0_2, after0_3, after0_4, after0_5, after0_6]
  unfold Dat.owesAt Pipeline.owesWithin
  rw [show (dats m 0 c).owed t.castSucc = 0 from rfl, show (dats m 0 c).owed t.succ = 0 from rfl]
  iintro ⟨HI, ⟨%W, -, HW⟩, ⟨%d0, H0⟩, ⟨%d1, H1⟩, ⟨%d2, H2⟩, ⟨%d3, H3⟩, ⟨%d4, H4⟩, ⟨%d5, H5⟩, ⟨%d6, H6⟩⟩
  unfold owns
  icases H0 with ⟨%f0, %e0, H0⟩
  obtain rfl := (hstage0_0 ((cfg0.slots t 0).cast nbuf0_0)).eq_unread e0
  icases H1 with ⟨%f1, %e1, H1⟩
  obtain rfl := (hstage0_1 ((cfg0.slots t 1).cast nbuf0_1)).eq_unread e1
  icases H2 with ⟨%f2, %e2, H2⟩
  obtain rfl := (hstage0_2 ((cfg0.slots t 2).cast nbuf0_2)).eq_unread e2
  icases H3 with ⟨%f3, %e3, H3⟩
  obtain rfl := (hstage0_3 ((cfg0.slots t 3).cast nbuf0_3)).eq_unread e3
  icases H4 with ⟨%f4, %e4, H4⟩
  obtain rfl := (hstage0_4 ((cfg0.slots t 4).cast nbuf0_4)).eq_unread e4
  icases H5 with ⟨%f5, -, H5⟩
  icases H6 with ⟨%f6, %e6, H6⟩
  iapply (good_all m c t W _)
  isplitl [HI]; · iexact HI
  isplitl [H0 H1 H2 H3 H4]
  · isplitl [H0]; · iexact H0
    isplitl [H1]; · iexact H1
    isplitl [H2]; · iexact H2
    isplitl [H3]; · iexact H3
    iexact H4
  isplitl [H5]; · iexists _; iexact H5
  isplitl [H6]
  · iexists f6; isplitr
    · ipureintro; intro ht; exact (hstage0_6 ((cfg0.slots t 6).cast nbuf0_6)).eq_unread (e6.trans (before0_6 m c t ht d6))
    iexact H6
  isplitl [HW]; · iexact HW
  iintro ⟨HI, ⟨H0, H1, H2, H3, H4⟩, ⟨H5, H6⟩, ⟨%W', HW'⟩⟩
  isplitl [HI]; · iexact HI
  isplitl [HW']
  · iexists W'; isplitr; · ipureintro; exact fun _ _ => Or.inl trivial
    iexact HW'
  isplitl [H0]
  · iexists _; isplitr
    swap; · iexact H0
    ipureintro; exact (hstage0_0 ((cfg0.slots t 0).cast nbuf0_0)).read_unread _
  isplitl [H1]
  · iexists _; isplitr
    swap; · iexact H1
    ipureintro; exact (hstage0_1 ((cfg0.slots t 1).cast nbuf0_1)).read_unread _
  isplitl [H2]
  · iexists _; isplitr
    swap; · iexact H2
    ipureintro; exact (hstage0_2 ((cfg0.slots t 2).cast nbuf0_2)).read_unread _
  isplitl [H3]
  · iexists _; isplitr
    swap; · iexact H3
    ipureintro; exact (hstage0_3 ((cfg0.slots t 3).cast nbuf0_3)).read_unread _
  isplitl [H4]
  · iexists _; isplitr
    swap; · iexact H4
    ipureintro; exact (hstage0_4 ((cfg0.slots t 4).cast nbuf0_4)).read_unread _
  unfold owns
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem idle_5 (t : Fin cfg0.N) : cfg0.idle 5 (cfg0.grid.coords t) = false := idle5' _
theorem idle_6 (t : Fin cfg0.N) : cfg0.idle 6 (cfg0.grid.coords t) = false := idle6' _

theorem sep_eq {P P' Q Q' : sProp 𝕄} (h : P = P') (h' : Q = Q') : iprop(P ∗ Q) = iprop(P' ∗ Q') := by subst h h'; rfl
set_option maxHeartbeats 2000000 in
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  have same : ∀ {P Q : sProp 𝕄}, P = Q → P ⊢ Q := fun h => by subst h; exact .rfl
  refine same (sep_eq rfl (sep_eq rfl (sep_eq rfl (sep_eq rfl (sep_eq rfl (sep_eq rfl (sep_eq rfl (sep_eq ?_ ?_))))))))
  · dsimp only
    split
    · next h => exact absurd ((idle5' _).symm.trans h) Bool.false_ne_true
    · rfl
  · dsimp only
    split
    · next h => exact absurd ((idle6' _).symm.trans h) Bool.false_ne_true
    · rfl

/-! ## The run and the frame -/

theorem held_sc0 (c : Dev nD) (f : HBuf (F := F) c sc0) : ((c : Thread nD τ).loc cc0_scratch0 ↦{fullShare} f : sProp 𝕄) = held c sc0 f := by
  rw [show (held c sc0 f : sProp 𝕄) = ((c : Thread nD τ).loc cc0_scratch0 ↦[(View.whole cc0_scratch0).set]{fullShare} f) from rfl, View.set_whole]
theorem held_sc1 (c : Dev nD) (f : HBuf (F := F) c sc1) : ((c : Thread nD τ).loc cc0_scratch1 ↦{fullShare} f : sProp 𝕄) = held c sc1 f := by
  rw [show (held c sc1 f : sProp 𝕄) = ((c : Thread nD τ).loc cc0_scratch1 ↦[(View.whole cc0_scratch1).set]{fullShare} f) from rfl, View.set_whole]
theorem held_sc3 (c : Dev nD) (f : HBuf (F := F) c sc3) : ((c : Thread nD τ).loc cc0_scratch3 ↦{fullShare} f : sProp 𝕄) = held c sc3 f := by
  rw [show (held c sc3 f : sProp 𝕄) = ((c : Thread nD τ).loc cc0_scratch3 ↦[(View.whole cc0_scratch3).set]{fullShare} f) from rfl, View.set_whole]
theorem scoped_eq (c : Dev nD) :
    (Pipeline.scopedRest (Ix := Unit) (Name := ℕ) (U := Pipeline.UD sig nD τ) (Lvl := ℕ) (Val := Elt F) spec0 c : sProp 𝕄)
      = iprop((∃ f, held c sc0 f) ∗ (∃ f, held c sc1 f) ∗ (∃ f, held2 c f) ∗ (∃ f, held c sc3 f)) :=
  (scopedRest0_eq (Ix := Unit) (Name := ℕ) (U := Pipeline.UD sig nD τ) (Lvl := ℕ) (Val := Elt F) c).trans
    (sep_eq (congrArg _ (funext (held_sc0 c))) (sep_eq (congrArg _ (funext (held_sc1 c))) (sep_eq rfl (congrArg _ (funext (held_sc3 c))))))
/-- What the region is entered with and left with, written out. -/
theorem PhiDRG_eq (c : Dev nD) (W : (c : Dev nD) → (b : Ref sig .tc) → Buf (Elt F) ((c : Thread nD τ).loc b)) :
    (Pipeline.ΦDRG osem0 spec0 H0 R0 (V m) W c : sProp 𝕄)
      = iprop(((∃ f, held c sc0 f) ∗ (∃ f, held c sc1 f) ∗ (∃ f, held2 c f) ∗ (∃ f, held c sc3 f)) ∗ (∃ r, prngReg c r)
          ∗ (idle c c13 ∗ idle c c14 ∗ idle c c15 ∗ idle c c16) ∗ BI.emp ∗ heldB c ⟨W c main_v85_0⟩) :=
  (Pipeline.ΦDRG_eq osem0 spec0 H0 R0 (V m) W c).trans
    (sep_eq (scoped_eq c) (sep_eq rfl (sep_eq (ownSems00_eq c) (sep_eq (read_eq m c) (routed_eq c (W c))))))

theorem entered (c : Dev nD) : Pipeline.ΦDRG osem0 spec0 H0 R0 (V m) (V m) c ⊢ (dats m 0 c).Φ 0 := by
  rw [show (dats m 0 c).Φ 0 = I0 c ⟨V m c main_v85_0⟩ from Inv_0 m c 0, PhiDRG_eq]
  unfold I0
  iintro ⟨⟨HS0, HS1, HS2, HS3⟩, Hg, ⟨Hq0, Hq1, Hq2, Hq3⟩, -, HB⟩
  isplitl [HS0]; · iexact HS0
  isplitl [HS1]; · iexact HS1
  isplitl [HS2]; · iexact HS2
  isplitl [HS3]; · iexact HS3
  isplitl [Hg]; · iexact Hg
  isplitl [Hq0]; · iexact Hq0
  isplitl [Hq1]; · iexact Hq1
  isplitl [Hq2]; · iexact Hq2
  isplitl [Hq3]; · iexact Hq3
  iexact HB
theorem left_eq (c : Dev nD) : (dats m 0 c).Φ (Fin.last cfg0.N) = I0 c (st m c 16).D := Inv_4 m c 3
theorem G_eq (c : Dev nD) : (⟨G m c main_v85_0⟩ : Cnt (F := F) c) = (st m c 16).D := by
  unfold G; rw [Function.update_self]
theorem returned (c : Dev nD) : (dats m 0 c).Φ (Fin.last cfg0.N) ⊢ Pipeline.ΦDRG osem0 spec0 H0 R0 (V m) (G m) c := by
  rw [left_eq, PhiDRG_eq, G_eq]
  unfold I0
  iintro ⟨HS0, HS1, HS2, HS3, Hg, Hq0, Hq1, Hq2, Hq3, HB⟩
  isplitl [HS0 HS1 HS2 HS3]
  · isplitl [HS0]; · iexact HS0
    isplitl [HS1]; · iexact HS1
    isplitl [HS2]; · iexact HS2
    iexact HS3
  isplitl [Hg]; · iexact Hg
  isplitl [Hq0 Hq1 Hq2 Hq3]
  · isplitl [Hq0]; · iexact Hq0
    isplitl [Hq1]; · iexact Hq1
    isplitl [Hq2]; · iexact Hq2
    iexact Hq3
  isplitr; · iempintro
  iexact HB

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := entered m) (hout := returned m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  frame_of m ρ (dats m) ((θ_run defs _ _).mono (fun _ h => ⟨h.1.toR, h.2⟩) (run_main m ρ))

end Cert.KernelIdeal.Hand

end
-- ==== Proof.Products.lean ====
module

public import proofs.«01_k».proof.Defs
public import proofs.«01_k».proof.Proof.Gen.DwInIdeal.Value
public import proofs.«01_k».proof.Proof.Gen.DwInRefIdeal.Run
public import proofs.«01_k».proof.Proof.Gen.DwDownIdeal.Value
public import proofs.«01_k».proof.Proof.Gen.DwDownRefIdeal.Run
public import proofs.«01_k».proof.Proof.Gen.DwUpIdeal.Value
public import proofs.«01_k».proof.Proof.Gen.DwUpRefIdeal.Run
public import proofs.«01_k».proof.Proof.Gen.DwOutIdeal.Value
public import proofs.«01_k».proof.Proof.Gen.DwOutRefIdeal.Run
public import Idealize.ShloMosaic.Lib.Pipeline.ValueKit.Point

/-!
The weight gradients of the four large products. A weight gradient is `aᵀ b`: the entry `(i, j)` is the sum over the
rows `k` of `a k i * b k j`. Each kernel call keeps the whole row axis in one block, so every grid point writes one
finished block of the result, and the reference sums the same products with the factors exchanged.
-/

@[expose] public section

noncomputable section

namespace Cert.Proof

open Idealize.ShloMosaic

/-- The entry `(i, j)` of `aᵀ b`. -/
def tn {K M N : ℕ} {φ ψ : FTy} (a : (⟨2, ![K, M]⟩ : Shape).Idx → Ideal φ) (b : (⟨2, ![K, N]⟩ : Shape).Idx → Ideal ψ)
    (i : Fin M) (j : Fin N) : EReal :=
  ∑ k : Fin K, a (ix2 k i) * b (ix2 k j)

/-- The sum with the factors exchanged. -/
theorem tn_comm {K M N : ℕ} {φ ψ : FTy} (a : (⟨2, ![K, M]⟩ : Shape).Idx → Ideal φ)
    (b : (⟨2, ![K, N]⟩ : Shape).Idx → Ideal ψ) (i : Fin M) (j : Fin N) :
    (∑ k : Fin K, b (ix2 k j) * a (ix2 k i) : EReal) = tn a b i j :=
  Finset.sum_congr rfl fun _ _ => mul_comm _ _

end Cert.Proof

/-! ## The input projections: the gradient is written transposed -/

namespace Cert.Proof.DwIn

open Idealize.ShloMosaic Idealize.ShloMosaic.TcCoe Cert.DwInIdeal Cert.DwInIdeal.Gen

/-- Which blocks a grid point stages. -/
theorem idx : ∀ t : Fin cfg0.N, win0_2.index t = ![t.val, 0] ∧ win0_0.index t = ![0, t.val] ∧ win0_1.index t = ![0, 0] :=
  (by decide +kernel : ∀ t : Fin grid0.N, _)

/-- What the call computes. -/
def G (a : S2048x6400.Idx → Ideal .bf16) (b : S2048x1024.Idx → Ideal .bf16) : S6400x1024.Idx → Ideal .f32 :=
  fun i => tn a b (i 0) (i 1)

/-- The result array after the run. -/
theorem final_out (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, G, tn]
  blk_point [iblk, V, idx t]

/-- The call and the reference write the same gradient. -/
theorem claim [Cert.DwInRefIdeal.Facts] : Cert.algebraic_DwInIdeal_DwInRefIdeal := by
  intro m g m' g' _ hm
  refine ⟨fun c => G (m ((c : Thread nD τ).loc main_arg0)) (m ((c : Thread nD τ).loc main_arg1)),
    (θ_run _ _ _).mono (fun r h c => ⟨(h c).1.trans (final_out m c), (h c).2⟩) (Cert.DwInIdeal.Value.run_blocks m g),
    (θ_run _ _ _).mono (fun r h c => ⟨(h c).1.trans ?_, (h c).2⟩) (Cert.DwInRefIdeal.Value.run m' g')⟩
  rw [(hm c).1, (hm c).2]
  funext i
  pointwise [G, tn]

end Cert.Proof.DwIn

/-! ## The second feed-forward product -/

namespace Cert.Proof.DwDown

open Idealize.ShloMosaic Idealize.ShloMosaic.TcCoe Cert.DwDownIdeal Cert.DwDownIdeal.Gen

/-- Which blocks a grid point stages. -/
theorem idx : ∀ t : Fin cfg0.N, win0_2.index t = ![t.val, 0] ∧ win0_0.index t = ![0, t.val] ∧ win0_1.index t = ![0, 0] :=
  (by decide +kernel : ∀ t : Fin grid0.N, _)

/-- What the call computes. -/
def G (a : S2048x4096.Idx → Ideal .bf16) (b : S2048x1024.Idx → Ideal .f32) : S4096x1024.Idx → Ideal .f32 :=
  fun i => tn a b (i 0) (i 1)

/-- The result array after the run. -/
theorem final_out (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, G, tn]
  blk_point [iblk, V, idx t]

/-- The call and the reference write the same gradient. -/
theorem claim [Cert.DwDownRefIdeal.Facts] : Cert.algebraic_DwDownIdeal_DwDownRefIdeal := by
  intro m g m' g' _ hm
  refine ⟨fun c => G (m ((c : Thread nD τ).loc main_arg0)) (m ((c : Thread nD τ).loc main_arg1)),
    (θ_run _ _ _).mono (fun r h c => ⟨(h c).1.trans (final_out m c), (h c).2⟩) (Cert.DwDownIdeal.Value.run_blocks m g),
    (θ_run _ _ _).mono (fun r h c => ⟨(h c).1.trans ?_, (h c).2⟩) (Cert.DwDownRefIdeal.Value.run m' g')⟩
  rw [(hm c).1, (hm c).2]
  funext i
  pointwise [G]
  exact tn_comm _ _ _ _

end Cert.Proof.DwDown

/-! ## The first feed-forward product: the gradient is written in eight column shards -/

namespace Cert.Proof.DwUp

open Idealize.ShloMosaic Idealize.ShloMosaic.TcCoe Cert.DwUpIdeal Cert.DwUpIdeal.Gen

/-- Which blocks a grid point stages. -/
theorem idx : ∀ t : Fin cfg0.N, win0_2.index t = ![t.val, 0, 0] ∧ win0_0.index t = ![0, 0] ∧ win0_1.index t = ![0, t.val] :=
  (by decide +kernel : ∀ t : Fin grid0.N, _)

/-- What the call computes: the entry `(s, i, j)` is the entry `(i, 512 s + j)` of the gradient. -/
def G (a : S2048x1024.Idx → Ideal .bf16) (b : S2048x4096.Idx → Ideal .bf16) : S8x1024x512.Idx → Ideal .f32 :=
  fun i => tn a b (i 1) ⟨(i 0).val * 512 + (i 2).val, by idx_bounds i; omega⟩

/-- The result array after the run. -/
theorem final_out (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, G, tn]
  blk_point [iblk, V, idx t]

/-- The call and the reference write the same gradient. -/
theorem claim [Cert.DwUpRefIdeal.Facts] : Cert.algebraic_DwUpIdeal_DwUpRefIdeal := by
  intro m g m' g' _ hm
  refine ⟨fun c => G (m ((c : Thread nD τ).loc main_arg0)) (m ((c : Thread nD τ).loc main_arg1)),
    (θ_run _ _ _).mono (fun r h c => ⟨(h c).1.trans (final_out m c), (h c).2⟩) (Cert.DwUpIdeal.Value.run_blocks m g),
    (θ_run _ _ _).mono (fun r h c => ⟨(h c).1.trans ?_, (h c).2⟩) (Cert.DwUpRefIdeal.Value.run m' g')⟩
  rw [(hm c).1, (hm c).2]
  funext i
  pointwise [G]
  exact tn_comm _ _ _ _

end Cert.Proof.DwUp

/-! ## The output product of the mixer -/

namespace Cert.Proof.DwOut

open Idealize.ShloMosaic Idealize.ShloMosaic.TcCoe Cert.DwOutIdeal Cert.DwOutIdeal.Gen

/-- Which blocks a grid point stages. -/
theorem idx : ∀ t : Fin cfg0.N, win0_2.index t = ![t.val, 0] ∧ win0_0.index t = ![0, t.val] ∧ win0_1.index t = ![0, 0] :=
  (by decide +kernel : ∀ t : Fin grid0.N, _)

/-- What the call computes. -/
def G (a : S2048x1024.Idx → Ideal .bf16) (b : S2048x1024.Idx → Ideal .f32) : S1024x1024.Idx → Ideal .f32 :=
  fun i => tn a b (i 0) (i 1)

/-- The result array after the run. -/
theorem final_out (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, G, tn]
  blk_point [iblk, V, idx t]

/-- The call and the reference write the same gradient. -/
theorem claim [Cert.DwOutRefIdeal.Facts] : Cert.algebraic_DwOutIdeal_DwOutRefIdeal := by
  intro m g m' g' _ hm
  refine ⟨fun c => G (m ((c : Thread nD τ).loc main_arg0)) (m ((c : Thread nD τ).loc main_arg1)),
    (θ_run _ _ _).mono (fun r h c => ⟨(h c).1.trans (final_out m c), (h c).2⟩) (Cert.DwOutIdeal.Value.run_blocks m g),
    (θ_run _ _ _).mono (fun r h c => ⟨(h c).1.trans ?_, (h c).2⟩) (Cert.DwOutRefIdeal.Value.run m' g')⟩
  rw [(hm c).1, (hm c).2]
  funext i
  pointwise [G]
  exact tn_comm _ _ _ _

end Cert.Proof.DwOut
-- ==== Proof.Norm.lean ====
module

public import Idealize.ShloMosaic.Lib.Pipeline.ValueKit.Point

/-!
The backward pass of the root mean square norm, one row at a time, over the extended reals.

A row `x` is scaled by `r = 1 / √e` with `e` its mean square plus a small constant. The derivative as the chain rule
writes it goes through the derivative of the reciprocal root, `-(1/2) r / e`, and meets the row twice, once for each
factor of the square. The kernel uses the closed form `r (d - x̂ · mean (d x̂))` with `x̂ = x r`. Both are equal for every
row: `e` is positive, and where it is infinite both are zero.
-/

@[expose] public section

noncomputable section

namespace Cert.Proof.Norm

open Idealize.ShloMosaic

/-- The printed width of a row. -/
abbrev width : EReal := Ideal.ofBits .f32 0x44800000#32
/-- The printed small constant. -/
abbrev small : EReal := Ideal.ofBits .f32 0x358637BD#32
/-- The printed `-1/2`. -/
abbrev negHalf : EReal := Ideal.ofBits .f32 0xBF000000#32

theorem width_eq : width = ((1024 : ℝ) : EReal) := by
  simp [width, Ideal.ofBits, Ideal.ieee]; rw [← EReal.coe_mul]; norm_num
theorem negHalf_eq : negHalf = ((-(1 / 2) : ℝ) : EReal) := by
  simp [negHalf, Ideal.ofBits, Ideal.ieee]; rw [← EReal.coe_mul]; norm_num
theorem small_pos : ∃ s : ℝ, 0 < s ∧ small = (s : EReal) := by
  refine ⟨_, ?_, by simp only [small, Ideal.ofBits, Ideal.ieee]; rfl⟩
  simp

/-- The mean square of a row plus the small constant. -/
def ms {n : ℕ} (x : Fin n → EReal) : EReal := Ideal.div (∑ j, x j * x j) width + small
/-- The scale of a row. -/
def rscale {n : ℕ} (x : Fin n → EReal) : EReal := Ideal.rsqrt (ms x)

theorem div_width (y : EReal) : Ideal.div y width = y * (((1024 : ℝ)⁻¹ : ℝ) : EReal) := by
  rw [width_eq, Ideal.div, if_neg (by norm_num), EReal.coe_inv]

theorem mul_self_nonneg (a : EReal) : 0 ≤ a * a := by
  induction a with
  | bot => simp
  | top => simp
  | coe a => exact_mod_cast _root_.mul_self_nonneg a

/-- A row's mean square plus the small constant is infinite or a positive real. -/
theorem ms_cases {n : ℕ} (x : Fin n → EReal) : ms x = ⊤ ∨ ∃ e : ℝ, 0 < e ∧ ms x = (e : EReal) := by
  obtain ⟨s, hs, hse⟩ := small_pos
  have h0 : 0 ≤ ∑ j, x j * x j := Finset.sum_nonneg fun j _ => mul_self_nonneg _
  unfold ms
  rw [div_width, hse]
  generalize (∑ j, x j * x j) = A at h0
  induction A with
  | bot => simp at h0
  | top => left; rw [EReal.top_mul_coe_of_pos (by norm_num), EReal.top_add_coe]
  | coe A =>
    right
    exact ⟨A * 1024⁻¹ + s, by have : 0 ≤ A := by exact_mod_cast h0
                              positivity, by push_cast; rfl⟩

/-- A real factor comes out of a sum. -/
theorem sum_mul_coe {n : ℕ} (f : Fin n → EReal) (r : ℝ) (hr : 0 ≤ r) :
    ∑ j, f j * (r : EReal) = (∑ j, f j) * (r : EReal) := by
  classical
  induction (Finset.univ : Finset (Fin n)) using Finset.induction_on with
  | empty => simp
  | insert a s ha ih =>
    rw [Finset.sum_insert ha, Finset.sum_insert ha, ih,
      EReal.right_distrib_of_nonneg_of_ne_top (by exact_mod_cast hr) (EReal.coe_ne_top r)]

/-- Two equal products with a negative real are one with twice the real. -/
theorem mul_add_self (z : EReal) (k : ℝ) (hk : k < 0) : z * (k : EReal) + z * (k : EReal) = z * ((2 * k : ℝ) : EReal) := by
  induction z with
  | bot => rw [EReal.bot_mul_coe_of_neg hk, EReal.bot_mul_coe_of_neg (by linarith)]; rfl
  | top => rw [EReal.top_mul_coe_of_neg hk, EReal.top_mul_coe_of_neg (by linarith)]; rfl
  | coe z => norm_cast; ring

/-- The closed form of the norm's gradient equals the chain rule's. -/
theorem bwd {n : ℕ} (d x : Fin n → EReal) (j : Fin n) :
    rscale x * (d j - x j * rscale x * Ideal.div (∑ k, d k * (x k * rscale x)) width)
      = d j * rscale x + x j * Ideal.div ((∑ k, x k * d k) * (negHalf * Ideal.div (rscale x) (ms x))) width
        + Ideal.div ((∑ k, x k * d k) * (negHalf * Ideal.div (rscale x) (ms x))) width * x j := by
  rcases ms_cases x with h | ⟨e, he, h⟩
  · have : rscale x = 0 := by rw [rscale, h]; rfl
    have h0 : Ideal.div 0 ⊤ = 0 := by simp [Ideal.div]
    rw [this, h, h0, div_width, div_width]
    simp
  · have hr : 0 < (Real.sqrt e)⁻¹ := by positivity
    have hi : rscale x = (((Real.sqrt e)⁻¹ : ℝ) : EReal) := by
      rw [rscale, h, Ideal.rsqrt_coe, if_neg (by linarith), if_neg (by linarith)]
    have hre : (Real.sqrt e)⁻¹ * (Real.sqrt e)⁻¹ = e⁻¹ := by
      rw [← mul_inv, Real.mul_self_sqrt he.le]
    have hdiv : Ideal.div (((Real.sqrt e)⁻¹ : ℝ) : EReal) (e : EReal)
        = (((Real.sqrt e)⁻¹ * ((Real.sqrt e)⁻¹ * (Real.sqrt e)⁻¹) : ℝ) : EReal) := by
      rw [Ideal.div, if_neg (by exact_mod_cast he.ne'), hre]; push_cast; rfl
    rw [hi, h, hdiv, negHalf_eq, div_width, div_width]
    generalize (Real.sqrt e)⁻¹ = r at hr
    have hs : (∑ k, d k * (x k * (r : EReal))) = (∑ k, x k * d k) * (r : EReal) := by
      rw [← sum_mul_coe _ r hr.le]
      exact Finset.sum_congr rfl fun k _ => by rw [mul_comm (x k) (d k), mul_assoc]
    rw [hs]
    generalize (∑ k, x k * d k) = B
    generalize d j = D
    generalize x j = X
    rw [sub_eq_add_neg, EReal.left_distrib_of_nonneg_of_ne_top (by exact_mod_cast hr.le) (EReal.coe_ne_top r), add_assoc,
      mul_comm (r : EReal) D]
    congr 1
    have hk : -(1 / 2) * (r * (r * r)) * 1024⁻¹ < 0 := by
      have : 0 < r * (r * r) * 1024⁻¹ := by positivity
      linarith
    have h1 : X * (B * (((-(1 / 2) : ℝ) : EReal) * ((r * (r * r) : ℝ) : EReal)) * (((1024 : ℝ)⁻¹ : ℝ) : EReal))
        = X * B * ((-(1 / 2) * (r * (r * r)) * 1024⁻¹ : ℝ) : EReal) := by
      push_cast; ac_rfl
    rw [mul_comm _ X, h1, mul_add_self _ _ hk]
    rw [show (2 * (-(1 / 2) * (r * (r * r)) * 1024⁻¹) : ℝ) = -(r * (r * r) * 1024⁻¹) by ring, EReal.coe_neg,
      mul_neg, mul_neg]
    congr 1
    push_cast; ac_rfl

end Cert.Proof.Norm
-- ==== Proof.NormProducts.lean ====
module

public import proofs.«01_k».proof.Defs
public import proofs.«01_k».proof.Proof.Norm
public import proofs.«01_k».proof.Proof.Gen.ProjBwdIdeal.Value
public import proofs.«01_k».proof.Proof.Gen.ProjBwdRefIdeal.Run
public import proofs.«01_k».proof.Proof.Gen.MlpUpBwdIdeal.Value
public import proofs.«01_k».proof.Proof.Gen.MlpUpBwdRefIdeal.Run
public import Idealize.ShloMosaic.Lib.Pipeline.ValueKit.Point

/-!
The two products of the backward pass that end in a norm's gradient. Each grid point takes some rows: it forms the
gradient of the normed rows by one product, turns it into the gradient of the rows by the norm's closed form, adds the
residual gradient, and adds its share of the scale's gradient to a row that all the points share.
-/

@[expose] public section

noncomputable section

namespace Cert.Proof.Norm

open Idealize.ShloMosaic

/-- A row of a matrix. -/
def row {M N : ℕ} (x : (⟨2, ![M, N]⟩ : Shape).Idx → EReal) (i : Fin M) : Fin N → EReal := fun j => x (ix2 i j)

/-- The gradient of the rows: the residual gradient plus the norm's gradient, `d` the gradient of the normed rows. -/
def dx {M N : ℕ} (d : Fin M → Fin N → EReal) (x dres : (⟨2, ![M, N]⟩ : Shape).Idx → EReal)
    (g : (⟨2, ![1, N]⟩ : Shape).Idx → EReal) (i : Fin M) (j : Fin N) : EReal :=
  dres (ix2 i j) + rscale (row x i) * (d i j * g (ix2 0 j) - x (ix2 i j) * rscale (row x i)
    * Ideal.div (∑ k, d i k * g (ix2 0 k) * (x (ix2 i k) * rscale (row x i))) width)

/-- The gradient of the rows as the chain rule writes it. -/
theorem dx_chain {M N : ℕ} (d : Fin M → Fin N → EReal) (x dres : (⟨2, ![M, N]⟩ : Shape).Idx → EReal)
    (g : (⟨2, ![1, N]⟩ : Shape).Idx → EReal) (i : (⟨2, ![M, N]⟩ : Shape).Idx) (Q : EReal)
    (hQ : Q = Ideal.div ((∑ k, x (ix2 (i 0) k) * (d (i 0) k * g (ix2 0 k)))
      * (negHalf * Ideal.div (rscale (row x (i 0))) (ms (row x (i 0))))) width) :
    dres i + (d (i 0) (i 1) * g (ix2 0 (i 1)) * rscale (row x (i 0)) + x i * Q + Q * x i) = dx d x dres g (i 0) (i 1) := by
  subst hQ
  show _ = dres (ix2 (i 0) (i 1)) + rscale (row x (i 0)) * (_ - x (ix2 (i 0) (i 1)) * rscale (row x (i 0)) * _)
  rw [← eq_ix2 i]
  have := bwd (fun k => d (i 0) k * g (ix2 0 k)) (row x (i 0)) (i 1)
  rw [show row x (i 0) (i 1) = x i from congrArg x (eq_ix2 i).symm] at this
  exact congrArg (dres i + ·) this.symm

/-- The gradient of the scale. -/
def dg {M N : ℕ} (d : Fin M → Fin N → EReal) (x : (⟨2, ![M, N]⟩ : Shape).Idx → EReal) (j : Fin N) : EReal :=
  ∑ i, d i j * (x (ix2 i j) * rscale (row x i))

end Cert.Proof.Norm

namespace Cert.Proof.ProjBwd

open Idealize.ShloMosaic Idealize.ShloMosaic.TcCoe Cert.ProjBwdIdeal Cert.ProjBwdIdeal.Gen Cert.Proof.Norm

/-- Which blocks a grid point stages. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- The gradient of the normed rows. -/
def dh (a : S2048x6400.Idx → Ideal .bf16) (b : S6400x1024.Idx → Ideal .bf16) (i : Fin 2048) (j : Fin 1024) : EReal :=
  ∑ k : Fin 6400, a (ix2 i k) * b (ix2 k j)

variable (m : (ℓ : Loc nD τ sig) → Buf (Elt Ideal) ℓ) (c : Dev nD)

/-- The first result. -/
def G5 : S2048x1024.Idx → Ideal .f32 := fun i =>
  dx (dh (m ((c : Thread nD τ).loc main_arg0)) (m ((c : Thread nD τ).loc main_arg1))) (m ((c : Thread nD τ).loc main_arg2))
    (m ((c : Thread nD τ).loc main_arg3)) (m ((c : Thread nD τ).loc main_arg4)) (i 0) (i 1)
/-- The second result. -/
def G6 : S1x1024.Idx → Ideal .f32 := fun i =>
  dg (dh (m ((c : Thread nD τ).loc main_arg0)) (m ((c : Thread nD τ).loc main_arg1))) (m ((c : Thread nD τ).loc main_arg2))
    (i 1)

theorem final5 : (dats m 0 c).arrAt 5 cfg0.N = G5 m c := by
  refine (dats m 0 c).arrAt_eq_of_covers 5 _ (by decide +kernel) fun t hf y => ?_
  blk_simp
  rw [after0_5]
  have key : k0_pay5 (iblk m c 0 t) (iblk m c 1 t) (iblk m c 2 t) (iblk m c 3 t) (iblk m c 4 t) y
      = G5 m c ((win0_5.blk t).view.emb y) := by
    pointwise [k0_pay5, k0_pay4, k0_pay3, k0_pay2, G5, dx, dh, rscale, ms, row]
    blk_point [iblk, V, idx t]
  by_cases h : t.val % 8 = 0
  · rw [outsAt0_A m c t h]; frame_out; exact key
  · rw [outsAt0_B m c t h]; frame_out; exact key

theorem last6 (j : S1x1024.Idx) : (outsAt0 m c t0_7.val t0_7.isLt).2 j = G6 m c j := by
  rw [Pipeline.eq_sum_fin_of_reset_step_apply_last (fun n h => (outsAt0 m c n h).2) 8 (fun _ => 0)
      (fun t => k0_pay6 (iblk m c 0 t) (iblk m c 1 t) (iblk m c 2 t))
      (fun t h j => by rw [outsAt0_A m c t h]; frame_out; pointwise [k0_pay1, k0_pay7])
      (fun t h j => by rw [outsAt0_B m c t h]; frame_out; pointwise [k0_pay1])
      (le_of_eq N_0) t0_7 rfl j, zero_add]
  pointwise [k0_pay6, k0_pay4, k0_pay3, k0_pay2, G6, dg, dh, rscale, ms, row]
  refine Fin.sum_mul_add_congr fun t k hl => ?_
  blk_point [iblk, V, idx t]

theorem final6 : (dats m 0 c).arrAt 6 cfg0.N = G6 m c := by
  have key := last6 m c
  refine (dats m 0 c).arrAt_eq_of_after_last 6 t0_7 (by decide +kernel) _ fun j => ?_
  rw [after0_6]
  generalize (outsAt0 m c t0_7.val t0_7.isLt).2 = f at key ⊢
  exact key j

/-- The call and the reference write the same gradients. -/
theorem claim [Cert.ProjBwdRefIdeal.Facts] : Cert.algebraic_ProjBwdIdeal_ProjBwdRefIdeal := by
  intro m g m' g' _ hm
  refine ⟨fun c => G5 m c, fun c => G6 m c,
    (θ_run _ _ _).mono (fun r h c => ⟨(h c).1.trans (final5 m c), (h c).2.1.trans (final6 m c), (h c).2.2⟩)
      (Cert.ProjBwdIdeal.Value.run_blocks m g),
    (θ_run _ _ _).mono (fun r h c => ⟨(h c).1.trans ?_, (h c).2.1.trans ?_, (h c).2.2⟩)
      (Cert.ProjBwdRefIdeal.Value.run m' g')⟩
  · unfold ProjBwdRefIdeal.Value.res_main_v39
    rw [(hm c).1, (hm c).2.1, (hm c).2.2.1, (hm c).2.2.2.1, (hm c).2.2.2.2]
    funext i
    pointwise
    exact dx_chain (dh (m (c.tc.loc main_arg0)) (m (c.tc.loc main_arg1))) (m (c.tc.loc main_arg2)) (m (c.tc.loc main_arg3))
      (m (c.tc.loc main_arg4)) i _ (Fin.sum_univ_one _)
  · rw [(hm c).1, (hm c).2.1, (hm c).2.2.1]
    funext i
    pointwise [G6, dg, dh, rscale, ms, row]
    exact Finset.sum_congr rfl fun k _ => mul_comm _ _

end Cert.Proof.ProjBwd

namespace Cert.Proof.MlpUpBwd

open Idealize.ShloMosaic Idealize.ShloMosaic.TcCoe Cert.MlpUpBwdIdeal Cert.MlpUpBwdIdeal.Gen Cert.Proof.Norm

/-- Which blocks a grid point stages. -/
theorem idx : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- The gradient of the normed rows: the weights lie in eight shards of their columns. -/
def dh (a : S2048x4096.Idx → Ideal .bf16) (b : S8x1024x512.Idx → Ideal .bf16) (i : Fin 2048) (j : Fin 1024) : EReal :=
  ∑ k : Fin 4096, a (ix2 i k) * b (ix3 ⟨k.val / 512, by omega⟩ j ⟨k.val % 512, by omega⟩)

/-- The same, one shard after another. -/
theorem dh_shards (a : S2048x4096.Idx → Ideal .bf16) (b : S8x1024x512.Idx → Ideal .bf16) (i : Fin 2048) (j : Fin 1024) :
    dh a b i j = ∑ p : Fin 8, ∑ k : Fin 512, a (ix2 i ⟨p.val * 512 + k.val, by omega⟩) * b (ix3 p j k) :=
  (Fin.sum_mul_add_congr fun p k hl => by
    congr 4 <;> ext <;> simp <;> omega).symm

variable (m : (ℓ : Loc nD τ sig) → Buf (Elt Ideal) ℓ) (c : Dev nD)

/-- The first result. -/
def G5 : S2048x1024.Idx → Ideal .f32 := fun i =>
  dx (dh (m ((c : Thread nD τ).loc main_arg0)) (m ((c : Thread nD τ).loc main_arg1))) (m ((c : Thread nD τ).loc main_arg2))
    (m ((c : Thread nD τ).loc main_arg3)) (m ((c : Thread nD τ).loc main_arg4)) (i 0) (i 1)
/-- The second result. -/
def G6 : S1x1024.Idx → Ideal .f32 := fun i =>
  dg (dh (m ((c : Thread nD τ).loc main_arg0)) (m ((c : Thread nD τ).loc main_arg1))) (m ((c : Thread nD τ).loc main_arg2))
    (i 1)

theorem final5 : (dats m 0 c).arrAt 5 cfg0.N = G5 m c := by
  refine (dats m 0 c).arrAt_eq_of_covers 5 _ (by decide +kernel) fun t hf y => ?_
  blk_simp
  rw [after0_5]
  by_cases h : t.val % 4 = 0 <;> [rw [outsAt0_A m c t h]; rw [outsAt0_B m c t h]] <;> (
    frame_out
    pointwise [k0_pay1, k0_pay4, k0_pay5, k0_pay6, k0_pay7, k0_pay8, k0_pay9, G5, dx, dh_shards, rscale, ms, row]
    simp only [Fin.sum_univ_eight]
    blk_point [iblk, V, idx t])

/-- The share of one block of rows in the second result. -/
def part (d : Fin 2048 → Fin 1024 → EReal) (x : S2048x1024.Idx → EReal) (t : Fin 4) (j : Fin 1024) : EReal :=
  ∑ r : Fin 512, d ⟨t.val * 512 + r.val, by omega⟩ j
    * (x (ix2 ⟨t.val * 512 + r.val, by omega⟩ j) * rscale (row x ⟨t.val * 512 + r.val, by omega⟩))

theorem last6 (j : S1x1024.Idx) : (outsAt0 m c t0_3.val t0_3.isLt).2 j = G6 m c j := by
  rw [Pipeline.eq_sum_fin_of_reset_step_apply_last (fun n h => (outsAt0 m c n h).2) 4 (fun _ => 0)
      (fun t j => part (dh (m ((c : Thread nD τ).loc main_arg0)) (m ((c : Thread nD τ).loc main_arg1)))
        (m ((c : Thread nD τ).loc main_arg2)) t (j 1))
      (fun t h j => by
        rw [outsAt0_A m c t h]; frame_out
        pointwise [k0_pay2, k0_pay3, k0_pay4, k0_pay5, k0_pay6, k0_pay7, part, dh_shards, rscale, ms, row]
        simp only [Fin.sum_univ_eight]
        blk_point [iblk, V, idx t])
      (fun t h j => by
        rw [outsAt0_B m c t h]; frame_out
        pointwise [k0_pay3, k0_pay4, k0_pay5, k0_pay6, k0_pay7, part, dh_shards, rscale, ms, row]
        simp only [Fin.sum_univ_eight]
        blk_point [iblk, V, idx t])
      (le_of_eq N_0) t0_3 rfl j, zero_add]
  pointwise [part, G6, dg]
  refine Fin.sum_mul_add_congr fun t k hl => ?_
  rfl

theorem final6 : (dats m 0 c).arrAt 6 cfg0.N = G6 m c := by
  have key := last6 m c
  refine (dats m 0 c).arrAt_eq_of_after_last 6 t0_3 (by decide +kernel) _ fun j => ?_
  rw [after0_6]
  generalize (outsAt0 m c t0_3.val t0_3.isLt).2 = f at key ⊢
  exact key j

/-- The call and the reference write the same gradients. -/
theorem claim [Cert.MlpUpBwdRefIdeal.Facts] : Cert.algebraic_MlpUpBwdIdeal_MlpUpBwdRefIdeal := by
  intro m g m' g' _ hm
  refine ⟨fun c => G5 m c, fun c => G6 m c,
    (θ_run _ _ _).mono (fun r h c => ⟨(h c).1.trans (final5 m c), (h c).2.1.trans (final6 m c), (h c).2.2⟩)
      (Cert.MlpUpBwdIdeal.Value.run_blocks m g),
    (θ_run _ _ _).mono (fun r h c => ⟨(h c).1.trans ?_, (h c).2.1.trans ?_, (h c).2.2⟩)
      (Cert.MlpUpBwdRefIdeal.Value.run m' g')⟩
  · unfold MlpUpBwdRefIdeal.Value.res_main_v40
    rw [(hm c).1, (hm c).2.1, (hm c).2.2.1, (hm c).2.2.2.1, (hm c).2.2.2.2]
    funext i
    pointwise
    exact dx_chain (dh (m (c.tc.loc main_arg0)) (m (c.tc.loc main_arg1))) (m (c.tc.loc main_arg2)) (m (c.tc.loc main_arg3))
      (m (c.tc.loc main_arg4)) i _ (Fin.sum_univ_one _)
  · rw [(hm c).1, (hm c).2.1, (hm c).2.2.1]
    funext i
    pointwise [G6, dg, dh, rscale, ms, row]
    exact Finset.sum_congr rfl fun k _ => mul_comm _ _

end Cert.Proof.MlpUpBwd
-- ==== Proof.Optimiser.lean ====
module

public import proofs.«01_k».proof.Defs
public import proofs.«01_k».proof.Proof.Gen.AdamWInIdeal.Value
public import proofs.«01_k».proof.Proof.Gen.AdamWInRefIdeal.Run
public import proofs.«01_k».proof.Proof.Gen.AdamWAIdeal.Value
public import proofs.«01_k».proof.Proof.Gen.AdamWARefIdeal.Run
public import proofs.«01_k».proof.Proof.Gen.AdamWBIdeal.Value
public import proofs.«01_k».proof.Proof.Gen.AdamWBRefIdeal.Run
public import proofs.«01_k».proof.Proof.Gen.AdamWOutIdeal.Value
public import proofs.«01_k».proof.Proof.Gen.AdamWOutRefIdeal.Run
public import proofs.«01_k».proof.Proof.Gen.AdamWUpIdeal.Value
public import proofs.«01_k».proof.Proof.Gen.AdamWUpRefIdeal.Run
public import proofs.«01_k».proof.Proof.Gen.AdamWDownIdeal.Value
public import proofs.«01_k».proof.Proof.Gen.AdamWDownRefIdeal.Run
public import Idealize.ShloMosaic.Lib.Pipeline.ValueKit.Point

/-!
The optimiser's calls on the six matrices. Each call adds the partial sums of a gradient and takes one step of AdamW,
all entry by entry; a grid point takes a block of rows or columns of every array. The reference adds the received
partial sums first, then the device's own.
-/

@[expose] public section

noncomputable section

namespace Cert.Proof.Adam

open Idealize.ShloMosaic

/-- The new mean of a gradient. -/
def newM (g m : EReal) : EReal := Ideal.ofBits .f32 0x3F666666#32 * m + Ideal.ofBits .f32 0x3DCCCCCD#32 * g
/-- The new mean of a gradient's square. -/
def newV (g v : EReal) : EReal := Ideal.ofBits .f32 0x3F7FBE77#32 * v + Ideal.ofBits .f32 0x3A83126F#32 * (g * g)
/-- The step of a weight: the two means without their bias, and the decay of the weight. -/
def delta (g w m v : EReal) : EReal :=
  Ideal.ofBits .f32 0xBA83126F#32 * (Ideal.div (Ideal.div (newM g m) (Ideal.ofBits .f32 0x3F26BD02#32))
      (Ideal.sqrt (Ideal.div (newV g v) (Ideal.ofBits .f32 0x3C231ACC#32)) + Ideal.ofBits .f32 0x322BCC77#32)
    + Ideal.ofBits .f32 0x3C23D70A#32 * w)

/-- The sum of the partial sums: the device's own and the three received ones. -/
def grad {M N : ℕ} (own : (⟨2, ![M, N]⟩ : Shape).Idx → Ideal .f32) (r : (⟨3, ![3, M, N]⟩ : Shape).Idx → Ideal .bf16)
    (i : (⟨2, ![M, N]⟩ : Shape).Idx) : EReal :=
  own i + ∑ s : Fin 3, r (ix3 s (i 0) (i 1))

section
variable {M N : ℕ} (own : (⟨2, ![M, N]⟩ : Shape).Idx → Ideal .f32) (r : (⟨3, ![3, M, N]⟩ : Shape).Idx → Ideal .bf16)
  (w m v : (⟨2, ![M, N]⟩ : Shape).Idx → Ideal .f32) (i : (⟨2, ![M, N]⟩ : Shape).Idx)

/-- The steps of a matrix. -/
def deltas : EReal := delta (grad own r i) (w i) (m i) (v i)
/-- The new means of a matrix. -/
def newMs : EReal := newM (grad own r i) (m i)
/-- The new mean squares of a matrix. -/
def newVs : EReal := newV (grad own r i) (v i)
end

end Cert.Proof.Adam

/-! ## The input projections -/

namespace Cert.Proof.AdamWIn

open Idealize.ShloMosaic Idealize.ShloMosaic.TcCoe Cert.AdamWInIdeal Cert.AdamWInIdeal.Gen Cert.Proof.Adam

/-- Which blocks a grid point stages. -/
theorem idx : ∀ t : Fin cfg0.N, win0_0.index t = ![0, t.val] ∧ win0_1.index t = ![0, 0, t.val] ∧ win0_2.index t = ![0, t.val]
    ∧ win0_3.index t = ![0, t.val] ∧ win0_4.index t = ![0, t.val] ∧ win0_5.index t = ![0, t.val]
    ∧ win0_6.index t = ![0, t.val] ∧ win0_7.index t = ![0, t.val] ∧ win0_8.index t = ![0, t.val] :=
  (by decide +kernel : ∀ t : Fin grid0.N, _)

/-- The four result arrays after the run. -/
theorem finals (m : (ℓ : Loc nD τ sig) → Buf (Elt Ideal) ℓ) (c : Dev nD) :
    let a0 := m ((c : Thread nD τ).loc main_arg0); let a1 := m ((c : Thread nD τ).loc main_arg1)
    let a2 := m ((c : Thread nD τ).loc main_arg2); let a3 := m ((c : Thread nD τ).loc main_arg3)
    let a4 := m ((c : Thread nD τ).loc main_arg4)
    (dats m 0 c).arrAt 5 cfg0.N = grad a0 a1 ∧ (dats m 0 c).arrAt 6 cfg0.N = deltas a0 a1 a2 a3 a4
      ∧ (dats m 0 c).arrAt 7 cfg0.N = newMs a0 a1 a3 ∧ (dats m 0 c).arrAt 8 cfg0.N = newVs a0 a1 a4 := by
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩ <;>
  · blk_simp
    first | rw [after0_5] | rw [after0_6] | rw [after0_7] | rw [after0_8]
    frame_out
    pointwise [k0_pay1, k0_pay2, k0_pay3, k0_pay4, k0_pay5, k0_pay6, grad, deltas, newMs, newVs, delta, newM, newV]
    simp only [Fin.sum_univ_three, ← add_assoc]
    blk_point [iblk, V, idx t]

/-- The call and the reference write the same gradient, step and means. -/
theorem claim [Cert.AdamWInRefIdeal.Facts] : Cert.algebraic_AdamWInIdeal_AdamWInRefIdeal := by
  intro m g m' g' _ hm
  have f := finals m
  refine ⟨fun c => _, fun c => _, fun c => _, fun c => _,
    (θ_run _ _ _).mono (fun r h c => ⟨(h c).1.trans (f c).1, (h c).2.1.trans (f c).2.1, (h c).2.2.1.trans (f c).2.2.1,
      (h c).2.2.2.1.trans (f c).2.2.2, (h c).2.2.2.2⟩) (Cert.AdamWInIdeal.Value.run_blocks m g),
    (θ_run _ _ _).mono (fun r h c => ⟨(h c).1.trans ?_, (h c).2.1.trans ?_, (h c).2.2.1.trans ?_, (h c).2.2.2.1.trans ?_,
      (h c).2.2.2.2⟩) (Cert.AdamWInRefIdeal.Value.run m' g')⟩ <;>
  · simp only [(hm c).1, (hm c).2.1, (hm c).2.2.1, (hm c).2.2.2.1, (hm c).2.2.2.2]
    funext i
    pointwise [grad, deltas, newMs, newVs, delta, newM, newV]

end Cert.Proof.AdamWIn

/-! ## The projection of the first branch -/

namespace Cert.Proof.AdamWA

open Idealize.ShloMosaic Idealize.ShloMosaic.TcCoe Cert.AdamWAIdeal Cert.AdamWAIdeal.Gen Cert.Proof.Adam

/-- Which blocks a grid point stages. -/
theorem idx : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)

/-- The four result arrays after the run. -/
theorem finals (m : (ℓ : Loc nD τ sig) → Buf (Elt Ideal) ℓ) (c : Dev nD) :
    let a0 := m ((c : Thread nD τ).loc main_arg0); let a1 := m ((c : Thread nD τ).loc main_arg1)
    let a2 := m ((c : Thread nD τ).loc main_arg2); let a3 := m ((c : Thread nD τ).loc main_arg3)
    let a4 := m ((c : Thread nD τ).loc main_arg4)
    (dats m 0 c).arrAt 5 cfg0.N = grad a0 a1 ∧ (dats m 0 c).arrAt 6 cfg0.N = deltas a0 a1 a2 a3 a4
      ∧ (dats m 0 c).arrAt 7 cfg0.N = newMs a0 a1 a3 ∧ (dats m 0 c).arrAt 8 cfg0.N = newVs a0 a1 a4 := by
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩ <;>
  · blk_simp
    first | rw [after0_5] | rw [after0_6] | rw [after0_7] | rw [after0_8]
    frame_out
    pointwise [k0_pay1, k0_pay2, k0_pay3, k0_pay4, k0_pay5, k0_pay6, grad, deltas, newMs, newVs, delta, newM, newV]
    simp only [Fin.sum_univ_three, ← add_assoc]
    blk_point [iblk, V, idx t]

/-- The call and the reference write the same gradient, step and means. -/
theorem claim [Cert.AdamWARefIdeal.Facts] : Cert.algebraic_AdamWAIdeal_AdamWARefIdeal := by
  intro m g m' g' _ hm
  have f := finals m
  refine ⟨fun c => _, fun c => _, fun c => _, fun c => _,
    (θ_run _ _ _).mono (fun r h c => ⟨(h c).1.trans (f c).1, (h c).2.1.trans (f c).2.1, (h c).2.2.1.trans (f c).2.2.1,
      (h c).2.2.2.1.trans (f c).2.2.2, (h c).2.2.2.2⟩) (Cert.AdamWAIdeal.Value.run_blocks m g),
    (θ_run _ _ _).mono (fun r h c => ⟨(h c).1.trans ?_, (h c).2.1.trans ?_, (h c).2.2.1.trans ?_, (h c).2.2.2.1.trans ?_,
      (h c).2.2.2.2⟩) (Cert.AdamWARefIdeal.Value.run m' g')⟩ <;>
  · simp only [(hm c).1, (hm c).2.1, (hm c).2.2.1, (hm c).2.2.2.1, (hm c).2.2.2.2]
    funext i
    pointwise [grad, deltas, newMs, newVs, delta, newM, newV]

end Cert.Proof.AdamWA

/-! ## The projection of the second branch -/

namespace Cert.Proof.AdamWB

open Idealize.ShloMosaic Idealize.ShloMosaic.TcCoe Cert.AdamWBIdeal Cert.AdamWBIdeal.Gen Cert.Proof.Adam

/-- Which blocks a grid point stages. -/
theorem idx : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)

/-- The four result arrays after the run. -/
theorem finals (m : (ℓ : Loc nD τ sig) → Buf (Elt Ideal) ℓ) (c : Dev nD) :
    let a0 := m ((c : Thread nD τ).loc main_arg0); let a1 := m ((c : Thread nD τ).loc main_arg1)
    let a2 := m ((c : Thread nD τ).loc main_arg2); let a3 := m ((c : Thread nD τ).loc main_arg3)
    let a4 := m ((c : Thread nD τ).loc main_arg4)
    (dats m 0 c).arrAt 5 cfg0.N = grad a0 a1 ∧ (dats m 0 c).arrAt 6 cfg0.N = deltas a0 a1 a2 a3 a4
      ∧ (dats m 0 c).arrAt 7 cfg0.N = newMs a0 a1 a3 ∧ (dats m 0 c).arrAt 8 cfg0.N = newVs a0 a1 a4 := by
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩ <;>
  · blk_simp
    first | rw [after0_5] | rw [after0_6] | rw [after0_7] | rw [after0_8]
    frame_out
    pointwise [k0_pay1, k0_pay2, k0_pay3, k0_pay4, k0_pay5, k0_pay6, grad, deltas, newMs, newVs, delta, newM, newV]
    simp only [Fin.sum_univ_three, ← add_assoc]
    blk_point [iblk, V, idx t]

/-- The call and the reference write the same gradient, step and means. -/
theorem claim [Cert.AdamWBRefIdeal.Facts] : Cert.algebraic_AdamWBIdeal_AdamWBRefIdeal := by
  intro m g m' g' _ hm
  have f := finals m
  refine ⟨fun c => _, fun c => _, fun c => _, fun c => _,
    (θ_run _ _ _).mono (fun r h c => ⟨(h c).1.trans (f c).1, (h c).2.1.trans (f c).2.1, (h c).2.2.1.trans (f c).2.2.1,
      (h c).2.2.2.1.trans (f c).2.2.2, (h c).2.2.2.2⟩) (Cert.AdamWBIdeal.Value.run_blocks m g),
    (θ_run _ _ _).mono (fun r h c => ⟨(h c).1.trans ?_, (h c).2.1.trans ?_, (h c).2.2.1.trans ?_, (h c).2.2.2.1.trans ?_,
      (h c).2.2.2.2⟩) (Cert.AdamWBRefIdeal.Value.run m' g')⟩ <;>
  · simp only [(hm c).1, (hm c).2.1, (hm c).2.2.1, (hm c).2.2.2.1, (hm c).2.2.2.2]
    funext i
    pointwise [grad, deltas, newMs, newVs, delta, newM, newV]

end Cert.Proof.AdamWB

/-! ## The output projection -/

namespace Cert.Proof.AdamWOut

open Idealize.ShloMosaic Idealize.ShloMosaic.TcCoe Cert.AdamWOutIdeal Cert.AdamWOutIdeal.Gen Cert.Proof.Adam

/-- Which blocks a grid point stages. -/
theorem idx : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)

/-- The four result arrays after the run. -/
theorem finals (m : (ℓ : Loc nD τ sig) → Buf (Elt Ideal) ℓ) (c : Dev nD) :
    let a0 := m ((c : Thread nD τ).loc main_arg0); let a1 := m ((c : Thread nD τ).loc main_arg1)
    let a2 := m ((c : Thread nD τ).loc main_arg2); let a3 := m ((c : Thread nD τ).loc main_arg3)
    let a4 := m ((c : Thread nD τ).loc main_arg4)
    (dats m 0 c).arrAt 5 cfg0.N = grad a0 a1 ∧ (dats m 0 c).arrAt 6 cfg0.N = deltas a0 a1 a2 a3 a4
      ∧ (dats m 0 c).arrAt 7 cfg0.N = newMs a0 a1 a3 ∧ (dats m 0 c).arrAt 8 cfg0.N = newVs a0 a1 a4 := by
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩ <;>
  · blk_simp
    first | rw [after0_5] | rw [after0_6] | rw [after0_7] | rw [after0_8]
    frame_out
    pointwise [k0_pay1, k0_pay2, k0_pay3, k0_pay4, k0_pay5, k0_pay6, grad, deltas, newMs, newVs, delta, newM, newV]
    simp only [Fin.sum_univ_three, ← add_assoc]
    blk_point [iblk, V, idx t]

/-- The call and the reference write the same gradient, step and means. -/
theorem claim [Cert.AdamWOutRefIdeal.Facts] : Cert.algebraic_AdamWOutIdeal_AdamWOutRefIdeal := by
  intro m g m' g' _ hm
  have f := finals m
  refine ⟨fun c => _, fun c => _, fun c => _, fun c => _,
    (θ_run _ _ _).mono (fun r h c => ⟨(h c).1.trans (f c).1, (h c).2.1.trans (f c).2.1, (h c).2.2.1.trans (f c).2.2.1,
      (h c).2.2.2.1.trans (f c).2.2.2, (h c).2.2.2.2⟩) (Cert.AdamWOutIdeal.Value.run_blocks m g),
    (θ_run _ _ _).mono (fun r h c => ⟨(h c).1.trans ?_, (h c).2.1.trans ?_, (h c).2.2.1.trans ?_, (h c).2.2.2.1.trans ?_,
      (h c).2.2.2.2⟩) (Cert.AdamWOutRefIdeal.Value.run m' g')⟩ <;>
  · simp only [(hm c).1, (hm c).2.1, (hm c).2.2.1, (hm c).2.2.2.1, (hm c).2.2.2.2]
    funext i
    pointwise [grad, deltas, newMs, newVs, delta, newM, newV]

end Cert.Proof.AdamWOut

/-! ## The first feed-forward matrix -/

namespace Cert.Proof.AdamWUp

open Idealize.ShloMosaic Idealize.ShloMosaic.TcCoe Cert.AdamWUpIdeal Cert.AdamWUpIdeal.Gen Cert.Proof.Adam

/-- Which blocks a grid point stages. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The four result arrays after the run. -/
theorem finals (m : (ℓ : Loc nD τ sig) → Buf (Elt Ideal) ℓ) (c : Dev nD) :
    let a0 := m ((c : Thread nD τ).loc main_arg0); let a1 := m ((c : Thread nD τ).loc main_arg1)
    let a2 := m ((c : Thread nD τ).loc main_arg2); let a3 := m ((c : Thread nD τ).loc main_arg3)
    let a4 := m ((c : Thread nD τ).loc main_arg4)
    (dats m 0 c).arrAt 5 cfg0.N = grad a0 a1 ∧ (dats m 0 c).arrAt 6 cfg0.N = deltas a0 a1 a2 a3 a4
      ∧ (dats m 0 c).arrAt 7 cfg0.N = newMs a0 a1 a3 ∧ (dats m 0 c).arrAt 8 cfg0.N = newVs a0 a1 a4 := by
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩ <;>
  · blk_simp
    first | rw [after0_5] | rw [after0_6] | rw [after0_7] | rw [after0_8]
    frame_out
    pointwise [k0_pay1, k0_pay2, k0_pay3, k0_pay4, k0_pay5, k0_pay6, grad, deltas, newMs, newVs, delta, newM, newV]
    simp only [Fin.sum_univ_three, ← add_assoc]
    blk_point [iblk, V, idx t]

/-- The call and the reference write the same gradient, step and means. -/
theorem claim [Cert.AdamWUpRefIdeal.Facts] : Cert.algebraic_AdamWUpIdeal_AdamWUpRefIdeal := by
  intro m g m' g' _ hm
  have f := finals m
  refine ⟨fun c => _, fun c => _, fun c => _, fun c => _,
    (θ_run _ _ _).mono (fun r h c => ⟨(h c).1.trans (f c).1, (h c).2.1.trans (f c).2.1, (h c).2.2.1.trans (f c).2.2.1,
      (h c).2.2.2.1.trans (f c).2.2.2, (h c).2.2.2.2⟩) (Cert.AdamWUpIdeal.Value.run_blocks m g),
    (θ_run _ _ _).mono (fun r h c => ⟨(h c).1.trans ?_, (h c).2.1.trans ?_, (h c).2.2.1.trans ?_, (h c).2.2.2.1.trans ?_,
      (h c).2.2.2.2⟩) (Cert.AdamWUpRefIdeal.Value.run m' g')⟩ <;>
  · simp only [(hm c).1, (hm c).2.1, (hm c).2.2.1, (hm c).2.2.2.1, (hm c).2.2.2.2]
    funext i
    pointwise [grad, deltas, newMs, newVs, delta, newM, newV]

end Cert.Proof.AdamWUp

/-! ## The second feed-forward matrix -/

namespace Cert.Proof.AdamWDown

open Idealize.ShloMosaic Idealize.ShloMosaic.TcCoe Cert.AdamWDownIdeal Cert.AdamWDownIdeal.Gen Cert.Proof.Adam

/-- Which blocks a grid point stages. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The four result arrays after the run. -/
theorem finals (m : (ℓ : Loc nD τ sig) → Buf (Elt Ideal) ℓ) (c : Dev nD) :
    let a0 := m ((c : Thread nD τ).loc main_arg0); let a1 := m ((c : Thread nD τ).loc main_arg1)
    let a2 := m ((c : Thread nD τ).loc main_arg2); let a3 := m ((c : Thread nD τ).loc main_arg3)
    let a4 := m ((c : Thread nD τ).loc main_arg4)
    (dats m 0 c).arrAt 5 cfg0.N = grad a0 a1 ∧ (dats m 0 c).arrAt 6 cfg0.N = deltas a0 a1 a2 a3 a4
      ∧ (dats m 0 c).arrAt 7 cfg0.N = newMs a0 a1 a3 ∧ (dats m 0 c).arrAt 8 cfg0.N = newVs a0 a1 a4 := by
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩ <;>
  · blk_simp
    first | rw [after0_5] | rw [after0_6] | rw [after0_7] | rw [after0_8]
    frame_out
    pointwise [k0_pay1, k0_pay2, k0_pay3, k0_pay4, k0_pay5, k0_pay6, grad, deltas, newMs, newVs, delta, newM, newV]
    simp only [Fin.sum_univ_three, ← add_assoc]
    blk_point [iblk, V, idx t]

/-- The call and the reference write the same gradient, step and means. -/
theorem claim [Cert.AdamWDownRefIdeal.Facts] : Cert.algebraic_AdamWDownIdeal_AdamWDownRefIdeal := by
  intro m g m' g' _ hm
  have f := finals m
  refine ⟨fun c => _, fun c => _, fun c => _, fun c => _,
    (θ_run _ _ _).mono (fun r h c => ⟨(h c).1.trans (f c).1, (h c).2.1.trans (f c).2.1, (h c).2.2.1.trans (f c).2.2.1,
      (h c).2.2.2.1.trans (f c).2.2.2, (h c).2.2.2.2⟩) (Cert.AdamWDownIdeal.Value.run_blocks m g),
    (θ_run _ _ _).mono (fun r h c => ⟨(h c).1.trans ?_, (h c).2.1.trans ?_, (h c).2.2.1.trans ?_, (h c).2.2.2.1.trans ?_,
      (h c).2.2.2.2⟩) (Cert.AdamWDownRefIdeal.Value.run m' g')⟩ <;>
  · simp only [(hm c).1, (hm c).2.1, (hm c).2.2.1, (hm c).2.2.2.1, (hm c).2.2.2.2]
    funext i
    pointwise [grad, deltas, newMs, newVs, delta, newM, newV]

end Cert.Proof.AdamWDown
-- ==== Proof.SmallOptimiser.lean ====
module

public import proofs.«01_k».proof.Defs
public import proofs.«01_k».proof.Proof.Gen.SmallAdamIdeal.Value
public import proofs.«01_k».proof.Proof.Gen.SmallAdamRefIdeal.Run
public import proofs.«01_k».proof.Proof.Optimiser
public import Idealize.ShloMosaic.Lib.Pipeline.ValueKit.Point
public import Idealize.ShloMosaic.Lib.Pipeline.ValueKit.Tiles

/-!
The optimiser's call on the small parameters. The gradients of the three norms' weights, the gate's bias and the loss
come packed as rows of one small array per device; the call adds the eight arrays, takes one step of AdamW and unpacks
the rows.
-/

@[expose] public section

noncomputable section

namespace Cert.Proof.SmallAdam

open Idealize.ShloMosaic Idealize.ShloMosaic.TcCoe Cert.SmallAdamIdeal Cert.SmallAdamIdeal.Gen Cert.Proof.Adam

/-- The sum of the eight devices' small gradients. -/
def sums (a0 : Vec Ideal S8x32x128 .f32) (i : S32x128.Idx) : EReal := ∑ s : Fin 8, a0 (ix3 s (i 0) (i 1))

/-- Eight rows from row `o` on, one after another. -/
def rows (o : ℕ) (h : o + 8 ≤ 32) (f : S32x128.Idx → EReal) (i : S1x1024.Idx) : EReal :=
  f (ix2 ⟨o + (i 1).val / 128, by have h1 : (i 1).val < 1024 := (i 1).isLt; omega⟩ ⟨(i 1).val % 128, Nat.mod_lt _ (by decide)⟩)

/-- The first eight entries of row 24: the gate's bias. -/
def gate (f : S32x128.Idx → EReal) (i : S1x8.Idx) : EReal :=
  f (ix2 ⟨24, by decide⟩ ⟨(i 1).val, by have h1 : (i 1).val < 8 := (i 1).isLt; omega⟩)

/-- The loss: the first entry of row 25. -/
def loss (f : S32x128.Idx → EReal) (_ : S1x1.Idx) : EReal := f (ix2 ⟨25, by decide⟩ ⟨0, by decide⟩)

variable (a0 : Vec Ideal S8x32x128 .f32) (a1 a2 a3 : Vec Ideal S32x128 .f32)

/-- The first value the body computes. -/
theorem pay_sums : k0_pay107 a0 a1 a2 a3 = sums a0 := by
  funext i
  pointwise [k0_pay107, k0_pay1, sums]
  simp only [Fin.sum_univ_eight]

/-- The steps it computes. -/
theorem pay_delta : k0_pay111 a0 a1 a2 a3 = fun i => delta (sums a0 i) (a1 i) (a2 i) (a3 i) := by
  funext i
  pointwise [k0_pay111, k0_pay108, k0_pay5, k0_pay4, k0_pay3, k0_pay2, pay_sums, delta, newM, newV]

/-- The new means it computes. -/
theorem pay_newM : k0_pay109 a0 a1 a2 a3 = fun i => newM (sums a0 i) (a2 i) := by
  funext i
  pointwise [k0_pay109, k0_pay108, k0_pay3, k0_pay2, pay_sums, newM]

/-- The new mean squares it computes. -/
theorem pay_newV : k0_pay110 a0 a1 a2 a3 = fun i => newV (sums a0 i) (a3 i) := by
  funext i
  pointwise [k0_pay110, k0_pay4, pay_sums, newV]

/-- One of the eight row pieces, where it lies. -/
theorem piece {o r : ℕ} {h : o + 8 ≤ 32} {f : S32x128.Idx → EReal} {hs : S32x128.Slices ![r, 0] S1x128} {x : S1x128.Idx}
    {y : S1x1024.Idx} (hy : (y 1).val = 128 * (r - o) + (x 1).val) (ho : o ≤ r) :
    extractStridedSlice S1x128 ![r, 0] f hs x = rows o h f y := by
  have h0 : (x 0).val < 1 := (x 0).isLt
  have h1 : (x 1).val < 128 := (x 1).isLt
  refine congrArg f (funext fun a => Fin.ext ?_)
  fin_cases a <;> simp [ix2] <;> omega

/-- The gradients, unpacked. -/
theorem out_sums : Value.G5 a0 a1 a2 a3 = rows 0 (by decide) (sums a0) ∧ Value.G6 a0 a1 a2 a3 = gate (sums a0)
    ∧ Value.G7 a0 a1 a2 a3 = rows 8 (by decide) (sums a0) ∧ Value.G8 a0 a1 a2 a3 = rows 16 (by decide) (sums a0) := by
  rw [← pay_sums]; unfold Value.G5 Value.G6 Value.G7 Value.G8
  generalize k0_pay107 a0 a1 a2 a3 = f
  refine ⟨funext fun y => ?_, funext fun y => ?_, funext fun y => ?_, funext fun y => ?_⟩
  · canon_tiles x h <;> (open_payloads; refine piece ?_ ?_ <;> omega)
  · pointwise [k0_pay31, gate]
  · canon_tiles x h <;> (open_payloads; refine piece ?_ ?_ <;> omega)
  · canon_tiles x h <;> (open_payloads; refine piece ?_ ?_ <;> omega)

/-- The steps, unpacked. -/
theorem out_delta : Value.G9 a0 a1 a2 a3 = rows 0 (by decide) (fun i => delta (sums a0 i) (a1 i) (a2 i) (a3 i)) ∧ Value.G10 a0 a1 a2 a3 = gate (fun i => delta (sums a0 i) (a1 i) (a2 i) (a3 i))
    ∧ Value.G11 a0 a1 a2 a3 = rows 8 (by decide) (fun i => delta (sums a0 i) (a1 i) (a2 i) (a3 i)) ∧ Value.G12 a0 a1 a2 a3 = rows 16 (by decide) (fun i => delta (sums a0 i) (a1 i) (a2 i) (a3 i)) := by
  rw [← pay_delta]; unfold Value.G9 Value.G10 Value.G11 Value.G12
  generalize k0_pay111 a0 a1 a2 a3 = f
  refine ⟨funext fun y => ?_, funext fun y => ?_, funext fun y => ?_, funext fun y => ?_⟩
  · canon_tiles x h <;> (open_payloads; refine piece ?_ ?_ <;> omega)
  · pointwise [k0_pay56, gate]
  · canon_tiles x h <;> (open_payloads; refine piece ?_ ?_ <;> omega)
  · canon_tiles x h <;> (open_payloads; refine piece ?_ ?_ <;> omega)

/-- The new means, unpacked. -/
theorem out_newM : Value.G13 a0 a1 a2 a3 = rows 0 (by decide) (fun i => newM (sums a0 i) (a2 i)) ∧ Value.G14 a0 a1 a2 a3 = gate (fun i => newM (sums a0 i) (a2 i))
    ∧ Value.G15 a0 a1 a2 a3 = rows 8 (by decide) (fun i => newM (sums a0 i) (a2 i)) ∧ Value.G16 a0 a1 a2 a3 = rows 16 (by decide) (fun i => newM (sums a0 i) (a2 i)) := by
  rw [← pay_newM]; unfold Value.G13 Value.G14 Value.G15 Value.G16
  generalize k0_pay109 a0 a1 a2 a3 = f
  refine ⟨funext fun y => ?_, funext fun y => ?_, funext fun y => ?_, funext fun y => ?_⟩
  · canon_tiles x h <;> (open_payloads; refine piece ?_ ?_ <;> omega)
  · pointwise [k0_pay81, gate]
  · canon_tiles x h <;> (open_payloads; refine piece ?_ ?_ <;> omega)
  · canon_tiles x h <;> (open_payloads; refine piece ?_ ?_ <;> omega)

/-- The new mean squares, unpacked. -/
theorem out_newV : Value.G17 a0 a1 a2 a3 = rows 0 (by decide) (fun i => newV (sums a0 i) (a3 i)) ∧ Value.G18 a0 a1 a2 a3 = gate (fun i => newV (sums a0 i) (a3 i))
    ∧ Value.G19 a0 a1 a2 a3 = rows 8 (by decide) (fun i => newV (sums a0 i) (a3 i)) ∧ Value.G20 a0 a1 a2 a3 = rows 16 (by decide) (fun i => newV (sums a0 i) (a3 i)) := by
  rw [← pay_newV]; unfold Value.G17 Value.G18 Value.G19 Value.G20
  generalize k0_pay110 a0 a1 a2 a3 = f
  refine ⟨funext fun y => ?_, funext fun y => ?_, funext fun y => ?_, funext fun y => ?_⟩
  · canon_tiles x h <;> (open_payloads; refine piece ?_ ?_ <;> omega)
  · pointwise [k0_pay106, gate]
  · canon_tiles x h <;> (open_payloads; refine piece ?_ ?_ <;> omega)
  · canon_tiles x h <;> (open_payloads; refine piece ?_ ?_ <;> omega)

/-- The loss, unpacked. -/
theorem out_loss : Value.G4 a0 a1 a2 a3 = loss (sums a0) := by
  rw [← pay_sums]; unfold Value.G4
  generalize k0_pay107 a0 a1 a2 a3 = f
  funext y
  pointwise [k0_pay6, loss]

/-- Rows unpacked by the host. -/
theorem host_rows {o : ℕ} {h : o + 8 ≤ 32} {f g : S32x128.Idx → EReal} {h1 : S32x128.Slices ![o, 0] Cert.SmallAdamRefIdeal.S8x128}
    {h2 : Cert.SmallAdamRefIdeal.S8x128.ShapeCasts S1x1024} (e : f = g) :
    shapeCast S1x1024 (extractStridedSlice Cert.SmallAdamRefIdeal.S8x128 ![o, 0] f h1) h2 = rows o h g := by
  subst e
  funext i
  pointwise [rows]

/-- The bias unpacked by the host. -/
theorem host_gate {f g : S32x128.Idx → EReal} {h1 : S32x128.Slices ![24, 0] S1x8} (e : f = g) :
    extractStridedSlice S1x8 ![24, 0] f h1 = gate g := by
  subst e
  funext i
  pointwise [gate]

/-- The loss unpacked by the host. -/
theorem host_loss {f g : S32x128.Idx → EReal} {h1 : S32x128.Slices ![25, 0] S1x1} (e : f = g) :
    extractStridedSlice S1x1 ![25, 0] f h1 = loss g := by
  subst e
  funext i
  pointwise [loss]

/-- The call and the reference write the same loss, gradients, steps and means. -/
theorem claim [Cert.SmallAdamRefIdeal.Facts] : Cert.algebraic_SmallAdamIdeal_SmallAdamRefIdeal := by
  intro m g m' g' _ hm
  refine ⟨fun c => _, fun c => _, fun c => _, fun c => _, fun c => _, fun c => _, fun c => _, fun c => _, fun c => _, fun c => _, fun c => _, fun c => _, fun c => _, fun c => _, fun c => _, fun c => _, fun c => _,
    (θ_run _ _ _).mono (fun r h c => ⟨(h c).1.trans (out_loss _ _ _ _),
      (h c).2.1.trans (out_sums _ _ _ _).1,
      (h c).2.2.1.trans (out_sums _ _ _ _).2.1,
      (h c).2.2.2.1.trans (out_sums _ _ _ _).2.2.1,
      (h c).2.2.2.2.1.trans (out_sums _ _ _ _).2.2.2,
      (h c).2.2.2.2.2.1.trans (out_delta _ _ _ _).1,
      (h c).2.2.2.2.2.2.1.trans (out_delta _ _ _ _).2.1,
      (h c).2.2.2.2.2.2.2.1.trans (out_delta _ _ _ _).2.2.1,
      (h c).2.2.2.2.2.2.2.2.1.trans (out_delta _ _ _ _).2.2.2,
      (h c).2.2.2.2.2.2.2.2.2.1.trans (out_newM _ _ _ _).1,
      (h c).2.2.2.2.2.2.2.2.2.2.1.trans (out_newM _ _ _ _).2.1,
      (h c).2.2.2.2.2.2.2.2.2.2.2.1.trans (out_newM _ _ _ _).2.2.1,
      (h c).2.2.2.2.2.2.2.2.2.2.2.2.1.trans (out_newM _ _ _ _).2.2.2,
      (h c).2.2.2.2.2.2.2.2.2.2.2.2.2.1.trans (out_newV _ _ _ _).1,
      (h c).2.2.2.2.2.2.2.2.2.2.2.2.2.2.1.trans (out_newV _ _ _ _).2.1,
      (h c).2.2.2.2.2.2.2.2.2.2.2.2.2.2.2.1.trans (out_newV _ _ _ _).2.2.1,
      (h c).2.2.2.2.2.2.2.2.2.2.2.2.2.2.2.2.1.trans (out_newV _ _ _ _).2.2.2,
      (h c).2.2.2.2.2.2.2.2.2.2.2.2.2.2.2.2.2⟩) (Cert.SmallAdamIdeal.Value.run m g),
    (θ_run _ _ _).mono (fun r h c => ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2.1.trans ?_,
      (h c).2.2.2.2.2.2.2.1.trans ?_,
      (h c).2.2.2.2.2.2.2.2.1.trans ?_,
      (h c).2.2.2.2.2.2.2.2.2.1.trans ?_,
      (h c).2.2.2.2.2.2.2.2.2.2.1.trans ?_,
      (h c).2.2.2.2.2.2.2.2.2.2.2.1.trans ?_,
      (h c).2.2.2.2.2.2.2.2.2.2.2.2.1.trans ?_,
      (h c).2.2.2.2.2.2.2.2.2.2.2.2.2.1.trans ?_,
      (h c).2.2.2.2.2.2.2.2.2.2.2.2.2.2.1.trans ?_,
      (h c).2.2.2.2.2.2.2.2.2.2.2.2.2.2.2.1.trans ?_,
      (h c).2.2.2.2.2.2.2.2.2.2.2.2.2.2.2.2.1.trans ?_,
      (h c).2.2.2.2.2.2.2.2.2.2.2.2.2.2.2.2.2⟩) (Cert.SmallAdamRefIdeal.Value.run m' g')⟩ <;>
  · simp only [(hm c).1, (hm c).2.1, (hm c).2.2.1, (hm c).2.2.2]
    first | refine host_rows (funext fun i => ?_) | refine host_gate (funext fun i => ?_) | refine host_loss (funext fun i => ?_)
    pointwise [sums, delta, newM, newV]

end Cert.Proof.SmallAdam
-- ==== Proof.Forward.lean ====
module

public import proofs.«01_k».proof.Defs
public import proofs.«01_k».proof.Proof.Gen.ProjAIdeal.Value
public import proofs.«01_k».proof.Proof.Gen.ProjARefIdeal.Run
public import proofs.«01_k».proof.Proof.Gen.ProjBIdeal.Value
public import proofs.«01_k».proof.Proof.Gen.ProjBRefIdeal.Run
public import proofs.«01_k».proof.Proof.Gen.ProjGIdeal.Value
public import proofs.«01_k».proof.Proof.Gen.ProjGRefIdeal.Run
public import proofs.«01_k».proof.Proof.Gen.ProjFIdeal.Value
public import proofs.«01_k».proof.Proof.Gen.ProjFRefIdeal.Run
public import proofs.«01_k».proof.Proof.Gen.MlpUpIdeal.Value
public import proofs.«01_k».proof.Proof.Gen.MlpUpRefIdeal.Run
public import Idealize.ShloMosaic.Lib.Pipeline.ValueKit.Point

/-!
The products of the forward pass that start from the normed rows: the four segments of the input projection, each
against its own rows of the transposed weights, and the first feed-forward product against eight shards of columns.
Every grid point writes one finished block of columns.
-/

@[expose] public section

noncomputable section

namespace Cert.Proof

open Idealize.ShloMosaic

/-- The entry `(i, j)` of `a bᵀ`. -/
def nt {K M N : ℕ} {φ ψ : FTy} (a : (⟨2, ![M, K]⟩ : Shape).Idx → Ideal φ) (b : (⟨2, ![N, K]⟩ : Shape).Idx → Ideal ψ)
    (i : Fin M) (j : Fin N) : EReal :=
  ∑ k : Fin K, a (ix2 i k) * b (ix2 j k)

end Cert.Proof

/-! ## The queries, keys and values of the forgetting attention -/

namespace Cert.Proof.ProjA

open Idealize.ShloMosaic Idealize.ShloMosaic.TcCoe Cert.ProjAIdeal Cert.ProjAIdeal.Gen

/-- Which blocks a grid point stages. -/
theorem idx : ∀ t : Fin cfg0.N, win0_0.index t = ![0, 0] ∧ win0_1.index t = ![t.val, 0] ∧ win0_2.index t = ![0, t.val] :=
  (by decide +kernel : ∀ t : Fin grid0.N, _)

/-- What the call computes. -/
def G (a : S2048x1024.Idx → Ideal .bf16) (b : S6400x1024.Idx → Ideal .bf16) : S2048x1536.Idx → Ideal .bf16 :=
  fun i => nt a b (i 0) ⟨0 + (i 1).val, by idx_bounds i; omega⟩

/-- A staged block of the weights at an entry: the rows of the weights the block covers. -/
theorem staged (m : (ℓ : Loc nD τ sig) → Buf (Elt Ideal) ℓ) (c : Dev nD) (t : Fin cfg0.N) (r : Fin 512) (k : Fin 1024)
    (i : S6400x1024.Idx) (h0 : (i 0).val = t.val * 512 + r.val) (h1 : (i 1).val = k.val) :
    X0_1 m c t (ix2 r k) = m ((c : Thread nD τ).loc main_arg1) i := by
  obtain ⟨_, e, _⟩ := idx t
  unfold X0_1 Pipeline.Window.fill
  rw [dif_pos (moved0_1 t _)]
  refine congrArg (m ((c : Thread nD τ).loc main_arg1)) (funext fun a => Fin.ext ?_)
  fin_cases a <;> refine (ValueKit.rect_emb_unit_val _ _ _ _ _).trans ?_
  · exact (congrArg (· * 512 + r.val) (congrFun e 0)).trans h0.symm
  · exact (congrArg (· * 1024 + k.val) (congrFun e 1)).trans ((by omega : 0 * 1024 + k.val = k.val).trans h1.symm)

/-- The result array after the run. -/
theorem final_out (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  pointwise [k0_pay1, G, nt]
  refine Finset.sum_congr (M := EReal) rfl fun k _ => congrArg₂ (fun p q : EReal => p * q) ?_ ?_
  · blk_point [iblk, V, idx t]
  · refine staged m c t _ _ _ ?_ ?_ <;> blk_simp [idx t] <;> (try dsimp only) <;> omega

/-- The call and the reference write the same columns. -/
theorem claim [Cert.ProjARefIdeal.Facts] : Cert.algebraic_ProjAIdeal_ProjARefIdeal := by
  intro m g m' g' _ hm
  refine ⟨fun c => G (m ((c : Thread nD τ).loc main_arg0)) (m ((c : Thread nD τ).loc main_arg1)),
    (θ_run _ _ _).mono (fun r h c => ⟨(h c).1.trans (final_out m c), (h c).2⟩) (Cert.ProjAIdeal.Value.run_blocks m g),
    (θ_run _ _ _).mono (fun r h c => ⟨(h c).1.trans ?_, (h c).2⟩) (Cert.ProjARefIdeal.Value.run m' g')⟩
  rw [(hm c).1, (hm c).2]
  funext i
  pointwise [G, nt]

end Cert.Proof.ProjA

/-! ## Those of the dilated attention -/

namespace Cert.Proof.ProjB

open Idealize.ShloMosaic Idealize.ShloMosaic.TcCoe Cert.ProjBIdeal Cert.ProjBIdeal.Gen

/-- Which blocks a grid point stages. -/
theorem idx : ∀ t : Fin cfg0.N, win0_0.index t = ![0, 0] ∧ win0_1.index t = ![2 + t.val, 0] ∧ win0_2.index t = ![0, t.val] :=
  (by decide +kernel : ∀ t : Fin grid0.N, _)

/-- What the call computes. -/
def G (a : S2048x1024.Idx → Ideal .bf16) (b : S6400x1024.Idx → Ideal .bf16) : S2048x2304.Idx → Ideal .f32 :=
  fun i => nt a b (i 0) ⟨1536 + (i 1).val, by idx_bounds i; omega⟩

/-- A staged block of the weights at an entry: the rows of the weights the block covers. -/
theorem staged (m : (ℓ : Loc nD τ sig) → Buf (Elt Ideal) ℓ) (c : Dev nD) (t : Fin cfg0.N) (r : Fin 768) (k : Fin 1024)
    (i : S6400x1024.Idx) (h0 : (i 0).val = (2 + t.val) * 768 + r.val) (h1 : (i 1).val = k.val) :
    X0_1 m c t (ix2 r k) = m ((c : Thread nD τ).loc main_arg1) i := by
  obtain ⟨_, e, _⟩ := idx t
  unfold X0_1 Pipeline.Window.fill
  rw [dif_pos (moved0_1 t _)]
  refine congrArg (m ((c : Thread nD τ).loc main_arg1)) (funext fun a => Fin.ext ?_)
  fin_cases a <;> refine (ValueKit.rect_emb_unit_val _ _ _ _ _).trans ?_
  · exact (congrArg (· * 768 + r.val) (congrFun e 0)).trans h0.symm
  · exact (congrArg (· * 1024 + k.val) (congrFun e 1)).trans ((by omega : 0 * 1024 + k.val = k.val).trans h1.symm)

/-- The result array after the run. -/
theorem final_out (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  pointwise [k0_pay1, G, nt]
  refine Finset.sum_congr (M := EReal) rfl fun k _ => congrArg₂ (fun p q : EReal => p * q) ?_ ?_
  · blk_point [iblk, V, idx t]
  · refine staged m c t _ _ _ ?_ ?_ <;> blk_simp [idx t] <;> (try dsimp only) <;> omega

/-- The call and the reference write the same columns. -/
theorem claim [Cert.ProjBRefIdeal.Facts] : Cert.algebraic_ProjBIdeal_ProjBRefIdeal := by
  intro m g m' g' _ hm
  refine ⟨fun c => G (m ((c : Thread nD τ).loc main_arg0)) (m ((c : Thread nD τ).loc main_arg1)),
    (θ_run _ _ _).mono (fun r h c => ⟨(h c).1.trans (final_out m c), (h c).2⟩) (Cert.ProjBIdeal.Value.run_blocks m g),
    (θ_run _ _ _).mono (fun r h c => ⟨(h c).1.trans ?_, (h c).2⟩) (Cert.ProjBRefIdeal.Value.run m' g')⟩
  rw [(hm c).1, (hm c).2]
  funext i
  pointwise [G, nt]

end Cert.Proof.ProjB

/-! ## The gates of the two branches -/

namespace Cert.Proof.ProjG

open Idealize.ShloMosaic Idealize.ShloMosaic.TcCoe Cert.ProjGIdeal Cert.ProjGIdeal.Gen

/-- Which blocks a grid point stages. -/
theorem idx : ∀ t : Fin cfg0.N, win0_0.index t = ![0, 0] ∧ win0_1.index t = ![4 + t.val, 0] ∧ win0_2.index t = ![0, t.val] :=
  (by decide +kernel : ∀ t : Fin grid0.N, _)

/-- What the call computes. -/
def G (a : S2048x1024.Idx → Ideal .bf16) (b : S6400x1024.Idx → Ideal .bf16) : S2048x2048.Idx → Ideal .f32 :=
  fun i => nt a b (i 0) ⟨4096 + (i 1).val, by idx_bounds i; omega⟩

/-- A staged block of the weights at an entry: the rows of the weights the block covers. -/
theorem staged (m : (ℓ : Loc nD τ sig) → Buf (Elt Ideal) ℓ) (c : Dev nD) (t : Fin cfg0.N) (r : Fin 1024) (k : Fin 1024)
    (i : S6400x1024.Idx) (h0 : (i 0).val = (4 + t.val) * 1024 + r.val) (h1 : (i 1).val = k.val) :
    X0_1 m c t (ix2 r k) = m ((c : Thread nD τ).loc main_arg1) i := by
  obtain ⟨_, e, _⟩ := idx t
  unfold X0_1 Pipeline.Window.fill
  rw [dif_pos (moved0_1 t _)]
  refine congrArg (m ((c : Thread nD τ).loc main_arg1)) (funext fun a => Fin.ext ?_)
  fin_cases a <;> refine (ValueKit.rect_emb_unit_val _ _ _ _ _).trans ?_
  · exact (congrArg (· * 1024 + r.val) (congrFun e 0)).trans h0.symm
  · exact (congrArg (· * 1024 + k.val) (congrFun e 1)).trans ((by omega : 0 * 1024 + k.val = k.val).trans h1.symm)

/-- The result array after the run. -/
theorem final_out (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  pointwise [k0_pay1, G, nt]
  refine Finset.sum_congr (M := EReal) rfl fun k _ => congrArg₂ (fun p q : EReal => p * q) ?_ ?_
  · blk_point [iblk, V, idx t]
  · refine staged m c t _ _ _ ?_ ?_ <;> blk_simp [idx t] <;> (try dsimp only) <;> omega

/-- The call and the reference write the same columns. -/
theorem claim [Cert.ProjGRefIdeal.Facts] : Cert.algebraic_ProjGIdeal_ProjGRefIdeal := by
  intro m g m' g' _ hm
  refine ⟨fun c => G (m ((c : Thread nD τ).loc main_arg0)) (m ((c : Thread nD τ).loc main_arg1)),
    (θ_run _ _ _).mono (fun r h c => ⟨(h c).1.trans (final_out m c), (h c).2⟩) (Cert.ProjGIdeal.Value.run_blocks m g),
    (θ_run _ _ _).mono (fun r h c => ⟨(h c).1.trans ?_, (h c).2⟩) (Cert.ProjGRefIdeal.Value.run m' g')⟩
  rw [(hm c).1, (hm c).2]
  funext i
  pointwise [G, nt]

end Cert.Proof.ProjG

/-! ## The forgetting gate -/

namespace Cert.Proof.ProjF

open Idealize.ShloMosaic Idealize.ShloMosaic.TcCoe Cert.ProjFIdeal Cert.ProjFIdeal.Gen

/-- Which blocks a grid point stages. -/
theorem idx : ∀ t : Fin cfg0.N, win0_0.index t = ![0, 0] ∧ win0_1.index t = ![48 + t.val, 0] ∧ win0_2.index t = ![0, t.val] :=
  (by decide +kernel : ∀ t : Fin grid0.N, _)

/-- What the call computes. -/
def G (a : S2048x1024.Idx → Ideal .bf16) (b : S6400x1024.Idx → Ideal .bf16) : S2048x128.Idx → Ideal .f32 :=
  fun i => nt a b (i 0) ⟨6144 + (i 1).val, by idx_bounds i; omega⟩

/-- The result array after the run. -/
theorem final_out (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, G, nt]
  blk_point [iblk, V, idx t]

/-- The call and the reference write the same columns. -/
theorem claim [Cert.ProjFRefIdeal.Facts] : Cert.algebraic_ProjFIdeal_ProjFRefIdeal := by
  intro m g m' g' _ hm
  refine ⟨fun c => G (m ((c : Thread nD τ).loc main_arg0)) (m ((c : Thread nD τ).loc main_arg1)),
    (θ_run _ _ _).mono (fun r h c => ⟨(h c).1.trans (final_out m c), (h c).2⟩) (Cert.ProjFIdeal.Value.run_blocks m g),
    (θ_run _ _ _).mono (fun r h c => ⟨(h c).1.trans ?_, (h c).2⟩) (Cert.ProjFRefIdeal.Value.run m' g')⟩
  rw [(hm c).1, (hm c).2]
  funext i
  pointwise [G, nt]

end Cert.Proof.ProjF

/-! ## The first feed-forward product and its activation -/

namespace Cert.Proof.MlpUp

open Idealize.ShloMosaic Idealize.ShloMosaic.TcCoe Cert.MlpUpIdeal Cert.MlpUpIdeal.Gen

/-- Which blocks a grid point stages. -/
theorem idx : ∀ t : Fin cfg0.N, win0_0.index t = ![0, 0] ∧ win0_1.index t = ![t.val, 0, 0] ∧ win0_2.index t = ![0, t.val]
    ∧ win0_3.index t = ![0, t.val] :=
  (by decide +kernel : ∀ t : Fin grid0.N, _)

/-- The product: column `j` of the weights is column `j % 512` of the shard `j / 512`. -/
def G2 (a : S2048x1024.Idx → Ideal .bf16) (b : S8x1024x512.Idx → Ideal .bf16) : S2048x4096.Idx → Ideal .f32 :=
  fun i => ∑ k : Fin 1024, a (ix2 (i 0) k)
    * b (ix3 ⟨(i 1).val / 512, by idx_bounds i; omega⟩ k ⟨(i 1).val % 512, by idx_bounds i; omega⟩)
/-- The squared positive part. -/
def G3 (a : S2048x1024.Idx → Ideal .bf16) (b : S8x1024x512.Idx → Ideal .bf16) : S2048x4096.Idx → Ideal .bf16 :=
  fun i => max (G2 a b i) (Ideal.ofBits .f32 0x00000000#32) * max (G2 a b i) (Ideal.ofBits .f32 0x00000000#32)

/-- The result arrays after the run. -/
theorem finals (m : (ℓ : Loc nD τ sig) → Buf (Elt Ideal) ℓ) (c : Dev nD) :
    (dats m 0 c).arrAt 2 cfg0.N = G2 (m ((c : Thread nD τ).loc main_arg0)) (m ((c : Thread nD τ).loc main_arg1))
    ∧ (dats m 0 c).arrAt 3 cfg0.N = G3 (m ((c : Thread nD τ).loc main_arg0)) (m ((c : Thread nD τ).loc main_arg1)) := by
  refine ⟨(dats m 0 c).arrAt_eq_of_covers 2 _ (by decide +kernel) fun t hf y => ?_,
    (dats m 0 c).arrAt_eq_of_covers 3 _ (by decide +kernel) fun t hf y => ?_⟩ <;>
  · blk_simp
    first | rw [after0_2] | rw [after0_3]
    frame_out
    pointwise [k0_pay1, k0_pay2, G2, G3]
    blk_point [iblk, V, idx t]

/-- The call and the reference write the same arrays. -/
theorem claim [Cert.MlpUpRefIdeal.Facts] : Cert.algebraic_MlpUpIdeal_MlpUpRefIdeal := by
  intro m g m' g' _ hm
  have f := finals m
  refine ⟨fun c => _, fun c => _,
    (θ_run _ _ _).mono (fun r h c => ⟨(h c).1.trans (f c).1, (h c).2.1.trans (f c).2, (h c).2.2⟩)
      (Cert.MlpUpIdeal.Value.run_blocks m g),
    (θ_run _ _ _).mono (fun r h c => ⟨(h c).1.trans ?_, (h c).2.1.trans ?_, (h c).2.2⟩)
      (Cert.MlpUpRefIdeal.Value.run m' g')⟩ <;>
  · simp only [(hm c).1, (hm c).2]
    funext i
    pointwise [G2, G3]

end Cert.Proof.MlpUp
-- ==== Proof.Backward.lean ====
module

public import proofs.«01_k».proof.Defs
public import proofs.«01_k».proof.Proof.Gen.BranchABwdIdeal.Value
public import proofs.«01_k».proof.Proof.Gen.BranchABwdRefIdeal.Run
public import proofs.«01_k».proof.Proof.Gen.BranchBBwdIdeal.Value
public import proofs.«01_k».proof.Proof.Gen.BranchBBwdRefIdeal.Run
public import Idealize.ShloMosaic.Lib.Pipeline.ValueKit.Point

/-!
The input gradients of the two branch projections: one half of the columns of the incoming gradient against weights held
as eight shards of columns, which the kernel lays side by side.
-/

@[expose] public section

noncomputable section

namespace Cert.Proof

/-- Eight runs of 128 laid one after the other, at a position: the run and the place in it. -/
theorem laid {α : Type} (f : Fin 8 → Fin 128 → α) (x : Fin 1024) :
    (if h : x.val < 128 then f 0 ⟨x.val, h⟩
    else if h : x.val - 128 < 128 then f 1 ⟨x.val - 128, h⟩
    else if h : x.val - 128 - 128 < 128 then f 2 ⟨x.val - 128 - 128, h⟩
    else if h : x.val - 128 - 128 - 128 < 128 then f 3 ⟨x.val - 128 - 128 - 128, h⟩
    else if h : x.val - 128 - 128 - 128 - 128 < 128 then f 4 ⟨x.val - 128 - 128 - 128 - 128, h⟩
    else if h : x.val - 128 - 128 - 128 - 128 - 128 < 128 then f 5 ⟨x.val - 128 - 128 - 128 - 128 - 128, h⟩
    else if h : x.val - 128 - 128 - 128 - 128 - 128 - 128 < 128 then f 6 ⟨x.val - 128 - 128 - 128 - 128 - 128 - 128, h⟩
    else f 7 ⟨x.val - 128 - 128 - 128 - 128 - 128 - 128 - 128, by omega⟩) =
      f ⟨x.val / 128, by omega⟩ ⟨x.val % 128, by omega⟩ := by
  split_ifs <;> (congr 1; · congr 1; ext; show _ = x.val / 128; simp; omega) <;> ext <;> show _ = x.val % 128 <;> simp <;> omega

end Cert.Proof

/-! ## The forgetting attention's branch -/

namespace Cert.Proof.BranchABwd

open Idealize.ShloMosaic Idealize.ShloMosaic.TcCoe Cert.BranchABwdIdeal Cert.BranchABwdIdeal.Gen

/-- Which blocks the one grid point stages. -/
theorem idx : ∀ t : Fin cfg0.N, win0_0.index t = ![0, 0] ∧ win0_1.index t = ![0, 0, 0] ∧ win0_2.index t = ![0, 0] :=
  (by decide +kernel : ∀ t : Fin grid0.N, _)

/-- What the call computes: the columns of the gradient against those of the shards, one shard after the other. -/
def G (a : S2048x2048.Idx → Ideal .bf16) (w : S8x512x128.Idx → Ideal .bf16) : S2048x512.Idx → Ideal .bf16 :=
  fun i => (∑ x : Fin 1024, (a (ix2 (i 0) ⟨x.val, by omega⟩) : EReal) * w (ix3 ⟨x.val / 128, by omega⟩ (i 1) ⟨x.val % 128, by omega⟩) : EReal)

/-- The result array after the run. -/
theorem final_out (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, G]
  refine Finset.sum_congr (M := EReal) rfl fun x _ => congrArg₂ (fun p q : EReal => p * q) ?_
    ((Cert.Proof.laid (fun p k => iblk m c 1 t (ix3 p (y 1) k)) x).trans ?_) <;> blk_point [iblk, V, idx t]

/-- The call and the reference write the same gradient. -/
theorem claim [Cert.BranchABwdRefIdeal.Facts] : Cert.algebraic_BranchABwdIdeal_BranchABwdRefIdeal := by
  intro m g m' g' _ hm
  refine ⟨fun c => G (m ((c : Thread nD τ).loc main_arg0)) (m ((c : Thread nD τ).loc main_arg1)),
    (θ_run _ _ _).mono (fun r h c => ⟨(h c).1.trans (final_out m c), (h c).2⟩) (Cert.BranchABwdIdeal.Value.run_blocks m g),
    (θ_run _ _ _).mono (fun r h c => ⟨(h c).1.trans ?_, (h c).2⟩) (Cert.BranchABwdRefIdeal.Value.run m' g')⟩
  rw [(hm c).1, (hm c).2]
  funext i
  pointwise [G]

end Cert.Proof.BranchABwd

/-! ## The dilated attention's branch -/

namespace Cert.Proof.BranchBBwd

open Idealize.ShloMosaic Idealize.ShloMosaic.TcCoe Cert.BranchBBwdIdeal Cert.BranchBBwdIdeal.Gen

/-- Which blocks the one grid point stages. -/
theorem idx : ∀ t : Fin cfg0.N, win0_0.index t = ![0, 1] ∧ win0_1.index t = ![0, 0, 0] ∧ win0_2.index t = ![0, 0] :=
  (by decide +kernel : ∀ t : Fin grid0.N, _)

/-- What the call computes: the columns of the gradient against those of the shards, one shard after the other. -/
def G (a : S2048x2048.Idx → Ideal .bf16) (w : S8x256x128.Idx → Ideal .bf16) : S2048x256.Idx → Ideal .f32 :=
  fun i => (∑ x : Fin 1024, (a (ix2 (i 0) ⟨1024 + x.val, by omega⟩) : EReal) * w (ix3 ⟨x.val / 128, by omega⟩ (i 1) ⟨x.val % 128, by omega⟩) : EReal)

/-- The result array after the run. -/
theorem final_out (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, G]
  refine Finset.sum_congr (M := EReal) rfl fun x _ => congrArg₂ (fun p q : EReal => p * q) ?_
    ((Cert.Proof.laid (fun p k => iblk m c 1 t (ix3 p (y 1) k)) x).trans ?_) <;> blk_point [iblk, V, idx t]

/-- The call and the reference write the same gradient. -/
theorem claim [Cert.BranchBBwdRefIdeal.Facts] : Cert.algebraic_BranchBBwdIdeal_BranchBBwdRefIdeal := by
  intro m g m' g' _ hm
  refine ⟨fun c => G (m ((c : Thread nD τ).loc main_arg0)) (m ((c : Thread nD τ).loc main_arg1)),
    (θ_run _ _ _).mono (fun r h c => ⟨(h c).1.trans (final_out m c), (h c).2⟩) (Cert.BranchBBwdIdeal.Value.run_blocks m g),
    (θ_run _ _ _).mono (fun r h c => ⟨(h c).1.trans ?_, (h c).2⟩) (Cert.BranchBBwdRefIdeal.Value.run m' g')⟩
  rw [(hm c).1, (hm c).2]
  funext i
  pointwise [G]

end Cert.Proof.BranchBBwd
-- ==== Proof.Shards.lean ====
module

public import proofs.«01_k».proof.Defs
public import proofs.«01_k».proof.Proof.Products
public import proofs.«01_k».proof.Proof.Gen.DwAIdeal.Value
public import proofs.«01_k».proof.Proof.Gen.DwARefIdeal.Run
public import proofs.«01_k».proof.Proof.Gen.DwBIdeal.Value
public import proofs.«01_k».proof.Proof.Gen.DwBRefIdeal.Run
public import Idealize.ShloMosaic.Lib.Pipeline.ValueKit.Tiles
public import Idealize.ShloMosaic.Lib.Pipeline.ValueKit.Point

/-!
The weight gradients of the two branch projections: one product each, whose columns the kernel stores as eight shards.
-/

@[expose] public section

noncomputable section

namespace Cert.Proof

open Idealize.ShloMosaic

/-- An entry depends on its position alone. -/
theorem tn_at {K M N : ℕ} {φ ψ : FTy} (a : (⟨2, ![K, M]⟩ : Shape).Idx → Ideal φ) (b : (⟨2, ![K, N]⟩ : Shape).Idx → Ideal ψ)
    {i i' : Fin M} {j j' : Fin N} (hi : i'.val = i.val) (hj : j'.val = j.val) :
    (∑ k : Fin K, a (ix2 k i) * b (ix2 k j) : EReal) = tn a b i' j' := by
  rw [Fin.ext hi, Fin.ext hj]; rfl

end Cert.Proof

/-! ## The forgetting attention's branch -/

namespace Cert.Proof.DwA

open Idealize.ShloMosaic Idealize.ShloMosaic.TcCoe Cert.DwAIdeal Cert.DwAIdeal.Gen

/-- Which blocks the one grid point stages. -/
theorem idx : ∀ t : Fin cfg0.N, win0_0.index t = ![0, 0] ∧ win0_1.index t = ![0, 0] ∧ win0_2.index t = ![0, 0, 0] :=
  (by decide +kernel : ∀ t : Fin grid0.N, _)

/-- What the call computes, shard by shard. -/
def G (a : S2048x512.Idx → Ideal .bf16) (b : S2048x2048.Idx → Ideal .bf16) : S8x512x128.Idx → Ideal .f32 :=
  fun i => tn a b (i 1) ⟨(i 0).val * 128 + (i 2).val, by idx_bounds i; omega⟩

/-- The eight pieces the body stores make up the shards. -/
theorem tiles (a : S2048x512.Idx → Ideal .bf16) (b : S2048x1024.Idx → Ideal .bf16) (y : S8x512x128.Idx) :
    out0_2 (F := Ideal) a b y = tn a b (y 1) ⟨(y 0).val * 128 + (y 2).val, by idx_bounds y; omega⟩ := by
  frame_out
  canon_tiles x h
  all_goals
    pointwise [k0_pay1, k0_pay2, k0_pay3, k0_pay4, k0_pay5, k0_pay6, k0_pay7, k0_pay8, k0_pay9, k0_pay10]
    refine tn_at a b ?_ ?_ <;> first | omega | (dsimp only; omega)

/-- The result array after the run. -/
theorem final_out (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  refine (tiles _ _ _).trans ?_
  pointwise [G, tn]
  blk_point [iblk, V, idx t]

/-- The call and the reference write the same shards. -/
theorem claim [Cert.DwARefIdeal.Facts] : Cert.algebraic_DwAIdeal_DwARefIdeal := by
  intro m g m' g' _ hm
  refine ⟨fun c => G (m ((c : Thread nD τ).loc main_arg0)) (m ((c : Thread nD τ).loc main_arg1)),
    (θ_run _ _ _).mono (fun r h c => ⟨(h c).1.trans (final_out m c), (h c).2⟩) (Cert.DwAIdeal.Value.run_blocks m g),
    (θ_run _ _ _).mono (fun r h c => ⟨(h c).1.trans ?_, (h c).2⟩) (Cert.DwARefIdeal.Value.run m' g')⟩
  rw [(hm c).1, (hm c).2]
  funext i
  pointwise [G, tn]
  exact Finset.sum_congr (M := EReal) rfl fun _ _ => mul_comm (G := EReal) _ _

end Cert.Proof.DwA

/-! ## The dilated attention's branch -/

namespace Cert.Proof.DwB

open Idealize.ShloMosaic Idealize.ShloMosaic.TcCoe Cert.DwBIdeal Cert.DwBIdeal.Gen

/-- Which blocks the one grid point stages. -/
theorem idx : ∀ t : Fin cfg0.N, win0_0.index t = ![0, 0] ∧ win0_1.index t = ![0, 1] ∧ win0_2.index t = ![0, 0, 0] :=
  (by decide +kernel : ∀ t : Fin grid0.N, _)

/-- What the call computes, shard by shard. -/
def G (a : S2048x256.Idx → Ideal .f32) (b : S2048x2048.Idx → Ideal .bf16) : S8x256x128.Idx → Ideal .f32 :=
  fun i => tn a b (i 1) ⟨1024 + ((i 0).val * 128 + (i 2).val), by idx_bounds i; omega⟩

/-- The eight pieces the body stores make up the shards. -/
theorem tiles (a : S2048x256.Idx → Ideal .f32) (b : S2048x1024.Idx → Ideal .bf16) (y : S8x256x128.Idx) :
    out0_2 (F := Ideal) a b y = tn a b (y 1) ⟨(y 0).val * 128 + (y 2).val, by idx_bounds y; omega⟩ := by
  frame_out
  canon_tiles x h
  all_goals
    pointwise [k0_pay1, k0_pay2, k0_pay3, k0_pay4, k0_pay5, k0_pay6, k0_pay7, k0_pay8, k0_pay9, k0_pay10]
    refine tn_at a b ?_ ?_ <;> first | omega | (dsimp only; omega)

/-- The result array after the run. -/
theorem final_out (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  refine (tiles _ _ _).trans ?_
  pointwise [G, tn]
  blk_point [iblk, V, idx t]

/-- The call and the reference write the same shards. -/
theorem claim [Cert.DwBRefIdeal.Facts] : Cert.algebraic_DwBIdeal_DwBRefIdeal := by
  intro m g m' g' _ hm
  refine ⟨fun c => G (m ((c : Thread nD τ).loc main_arg0)) (m ((c : Thread nD τ).loc main_arg1)),
    (θ_run _ _ _).mono (fun r h c => ⟨(h c).1.trans (final_out m c), (h c).2⟩) (Cert.DwBIdeal.Value.run_blocks m g),
    (θ_run _ _ _).mono (fun r h c => ⟨(h c).1.trans ?_, (h c).2⟩) (Cert.DwBRefIdeal.Value.run m' g')⟩
  rw [(hm c).1, (hm c).2]
  funext i
  pointwise [G, tn]
  exact Finset.sum_congr (M := EReal) rfl fun _ _ => mul_comm (G := EReal) _ _

end Cert.Proof.DwB
-- ==== Proof.DownBwd.lean ====
module

public import proofs.«01_k».proof.Defs
public import proofs.«01_k».proof.Proof.Gen.MlpDownBwdIdeal.Value
public import proofs.«01_k».proof.Proof.Gen.MlpDownBwdRefIdeal.Run
public import Idealize.ShloMosaic.Lib.Pipeline.ValueKit.Point

/-!
The gradient through the second feed-forward product and the squared rectifier. The kernel copies the blocks of the
rectifier's argument itself, two grid points ahead, into a ring of three buffers.
-/

@[expose] public section

noncomputable section

namespace Cert.Proof.MlpDownBwd

open Idealize.ShloMosaic Idealize.ShloMosaic.TcCoe Cert.MlpDownBwdIdeal Cert.MlpDownBwdIdeal.Gen

/-- Which blocks a grid point stages. -/
theorem idx : ∀ t : Fin cfg0.N, win0_0.index t = ![0, 0] ∧ win0_1.index t = ![t.val, 0] ∧ win0_2.index t = ![0, t.val] :=
  (by decide +kernel : ∀ t : Fin grid0.N, _)

/-- The word of two. -/
theorem two : Ideal.ofBits .f32 0x40000000#32 = 2 := by
  simp [Ideal.ofBits, Ideal.ieee]; rw [← EReal.coe_mul]; norm_num; rfl

/-- What the call computes: the product with the transposed weights, times the derivative of the squared rectifier. -/
def G (a : S2048x1024.Idx → Ideal .f32) (b : S4096x1024.Idx → Ideal .bf16) (u : S2048x4096.Idx → Ideal .f32) :
    S2048x4096.Idx → Ideal .bf16 :=
  fun i => ((∑ k : Fin 1024, (a (ix2 (i 0) k) : EReal) * b (ix2 (i 1) k)) * (2 * max (u i : EReal) 0) : EReal)

/-- A slot of the ring read at a grid point, after the point's block of the argument has landed in it: that block. -/
theorem landed (t : Fin cfg0.N) (u : S2048x4096.Idx → Ideal .f32) (y : S2048x512.Idx) (h)
    (i : S2048x4096.Idx) (h0 : (i 0).val = (y 0).val) (h1 : (i 1).val = 512 * t.val + (y 1).val) (f) :
    shapeCast S2048x512 (View.readAt (Elt Ideal) (View.whole cc0_scratch0)
        (Rect.unit (s := S3x2048x512) (k0_off7 (grid0.coords t)) S1x2048x512.size h).toLoadRect
        ((rslot0_0 (Ring.sl 3 t.val)).view.writes (Elt Ideal) f
          [⟨Rect.whole S2048x512, ReadAs.same.apply ((srcB0_0 (Ring.bk 8 t.val)).view.read (Elt Ideal) u)⟩]))
      shapeCasts_S1x2048x512_S2048x512 y = u i := by
  generalize hX : ReadAs.same.apply ((srcB0_0 (Ring.bk 8 t.val)).view.read (Elt Ideal) u) = X
  have key := congrFun (View.read_writes_whole (rslot0_0 (Ring.sl 3 t.val)).view f X) y
  have e : X y = u i := by
    subst hX
    refine congrArg u (funext fun a => Fin.ext ?_)
    have ht : t.val < 8 := t.isLt
    fin_cases a <;> refine (ValueKit.rect_emb_unit_val _ _ _ _ _).trans ?_
    · exact (Nat.zero_add _).trans h0.symm
    · refine Eq.trans ?_ h1.symm
      show 512 * (t.val % 8) + (y 1).val = _
      omega
  rw [← e, ← key]
  generalize (rslot0_0 (Ring.sl 3 t.val)).view.writes (Elt Ideal) f [⟨Rect.whole S2048x512, X⟩] = F
  have hs := coff0_0_13 t
  refine congrArg F (funext fun a => Fin.ext ?_)
  refine (ValueKit.rect_emb_unit_val _ _ _ _ _).trans (Eq.trans ?_ (ValueKit.rect_emb_unit_val _ _ _ _ _).symm)
  exact congrArg (· + _) (congrFun hs a)

/-- An entry of a block of the result, from the blocks of the product and an entry of the argument. -/
def entry (a : S2048x1024.Idx → Ideal .f32) (b : S512x1024.Idx → Ideal .bf16) (v : EReal) (y : S2048x512.Idx) : EReal :=
  (∑ k : Fin 1024, (a (ix2 (y 0) k) : EReal) * b (ix2 (y 1) k)) * (2 * max v 0)

/-- What a grid point leaves in its block of the result. -/
theorem step (t : Fin cfg0.N) (a : S2048x1024.Idx → Ideal .f32) (b : S512x1024.Idx → Ideal .bf16)
    (x : Vec Ideal S1x2048x512 .f32) (y : S2048x512.Idx) (v : EReal)
    (hx : shapeCast S2048x512 x shapeCasts_S1x2048x512_S2048x512 y = v) :
    k0_pay1 (k0_pay2 (F := Ideal) a b) x y = entry a b v y := by
  subst hx
  pointwise [k0_pay1, k0_pay2, entry]
  rw [two]

/-- The result array after the run. -/
theorem final_out (m : (ℓ : Loc nD τ sig) → Buf (Elt Ideal) ℓ) (c : Dev nD) : (dats m 0 c).arrAt 2 cfg0.N
    = G (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  have key : outsAt0 m c t.val t.isLt y
      = entry (iblk m c 0 t) (iblk m c 1 t) (V m c main_arg2 (((cfg0.win 2).blk t).view.emb y)) y := by
    by_cases h0 : t.val % 8 = 0 <;> by_cases h1 : t.val < 6
    · rw [outsAt0_A m c t h0 h1]
      frame_out
      exact step t _ _ _ y _ (landed t (V m c main_arg2) y _ (((cfg0.win 2).blk t).view.emb y) (by blk_simp [idx t]) (by blk_simp [idx t]; omega) _)
    · have ht : t.val < 8 := t.isLt
      omega
    · rw [outsAt0_B m c t h0 h1]
      frame_out
      exact step t _ _ _ y _ (landed t (V m c main_arg2) y _ (((cfg0.win 2).blk t).view.emb y) (by blk_simp [idx t]) (by blk_simp [idx t]; omega) _)
    · rw [outsAt0_C m c t h0 h1]
      frame_out
      exact step t _ _ _ y _ (landed t (V m c main_arg2) y _ (((cfg0.win 2).blk t).view.emb y) (by blk_simp [idx t]) (by blk_simp [idx t]; omega) _)
  refine key.trans ?_
  pointwise [G, entry]
  blk_point [iblk, V, idx t]

/-- The call and the reference write the same gradient. -/
theorem claim [Cert.MlpDownBwdRefIdeal.Facts] : Cert.algebraic_MlpDownBwdIdeal_MlpDownBwdRefIdeal := by
  intro m g m' g' _ hm
  refine ⟨fun c => G (m ((c : Thread nD τ).loc main_arg0)) (m ((c : Thread nD τ).loc main_arg1)) (m ((c : Thread nD τ).loc main_arg2)),
    (θ_run _ _ _).mono (fun r h c => ⟨(h c).1.trans (final_out m c), (h c).2⟩) (Cert.MlpDownBwdIdeal.Value.run_blocks m g),
    (θ_run _ _ _).mono (fun r h c => ⟨(h c).1.trans ?_, (h c).2⟩) (Cert.MlpDownBwdRefIdeal.Value.run m' g')⟩
  rw [(hm c).1, (hm c).2.1, (hm c).2.2]
  funext i
  pointwise [G]
  rw [two]
  by_cases hu : (0 : EReal) < m ((c.tc : Thread nD τ).loc main_arg2) i
  · exact if_pos hu
  · refine (if_neg hu).trans ?_
    rw [max_eq_right (not_lt.mp hu), mul_zero, mul_zero]

end Cert.Proof.MlpDownBwd
-- ==== Proof.Loss.lean ====
module

public import proofs.«01_k».proof.Defs
public import proofs.«01_k».proof.Proof.Norm
public import proofs.«01_k».proof.Proof.NormProducts
public import proofs.«01_k».proof.Proof.Gen.MlpDownLossIdeal.Value
public import proofs.«01_k».proof.Proof.Gen.MlpDownLossRefIdeal.Run
public import Idealize.ShloMosaic.Lib.Pipeline.ValueKit.Point

/-!
The last product of the forward pass and the head behind it. Each grid point takes some rows: it forms the rows that go
into the last norm, their distance from the target, the gradient of these rows by the norm's closed form, and adds its
shares of the scale's gradient and of the loss to two rows that all the points share.
-/

@[expose] public section

noncomputable section

namespace Cert.Proof.MlpDownLoss

open Idealize.ShloMosaic Idealize.ShloMosaic.TcCoe Cert.MlpDownLossIdeal Cert.MlpDownLossIdeal.Gen Cert.Proof.Norm

/-- Which blocks a grid point stages. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0]
    ∧ win0_7.index t = ![0, 0] :=
  (by decide +kernel : ∀ t : Fin grid0.N, _)

/-- The printed `1/1024`. -/
abbrev inv : EReal := Ideal.ofBits .f32 0x3A800000#32
/-- The printed `1/2`. -/
abbrev half : EReal := Ideal.ofBits .f32 0x3F000000#32

theorem inv_eq : inv = ((1 / 1024 : ℝ) : EReal) := by
  simp [inv, Ideal.ofBits, Ideal.ieee]; rw [← EReal.coe_mul]; norm_num
theorem half_eq : half = ((1 / 2 : ℝ) : EReal) := by
  simp [half, Ideal.ofBits, Ideal.ieee]; rw [← EReal.coe_mul]; norm_num

theorem two_eq : Ideal.ofBits .f32 0x40000000#32 = ((2 : ℝ) : EReal) := by
  simp [Ideal.ofBits, Ideal.ieee]; rw [← EReal.coe_mul]; norm_num

/-- The derivative of half the mean square, as the chain rule writes it. -/
theorem lead (e : EReal) : Ideal.div half width * (Ideal.ofBits .f32 0x40000000#32 * e) = e * inv := by
  rw [two_eq, div_width, half_eq, inv_eq, ← mul_assoc, mul_comm _ e, ← EReal.coe_mul, ← EReal.coe_mul]
  norm_num

/-- Half of a sum is the sum of the halves. -/
theorem half_sum {n : ℕ} (f : Fin n → EReal) : ∑ t, half * f t = half * ∑ t, f t := by
  rw [half_eq, mul_comm _ (∑ t, f t), ← sum_mul_coe f _ (by norm_num)]
  exact Finset.sum_congr rfl fun _ _ => mul_comm _ _

/-- The rows that go into the norm. -/
def xs (a : S2048x4096.Idx → Ideal .bf16) (b : S4096x1024.Idx → Ideal .bf16) (x : S2048x1024.Idx → Ideal .f32)
    (i : Fin 2048) : Fin 1024 → EReal := fun j =>
  x (ix2 i j) + ∑ k : Fin 4096, a (ix2 i k) * b (ix2 k j)

/-- The distance of a normed row from its target. -/
def err (x : Fin 2048 → Fin 1024 → EReal) (y : S2048x1024.Idx → Ideal .f32) (g : S1x1024.Idx → Ideal .f32) (i : Fin 2048)
    (j : Fin 1024) : EReal := x i j * rscale (x i) * g (ix2 0 j) - y (ix2 i j)

/-- The gradient of the rows, `d` the gradient of the normed rows. -/
def dxs (d x : Fin 2048 → Fin 1024 → EReal) (g : S1x1024.Idx → Ideal .f32) (i : Fin 2048) (j : Fin 1024) : EReal :=
  rscale (x i) * (d i j * g (ix2 0 j) - x i j * rscale (x i)
    * Ideal.div (∑ k, d i k * g (ix2 0 k) * (x i k * rscale (x i))) width)

/-- The mean square distance of a row. -/
def mse (e : Fin 2048 → Fin 1024 → EReal) (i : Fin 2048) : EReal := Ideal.div (∑ j, e i j * e i j) width

/-- The gradient of a row as the chain rule writes it. -/
theorem dxs_chain (d d' : Fin 1024 → EReal) (hd : ∀ k, d' k = d k) (x g : Fin 1024 → EReal) (j : Fin 1024) (Q : EReal)
    (hQ : Q = Ideal.div ((∑ k, x k * (d' k * g k)) * (negHalf * Ideal.div (rscale x) (ms x))) width) :
    d' j * g j * rscale x + x j * Q + Q * x j
      = rscale x * (d j * g j - x j * rscale x * Ideal.div (∑ k, d k * g k * (x k * rscale x)) width) := by
  obtain rfl : d' = d := funext hd
  subst hQ
  exact (bwd (fun k => d' k * g k) x j).symm

variable (m : (ℓ : Loc nD τ sig) → Buf (Elt Ideal) ℓ) (c : Dev nD)

/-- The rows of the arguments. -/
def X : Fin 2048 → Fin 1024 → EReal :=
  xs (m ((c : Thread nD τ).loc main_arg0)) (m ((c : Thread nD τ).loc main_arg1)) (m ((c : Thread nD τ).loc main_arg2))
/-- Their distances. -/
def E : Fin 2048 → Fin 1024 → EReal :=
  err (X m c) (m ((c : Thread nD τ).loc main_arg3)) (m ((c : Thread nD τ).loc main_arg4))

/-- The first result. -/
def G5 : S2048x1024.Idx → Ideal .f32 := fun i =>
  dxs (fun p q => E m c p q * inv) (X m c) (m ((c : Thread nD τ).loc main_arg4)) (i 0) (i 1)
/-- The second result. -/
def G6 : S1x1024.Idx → Ideal .f32 := fun j =>
  ∑ i : Fin 2048, E m c i (j 1) * inv * (X m c i (j 1) * rscale (X m c i))
/-- The third result. -/
def G7 : S1x128.Idx → Ideal .f32 := fun _ => half * ∑ i : Fin 2048, mse (E m c) i

theorem final5 : (dats m 0 c).arrAt 5 cfg0.N = G5 m c := by
  refine (dats m 0 c).arrAt_eq_of_covers 5 _ (by decide +kernel) fun t hf y => ?_
  blk_simp
  rw [after0_5]
  by_cases h : t.val % 4 = 0 <;> [rw [outsAt0_A m c t h]; rw [outsAt0_B m c t h]] <;> (
    frame_out
    pointwise [k0_pay1, k0_pay6, k0_pay7, k0_pay8, k0_pay9, k0_pay11, k0_pay12, k0_pay13, G5, dxs, E, err, X, xs, rscale, ms]
    blk_point [iblk, V, idx t])

/-- The share of one block of rows in the second result. -/
def part6 (e x : Fin 2048 → Fin 1024 → EReal) (t : Fin 4) (j : Fin 1024) : EReal :=
  ∑ r : Fin 512, e ⟨t.val * 512 + r.val, by omega⟩ j * inv
    * (x ⟨t.val * 512 + r.val, by omega⟩ j * rscale (x ⟨t.val * 512 + r.val, by omega⟩))

theorem last6 (j : S1x1024.Idx) : (outsAt0 m c t0_3.val t0_3.isLt).2.1 j = G6 m c j := by
  rw [Pipeline.eq_sum_fin_of_reset_step_apply_last (fun n h => (outsAt0 m c n h).2.1) 4 (fun _ => 0)
      (fun t j => part6 (E m c) (X m c) t (j 1))
      (fun t h j => by
        rw [outsAt0_A m c t h]; frame_out
        pointwise [k0_pay2, k0_pay4, k0_pay6, k0_pay7, k0_pay8, k0_pay9, k0_pay11, part6, E, err, X, xs, rscale, ms]
        blk_point [iblk, V, idx t])
      (fun t h j => by
        rw [outsAt0_B m c t h]; frame_out
        pointwise [k0_pay4, k0_pay6, k0_pay7, k0_pay8, k0_pay9, k0_pay11, part6, E, err, X, xs, rscale, ms]
        blk_point [iblk, V, idx t])
      (le_of_eq N_0) t0_3 rfl j, zero_add]
  pointwise [part6, G6]
  refine Fin.sum_mul_add_congr fun t k hl => ?_
  rfl

theorem final6 : (dats m 0 c).arrAt 6 cfg0.N = G6 m c := by
  have key := last6 m c
  refine (dats m 0 c).arrAt_eq_of_after_last 6 t0_3 (by decide +kernel) _ fun j => ?_
  rw [after0_6]
  generalize (outsAt0 m c t0_3.val t0_3.isLt).2.1 = f at key ⊢
  exact key j

/-- The share of one block of rows in the third result. -/
def part7 (e : Fin 2048 → Fin 1024 → EReal) (t : Fin 4) : EReal :=
  half * ∑ r : Fin 512, mse e ⟨t.val * 512 + r.val, by omega⟩

theorem last7 (j : S1x128.Idx) : (outsAt0 m c t0_3.val t0_3.isLt).2.2 j = G7 m c j := by
  rw [Pipeline.eq_sum_fin_of_reset_step_apply_last (fun n h => (outsAt0 m c n h).2.2) 4 (fun _ => 0)
      (fun t j => part7 (E m c) t)
      (fun t h j => by
        rw [outsAt0_A m c t h]; frame_out
        pointwise [k0_pay3, k0_pay5, k0_pay6, k0_pay7, k0_pay8, k0_pay9, k0_pay10, part7, mse, E, err, X, xs, rscale, ms]
        blk_point [iblk, V, idx t])
      (fun t h j => by
        rw [outsAt0_B m c t h]; frame_out
        pointwise [k0_pay5, k0_pay6, k0_pay7, k0_pay8, k0_pay9, k0_pay10, part7, mse, E, err, X, xs, rscale, ms]
        blk_point [iblk, V, idx t])
      (le_of_eq N_0) t0_3 rfl j, zero_add]
  pointwise [part7, G7]
  rw [half_sum]
  exact congrArg (half * ·) (Fin.sum_mul_add_congr fun t k hl => rfl)

theorem final7 : (dats m 0 c).arrAt 7 cfg0.N = G7 m c := by
  have key := last7 m c
  refine (dats m 0 c).arrAt_eq_of_after_last 7 t0_3 (by decide +kernel) _ fun j => ?_
  rw [after0_7]
  generalize (outsAt0 m c t0_3.val t0_3.isLt).2.2 = f at key ⊢
  exact key j

/-- The call and the reference write the same gradients and the same loss. -/
theorem claim [Cert.MlpDownLossRefIdeal.Facts] : Cert.algebraic_MlpDownLossIdeal_MlpDownLossRefIdeal := by
  intro m g m' g' _ hm
  refine ⟨fun c => G5 m c, fun c => G6 m c, fun c => G7 m c,
    (θ_run _ _ _).mono (fun r h c => ⟨(h c).1.trans (final5 m c), (h c).2.1.trans (final6 m c),
        (h c).2.2.1.trans (final7 m c), (h c).2.2.2⟩)
      (Cert.MlpDownLossIdeal.Value.run_blocks m g),
    (θ_run _ _ _).mono (fun r h c => ⟨(h c).1.trans ?_, (h c).2.1.trans ?_, (h c).2.2.1.trans ?_, (h c).2.2.2⟩)
      (Cert.MlpDownLossRefIdeal.Value.run m' g')⟩
  · unfold MlpDownLossRefIdeal.Value.res_main_v52
    rw [(hm c).1, (hm c).2.1, (hm c).2.2.1, (hm c).2.2.2.1, (hm c).2.2.2.2]
    refine funext fun i : S2048x1024.Idx => ?_
    obtain ⟨a, b, rfl⟩ : ∃ (a : Fin 2048) (b : Fin 1024), i = ix2 a b := ⟨_, _, eq_ix2 i⟩
    pointwise
    refine dxs_chain (fun k => E m c a k * inv) (fun k => Ideal.div half width * (Ideal.ofBits .f32 0x40000000#32 * E m c a k))
      (fun k => lead _) (X m c a) (fun k => m (c.tc.loc main_arg4) (ix2 0 k)) b _ ?_
    exact Fin.sum_univ_one _
  · rw [(hm c).1, (hm c).2.1, (hm c).2.2.1, (hm c).2.2.2.1, (hm c).2.2.2.2]
    funext i
    pointwise [G6]
    exact Finset.sum_congr (M := EReal) rfl fun k _ => (congrArg (_ * ·) (lead _)).trans (mul_comm (G := EReal) _ _)
  · rw [(hm c).1, (hm c).2.1, (hm c).2.2.1, (hm c).2.2.2.1, (hm c).2.2.2.2]
    funext i
    pointwise [G7]
    rfl

end Cert.Proof.MlpDownLoss
-- ==== Proof.Mixer.lean ====
module

public import proofs.«01_k».proof.Defs
public import proofs.«01_k».proof.Proof.Norm
public import proofs.«01_k».proof.Proof.Backward
public import proofs.«01_k».proof.Proof.Gen.MixerTailIdeal.Value
public import proofs.«01_k».proof.Proof.Gen.MixerTailRefIdeal.Run
public import Idealize.ShloMosaic.Lib.Pipeline.ValueKit.Point

/-!
The tail of the mixer: the two branch products against weights held as eight shards of columns, their gated sum, the out
projection with the residual, and the norm in front of the channel mixer.
-/

@[expose] public section

noncomputable section

namespace Cert.Proof.MixerTail

open Idealize.ShloMosaic Idealize.ShloMosaic.TcCoe Cert.MixerTailIdeal Cert.MixerTailIdeal.Gen Cert.Proof.Norm

/-- Which blocks a grid point stages. -/
theorem idx : ∀ t : Fin cfg0.N, win0_0.index t = ![t.val, 0] ∧ win0_1.index t = ![t.val, 0] ∧ win0_2.index t = ![0, 0, 0]
    ∧ win0_3.index t = ![0, 0, 0] ∧ win0_4.index t = ![0, 0] ∧ win0_5.index t = ![t.val, 0] ∧ win0_6.index t = ![t.val, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The forgetting attention's branch. -/
def ya (a : S2048x512.Idx → Ideal .bf16) (w : S8x512x128.Idx → Ideal .bf16) (i : Fin 2048) (j : Fin 1024) : EReal :=
  ∑ k : Fin 512, a (ix2 i k) * w (ix3 ⟨j.val / 128, by omega⟩ k ⟨j.val % 128, by omega⟩)
/-- The dilated attention's branch. -/
def yb (a : S2048x256.Idx → Ideal .f32) (w : S8x256x128.Idx → Ideal .bf16) (i : Fin 2048) (j : Fin 1024) : EReal :=
  ∑ k : Fin 256, a (ix2 i k) * w (ix3 ⟨j.val / 128, by omega⟩ k ⟨j.val % 128, by omega⟩)

/-- A gate. -/
def gate (z : EReal) : EReal := Ideal.div 1 (1 + Ideal.exp (-z))
/-- The gated sum of the branches. -/
def mix (p q : Fin 2048 → Fin 1024 → EReal) (z : S2048x2048.Idx → Ideal .f32) (i : Fin 2048) (j : Fin 1024) : EReal :=
  gate (z (ix2 i ⟨j.val, by omega⟩)) * p i j + gate (z (ix2 i ⟨1024 + j.val, by omega⟩)) * q i j
/-- The residual plus the out projection. -/
def out (u : Fin 2048 → Fin 1024 → EReal) (w : S1024x1024.Idx → Ideal .bf16) (x : S2048x1024.Idx → Ideal .f32) (i : Fin 2048)
    (j : Fin 1024) : EReal := x (ix2 i j) + ∑ k : Fin 1024, u i k * w (ix2 k j)
/-- The normed rows. -/
def normed (x : Fin 2048 → Fin 1024 → EReal) (g : S1x1024.Idx → Ideal .f32) (i : Fin 2048) (j : Fin 1024) : EReal :=
  x i j * rscale (x i) * g (ix2 0 j)

variable (m : (ℓ : Loc nD τ sig) → Buf (Elt Ideal) ℓ) (c : Dev nD)

/-- The first result. -/
def G8 : S2048x1024.Idx → Ideal .f32 := fun i =>
  ya (m ((c : Thread nD τ).loc main_arg0)) (m ((c : Thread nD τ).loc main_arg2)) (i 0) (i 1)
/-- The second result. -/
def G9 : S2048x1024.Idx → Ideal .f32 := fun i =>
  yb (m ((c : Thread nD τ).loc main_arg1)) (m ((c : Thread nD τ).loc main_arg3)) (i 0) (i 1)

/-- The gated sum on the arguments. -/
def U : Fin 2048 → Fin 1024 → EReal :=
  mix (ya (m ((c : Thread nD τ).loc main_arg0)) (m ((c : Thread nD τ).loc main_arg2)))
    (yb (m ((c : Thread nD τ).loc main_arg1)) (m ((c : Thread nD τ).loc main_arg3))) (m ((c : Thread nD τ).loc main_arg5))
/-- The rows behind the out projection. -/
def X2 : Fin 2048 → Fin 1024 → EReal :=
  out (U m c) (m ((c : Thread nD τ).loc main_arg4)) (m ((c : Thread nD τ).loc main_arg6))
/-- The third result. -/
def G10 : S2048x1024.Idx → Ideal .bf16 := fun i => U m c (i 0) (i 1)
/-- The fourth result. -/
def G11 : S2048x1024.Idx → Ideal .f32 := fun i => X2 m c (i 0) (i 1)
/-- The fifth result. -/
def G12 : S2048x1024.Idx → Ideal .bf16 := fun i => normed (X2 m c) (m ((c : Thread nD τ).loc main_arg7)) (i 0) (i 1)

theorem final8 : (dats m 0 c).arrAt 8 cfg0.N = G8 m c := by
  refine (dats m 0 c).arrAt_eq_of_covers 8 _ (by decide +kernel) fun t hf y => ?_
  blk_simp
  rw [after0_8]; frame_out
  pointwise [k0_pay9, k0_pay4, G8, ya]

  refine Finset.sum_congr (M := EReal) rfl fun x _ => congrArg₂ (fun p q : EReal => p * q) ?_
    ((Cert.Proof.laid (fun p k => iblk m c 2 t (ix3 p x k)) (y 1)).trans ?_) <;> blk_point [iblk, V, idx t]

theorem final9 : (dats m 0 c).arrAt 9 cfg0.N = G9 m c := by
  refine (dats m 0 c).arrAt_eq_of_covers 9 _ (by decide +kernel) fun t hf y => ?_
  blk_simp
  rw [after0_9]; frame_out
  pointwise [k0_pay10, k0_pay11, k0_pay5, k0_pay6, k0_pay7, G9, yb]
  refine Finset.sum_congr (M := EReal) rfl fun x _ => congrArg₂ (fun p q : EReal => p * q) ?_
    ((Cert.Proof.laid (fun p k => iblk m c 3 t (ix3 p x k)) (y 1)).trans ?_) <;> blk_point [iblk, V, idx t]

/-- The row of the arrays that a row of a block is. -/
def rowAt (t : Fin cfg0.N) (r : Fin 512) : Fin 2048 := ⟨t.val * 512 + r.val, by have := t.isLt; have : cfg0.N = 4 := N_0; omega⟩

/-- A block of the first branch at an entry. -/
theorem at9 (t : Fin cfg0.N) (r : Fin 512) (j : Fin 1024) : k0_pay9 (iblk m c 0 t) (iblk m c 1 t) (iblk m c 2 t) (iblk m c 3 t)
    (iblk m c 4 t) (iblk m c 5 t) (iblk m c 6 t) (iblk m c 7 t) (ix2 r j)
    = ya (m ((c : Thread nD τ).loc main_arg0)) (m ((c : Thread nD τ).loc main_arg2)) (rowAt t r) j := by
  pointwise [k0_pay9, k0_pay4, ya, rowAt]
  refine Finset.sum_congr (M := EReal) rfl fun x _ => congrArg₂ (fun p q : EReal => p * q) ?_
    ((Cert.Proof.laid (fun p k => iblk m c 2 t (ix3 p x k)) j).trans ?_) <;> blk_point [iblk, V, idx t]

/-- A block of the second branch at an entry. -/
theorem at12 (t : Fin cfg0.N) (r : Fin 512) (j : Fin 1024) : k0_pay12 (iblk m c 0 t) (iblk m c 1 t) (iblk m c 2 t) (iblk m c 3 t)
    (iblk m c 4 t) (iblk m c 5 t) (iblk m c 6 t) (iblk m c 7 t) (ix2 r j)
    = yb (m ((c : Thread nD τ).loc main_arg1)) (m ((c : Thread nD τ).loc main_arg3)) (rowAt t r) j := by
  pointwise [k0_pay12, k0_pay10, k0_pay11, k0_pay5, k0_pay6, k0_pay7, yb, rowAt]
  refine Finset.sum_congr (M := EReal) rfl fun x _ => congrArg₂ (fun p q : EReal => p * q) ?_
    ((Cert.Proof.laid (fun p k => iblk m c 3 t (ix3 p x k)) j).trans ?_) <;> blk_point [iblk, V, idx t]

/-- A block of the mixed rows at an entry. -/
theorem at1 (t : Fin cfg0.N) (r : Fin 512) (j : Fin 1024) (z : EReal) (hz : z = 0) : k0_pay1
    (k0_pay12 (iblk m c 0 t) (iblk m c 1 t) (iblk m c 2 t) (iblk m c 3 t) (iblk m c 4 t) (iblk m c 5 t) (iblk m c 6 t)
      (iblk m c 7 t))
    (k0_pay13 (iblk m c 0 t) (iblk m c 1 t) (iblk m c 2 t) (iblk m c 3 t) (iblk m c 4 t) (iblk m c 5 t) (iblk m c 6 t)
      (iblk m c 7 t))
    (View.ld (iblk m c 5 t) r0_20) z (ix2 r j) = U m c (rowAt t r) j := by
  subst hz
  pointwise [k0_pay1, k0_pay13, k0_pay8, at9, at12, U, mix, gate]
  simp only [zero_sub]
  refine congrArg₂ (fun p q : EReal => Ideal.div 1 (1 + Ideal.exp (-p)) * _ + Ideal.div 1 (1 + Ideal.exp (-q)) * _) ?_ ?_ <;>
    (simp only [rowAt]; blk_point [iblk, V, idx t])

/-- A block of the rows behind the out projection at an entry. -/
theorem at2 (t : Fin cfg0.N) (r : Fin 512) (j : Fin 1024) (z : EReal) (hz : z = 0) : k0_pay2
    (k0_pay12 (iblk m c 0 t) (iblk m c 1 t) (iblk m c 2 t) (iblk m c 3 t) (iblk m c 4 t) (iblk m c 5 t) (iblk m c 6 t)
      (iblk m c 7 t))
    (k0_pay13 (iblk m c 0 t) (iblk m c 1 t) (iblk m c 2 t) (iblk m c 3 t) (iblk m c 4 t) (iblk m c 5 t) (iblk m c 6 t)
      (iblk m c 7 t))
    (View.ld (iblk m c 5 t) r0_20) z (iblk m c 6 t) (iblk m c 4 t) (ix2 r j) = X2 m c (rowAt t r) j := by
  subst hz
  pointwise [k0_pay2, X2, out]
  refine congrArg₂ (fun p q : EReal => p + q) ?_ (Finset.sum_congr (M := EReal) rfl fun k _ => congrArg₂ (fun p q : EReal => p * q)
    (at1 m c t r k 0 rfl) ?_) <;> (try simp only [rowAt]) <;> blk_point [iblk, V, idx t]

theorem final10 : (dats m 0 c).arrAt 10 cfg0.N = G10 m c := by
  refine (dats m 0 c).arrAt_eq_of_covers 10 _ (by decide +kernel) fun t hf (y : S512x1024.Idx) => ?_
  obtain ⟨r, j, rfl⟩ : ∃ (r : Fin 512) (j : Fin 1024), y = ix2 r j := ⟨_, _, eq_ix2 y⟩
  blk_simp
  rw [after0_10]; frame_out
  refine (at1 m c t r j _ (by simp)).trans ?_
  show G10 m c (ix2 (rowAt t r) j) = _
  refine congrArg (G10 m c) (funext fun a => Fin.ext ?_)
  fin_cases a <;> (try simp only [rowAt]) <;> blk_point [idx t]

theorem final11 : (dats m 0 c).arrAt 11 cfg0.N = G11 m c := by
  refine (dats m 0 c).arrAt_eq_of_covers 11 _ (by decide +kernel) fun t hf (y : S512x1024.Idx) => ?_
  obtain ⟨r, j, rfl⟩ : ∃ (r : Fin 512) (j : Fin 1024), y = ix2 r j := ⟨_, _, eq_ix2 y⟩
  blk_simp
  rw [after0_11]; frame_out
  refine (at2 m c t r j _ (by simp)).trans ?_
  show G11 m c (ix2 (rowAt t r) j) = _
  refine congrArg (G11 m c) (funext fun a => Fin.ext ?_)
  fin_cases a <;> (try simp only [rowAt]) <;> blk_point [idx t]

theorem final12 : (dats m 0 c).arrAt 12 cfg0.N = G12 m c := by
  refine (dats m 0 c).arrAt_eq_of_covers 12 _ (by decide +kernel) fun t hf (y : S512x1024.Idx) => ?_
  obtain ⟨r, j, rfl⟩ : ∃ (r : Fin 512) (j : Fin 1024), y = ix2 r j := ⟨_, _, eq_ix2 y⟩
  blk_simp
  rw [after0_12]; frame_out
  have h : ∀ q, _ = X2 m c (rowAt t r) q := fun q => at2 m c t r q 0 rfl
  refine Eq.trans (b := G12 m c (ix2 (rowAt t r) j)) ?_ ?_
  · pointwise [k0_pay3, G12, normed, rscale, ms]
    refine congrArg₂ (fun p q : EReal => p * q) (congrArg₂ (fun p q : EReal => p * q) (h j)
      (congrArg (fun s => Ideal.rsqrt (Ideal.div s width + small)) (Finset.sum_congr (M := EReal) rfl fun q _ =>
        congrArg₂ (fun p q : EReal => p * q) (h q) (h q)))) ?_
    blk_point [iblk, V, idx t]
  refine congrArg (G12 m c) (funext fun a => Fin.ext ?_)
  fin_cases a <;> (try simp only [rowAt]) <;> blk_point [idx t]

/-- The call and the reference write the same five arrays. -/
theorem claim [Cert.MixerTailRefIdeal.Facts] : Cert.algebraic_MixerTailIdeal_MixerTailRefIdeal := by
  intro m g m' g' _ hm
  refine ⟨fun c => G8 m c, fun c => G9 m c, fun c => G10 m c, fun c => G11 m c, fun c => G12 m c,
    (θ_run _ _ _).mono (fun r h c => ⟨(h c).1.trans (final8 m c), (h c).2.1.trans (final9 m c),
        (h c).2.2.1.trans (final10 m c), (h c).2.2.2.1.trans (final11 m c), (h c).2.2.2.2.1.trans (final12 m c),
        (h c).2.2.2.2.2⟩)
      (Cert.MixerTailIdeal.Value.run_blocks m g),
    (θ_run _ _ _).mono (fun r h c => ⟨(h c).1.trans ?_, (h c).2.1.trans ?_, (h c).2.2.1.trans ?_, (h c).2.2.2.1.trans ?_,
        (h c).2.2.2.2.1.trans ?_, (h c).2.2.2.2.2⟩)
      (Cert.MixerTailRefIdeal.Value.run m' g')⟩
  · rw [(hm c).1, (hm c).2.2.1]
    funext i
    pointwise [G8, ya]
  · rw [(hm c).2.1, (hm c).2.2.2.1]
    funext i
    pointwise [G9, yb]
  · rw [(hm c).1, (hm c).2.1, (hm c).2.2.1, (hm c).2.2.2.1, (hm c).2.2.2.2.2.1]
    refine funext fun i : S2048x1024.Idx => ?_
    obtain ⟨a, b, rfl⟩ : ∃ (a : Fin 2048) (b : Fin 1024), i = ix2 a b := ⟨_, _, eq_ix2 i⟩
    pointwise [G10, U, mix, ya, yb, gate]
  · rw [(hm c).1, (hm c).2.1, (hm c).2.2.1, (hm c).2.2.2.1, (hm c).2.2.2.2.1, (hm c).2.2.2.2.2.1, (hm c).2.2.2.2.2.2.1]
    refine funext fun i : S2048x1024.Idx => ?_
    obtain ⟨a, b, rfl⟩ : ∃ (a : Fin 2048) (b : Fin 1024), i = ix2 a b := ⟨_, _, eq_ix2 i⟩
    pointwise [G11, X2, out, U, mix, ya, yb, gate]
  · unfold MixerTailRefIdeal.Value.res_main_v42
    rw [(hm c).1, (hm c).2.1, (hm c).2.2.1, (hm c).2.2.2.1, (hm c).2.2.2.2.1, (hm c).2.2.2.2.2.1, (hm c).2.2.2.2.2.2.1,
      (hm c).2.2.2.2.2.2.2]
    refine funext fun i : S2048x1024.Idx => ?_
    obtain ⟨a, b, rfl⟩ : ∃ (a : Fin 2048) (b : Fin 1024), i = ix2 a b := ⟨_, _, eq_ix2 i⟩
    pointwise [G12, normed, rscale, ms, X2, out, U, mix, ya, yb, gate]

end Cert.Proof.MixerTail
-- ==== Proof.Gates.lean ====
module

public import proofs.«01_k».proof.Defs
public import proofs.«01_k».proof.Proof.Mixer
public import proofs.«01_k».proof.Proof.Gen.GateBwdIdeal.Frame
public import proofs.«01_k».proof.Proof.Gen.GateBwdRefIdeal.Run
public import Idealize.ShloMosaic.Lib.Pipeline.ValueKit.Point
public import Idealize.ShloMosaic.Lib.Pipeline.ValueKit.Partial

/-!
The gradient of the gated sum and the out projection. The call writes the gates' gradient into a block of columns of a
wider array, which the host cuts out.
-/

@[expose] public section

noncomputable section

namespace Cert.Proof.GateBwd

open Idealize.ShloMosaic Idealize.ShloMosaic.TcCoe Cert.GateBwdIdeal Cert.GateBwdIdeal.Gen
open Cert.Proof.MixerTail (gate)

/-- Which blocks a grid point stages. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 2] :=
  (by decide +kernel : ∀ t : Fin grid0.N, _)

/-- The gradient of the mixed rows, at a column of the two gates. -/
def dm (a : Fin 1024 → EReal) (w : S1024x1024.Idx → Ideal .bf16) (j : Fin 2048) : EReal :=
  ∑ k : Fin 1024, a k * w (ix2 ⟨j.val % 1024, by omega⟩ k)
/-- A row of the branches' gradient. -/
def dy (a : Fin 1024 → EReal) (w : S1024x1024.Idx → Ideal .bf16) (z : Fin 2048 → EReal) (j : Fin 2048) : EReal :=
  dm a w j * gate (z j)
/-- A row of the gates' gradient, `y` the row of the two branches side by side. -/
def dg (a : Fin 1024 → EReal) (w : S1024x1024.Idx → Ideal .bf16) (z y : Fin 2048 → EReal) (j : Fin 2048) : EReal :=
  dm a w j * y j * (gate (z j) * (1 - gate (z j)))
/-- Two rows side by side. -/
def beside (p q : Fin 1024 → EReal) (j : Fin 2048) : EReal :=
  if h : j.val < 1024 then p ⟨j.val, h⟩ else q ⟨j.val - 1024, by omega⟩

theorem dm_at (a : S512x1024.Idx → Ideal .f32) (w : S1024x1024.Idx → Ideal .bf16) {r s : Fin 512} {i : Fin 1024} {j : Fin 2048}
    (hr : s.val = r.val) (hj : j.val = i.val ∨ j.val = 1024 + i.val) :
    (∑ k : Fin 1024, a (ix2 r k) * w (ix2 i k) : EReal) = dm (fun k => a (ix2 s k)) w j := by
  have : (⟨j.val % 1024, by omega⟩ : Fin 1024) = i := Fin.ext (by dsimp only; omega)
  obtain rfl := Fin.ext hr
  rw [dm, this]

/-- A gate as the body computes it. -/
theorem gate_at (z : S512x2048.Idx → Ideal .f32) {r s : Fin 512} {i j : Fin 2048} (hr : s.val = r.val) (hj : j.val = i.val) :
    Ideal.div 1 (1 + Ideal.exp (0 - z (ix2 r i))) = gate (z (ix2 s j)) := by
  obtain rfl := Fin.ext hr
  obtain rfl := Fin.ext hj
  rw [zero_sub, gate]

/-- The first result of a block: the two halves the body stores are the two gates' columns. -/
theorem tiles5 (a : S512x1024.Idx → Ideal .f32) (w : S1024x1024.Idx → Ideal .bf16) (z : S512x2048.Idx → Ideal .f32)
    (p q : S512x1024.Idx → Ideal .f32) (y : S512x2048.Idx) :
    out0_5 (F := Ideal) a w z p q y = dy (fun k => a (ix2 (y 0) k)) w (fun j => z (ix2 (y 0) j)) (y 1) := by
  frame_out
  canon_tiles x h
  all_goals
    pointwise [k0_pay2, k0_pay3, k0_pay4, k0_pay6, k0_pay7]
    refine congrArg₂ (fun p q : EReal => p * q) (dm_at a w ?_ ?_) (gate_at z ?_ ?_) <;> first | omega | (dsimp only; omega)

theorem beside_left (p : S512x1024.Idx → Ideal .f32) (q : Fin 1024 → EReal) {x : S512x1024.Idx} {s : Fin 512} {j : Fin 2048}
    (h0 : s.val = (x 0).val) (h1 : j.val = (x 1).val) : p x = beside (fun k => p (ix2 s k)) q j := by
  obtain ⟨a, b, rfl⟩ : ∃ (a : Fin 512) (b : Fin 1024), x = ix2 a b := ⟨_, _, eq_ix2 x⟩
  obtain rfl : s = a := Fin.ext h0
  have hb : j.val = b.val := h1
  rw [beside, dif_pos (by omega)]
  exact congrArg (fun k => p (ix2 s k)) (Fin.ext hb.symm)

theorem beside_right (p : Fin 1024 → EReal) (q : S512x1024.Idx → Ideal .f32) {x : S512x1024.Idx} {s : Fin 512} {j : Fin 2048}
    (h0 : s.val = (x 0).val) (h1 : j.val = 1024 + (x 1).val) : q x = beside p (fun k => q (ix2 s k)) j := by
  obtain ⟨a, b, rfl⟩ : ∃ (a : Fin 512) (b : Fin 1024), x = ix2 a b := ⟨_, _, eq_ix2 x⟩
  obtain rfl : s = a := Fin.ext h0
  have hb : j.val = 1024 + b.val := h1
  rw [beside, dif_neg (by omega)]
  exact congrArg (fun k => q (ix2 s k)) (Fin.ext (by dsimp only; omega))

/-- The second result of a block. -/
theorem tiles6 (a : S512x1024.Idx → Ideal .f32) (w : S1024x1024.Idx → Ideal .bf16) (z : S512x2048.Idx → Ideal .f32)
    (p q : S512x1024.Idx → Ideal .f32) (y : S512x2048.Idx) :
    out0_6 (F := Ideal) a w z p q y = dg (fun k => a (ix2 (y 0) k)) w (fun j => z (ix2 (y 0) j))
      (beside (fun k => p (ix2 (y 0) k)) (fun k => q (ix2 (y 0) k))) (y 1) := by
  frame_out
  canon_tiles x h
  all_goals
    pointwise [k0_pay1, k0_pay2, k0_pay3, k0_pay5, k0_pay6]
    refine congrArg₂ (fun p q : EReal => p * q) (congrArg₂ (fun p q : EReal => p * q) (dm_at a w ?_ ?_) ?_)
      (congrArg (fun s : EReal => s * (1 - s)) (gate_at z ?_ ?_))
  all_goals first
    | omega
    | (dsimp only; omega)
    | exact beside_left p _ (by omega) (by omega)
    | exact beside_right _ q (by omega) (by omega)

variable (m : (ℓ : Loc nD τ sig) → Buf (Elt Ideal) ℓ) (c : Dev nD)

/-- The first result. -/
def G5 : S2048x2048.Idx → Ideal .bf16 := fun i =>
  dy (fun k => (m ((c : Thread nD τ).loc main_arg0) : S2048x1024.Idx → Ideal .f32) (ix2 (i 0) k)) (m ((c : Thread nD τ).loc main_arg1))
    (fun j => (m ((c : Thread nD τ).loc main_arg2) : S2048x2048.Idx → Ideal .f32) (ix2 (i 0) j)) (i 1)
/-- The second result. -/
def G6 : S2048x2048.Idx → Ideal .bf16 := fun i =>
  dg (fun k => (m ((c : Thread nD τ).loc main_arg0) : S2048x1024.Idx → Ideal .f32) (ix2 (i 0) k)) (m ((c : Thread nD τ).loc main_arg1))
    (fun j => (m ((c : Thread nD τ).loc main_arg2) : S2048x2048.Idx → Ideal .f32) (ix2 (i 0) j))
    (beside (fun k => (m ((c : Thread nD τ).loc main_arg3) : S2048x1024.Idx → Ideal .f32) (ix2 (i 0) k))
      (fun k => (m ((c : Thread nD τ).loc main_arg4) : S2048x1024.Idx → Ideal .f32) (ix2 (i 0) k))) (i 1)

/-- The wide array that the second result is cut from: the block of columns that the call writes, and whatever was there
    beside it. -/
def wide : S2048x6400.Idx → Ideal .bf16 := fun i =>
  if (i 1).val / 2048 = 2 then G6 m c (ix2 (i 0) ⟨(i 1).val % 2048, by omega⟩) else V m c main_v0_1 i

/-- Every block of the weight is the whole weight. -/
theorem weight (t : Fin cfg0.N) : (iblk m c 1 t : S1024x1024.Idx → Ideal .bf16) = m ((c : Thread nD τ).loc main_arg1) := by
  refine funext fun i : S1024x1024.Idx => ?_
  obtain ⟨a, b, rfl⟩ : ∃ (a : Fin 1024) (b : Fin 1024), i = ix2 a b := ⟨_, _, eq_ix2 i⟩
  blk_point [iblk, V, idx t]

theorem final5 : (dats m 0 c).arrAt 5 cfg0.N = G5 m c := by
  refine (dats m 0 c).arrAt_eq_of_covers 5 _ (by decide +kernel) fun t hf y => ?_
  blk_simp
  rw [after0_5, tiles5]
  unfold G5
  congr 1
  · exact funext fun k => by blk_point [iblk, V, idx t]
  · exact weight m c t
  · exact funext fun k => by blk_point [iblk, V, idx t]
  · refine Fin.ext ?_
    blk_point [idx t]

set_option maxRecDepth 16384 in
theorem final6 : (dats m 0 c).arrAt 6 cfg0.N = wide m c := by
  refine (dats m 0 c).arrAt_eq_of_coversWhere 6 (fun i : S2048x6400.Idx => G6 m c (ix2 (i 0) ⟨(i 1).val % 2048, by omega⟩))
    (fun β => β (1 : Fin 2) = 2) (by decide +kernel) (fun t hf y => ?_) (fun j => Iff.rfl)
  blk_simp
  rw [after0_6, tiles6]
  unfold G6
  congr 1
  · exact funext fun k => by blk_point [iblk, V, idx t]
  · exact weight m c t
  · exact funext fun k => by blk_point [iblk, V, idx t]
  · refine congrArg₂ beside (funext fun k => ?_) (funext fun k => ?_) <;> blk_point [iblk, V, idx t]
  · have h2 : win0_6.index t 1 = 2 := congrFun (idx t).2.2.2.2.2.2 1
    have hy : (y 1).val < 2048 := lt_of_lt_of_le (y 1).isLt ((cfg0.win 6).xsize_le (cfg0.grid.coords t) 1)
    refine Fin.ext ?_
    show (y 1).val = (win0_6.index t 1 * 2048 + (y 1).val) % 2048
    rw [h2]
    omega

/-- What the host cuts out. -/
theorem cut : Pipeline.afterTail₀ cfgs (dats m) 0 (V0 m) [hostOps1] c main_v1
    = extractStridedSlice S2048x2048 ![0, 4096] ((dats m 0 c).arrAt 6 cfg0.N : S2048x6400.Idx → Ideal .bf16) slices_S2048x6400_S2048x2048_0_4096 := by
  refine Eq.trans (b := extractStridedSlice S2048x2048 ![0, 4096] (Pipeline.withArrays (cfgs 0).spec c (V0 m c)
    (fun w => (dats m 0 c).arrAt w (cfgs 0).N) (Proc.devRef .tc main_v0_1) : S2048x6400.Idx → Ideal .bf16)
      slices_S2048x6400_S2048x2048_0_4096) ?_ ?_
  · show StableHlo.after [_] _ _ = _
    after_results
  · exact congrArg (fun x : S2048x6400.Idx → Ideal .bf16 => extractStridedSlice S2048x2048 ![0, 4096] x slices_S2048x6400_S2048x2048_0_4096)
      (Pipeline.withArrays_arr (cfgs 0).spec (by decide +kernel) c (V0 m c) (fun w => (dats m 0 c).arrAt w (cfgs 0).N) 6)

/-- The call and the reference write the same two arrays. -/
theorem claim [Cert.GateBwdRefIdeal.Facts] : Cert.algebraic_GateBwdIdeal_GateBwdRefIdeal := by
  intro m g m' g' _ hm
  refine ⟨fun c => G5 m c, fun c => G6 m c, ?_, ?_⟩
  · run_from Cert.GateBwdIdeal.Gen.run_main m g
    · exact final5 m c
    · rw [cut, final6]
      refine funext fun i : S2048x2048.Idx => ?_
      obtain ⟨a, b, rfl⟩ : ∃ (a : Fin 2048) (b : Fin 2048), i = ix2 a b := ⟨_, _, eq_ix2 i⟩
      pointwise [wide]
      rw [if_pos (by omega)]
      exact congrArg (fun j => G6 m c (ix2 a j)) (Fin.ext (by dsimp only; omega))
  · run_from Cert.GateBwdRefIdeal.Value.run m' g'
    · refine funext fun i : S2048x2048.Idx => ?_
      obtain ⟨a, b, rfl⟩ : ∃ (a : Fin 2048) (b : Fin 2048), i = ix2 a b := ⟨_, _, eq_ix2 i⟩
      rw [(hm c).1, (hm c).2.1, (hm c).2.2.1]
      pointwise [G5, dy, dm, gate]
      rcases lt_or_ge b.val 1024 with hb | hb
      · rw [dif_neg (by omega), dif_pos hb, zero_add, mul_comm]
        simp only [Nat.mod_eq_of_lt hb]
      · have e : b.val % 1024 = b.val - 1024 := by omega
        have e' : (⟨1024 + (b.val - 1024), by omega⟩ : Fin 2048) = b := Fin.ext (by dsimp only; omega)
        rw [dif_pos (by omega), dif_neg (by omega), add_zero, mul_comm]
        simp only [e, e']
    · refine funext fun i : S2048x2048.Idx => ?_
      obtain ⟨a, b, rfl⟩ : ∃ (a : Fin 2048) (b : Fin 2048), i = ix2 a b := ⟨_, _, eq_ix2 i⟩
      rw [(hm c).1, (hm c).2.1, (hm c).2.2.1]
      pointwise [G6, dg, dm, gate, beside]
      rw [(hm c).2.2.2.1, (hm c).2.2.2.2]
      rcases lt_or_ge b.val 1024 with hb | hb
      · rw [dif_neg (by omega), dif_pos hb, zero_add]
        simp only [Nat.mod_eq_of_lt hb]
      · have e : b.val % 1024 = b.val - 1024 := by omega
        have e' : (⟨1024 + (b.val - 1024), by omega⟩ : Fin 2048) = b := Fin.ext (by dsimp only; omega)
        rw [dif_pos (by omega), dif_neg (by omega), add_zero]
        simp only [e, e', dif_neg (show ¬ b.val < 1024 by omega)]

end Cert.Proof.GateBwd
-- ==== Proof.Scan.lean ====
module

public import proofs.«01_k».proof.Defs
public import proofs.«01_k».proof.Proof.Gen.FoxDscanIdeal.Value
public import proofs.«01_k».proof.Proof.Gen.FoxDscanRefIdeal.Run
public import Idealize.ShloMosaic.Lib.Pipeline.ValueKit.Point
public import Idealize.ShloMosaic.Lib.Pipeline.ValueKit.Partial
public import Idealize.ShloMosaic.Lib.Routing.OpsOne

/-!
The gradient of the forget gate: a running sum from the last row back to the first, taken by the kernel in eleven steps
that double the number of rows summed, and the gradient of the log-sigmoid.
-/

@[expose] public section

noncomputable section

namespace Cert.Proof.FoxDscan

open Idealize.ShloMosaic Idealize.ShloMosaic.TcCoe Idealize.ShloMosaic.Routing Cert.FoxDscanIdeal Cert.FoxDscanIdeal.Gen

/-- The sum of `k` entries of a column from row `r` on, as far as there are rows. -/
def tail (k : Nat) (f : Fin 2048 → EReal) (r : Nat) : EReal :=
  ∑ n ∈ Finset.range k, if h : r + n < 2048 then f ⟨r + n, h⟩ else 0

/-- Two stretches of one length, one after the other. -/
theorem tail_double (k : Nat) (f : Fin 2048 → EReal) (r : Nat) : tail k f r + tail k f (r + k) = tail (2 * k) f r := by
  unfold tail
  rw [two_mul, Finset.sum_range_add]
  simp only [Nat.add_assoc]

/-- Beyond the last row there is nothing to sum. -/
theorem tail_beyond (k : Nat) (f : Fin 2048 → EReal) {r : Nat} (h : 2048 ≤ r) : tail k f r = 0 :=
  Finset.sum_eq_zero fun n _ => dif_neg (by omega)

theorem tail_one (f : Fin 2048 → EReal) (r : Fin 2048) : tail 1 f r = f r := by
  rw [tail, Finset.sum_range_one, dif_pos (by omega)]
  rfl

/-- The columns of an array, each summed over `k` rows from each row on. -/
def tails (k : Nat) (x : S2048x128.Idx → Ideal .f32) : S2048x128.Idx → Ideal .f32 := fun i =>
  tail k (fun s => x (ix2 s (i 1))) (i 0)

/-- One step of the kernel's sum: each row and the row some way below it, as far as there is one. -/
def step (w : BitVec 32) (x : S2048x128.Idx → Ideal .f32) : S2048x128.Idx → Ideal .f32 :=
  addf x (select (cmpi .slt (iota .tc S2048x128 32 [0] iota_S2048x128_d0_w32) (broadcast S2048x128 w))
    (dynamicRotate 0 w none x rotates_S2048x128_d0) (broadcast S2048x128 (Scalar.ofBits (F := Ideal) .f32 0x00000000#32)))

theorem tails_one (x : S2048x128.Idx → Ideal .f32) : tails 1 x = x := by
  refine funext fun i : S2048x128.Idx => ?_
  obtain ⟨a, b, rfl⟩ : ∃ (a : Fin 2048) (b : Fin 128), i = ix2 a b := ⟨_, _, eq_ix2 i⟩
  exact tail_one _ a

/-- A choice by a bound on an index. -/
theorem below (n : Nat) (w : BitVec 32) (hn : n < 4096) (hw : w.toNat < 4096) (p q : EReal) :
    Scalar.select (IntOp.cmpi CmpIPredicate.slt (BitVec.ofNat 32 n) w) p q = if n < w.toNat then p else q := by
  have h : (BitVec.ofNat 32 n).slt w = decide (n < w.toNat) := by
    rw [BitVec.slt_eq_decide, BitVec.toInt_eq_toNat_of_lt (by rw [BitVec.toNat_ofNat]; omega),
      BitVec.toInt_eq_toNat_of_lt (by omega), BitVec.toNat_ofNat, Nat.mod_eq_of_lt (by omega)]
    simp
  show Scalar.select (BitVec.ofBool ((BitVec.ofNat 32 n).slt w)) p q = _
  rw [h]
  by_cases hl : n < w.toNat
  · rw [if_pos hl, decide_eq_true hl]; rfl
  · rw [if_neg hl, decide_eq_false hl]; rfl

/-- A step doubles the number of rows that are summed. -/
theorem step_tails (k : Nat) (w : BitVec 32) (hw : w.toNat + k = 2048) (hk : 0 < k) (x : S2048x128.Idx → Ideal .f32) :
    step w (tails k x) = tails (2 * k) x := by
  refine funext fun i : S2048x128.Idx => ?_
  obtain ⟨a, b, rfl⟩ : ∃ (a : Fin 2048) (b : Fin 128), i = ix2 a b := ⟨_, _, eq_ix2 i⟩
  pointwise [step]
  rw [below _ _ (by omega) (by omega)]
  refine Eq.trans (congrArg (fun y : EReal => tails k x (ix2 a b) + y) ?_) (tail_double k _ a)
  split
  · refine congrArg (tail k fun s => x (ix2 s b)) ?_
    show (a.val + 2048 - w.toNat % 2048) % 2048 = a.val + k
    rw [Nat.mod_eq_of_lt (show w.toNat < 2048 by omega)]
    omega
  · exact (tail_beyond k _ (by omega)).symm

/-- The gradient of the running sum, lane by lane: the two parts it is handed over in, brought together. -/
def dcum (d : S4x2048x2.Idx → Ideal .f32) (e : S8x2048.Idx → Ideal .f32) (l : Fin 8) (s : Fin 2048) : EReal :=
  d (ix3 ⟨l.val / 2, by omega⟩ s ⟨l.val % 2, by omega⟩) + e (ix2 l s)

/-- What the kernel's sum starts from. -/
def start (e : S8x2048.Idx → Ideal .f32) (p q r s : S1x2048x128.Idx → Ideal .f32) : S2048x128.Idx → Ideal .f32 :=
  addf (addf (addf (addf
    (transpose S2048x128 [1, 0] (concatenate S128x2048 0 [⟨S8x2048, e⟩, ⟨S120x2048, broadcast S120x2048 (Scalar.ofBits (F := Ideal) .f32 0x00000000#32)⟩]
      concatenates_S8x2048_S120x2048_S128x2048_d0) transposes_S128x2048_p1_0_S2048x128)
    (shapeCast S2048x128 p shapeCasts_S1x2048x128_S2048x128))
    (dynamicRotate 1 2#32 none (shapeCast S2048x128 q shapeCasts_S1x2048x128_S2048x128) rotates_S2048x128_d1))
    (dynamicRotate 1 4#32 none (shapeCast S2048x128 r shapeCasts_S1x2048x128_S2048x128) rotates_S2048x128_d1))
    (dynamicRotate 1 6#32 none (shapeCast S2048x128 s shapeCasts_S1x2048x128_S2048x128) rotates_S2048x128_d1)

theorem pay5_step (e : S8x2048.Idx → Ideal .f32) (p q r s : S1x2048x128.Idx → Ideal .f32) :
    k0_pay5 (F := Ideal) e p q r s = step 2046#32 (step 2047#32 (start e p q r s)) := rfl

theorem pay7_step (x : S2048x128.Idx → Ideal .f32) :
    k0_pay7 (F := Ideal) (iota .tc S2048x128 32 [0] iota_S2048x128_d0_w32) x k0_pay6
      = step 1792#32 (step 1920#32 (step 1984#32 (step 2016#32 (step 2032#32 (step 2040#32 (step 2044#32 x)))))) := rfl

/-- The gate's slope at the logit's negation: what the running sum's gradient is divided by. -/
def slope (d z : EReal) : EReal := Ideal.div d (1 + Ideal.exp z)

/-- What the last two steps and the gate make of the sum. -/
theorem pay1_step (x : S2048x128.Idx → Ideal .f32) (f : S2048x128.Idx → Ideal .f32) (b : S1x128.Idx → Ideal .f32) (s : Fin 2048) (l : Fin 128) :
    k0_pay1 (F := Ideal) (iota .tc S2048x128 32 [0] iota_S2048x128_d0_w32) x f b (ix2 s l)
      = if l.val < 8 then slope (step 1024#32 (step 1536#32 x) (ix2 s l)) (f (ix2 s l) + b (ix2 0 l)) else 0 := by
  show select _ (divf (step 1024#32 (step 1536#32 x)) _) _ (ix2 s l) = _
  generalize step 1024#32 (step 1536#32 x) = y
  pointwise [slope]
  exact below _ 8#32 (by omega) (by decide) _ _

/-- The kernel's rows before the sum, where the three further lanes of a pair hold nothing. -/
theorem start_at (d : S4x2048x2.Idx → Ideal .f32) (e : S8x2048.Idx → Ideal .f32) (g : Fin 4 → S1x2048x128.Idx → Ideal .f32)
    (hg : ∀ (p : Fin 4) (s : Fin 2048) (l : Fin 128), g p (ix3 0 s l) = if h : l.val < 2 then d (ix3 p s ⟨l.val, h⟩) else 0)
    (s : Fin 2048) (l : Fin 8) :
    start e (g 0) (g 1) (g 2) (g 3) (ix2 s ⟨l.val, by omega⟩) = dcum d e l s := by
  pointwise [start, dcum, hg]
  fin_cases l <;> simp [add_comm]

/-- The whole sum. -/
theorem all_rows (d : S4x2048x2.Idx → Ideal .f32) (e : S8x2048.Idx → Ideal .f32) (g : Fin 4 → S1x2048x128.Idx → Ideal .f32) :
    step 1024#32 (step 1536#32 (k0_pay7 (F := Ideal) (iota .tc S2048x128 32 [0] iota_S2048x128_d0_w32) (k0_pay5 (F := Ideal) e (g 0) (g 1) (g 2) (g 3)) k0_pay6))
      = tails 2048 (start e (g 0) (g 1) (g 2) (g 3)) := by
  rw [pay7_step, pay5_step]
  generalize start e (g 0) (g 1) (g 2) (g 3) = x
  conv_lhs => rw [← tails_one x]
  rw [step_tails 1 _ rfl (by decide), step_tails 2 _ rfl (by decide), step_tails 4 _ rfl (by decide), step_tails 8 _ rfl (by decide),
    step_tails 16 _ rfl (by decide), step_tails 32 _ rfl (by decide), step_tails 64 _ rfl (by decide), step_tails 128 _ rfl (by decide),
    step_tails 256 _ rfl (by decide), step_tails 512 _ rfl (by decide), step_tails 1024 _ rfl (by decide)]

/-- The gradient of the logits. -/
def grad (d : S4x2048x2.Idx → Ideal .f32) (e : S8x2048.Idx → Ideal .f32) (f : S2048x128.Idx → Ideal .f32) (b : S1x128.Idx → Ideal .f32)
    (s : Fin 2048) (l : Nat) : EReal :=
  if h : l < 8 then slope (tail 2048 (dcum d e ⟨l, h⟩) s) (f (ix2 s ⟨l, by omega⟩) + b (ix2 0 ⟨l, by omega⟩)) else 0

/-- The kernel's gradient of the logits. -/
theorem rows (d : S4x2048x2.Idx → Ideal .f32) (e : S8x2048.Idx → Ideal .f32) (f : S2048x128.Idx → Ideal .f32) (b : S1x128.Idx → Ideal .f32)
    (g : Fin 4 → S1x2048x128.Idx → Ideal .f32)
    (hg : ∀ (p : Fin 4) (s : Fin 2048) (l : Fin 128), g p (ix3 0 s l) = if h : l.val < 2 then d (ix3 p s ⟨l.val, h⟩) else 0)
    (s : Fin 2048) (l : Fin 128) :
    k0_pay1 (F := Ideal) (iota .tc S2048x128 32 [0] iota_S2048x128_d0_w32)
      (k0_pay7 (F := Ideal) (iota .tc S2048x128 32 [0] iota_S2048x128_d0_w32) (k0_pay5 (F := Ideal) e (g 0) (g 1) (g 2) (g 3)) k0_pay6) f b (ix2 s l)
      = grad d e f b s l := by
  rw [pay1_step, all_rows d, grad]
  split
  · next h =>
    refine congrArg (fun y => slope y _) ?_
    exact congrArg (fun y => tail 2048 y s) (funext fun r => start_at d e g hg r ⟨l.val, h⟩)
  · rfl

/-- The logarithm of one plus an exponential, as the host takes it. -/
def plus (y : EReal) : EReal :=
  if y ≠ y then y else max y 0 + Ideal.log1p (Ideal.exp (-FloatOps.absf (F := Ideal) (φ := .f32) y))

theorem infinity : Ideal.ofBits .f32 2139095040#32 = ⊤ := by
  simp [Ideal.ofBits, Ideal.ieee]

theorem plus_real (y : ℝ) : plus y = (Real.log (1 + Real.exp y) : ℝ) := by
  have h : FloatOps.absf (F := Ideal) (φ := .f32) (y : EReal) = ((|y| : ℝ) : EReal) := by
    show max (y : EReal) (-(y : EReal)) = _
    rw [abs_eq_max_neg, ← EReal.coe_neg]
    exact (EReal.coe_strictMono.monotone.map_max).symm
  have hp : 0 < Real.exp (-|y|) := Real.exp_pos _
  rw [plus, if_neg (by simp), h, ← EReal.coe_neg]
  show _ + Ideal.log (1 + ((Real.exp (-|y|) : ℝ) : EReal)) = _
  rw [← EReal.coe_one, ← EReal.coe_add]
  show max (y : EReal) 0 + (if 1 + Real.exp (-|y|) ≤ 0 then ⊥ else ((Real.log (1 + Real.exp (-|y|)) : ℝ) : EReal)) = _
  rw [if_neg (by linarith), ← EReal.coe_zero, ← EReal.coe_strictMono.monotone.map_max, ← EReal.coe_add]
  congr 1
  rcases le_total 0 y with hy | hy
  · rw [max_eq_left hy, abs_of_nonneg hy]
    have e : 1 + Real.exp y = Real.exp y * (1 + Real.exp (-y)) := by rw [mul_add, mul_one, ← Real.exp_add, add_neg_cancel, Real.exp_zero, add_comm]
    rw [e, Real.log_mul (Real.exp_ne_zero _) (by positivity), Real.log_exp]
  · rw [max_eq_right hy, abs_of_nonpos hy, neg_neg, zero_add]

/-- The reference's gradient of the log-sigmoid, at every value of the logit. -/
theorem gate_ref (d z : EReal) :
    -(-d * Ideal.exp ((if -z = ⊤ then 0 else -z) - if plus (-z) = ⊤ then 0 else plus (-z))) = slope d z := by
  rw [slope, ← EReal.neg_mul, neg_neg]
  induction z with
  | bot =>
    have h : plus ⊤ = ⊤ := by
      rw [plus, if_neg (by simp)]
      show max ⊤ 0 + Ideal.log (1 + Ideal.exp (-(max ⊤ (-⊤)))) = ⊤
      rw [max_eq_left le_top, EReal.neg_top, max_eq_left bot_le, EReal.neg_top]
      show ⊤ + Ideal.log (1 + 0) = ⊤
      rw [add_zero]
      show ⊤ + (if (1 : ℝ) ≤ 0 then ⊥ else ((Real.log 1 : ℝ) : EReal)) = ⊤
      rw [if_neg (by norm_num), EReal.top_add_coe]
    rw [EReal.neg_bot, h, if_pos rfl, sub_zero]
    show d * ((Real.exp 0 : ℝ) : EReal) = Ideal.div d (1 + 0)
    rw [add_zero, Ideal.div, if_neg one_ne_zero, inv_one, Real.exp_zero, EReal.coe_one]
  | top =>
    have h : plus ⊥ = 0 := by
      rw [plus, if_neg (by simp)]
      show max ⊥ 0 + Ideal.log (1 + Ideal.exp (-(max ⊥ (-⊥)))) = 0
      rw [max_eq_right bot_le, EReal.neg_bot, max_eq_right bot_le, EReal.neg_top]
      show 0 + Ideal.log (1 + 0) = 0
      rw [add_zero, zero_add]
      show (if (1 : ℝ) ≤ 0 then ⊥ else ((Real.log 1 : ℝ) : EReal)) = 0
      rw [if_neg (by norm_num), Real.log_one, EReal.coe_zero]
    rw [EReal.neg_top, h, if_neg bot_ne_top, if_neg EReal.zero_ne_top, sub_zero]
    show d * 0 = Ideal.div d (1 + ⊤)
    rw [EReal.add_top_of_ne_bot (by decide), Ideal.div, if_neg EReal.top_ne_zero, EReal.inv_top]
  | coe z =>
    rw [← EReal.coe_neg, plus_real, if_neg (EReal.coe_ne_top _), if_neg (EReal.coe_ne_top _), ← EReal.coe_sub]
    show _ * ((Real.exp (-z - Real.log (1 + Real.exp (-z))) : ℝ) : EReal) = Ideal.div d (1 + ((Real.exp z : ℝ) : EReal))
    have hp : 0 < Real.exp z := Real.exp_pos _
    rw [Ideal.div, ← EReal.coe_one, ← EReal.coe_add, if_neg (by rw [← EReal.coe_zero, EReal.coe_eq_coe_iff]; positivity), ← EReal.coe_inv]
    congr 2
    rw [Real.exp_sub, Real.exp_log (by positivity), Real.exp_neg]
    field_simp
    exact add_comm _ _
/-- A fold of sums is a sum. -/
theorem fold_add {α : Type} (f : α → EReal) (l : List α) (a : EReal) : l.foldl (fun r n => r + f n) a = a + (l.map f).sum := by
  induction l generalizing a with
  | nil => exact (add_zero a).symm
  | cons x l ih => rw [List.foldl_cons, ih, List.map_cons, List.sum_cons, add_assoc]

/-- A running sum from the last row back, at any number of rows. -/
theorem window_rows {R C K : Nat} (x : (shape2 R C).Idx → EReal) (u : shape0.Idx → EReal) (hu : ∀ i, u i = 0)
    (h : (shape2 R C).ReduceWindows (![R, 1] : Fin 2 → Nat) ![1, 1] ![0, 0] ![K, 0] (shape2 R C)) (h0 : 0 < shape0.numel)
    (s : Fin R) (l : Fin C) :
    Host.reduceWindowAdd (F := Ideal) (φ := .f32) (s := shape2 R C) (t := shape2 R C) (u := shape0) ![R, 1] ![1, 1] ![0, 0] ![K, 0] x u h h0 (ix2 s l)
      = ∑ n : Fin R, if h : s.val + n.val < R then x (ix2 ⟨s.val + n.val, h⟩ l) else 0 := by
  have hl := l.isLt
  show Host.reduceWindow (s := shape2 R C) (t := shape2 R C) (fun a b : EReal => a + b) ![R, 1] ![1, 1] ![0, 0] ![K, 0] x
    (fun _ : shape0.Idx => u (Shape.Idx.first h0)) h Nat.one_pos (ix2 s l) = _
  rw [hu]
  unfold Host.reduceWindow
  dsimp only
  rw [fold_add, zero_add, ← List.ofFn_eq_map, List.sum_ofFn]
  refine Fintype.sum_equiv (finCongr (numel_col R)) _ _ fun n => ?_
  have hw0 : ((shape2 R 1).rowMajor.symm n 0).val = n.val := by rw [symm_col]; rfl
  have hw1 : ((shape2 R 1).rowMajor.symm n 1).val = 0 := by rw [symm_col]; rfl
  show _ = if h : s.val + n.val < R then x (ix2 ⟨s.val + n.val, h⟩ l) else 0
  split
  · next hin =>
    have h0 := hin 0
    change 0 ≤ s.val * 1 + ((shape2 R 1).rowMajor.symm n 0).val ∧ s.val * 1 + ((shape2 R 1).rowMajor.symm n 0).val - 0 < R at h0
    rw [hw0] at h0
    rw [dif_pos (by omega)]
    refine congrArg x (funext fun a => Fin.ext ?_)
    match a with
    | ⟨0, _⟩ =>
      show s.val * 1 + ((shape2 R 1).rowMajor.symm n 0).val - 0 = s.val + n.val
      rw [hw0, Nat.mul_one, Nat.sub_zero]
    | ⟨1, _⟩ =>
      show l.val * 1 + ((shape2 R 1).rowMajor.symm n 1).val - 0 = l.val
      rw [hw1]
      omega
  · next hin =>
    rw [dif_neg fun hle => hin fun a => by
      match a with
      | ⟨0, _⟩ =>
        show 0 ≤ s.val * 1 + ((shape2 R 1).rowMajor.symm n 0).val ∧ s.val * 1 + ((shape2 R 1).rowMajor.symm n 0).val - 0 < R
        rw [hw0]
        omega
      | ⟨1, _⟩ =>
        show 0 ≤ l.val * 1 + ((shape2 R 1).rowMajor.symm n 1).val ∧ l.val * 1 + ((shape2 R 1).rowMajor.symm n 1).val - 0 < C
        rw [hw1]
        omega]

set_option maxRecDepth 16384 in
/-- The reference's running sum from the last row back. -/
theorem window_at (x : Cert.FoxDscanRefIdeal.S2048x8.Idx → Ideal .f32) (u : Cert.FoxDscanRefIdeal.S_.Idx → Ideal .f32) (hu : ∀ i, u i = 0)
    (s : Fin 2048) (l : Fin 8)
    (h : Cert.FoxDscanRefIdeal.S2048x8.ReduceWindows (![2048, 1] : Fin 2 → Nat) ![1, 1] ![0, 0] ![2047, 0] Cert.FoxDscanRefIdeal.S2048x8)
    (h0 : 0 < Cert.FoxDscanRefIdeal.S_.numel) :
    Host.reduceWindowAdd (F := Ideal) (φ := .f32) (s := Cert.FoxDscanRefIdeal.S2048x8) (t := Cert.FoxDscanRefIdeal.S2048x8)
      ![2048, 1] ![1, 1] ![0, 0] ![2047, 0] x u h h0 (ix2 s l) = tail 2048 (fun r => x (ix2 r l)) s := by
  refine (window_rows (R := 2048) (C := 8) (K := 2047) x u hu h h0 s l).trans ?_
  exact Fin.sum_univ_eq_sum_range (fun n => if h : s.val + n < 2048 then x (ix2 ⟨s.val + n, h⟩ l) else 0) 2048

/-- The padding's value. -/
theorem none_at {φ : FTy} : (FloatOps.sitofp (F := Ideal) φ (0#32 : BitVec 32) : EReal) = 0 := by
  show (((0#32 : BitVec 32).toInt : ℝ) : EReal) = 0
  simp

end Cert.Proof.FoxDscan

namespace Cert.Proof.FoxDscan

open Idealize.ShloMosaic Idealize.ShloMosaic.TcCoe Idealize.ShloMosaic.Routing Cert.FoxDscanRefIdeal Cert.FoxDscanRefIdeal.Gen

/-- The reference's logit, negated. -/
def refNeg (f : S2048x128.Idx → Ideal .f32) (b : S1x128.Idx → Ideal .f32) : FVec Ideal S2048x8 .f32 :=
  Host.negf (addf (extractStridedSlice S2048x8 ![0, 0] f slices_S2048x128_S2048x8_0_0)
    (broadcastInDim S2048x8 ![0, 1] bcast_S1x8_S2048x8_0_1 (extractStridedSlice S1x8 ![0, 0] b slices_S1x128_S1x8_0_0)))
/-- An array of zeros. -/
def refZero : FVec Ideal S2048x8 .f32 := broadcastInDim S2048x8 ![] bcast_S_S2048x8 (constant S_ .f32 0x00000000#32)
/-- Zero in place of infinity. -/
def refFinite (y : FVec Ideal S2048x8 .f32) : FVec Ideal S2048x8 .f32 :=
  select (cmpf .oeq y (broadcastInDim S2048x8 ![] bcast_S_S2048x8 (constant S_ .f32 0x7F800000#32))) refZero y
/-- The reference's logarithm of one plus an exponential. -/
def refPlus (y : FVec Ideal S2048x8 .f32) : FVec Ideal S2048x8 .f32 :=
  select (cmpf .une (subf y refZero) (subf y refZero)) (addf y refZero)
    (addf (maximumf y refZero) (Host.log1p (Host.exp (Host.negf (Host.absf (subf y refZero))))))
/-- The reference's running sum of the gradient. -/
def refSum (d : S4x2048x2.Idx → Ideal .f32) (e : S8x2048.Idx → Ideal .f32) : FVec Ideal S2048x8 .f32 :=
  Host.reduceWindowAdd ![2048, 1] ![1, 1] ![0, 0] ![2047, 0]
    (addf (shapeCast _ (transpose S2048x4x2 [1, 0, 2] d transposes_S4x2048x2_S2048x4x2_1_0_2) shapeCasts_S2048x4x2_S2048x8)
      (transpose S2048x8 [1, 0] e transposes_S8x2048_S2048x8_1_0))
    (broadcastInDim S_ ![] bcast_S_S_ (constant S_ .f32 0x00000000#32)) reduceWindows_S2048x8_S2048x8_w2048s1p0_2047_w1s1p0_0 h_S_
/-- The reference's gradient of the logits. -/
def refGrad (d : S4x2048x2.Idx → Ideal .f32) (e : S8x2048.Idx → Ideal .f32) (f : S2048x128.Idx → Ideal .f32) (b : S1x128.Idx → Ideal .f32) :
    FVec Ideal S2048x8 .f32 :=
  Host.negf (mulf (Host.negf (refSum d e)) (Host.exp (subf (refFinite (refNeg f b)) (refFinite (refPlus (refNeg f b))))))

theorem refGrad_at (d : S4x2048x2.Idx → Ideal .f32) (e : S8x2048.Idx → Ideal .f32) (f : S2048x128.Idx → Ideal .f32) (b : S1x128.Idx → Ideal .f32)
    (s : Fin 2048) (l : Fin 8) : (refGrad d e f b (ix2 s l) : EReal) = grad d e f b s l := by
  have hs : refSum d e (ix2 s l) = tail 2048 (dcum d e l) s := by
    refine (window_at _ _ (fun i => by pointwise) s l _ _).trans (congrArg (fun f => tail 2048 f s) (funext fun r => ?_))
    pointwise [dcum]
  rw [grad, dif_pos l.isLt, ← gate_ref]
  unfold refGrad refFinite refPlus refZero refNeg
  pointwise
  rw [hs, infinity]
  rfl

theorem sum_at (d : S4x2048x2.Idx → Ideal .f32) (e : S8x2048.Idx → Ideal .f32) (f : S2048x128.Idx → Ideal .f32) (b : S1x128.Idx → Ideal .f32)
    (l : Fin 8) : (∑ s : Fin 2048, (refGrad d e f b (ix2 s l) : EReal)) = ∑ s : Fin 2048, grad d e f b s l :=
  Finset.sum_congr rfl fun s _ => refGrad_at d e f b s l

variable (m : (ℓ : Loc nD τ sig) → Buf (Elt Ideal) ℓ) (c : Dev nD)

theorem ref0 : Value.res_out0 m c = concatenate (α := Ideal .bf16) S2048x6400 1
    [⟨S2048x6144, extractStridedSlice S2048x6144 ![0, 0] (m ((c.tc : Thread nD τ).loc main_arg4) : S2048x6400.Idx → Ideal .bf16) slices_S2048x6400_S2048x6144_0_0⟩,
      ⟨S2048x256, pad S2048x256 ![0, 0] ![0, 248] ![0, 0] (truncf .bf16 (refGrad (m ((c.tc : Thread nD τ).loc main_arg0)) (m ((c.tc : Thread nD τ).loc main_arg1))
        (m ((c.tc : Thread nD τ).loc main_arg2)) (m ((c.tc : Thread nD τ).loc main_arg3))) bitsLt_bf16_f32) (sitofp .bf16 (constantI S_ 32 0#32))
        pads_S2048x8_S2048x256_000_02480 h_S_⟩] concatenates_S2048x6144_S2048x256_S2048x6400_d1 := rfl

theorem ref1 : Value.res_out1 m c = pad S1x128 ![0, 0] ![0, 120] ![0, 0]
    (shapeCast S1x8 (Host.reduceAdd (refGrad (m ((c.tc : Thread nD τ).loc main_arg0)) (m ((c.tc : Thread nD τ).loc main_arg1))
        (m ((c.tc : Thread nD τ).loc main_arg2)) (m ((c.tc : Thread nD τ).loc main_arg3))) (constant S_ .f32 0x00000000#32) reducesTo_S2048x8_S8_d0 h_S_)
      shapeCasts_S8_S1x8) (sitofp .f32 (constantI S_ 32 0#32)) pads_S1x8_S1x128_000_01200 h_S_ := rfl

end Cert.Proof.FoxDscan

namespace Cert.Proof.FoxDscan

open Idealize.ShloMosaic Idealize.ShloMosaic.TcCoe Idealize.ShloMosaic.Routing Cert.FoxDscanIdeal Cert.FoxDscanIdeal.Gen

variable (m : (ℓ : Loc nD τ sig) → Buf (Elt Ideal) ℓ) (c : Dev nD)

/-- The gradient of the logits, from the call's arguments. -/
def df (s : Fin 2048) (l : Nat) : EReal :=
  grad (m ((c : Thread nD τ).loc main_arg0)) (m ((c : Thread nD τ).loc main_arg1)) (m ((c : Thread nD τ).loc main_arg2))
    (m ((c : Thread nD τ).loc main_arg3)) s l

/-- There are no further lanes. -/
theorem df_beyond (s : Fin 2048) {l : Nat} (h : 8 ≤ l) : df m c s l = 0 := dif_neg (by omega)

/-- The first result: the gradient of the logits in its columns, the others as they were handed over. -/
def G4 : S2048x6400.Idx → Ideal .bf16 := fun i =>
  if (i 1).val < 6144 then (m ((c : Thread nD τ).loc main_arg4) : S2048x6400.Idx → Ideal .bf16) i else df m c (i 0) ((i 1).val - 6144)
/-- The second result: the gradient of the bias. -/
def G5 : S1x128.Idx → Ideal .f32 := fun i => ∑ s : Fin 2048, df m c s (i 1)

theorem idx : ∀ t : Fin cfg0.N, win0_0.index t = ![0, 0, 0] ∧ win0_1.index t = ![0, 0] ∧ win0_2.index t = ![0, 0]
    ∧ win0_3.index t = ![0, 0] ∧ win0_4.index t = ![0, 24] ∧ win0_5.index t = ![0, 0] :=
  (by decide +kernel : ∀ t : Fin grid0.N, _)

/-- What the call finds in its padded operand. -/
theorem entry0 : (V m c main_v0 : S4x2048x128.Idx → Ideal .f32) = pad (α := Ideal .f32) (s := S4x2048x2) S4x2048x128 ![0, 0, 0] ![0, 0, 126] ![0, 0, 0]
    (m ((c : Thread nD τ).loc main_arg0) : S4x2048x2.Idx → Ideal .f32) (sitofp .f32 (constantI S_ 32 0#32)) pads_S4x2048x2_S4x2048x128_000_000_01260 h_S_ := by
  show StableHlo.after [_, _, _, _] _ _ = _
  after_results
  rfl

/-- What the call finds in its first result. -/
theorem entry4 : V m c main_v1_0 = m ((c : Thread nD τ).loc main_arg4) := by
  show StableHlo.after [_, _, _, _] _ _ = _
  after_results
  rfl

/-- The padded query-side gradient, as the block holds it. -/
theorem padded (t : Fin cfg0.N) (p : Fin 4) (s : Fin 2048) (l : Fin 128) :
    (iblk m c 0 t : S4x2048x128.Idx → Ideal .f32) (ix3 p s l)
      = if h : l.val < 2 then (m ((c : Thread nD τ).loc main_arg0) : S4x2048x2.Idx → Ideal .f32) (ix3 p s ⟨l.val, h⟩) else (0 : EReal) := by
  have e : (iblk m c 0 t : S4x2048x128.Idx → Ideal .f32) (ix3 p s l) = (V m c main_v0 : S4x2048x128.Idx → Ideal .f32) (ix3 p s l) := by
    blk_point [iblk, idx t]
  rw [e, entry0]
  pointwise
  rw [none_at]

/-- A slice of the block. -/
def lane (t : Fin cfg0.N) : Fin 4 → S1x2048x128.Idx → Ideal .f32 := fun p i => (iblk m c 0 t : S4x2048x128.Idx → Ideal .f32) (ix3 p (i 1) (i 2))

/-- The sums before the last two steps. -/
abbrev sums (t : Fin cfg0.N) : S2048x128.Idx → Ideal .f32 :=
  k0_pay7 (F := Ideal) (iota .tc S2048x128 32 [0] iota_S2048x128_d0_w32)
    (k0_pay5 (F := Ideal) (iblk m c 1 t)
      (View.ld (iblk m c 0 t) (Rect.unit ![0, 0, 0] ![1, 2048, 128] inb_S4x2048x128_S1x2048x128_0_0_0))
      (View.ld (iblk m c 0 t) (Rect.unit ![1, 0, 0] ![1, 2048, 128] inb_S4x2048x128_S1x2048x128_1_0_0))
      (View.ld (iblk m c 0 t) (Rect.unit ![2, 0, 0] ![1, 2048, 128] inb_S4x2048x128_S1x2048x128_2_0_0))
      (View.ld (iblk m c 0 t) (Rect.unit ![3, 0, 0] ![1, 2048, 128] inb_S4x2048x128_S1x2048x128_3_0_0))) k0_pay6

/-- What the kernel computes at a row and lane. -/
theorem point (t : Fin cfg0.N) (s : Fin 2048) (l : Fin 128) :
    (k0_pay1 (F := Ideal) (iota .tc S2048x128 32 [0] iota_S2048x128_d0_w32) (sums m c t) (iblk m c 2 t) (iblk m c 3 t) (ix2 s l) : EReal)
      = df m c s l := by
  have e0 : View.ld (iblk m c 0 t) (Rect.unit ![0, 0, 0] ![1, 2048, 128] inb_S4x2048x128_S1x2048x128_0_0_0) = lane m c t 0 := by
    refine funext fun i : S1x2048x128.Idx => ?_
    pointwise [lane]
  have e1 : View.ld (iblk m c 0 t) (Rect.unit ![1, 0, 0] ![1, 2048, 128] inb_S4x2048x128_S1x2048x128_1_0_0) = lane m c t 1 := by
    refine funext fun i : S1x2048x128.Idx => ?_
    pointwise [lane]
  have e2 : View.ld (iblk m c 0 t) (Rect.unit ![2, 0, 0] ![1, 2048, 128] inb_S4x2048x128_S1x2048x128_2_0_0) = lane m c t 2 := by
    refine funext fun i : S1x2048x128.Idx => ?_
    pointwise [lane]
  have e3 : View.ld (iblk m c 0 t) (Rect.unit ![3, 0, 0] ![1, 2048, 128] inb_S4x2048x128_S1x2048x128_3_0_0) = lane m c t 3 := by
    refine funext fun i : S1x2048x128.Idx => ?_
    pointwise [lane]
  unfold sums
  rw [e0, e1, e2, e3]
  refine (rows (m ((c : Thread nD τ).loc main_arg0)) (iblk m c 1 t) (iblk m c 2 t) (iblk m c 3 t) (lane m c t) (fun p s l => padded m c t p s l) s l).trans ?_
  unfold df
  congr 1
  all_goals
    refine funext fun i => ?_
    blk_point [iblk, V, idx t]

set_option maxRecDepth 16384 in
theorem final4 : (dats m 0 c).arrAt 4 cfg0.N = G4 m c := by
  have key : (dats m 0 c).arrAt 4 cfg0.N = fun i : S2048x6400.Idx =>
      if (i 1).val / 256 = 24 then df m c (i 0) ((i 1).val - 6144) else V m c main_v1_0 i := by
    refine (dats m 0 c).arrAt_eq_of_coversWhere 4 (fun i : S2048x6400.Idx => df m c (i 0) ((i 1).val - 6144))
      (fun β => β (1 : Fin 2) = 24) (by decide +kernel) (fun t hf y => ?_) (fun j => Iff.rfl)
    blk_simp
    rw [after0_4]; unfold outsAt0; frame_out
    have hi : win0_4.index t 1 = 24 := congrFun (idx t).2.2.2.2.1 1
    rw [hi]
    canon_tiles x h
    · refine Eq.trans (b := (0 : EReal)) (by pointwise [k0_pay3]) ?_
      have h1 : (y 1).val = 128 + (x 1).val := h1
      exact (df_beyond m c _ (by omega)).symm
    · pointwise [k0_pay2]
      obtain ⟨a, b, rfl⟩ : ∃ (a : Fin 2048) (b : Fin 128), x = ix2 a b := ⟨_, _, eq_ix2 x⟩
      refine (point m c t a b).trans (congrArg₂ (df m c) (Fin.ext ?_) ?_)
      · refine Eq.trans h0.symm ?_
        blk_point [idx t]
      · have h1 : (y 1).val = b.val := h1
        omega
  rw [key]
  refine funext fun i : S2048x6400.Idx => ?_
  obtain ⟨a, b, rfl⟩ : ∃ (a : Fin 2048) (b : Fin 6400), i = ix2 a b := ⟨_, _, eq_ix2 i⟩
  show (if b.val / 256 = 24 then _ else _) = _
  unfold G4
  split
  · exact (if_neg (show ¬ b.val < 6144 by omega)).symm
  · refine Eq.trans ?_ (if_pos (show b.val < 6144 by omega)).symm
    exact congrFun (entry4 m c) _

/-- What the kernel computes for the bias. -/
theorem point5 (t : Fin cfg0.N) (j : S1x128.Idx) :
    (k0_pay4 (F := Ideal) (iota .tc S2048x128 32 [0] iota_S2048x128_d0_w32) (sums m c t) (iblk m c 2 t) (iblk m c 3 t) j : EReal)
      = ∑ s : Fin 2048, df m c s (j 1) := by
  obtain ⟨a, b, rfl⟩ : ∃ (a : Fin 1) (b : Fin 128), j = ix2 a b := ⟨_, _, eq_ix2 j⟩
  generalize hs : sums m c t = z
  pointwise [k0_pay4]
  subst hs
  exact Finset.sum_congr rfl fun s _ => point m c t s b

theorem final5 : (dats m 0 c).arrAt 5 cfg0.N = G5 m c := by
  refine (dats m 0 c).arrAt_eq_of_covers 5 _ (by decide +kernel) fun t hf y => ?_
  blk_simp
  rw [after0_5]; unfold outsAt0; frame_out
  refine (point5 m c t y).trans ?_
  unfold G5
  refine congrArg (fun l : Nat => ∑ s : Fin 2048, df m c s l) ?_
  blk_point [idx t]

/-- The call and the reference write the same two arrays. -/
theorem claim [Cert.FoxDscanRefIdeal.Facts] : Cert.algebraic_FoxDscanIdeal_FoxDscanRefIdeal := by
  intro m g m' g' _ hm
  refine ⟨fun c => G4 m c, fun c => G5 m c, ?_, ?_⟩
  · run_from Cert.FoxDscanIdeal.Value.run_blocks m g
    · exact final4 m c
    · exact final5 m c
  · run_from Cert.FoxDscanRefIdeal.Value.run m' g'
    · refine funext fun i : S2048x6400.Idx => ?_
      obtain ⟨a, b, rfl⟩ : ∃ (a : Fin 2048) (b : Fin 6400), i = ix2 a b := ⟨_, _, eq_ix2 i⟩
      rw [show Cert.FoxDscanRefIdeal.Value.res_main_v17 m' c = _ from ref0 m' c, (hm c).1, (hm c).2.1, (hm c).2.2.1, (hm c).2.2.2.1, (hm c).2.2.2.2]
      pointwise [G4]
      split
      · rfl
      · split
        · exact refGrad_at _ _ _ _ _ _
        · rw [none_at]
          exact (df_beyond m c _ (by omega)).symm
    · refine funext fun i : S1x128.Idx => ?_
      obtain ⟨a, b, rfl⟩ : ∃ (a : Fin 1) (b : Fin 128), i = ix2 a b := ⟨_, _, eq_ix2 i⟩
      rw [show Cert.FoxDscanRefIdeal.Value.res_main_v18 m' c = _ from ref1 m' c, (hm c).1, (hm c).2.1, (hm c).2.2.1, (hm c).2.2.2.1]
      pointwise [G5]
      split
      · next h => exact sum_at _ _ _ _ ⟨b.val, h⟩
      · rw [none_at]
        exact (Finset.sum_eq_zero fun s _ => df_beyond m c s (by omega)).symm

end Cert.Proof.FoxDscan
-- ==== Proof.lean ====
/- The certificate: the forgetting attention's gradient with its two frames and its one named constant, and the
   step's other calls (products, norms, gates, loss, optimiser), each with its frames, its idealization and its values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwDown
public import proofs.«01_k».proof.Proof.Gen.DwDown.Frame
public import proofs.«01_k».proof.Proof.Gen.DwDownIdeal
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwUp
public import proofs.«01_k».proof.Proof.Gen.DwUp.Frame
public import proofs.«01_k».proof.Proof.Gen.DwUpIdeal
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwOut
public import proofs.«01_k».proof.Proof.Gen.DwOut.Frame
public import proofs.«01_k».proof.Proof.Gen.DwOutIdeal
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.ProjBwd
public import proofs.«01_k».proof.Proof.Gen.ProjBwd.Frame
public import proofs.«01_k».proof.Proof.Gen.ProjBwdIdeal
public import proofs.«01_k».proof.Proof.Gen.ProjBwdIdeal.Frame
public import proofs.«01_k».proof.Proof.Gen.ProjBwdIdeal.Value
public import proofs.«01_k».proof.Proof.Gen.ProjBwdRefIdeal
public import proofs.«01_k».proof.Proof.Gen.ProjBwdRefIdeal.Run
public import proofs.«01_k».proof.Proof.Gen.MlpUpBwd
public import proofs.«01_k».proof.Proof.Gen.MlpUpBwd.Frame
public import proofs.«01_k».proof.Proof.Gen.MlpUpBwdIdeal
public import proofs.«01_k».proof.Proof.Gen.MlpUpBwdIdeal.Frame
public import proofs.«01_k».proof.Proof.Gen.MlpUpBwdIdeal.Value
public import proofs.«01_k».proof.Proof.Gen.MlpUpBwdRefIdeal
public import proofs.«01_k».proof.Proof.Gen.MlpUpBwdRefIdeal.Run
public import proofs.«01_k».proof.Proof.Gen.GateBwd
public import proofs.«01_k».proof.Proof.Gen.GateBwd.Frame
public import proofs.«01_k».proof.Proof.Gen.GateBwdIdeal
public import proofs.«01_k».proof.Proof.Gen.GateBwdIdeal.Frame
public import proofs.«01_k».proof.Proof.Gen.GateBwdRefIdeal
public import proofs.«01_k».proof.Proof.Gen.GateBwdRefIdeal.Run
public import proofs.«01_k».proof.Proof.Gen.BranchABwd
public import proofs.«01_k».proof.Proof.Gen.BranchABwd.Frame
public import proofs.«01_k».proof.Proof.Gen.BranchABwdIdeal
public import proofs.«01_k».proof.Proof.Gen.BranchABwdIdeal.Frame
public import proofs.«01_k».proof.Proof.Gen.BranchABwdIdeal.Value
public import proofs.«01_k».proof.Proof.Gen.BranchABwdRefIdeal
public import proofs.«01_k».proof.Proof.Gen.BranchABwdRefIdeal.Run
public import proofs.«01_k».proof.Proof.Gen.BranchBBwd
public import proofs.«01_k».proof.Proof.Gen.BranchBBwd.Frame
public import proofs.«01_k».proof.Proof.Gen.BranchBBwdIdeal
public import proofs.«01_k».proof.Proof.Gen.BranchBBwdIdeal.Frame
public import proofs.«01_k».proof.Proof.Gen.BranchBBwdIdeal.Value
public import proofs.«01_k».proof.Proof.Gen.BranchBBwdRefIdeal
public import proofs.«01_k».proof.Proof.Gen.BranchBBwdRefIdeal.Run
public import proofs.«01_k».proof.Proof.Gen.DwA
public import proofs.«01_k».proof.Proof.Gen.DwA.Frame
public import proofs.«01_k».proof.Proof.Gen.DwAIdeal
public import proofs.«01_k».proof.Proof.Gen.DwAIdeal.Frame
public import proofs.«01_k».proof.Proof.Gen.DwAIdeal.Value
public import proofs.«01_k».proof.Proof.Gen.DwARefIdeal
public import proofs.«01_k».proof.Proof.Gen.DwARefIdeal.Run
public import proofs.«01_k».proof.Proof.Gen.DwB
public import proofs.«01_k».proof.Proof.Gen.DwB.Frame
public import proofs.«01_k».proof.Proof.Gen.DwBIdeal
public import proofs.«01_k».proof.Proof.Gen.DwBIdeal.Frame
public import proofs.«01_k».proof.Proof.Gen.DwBIdeal.Value
public import proofs.«01_k».proof.Proof.Gen.DwBRefIdeal
public import proofs.«01_k».proof.Proof.Gen.DwBRefIdeal.Run
public import proofs.«01_k».proof.Proof.Gen.MlpDownBwd
public import proofs.«01_k».proof.Proof.Gen.MlpDownBwd.Frame
public import proofs.«01_k».proof.Proof.Gen.MlpDownBwdIdeal
public import proofs.«01_k».proof.Proof.Gen.MlpDownBwdIdeal.Frame
public import proofs.«01_k».proof.Proof.Gen.MlpDownBwdIdeal.Value
public import proofs.«01_k».proof.Proof.Gen.MlpDownBwdRefIdeal
public import proofs.«01_k».proof.Proof.Gen.MlpDownBwdRefIdeal.Run
public import proofs.«01_k».proof.Proof.Gen.ProjA
public import proofs.«01_k».proof.Proof.Gen.ProjA.Frame
public import proofs.«01_k».proof.Proof.Gen.ProjAIdeal
public import proofs.«01_k».proof.Proof.Gen.ProjAIdeal.Frame
public import proofs.«01_k».proof.Proof.Gen.ProjAIdeal.Value
public import proofs.«01_k».proof.Proof.Gen.ProjARefIdeal
public import proofs.«01_k».proof.Proof.Gen.ProjARefIdeal.Run
public import proofs.«01_k».proof.Proof.Gen.ProjB
public import proofs.«01_k».proof.Proof.Gen.ProjB.Frame
public import proofs.«01_k».proof.Proof.Gen.ProjBIdeal
public import proofs.«01_k».proof.Proof.Gen.ProjBIdeal.Frame
public import proofs.«01_k».proof.Proof.Gen.ProjBIdeal.Value
public import proofs.«01_k».proof.Proof.Gen.ProjBRefIdeal
public import proofs.«01_k».proof.Proof.Gen.ProjBRefIdeal.Run
public import proofs.«01_k».proof.Proof.Gen.ProjG
public import proofs.«01_k».proof.Proof.Gen.ProjG.Frame
public import proofs.«01_k».proof.Proof.Gen.ProjGIdeal
public import proofs.«01_k».proof.Proof.Gen.ProjGIdeal.Frame
public import proofs.«01_k».proof.Proof.Gen.ProjGIdeal.Value
public import proofs.«01_k».proof.Proof.Gen.ProjGRefIdeal
public import proofs.«01_k».proof.Proof.Gen.ProjGRefIdeal.Run
public import proofs.«01_k».proof.Proof.Gen.ProjF
public import proofs.«01_k».proof.Proof.Gen.ProjF.Frame
public import proofs.«01_k».proof.Proof.Gen.ProjFIdeal
public import proofs.«01_k».proof.Proof.Gen.ProjFIdeal.Frame
public import proofs.«01_k».proof.Proof.Gen.ProjFIdeal.Value
public import proofs.«01_k».proof.Proof.Gen.ProjFRefIdeal
public import proofs.«01_k».proof.Proof.Gen.ProjFRefIdeal.Run
public import proofs.«01_k».proof.Proof.Gen.MlpUp
public import proofs.«01_k».proof.Proof.Gen.MlpUp.Frame
public import proofs.«01_k».proof.Proof.Gen.MlpUpIdeal
public import proofs.«01_k».proof.Proof.Gen.MlpUpIdeal.Frame
public import proofs.«01_k».proof.Proof.Gen.MlpUpIdeal.Value
public import proofs.«01_k».proof.Proof.Gen.MlpUpRefIdeal
public import proofs.«01_k».proof.Proof.Gen.MlpUpRefIdeal.Run
public import proofs.«01_k».proof.Proof.Gen.MlpDownLoss
public import proofs.«01_k».proof.Proof.Gen.MlpDownLoss.Frame
public import proofs.«01_k».proof.Proof.Gen.MlpDownLossIdeal
public import proofs.«01_k».proof.Proof.Gen.MlpDownLossIdeal.Frame
public import proofs.«01_k».proof.Proof.Gen.MlpDownLossIdeal.Value
public import proofs.«01_k».proof.Proof.Gen.MlpDownLossRefIdeal
public import proofs.«01_k».proof.Proof.Gen.MlpDownLossRefIdeal.Run
public import proofs.«01_k».proof.Proof.Gen.MixerTail
public import proofs.«01_k».proof.Proof.Gen.MixerTail.Frame
public import proofs.«01_k».proof.Proof.Gen.MixerTailIdeal
public import proofs.«01_k».proof.Proof.Gen.MixerTailIdeal.Frame
public import proofs.«01_k».proof.Proof.Gen.MixerTailIdeal.Value
public import proofs.«01_k».proof.Proof.Gen.MixerTailRefIdeal
public import proofs.«01_k».proof.Proof.Gen.MixerTailRefIdeal.Run
public import proofs.«01_k».proof.Proof.Gen.FoxDscan
public import proofs.«01_k».proof.Proof.Gen.FoxDscan.Frame
public import proofs.«01_k».proof.Proof.Gen.FoxDscanIdeal
public import proofs.«01_k».proof.Proof.Gen.FoxDscanIdeal.Frame
public import proofs.«01_k».proof.Proof.Gen.FoxDscanIdeal.Value
public import proofs.«01_k».proof.Proof.Gen.FoxDscanRefIdeal
public import proofs.«01_k».proof.Proof.Gen.FoxDscanRefIdeal.Run
public import proofs.«01_k».proof.Proof.Gen.AdamWIn
public import proofs.«01_k».proof.Proof.Gen.AdamWIn.Frame
public import proofs.«01_k».proof.Proof.Gen.AdamWInIdeal
public import proofs.«01_k».proof.Proof.Gen.AdamWInIdeal.Frame
public import proofs.«01_k».proof.Proof.Gen.AdamWInIdeal.Value
public import proofs.«01_k».proof.Proof.Gen.AdamWInRefIdeal
public import proofs.«01_k».proof.Proof.Gen.AdamWInRefIdeal.Run
public import proofs.«01_k».proof.Proof.Gen.AdamWA
public import proofs.«01_k».proof.Proof.Gen.AdamWA.Frame
public import proofs.«01_k».proof.Proof.Gen.AdamWAIdeal
public import proofs.«01_k».proof.Proof.Gen.AdamWAIdeal.Frame
public import proofs.«01_k».proof.Proof.Gen.AdamWAIdeal.Value
public import proofs.«01_k».proof.Proof.Gen.AdamWARefIdeal
public import proofs.«01_k».proof.Proof.Gen.AdamWARefIdeal.Run
public import proofs.«01_k».proof.Proof.Gen.AdamWB
public import proofs.«01_k».proof.Proof.Gen.AdamWB.Frame
public import proofs.«01_k».proof.Proof.Gen.AdamWBIdeal
public import proofs.«01_k».proof.Proof.Gen.AdamWBIdeal.Frame
public import proofs.«01_k».proof.Proof.Gen.AdamWBIdeal.Value
public import proofs.«01_k».proof.Proof.Gen.AdamWBRefIdeal
public import proofs.«01_k».proof.Proof.Gen.AdamWBRefIdeal.Run
public import proofs.«01_k».proof.Proof.Gen.AdamWOut
public import proofs.«01_k».proof.Proof.Gen.AdamWOut.Frame
public import proofs.«01_k».proof.Proof.Gen.AdamWOutIdeal
public import proofs.«01_k».proof.Proof.Gen.AdamWOutIdeal.Frame
public import proofs.«01_k».proof.Proof.Gen.AdamWOutIdeal.Value
public import proofs.«01_k».proof.Proof.Gen.AdamWOutRefIdeal
public import proofs.«01_k».proof.Proof.Gen.AdamWOutRefIdeal.Run
public import proofs.«01_k».proof.Proof.Gen.AdamWUp
public import proofs.«01_k».proof.Proof.Gen.AdamWUp.Frame
public import proofs.«01_k».proof.Proof.Gen.AdamWUpIdeal
public import proofs.«01_k».proof.Proof.Gen.AdamWUpIdeal.Frame
public import proofs.«01_k».proof.Proof.Gen.AdamWUpIdeal.Value
public import proofs.«01_k».proof.Proof.Gen.AdamWUpRefIdeal
public import proofs.«01_k».proof.Proof.Gen.AdamWUpRefIdeal.Run
public import proofs.«01_k».proof.Proof.Gen.AdamWDown
public import proofs.«01_k».proof.Proof.Gen.AdamWDown.Frame
public import proofs.«01_k».proof.Proof.Gen.AdamWDownIdeal
public import proofs.«01_k».proof.Proof.Gen.AdamWDownIdeal.Frame
public import proofs.«01_k».proof.Proof.Gen.AdamWDownIdeal.Value
public import proofs.«01_k».proof.Proof.Gen.AdamWDownRefIdeal
public import proofs.«01_k».proof.Proof.Gen.AdamWDownRefIdeal.Run
public import proofs.«01_k».proof.Proof.Gen.SmallAdam
public import proofs.«01_k».proof.Proof.Gen.SmallAdam.Frame
public import proofs.«01_k».proof.Proof.Gen.SmallAdamIdeal
public import proofs.«01_k».proof.Proof.Gen.SmallAdamIdeal.Frame
public import proofs.«01_k».proof.Proof.Gen.SmallAdamIdeal.Value
public import proofs.«01_k».proof.Proof.Gen.SmallAdamRefIdeal
public import proofs.«01_k».proof.Proof.Gen.SmallAdamRefIdeal.Run
public import proofs.«01_k».proof.Proof.FoxFrame
public import proofs.«01_k».proof.Proof.BitsFrame
public import proofs.«01_k».proof.Proof.Products
public import proofs.«01_k».proof.Proof.NormProducts
public import proofs.«01_k».proof.Proof.Optimiser
public import proofs.«01_k».proof.Proof.SmallOptimiser
public import proofs.«01_k».proof.Proof.Forward
public import proofs.«01_k».proof.Proof.Backward
public import proofs.«01_k».proof.Proof.Shards
public import proofs.«01_k».proof.Proof.DownBwd
public import proofs.«01_k».proof.Proof.Loss
public import proofs.«01_k».proof.Proof.Mixer
public import proofs.«01_k».proof.Proof.Gates
public import proofs.«01_k».proof.Proof.Scan
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The frame of a reference: it ends, with its arguments as they were and no semaphore in use. -/
theorem Refs.DwIn.frame : Cert.quiescent_DwInRefIdeal := fun m ρ _ =>
  (θ_run _ _ _).mono (fun r h => ⟨fun c => (h c).2, sem_eq_zero_of_no_sems (by decide) r.2⟩)
    (Cert.DwInRefIdeal.Value.run (F := Ideal) m ρ)

/-- The frame of a reference: it ends, with its arguments as they were and no semaphore in use. -/
theorem Refs.DwDown.frame : Cert.quiescent_DwDownRefIdeal := fun m ρ _ =>
  (θ_run _ _ _).mono (fun r h => ⟨fun c => (h c).2, sem_eq_zero_of_no_sems (by decide) r.2⟩)
    (Cert.DwDownRefIdeal.Value.run (F := Ideal) m ρ)

/-- The frame of a reference: it ends, with its arguments as they were and no semaphore in use. -/
theorem Refs.DwUp.frame : Cert.quiescent_DwUpRefIdeal := fun m ρ _ =>
  (θ_run _ _ _).mono (fun r h => ⟨fun c => (h c).2, sem_eq_zero_of_no_sems (by decide) r.2⟩)
    (Cert.DwUpRefIdeal.Value.run (F := Ideal) m ρ)

/-- The frame of a reference: it ends, with its arguments as they were and no semaphore in use. -/
theorem Refs.DwOut.frame : Cert.quiescent_DwOutRefIdeal := fun m ρ _ =>
  (θ_run _ _ _).mono (fun r h => ⟨fun c => (h c).2, sem_eq_zero_of_no_sems (by decide) r.2⟩)
    (Cert.DwOutRefIdeal.Value.run (F := Ideal) m ρ)

/-- The frame of a reference: it ends, with its arguments as they were and no semaphore in use. -/
theorem Refs.ProjBwd.frame : Cert.quiescent_ProjBwdRefIdeal := fun m ρ _ =>
  (θ_run _ _ _).mono (fun r h => ⟨fun c => (h c).2.2, sem_eq_zero_of_no_sems (by decide) r.2⟩)
    (Cert.ProjBwdRefIdeal.Value.run (F := Ideal) m ρ)

/-- The frame of a reference: it ends, with its arguments as they were and no semaphore in use. -/
theorem Refs.MlpUpBwd.frame : Cert.quiescent_MlpUpBwdRefIdeal := fun m ρ _ =>
  (θ_run _ _ _).mono (fun r h => ⟨fun c => (h c).2.2, sem_eq_zero_of_no_sems (by decide) r.2⟩)
    (Cert.MlpUpBwdRefIdeal.Value.run (F := Ideal) m ρ)

/-- The frame of a reference: it ends, with its arguments as they were and no semaphore in use. -/
theorem Refs.GateBwd.frame : Cert.quiescent_GateBwdRefIdeal := fun m ρ _ =>
  (θ_run _ _ _).mono (fun r h => ⟨fun c => (h c).2.2, sem_eq_zero_of_no_sems (by decide) r.2⟩)
    (Cert.GateBwdRefIdeal.Value.run (F := Ideal) m ρ)

/-- The frame of a reference: it ends, with its arguments as they were and no semaphore in use. -/
theorem Refs.BranchABwd.frame : Cert.quiescent_BranchABwdRefIdeal := fun m ρ _ =>
  (θ_run _ _ _).mono (fun r h => ⟨fun c => (h c).2, sem_eq_zero_of_no_sems (by decide) r.2⟩)
    (Cert.BranchABwdRefIdeal.Value.run (F := Ideal) m ρ)

/-- The frame of a reference: it ends, with its arguments as they were and no semaphore in use. -/
theorem Refs.BranchBBwd.frame : Cert.quiescent_BranchBBwdRefIdeal := fun m ρ _ =>
  (θ_run _ _ _).mono (fun r h => ⟨fun c => (h c).2, sem_eq_zero_of_no_sems (by decide) r.2⟩)
    (Cert.BranchBBwdRefIdeal.Value.run (F := Ideal) m ρ)

/-- The frame of a reference: it ends, with its arguments as they were and no semaphore in use. -/
theorem Refs.DwA.frame : Cert.quiescent_DwARefIdeal := fun m ρ _ =>
  (θ_run _ _ _).mono (fun r h => ⟨fun c => (h c).2, sem_eq_zero_of_no_sems (by decide) r.2⟩)
    (Cert.DwARefIdeal.Value.run (F := Ideal) m ρ)

/-- The frame of a reference: it ends, with its arguments as they were and no semaphore in use. -/
theorem Refs.DwB.frame : Cert.quiescent_DwBRefIdeal := fun m ρ _ =>
  (θ_run _ _ _).mono (fun r h => ⟨fun c => (h c).2, sem_eq_zero_of_no_sems (by decide) r.2⟩)
    (Cert.DwBRefIdeal.Value.run (F := Ideal) m ρ)

/-- The frame of a reference: it ends, with its arguments as they were and no semaphore in use. -/
theorem Refs.MlpDownBwd.frame : Cert.quiescent_MlpDownBwdRefIdeal := fun m ρ _ =>
  (θ_run _ _ _).mono (fun r h => ⟨fun c => (h c).2, sem_eq_zero_of_no_sems (by decide) r.2⟩)
    (Cert.MlpDownBwdRefIdeal.Value.run (F := Ideal) m ρ)

/-- The frame of a reference: it ends, with its arguments as they were and no semaphore in use. -/
theorem Refs.ProjA.frame : Cert.quiescent_ProjARefIdeal := fun m ρ _ =>
  (θ_run _ _ _).mono (fun r h => ⟨fun c => (h c).2, sem_eq_zero_of_no_sems (by decide) r.2⟩)
    (Cert.ProjARefIdeal.Value.run (F := Ideal) m ρ)

/-- The frame of a reference: it ends, with its arguments as they were and no semaphore in use. -/
theorem Refs.ProjB.frame : Cert.quiescent_ProjBRefIdeal := fun m ρ _ =>
  (θ_run _ _ _).mono (fun r h => ⟨fun c => (h c).2, sem_eq_zero_of_no_sems (by decide) r.2⟩)
    (Cert.ProjBRefIdeal.Value.run (F := Ideal) m ρ)

/-- The frame of a reference: it ends, with its arguments as they were and no semaphore in use. -/
theorem Refs.ProjG.frame : Cert.quiescent_ProjGRefIdeal := fun m ρ _ =>
  (θ_run _ _ _).mono (fun r h => ⟨fun c => (h c).2, sem_eq_zero_of_no_sems (by decide) r.2⟩)
    (Cert.ProjGRefIdeal.Value.run (F := Ideal) m ρ)

/-- The frame of a reference: it ends, with its arguments as they were and no semaphore in use. -/
theorem Refs.ProjF.frame : Cert.quiescent_ProjFRefIdeal := fun m ρ _ =>
  (θ_run _ _ _).mono (fun r h => ⟨fun c => (h c).2, sem_eq_zero_of_no_sems (by decide) r.2⟩)
    (Cert.ProjFRefIdeal.Value.run (F := Ideal) m ρ)

/-- The frame of a reference: it ends, with its arguments as they were and no semaphore in use. -/
theorem Refs.MlpUp.frame : Cert.quiescent_MlpUpRefIdeal := fun m ρ _ =>
  (θ_run _ _ _).mono (fun r h => ⟨fun c => (h c).2.2, sem_eq_zero_of_no_sems (by decide) r.2⟩)
    (Cert.MlpUpRefIdeal.Value.run (F := Ideal) m ρ)

/-- The frame of a reference: it ends, with its arguments as they were and no semaphore in use. -/
theorem Refs.MlpDownLoss.frame : Cert.quiescent_MlpDownLossRefIdeal := fun m ρ _ =>
  (θ_run _ _ _).mono (fun r h => ⟨fun c => (h c).2.2.2, sem_eq_zero_of_no_sems (by decide) r.2⟩)
    (Cert.MlpDownLossRefIdeal.Value.run (F := Ideal) m ρ)

/-- The frame of a reference: it ends, with its arguments as they were and no semaphore in use. -/
theorem Refs.MixerTail.frame : Cert.quiescent_MixerTailRefIdeal := fun m ρ _ =>
  (θ_run _ _ _).mono (fun r h => ⟨fun c => (h c).2.2.2.2.2, sem_eq_zero_of_no_sems (by decide) r.2⟩)
    (Cert.MixerTailRefIdeal.Value.run (F := Ideal) m ρ)

/-- The frame of a reference: it ends, with its arguments as they were and no semaphore in use. -/
theorem Refs.FoxDscan.frame : Cert.quiescent_FoxDscanRefIdeal := fun m ρ _ =>
  (θ_run _ _ _).mono (fun r h => ⟨fun c => (h c).2.2, sem_eq_zero_of_no_sems (by decide) r.2⟩)
    (Cert.FoxDscanRefIdeal.Value.run (F := Ideal) m ρ)

/-- The frame of a reference: it ends, with its arguments as they were and no semaphore in use. -/
theorem Refs.AdamWIn.frame : Cert.quiescent_AdamWInRefIdeal := fun m ρ _ =>
  (θ_run _ _ _).mono (fun r h => ⟨fun c => (h c).2.2.2.2, sem_eq_zero_of_no_sems (by decide) r.2⟩)
    (Cert.AdamWInRefIdeal.Value.run (F := Ideal) m ρ)

/-- The frame of a reference: it ends, with its arguments as they were and no semaphore in use. -/
theorem Refs.AdamWA.frame : Cert.quiescent_AdamWARefIdeal := fun m ρ _ =>
  (θ_run _ _ _).mono (fun r h => ⟨fun c => (h c).2.2.2.2, sem_eq_zero_of_no_sems (by decide) r.2⟩)
    (Cert.AdamWARefIdeal.Value.run (F := Ideal) m ρ)

/-- The frame of a reference: it ends, with its arguments as they were and no semaphore in use. -/
theorem Refs.AdamWB.frame : Cert.quiescent_AdamWBRefIdeal := fun m ρ _ =>
  (θ_run _ _ _).mono (fun r h => ⟨fun c => (h c).2.2.2.2, sem_eq_zero_of_no_sems (by decide) r.2⟩)
    (Cert.AdamWBRefIdeal.Value.run (F := Ideal) m ρ)

/-- The frame of a reference: it ends, with its arguments as they were and no semaphore in use. -/
theorem Refs.AdamWOut.frame : Cert.quiescent_AdamWOutRefIdeal := fun m ρ _ =>
  (θ_run _ _ _).mono (fun r h => ⟨fun c => (h c).2.2.2.2, sem_eq_zero_of_no_sems (by decide) r.2⟩)
    (Cert.AdamWOutRefIdeal.Value.run (F := Ideal) m ρ)

/-- The frame of a reference: it ends, with its arguments as they were and no semaphore in use. -/
theorem Refs.AdamWUp.frame : Cert.quiescent_AdamWUpRefIdeal := fun m ρ _ =>
  (θ_run _ _ _).mono (fun r h => ⟨fun c => (h c).2.2.2.2, sem_eq_zero_of_no_sems (by decide) r.2⟩)
    (Cert.AdamWUpRefIdeal.Value.run (F := Ideal) m ρ)

/-- The frame of a reference: it ends, with its arguments as they were and no semaphore in use. -/
theorem Refs.AdamWDown.frame : Cert.quiescent_AdamWDownRefIdeal := fun m ρ _ =>
  (θ_run _ _ _).mono (fun r h => ⟨fun c => (h c).2.2.2.2, sem_eq_zero_of_no_sems (by decide) r.2⟩)
    (Cert.AdamWDownRefIdeal.Value.run (F := Ideal) m ρ)

/-- The frame of a reference: it ends, with its arguments as they were and no semaphore in use. -/
theorem Refs.SmallAdam.frame : Cert.quiescent_SmallAdamRefIdeal := fun m ρ _ =>
  (θ_run _ _ _).mono (fun r h => ⟨fun c => (h c).2.2.2.2.2.2.2.2.2.2.2.2.2.2.2.2.2, sem_eq_zero_of_no_sems (by decide) r.2⟩)
    (Cert.SmallAdamRefIdeal.Value.run (F := Ideal) m ρ)

/-- Every claim of the certificate. -/
theorem claim : Cert.Claim :=
  ⟨Cert.Kernel.Gen.facts, Cert.KernelIdeal.Gen.facts,
    Cert.DwIn.Gen.facts, Cert.DwInIdeal.Gen.facts, Cert.DwInRefIdeal.Gen.facts,
    Cert.DwDown.Gen.facts, Cert.DwDownIdeal.Gen.facts, Cert.DwDownRefIdeal.Gen.facts,
    Cert.DwUp.Gen.facts, Cert.DwUpIdeal.Gen.facts, Cert.DwUpRefIdeal.Gen.facts,
    Cert.DwOut.Gen.facts, Cert.DwOutIdeal.Gen.facts, Cert.DwOutRefIdeal.Gen.facts,
    Cert.ProjBwd.Gen.facts, Cert.ProjBwdIdeal.Gen.facts, Cert.ProjBwdRefIdeal.Gen.facts,
    Cert.MlpUpBwd.Gen.facts, Cert.MlpUpBwdIdeal.Gen.facts, Cert.MlpUpBwdRefIdeal.Gen.facts,
    Cert.GateBwd.Gen.facts, Cert.GateBwdIdeal.Gen.facts, Cert.GateBwdRefIdeal.Gen.facts,
    Cert.BranchABwd.Gen.facts, Cert.BranchABwdIdeal.Gen.facts, Cert.BranchABwdRefIdeal.Gen.facts,
    Cert.BranchBBwd.Gen.facts, Cert.BranchBBwdIdeal.Gen.facts, Cert.BranchBBwdRefIdeal.Gen.facts,
    Cert.DwA.Gen.facts, Cert.DwAIdeal.Gen.facts, Cert.DwARefIdeal.Gen.facts,
    Cert.DwB.Gen.facts, Cert.DwBIdeal.Gen.facts, Cert.DwBRefIdeal.Gen.facts,
    Cert.MlpDownBwd.Gen.facts, Cert.MlpDownBwdIdeal.Gen.facts, Cert.MlpDownBwdRefIdeal.Gen.facts,
    Cert.ProjA.Gen.facts, Cert.ProjAIdeal.Gen.facts, Cert.ProjARefIdeal.Gen.facts,
    Cert.ProjB.Gen.facts, Cert.ProjBIdeal.Gen.facts, Cert.ProjBRefIdeal.Gen.facts,
    Cert.ProjG.Gen.facts, Cert.ProjGIdeal.Gen.facts, Cert.ProjGRefIdeal.Gen.facts,
    Cert.ProjF.Gen.facts, Cert.ProjFIdeal.Gen.facts, Cert.ProjFRefIdeal.Gen.facts,
    Cert.MlpUp.Gen.facts, Cert.MlpUpIdeal.Gen.facts, Cert.MlpUpRefIdeal.Gen.facts,
    Cert.MlpDownLoss.Gen.facts, Cert.MlpDownLossIdeal.Gen.facts, Cert.MlpDownLossRefIdeal.Gen.facts,
    Cert.MixerTail.Gen.facts, Cert.MixerTailIdeal.Gen.facts, Cert.MixerTailRefIdeal.Gen.facts,
    Cert.FoxDscan.Gen.facts, Cert.FoxDscanIdeal.Gen.facts, Cert.FoxDscanRefIdeal.Gen.facts,
    Cert.AdamWIn.Gen.facts, Cert.AdamWInIdeal.Gen.facts, Cert.AdamWInRefIdeal.Gen.facts,
    Cert.AdamWA.Gen.facts, Cert.AdamWAIdeal.Gen.facts, Cert.AdamWARefIdeal.Gen.facts,
    Cert.AdamWB.Gen.facts, Cert.AdamWBIdeal.Gen.facts, Cert.AdamWBRefIdeal.Gen.facts,
    Cert.AdamWOut.Gen.facts, Cert.AdamWOutIdeal.Gen.facts, Cert.AdamWOutRefIdeal.Gen.facts,
    Cert.AdamWUp.Gen.facts, Cert.AdamWUpIdeal.Gen.facts, Cert.AdamWUpRefIdeal.Gen.facts,
    Cert.AdamWDown.Gen.facts, Cert.AdamWDownIdeal.Gen.facts, Cert.AdamWDownRefIdeal.Gen.facts,
    Cert.SmallAdam.Gen.facts, Cert.SmallAdamIdeal.Gen.facts, Cert.SmallAdamRefIdeal.Gen.facts,
    fun m ρ _ => Cert.Kernel.Hand.frame (F := Bits) m ρ,
    fun m ρ _ => Cert.KernelIdeal.Hand.frame (F := Ideal) m ρ,
    fun m ρ _ => Cert.DwIn.Gen.frame (F := Bits) m ρ,
    fun m ρ _ => Cert.DwInIdeal.Gen.frame (F := Ideal) m ρ,
    Refs.DwIn.frame,
    fun m ρ _ => Cert.DwDown.Gen.frame (F := Bits) m ρ,
    fun m ρ _ => Cert.DwDownIdeal.Gen.frame (F := Ideal) m ρ,
    Refs.DwDown.frame,
    fun m ρ _ => Cert.DwUp.Gen.frame (F := Bits) m ρ,
    fun m ρ _ => Cert.DwUpIdeal.Gen.frame (F := Ideal) m ρ,
    Refs.DwUp.frame,
    fun m ρ _ => Cert.DwOut.Gen.frame (F := Bits) m ρ,
    fun m ρ _ => Cert.DwOutIdeal.Gen.frame (F := Ideal) m ρ,
    Refs.DwOut.frame,
    fun m ρ _ => Cert.ProjBwd.Gen.frame (F := Bits) m ρ,
    fun m ρ _ => Cert.ProjBwdIdeal.Gen.frame (F := Ideal) m ρ,
    Refs.ProjBwd.frame,
    fun m ρ _ => Cert.MlpUpBwd.Gen.frame (F := Bits) m ρ,
    fun m ρ _ => Cert.MlpUpBwdIdeal.Gen.frame (F := Ideal) m ρ,
    Refs.MlpUpBwd.frame,
    fun m ρ _ => Cert.GateBwd.Gen.frame (F := Bits) m ρ,
    fun m ρ _ => Cert.GateBwdIdeal.Gen.frame (F := Ideal) m ρ,
    Refs.GateBwd.frame,
    fun m ρ _ => Cert.BranchABwd.Gen.frame (F := Bits) m ρ,
    fun m ρ _ => Cert.BranchABwdIdeal.Gen.frame (F := Ideal) m ρ,
    Refs.BranchABwd.frame,
    fun m ρ _ => Cert.BranchBBwd.Gen.frame (F := Bits) m ρ,
    fun m ρ _ => Cert.BranchBBwdIdeal.Gen.frame (F := Ideal) m ρ,
    Refs.BranchBBwd.frame,
    fun m ρ _ => Cert.DwA.Gen.frame (F := Bits) m ρ,
    fun m ρ _ => Cert.DwAIdeal.Gen.frame (F := Ideal) m ρ,
    Refs.DwA.frame,
    fun m ρ _ => Cert.DwB.Gen.frame (F := Bits) m ρ,
    fun m ρ _ => Cert.DwBIdeal.Gen.frame (F := Ideal) m ρ,
    Refs.DwB.frame,
    fun m ρ _ => Cert.MlpDownBwd.Gen.frame (F := Bits) m ρ,
    fun m ρ _ => Cert.MlpDownBwdIdeal.Gen.frame (F := Ideal) m ρ,
    Refs.MlpDownBwd.frame,
    fun m ρ _ => Cert.ProjA.Gen.frame (F := Bits) m ρ,
    fun m ρ _ => Cert.ProjAIdeal.Gen.frame (F := Ideal) m ρ,
    Refs.ProjA.frame,
    fun m ρ _ => Cert.ProjB.Gen.frame (F := Bits) m ρ,
    fun m ρ _ => Cert.ProjBIdeal.Gen.frame (F := Ideal) m ρ,
    Refs.ProjB.frame,
    fun m ρ _ => Cert.ProjG.Gen.frame (F := Bits) m ρ,
    fun m ρ _ => Cert.ProjGIdeal.Gen.frame (F := Ideal) m ρ,
    Refs.ProjG.frame,
    fun m ρ _ => Cert.ProjF.Gen.frame (F := Bits) m ρ,
    fun m ρ _ => Cert.ProjFIdeal.Gen.frame (F := Ideal) m ρ,
    Refs.ProjF.frame,
    fun m ρ _ => Cert.MlpUp.Gen.frame (F := Bits) m ρ,
    fun m ρ _ => Cert.MlpUpIdeal.Gen.frame (F := Ideal) m ρ,
    Refs.MlpUp.frame,
    fun m ρ _ => Cert.MlpDownLoss.Gen.frame (F := Bits) m ρ,
    fun m ρ _ => Cert.MlpDownLossIdeal.Gen.frame (F := Ideal) m ρ,
    Refs.MlpDownLoss.frame,
    fun m ρ _ => Cert.MixerTail.Gen.frame (F := Bits) m ρ,
    fun m ρ _ => Cert.MixerTailIdeal.Gen.frame (F := Ideal) m ρ,
    Refs.MixerTail.frame,
    fun m ρ _ => Cert.FoxDscan.Gen.frame (F := Bits) m ρ,
    fun m ρ _ => Cert.FoxDscanIdeal.Gen.frame (F := Ideal) m ρ,
    Refs.FoxDscan.frame,
    fun m ρ _ => Cert.AdamWIn.Gen.frame (F := Bits) m ρ,
    fun m ρ _ => Cert.AdamWInIdeal.Gen.frame (F := Ideal) m ρ,
    Refs.AdamWIn.frame,
    fun m ρ _ => Cert.AdamWA.Gen.frame (F := Bits) m ρ,
    fun m ρ _ => Cert.AdamWAIdeal.Gen.frame (F := Ideal) m ρ,
    Refs.AdamWA.frame,
    fun m ρ _ => Cert.AdamWB.Gen.frame (F := Bits) m ρ,
    fun m ρ _ => Cert.AdamWBIdeal.Gen.frame (F := Ideal) m ρ,
    Refs.AdamWB.frame,
    fun m ρ _ => Cert.AdamWOut.Gen.frame (F := Bits) m ρ,
    fun m ρ _ => Cert.AdamWOutIdeal.Gen.frame (F := Ideal) m ρ,
    Refs.AdamWOut.frame,
    fun m ρ _ => Cert.AdamWUp.Gen.frame (F := Bits) m ρ,
    fun m ρ _ => Cert.AdamWUpIdeal.Gen.frame (F := Ideal) m ρ,
    Refs.AdamWUp.frame,
    fun m ρ _ => Cert.AdamWDown.Gen.frame (F := Bits) m ρ,
    fun m ρ _ => Cert.AdamWDownIdeal.Gen.frame (F := Ideal) m ρ,
    Refs.AdamWDown.frame,
    fun m ρ _ => Cert.SmallAdam.Gen.frame (F := Bits) m ρ,
    fun m ρ _ => Cert.SmallAdamIdeal.Gen.frame (F := Ideal) m ρ,
    Refs.SmallAdam.frame,
    IdealRules.named_const.statement Cert.KernelIdeal.κ "mask" .f32 0xF149F2CA#32 ⊥ rfl,
    trivial,
    Cert.Proof.DwIn.claim,
    trivial,
    Cert.Proof.DwDown.claim,
    trivial,
    Cert.Proof.DwUp.claim,
    trivial,
    Cert.Proof.DwOut.claim,
    trivial,
    Cert.Proof.ProjBwd.claim,
    trivial,
    Cert.Proof.MlpUpBwd.claim,
    trivial,
    Cert.Proof.GateBwd.claim,
    trivial,
    Cert.Proof.BranchABwd.claim,
    trivial,
    Cert.Proof.BranchBBwd.claim,
    trivial,
    Cert.Proof.DwA.claim,
    trivial,
    Cert.Proof.DwB.claim,
    trivial,
    Cert.Proof.MlpDownBwd.claim,
    trivial,
    Cert.Proof.ProjA.claim,
    trivial,
    Cert.Proof.ProjB.claim,
    trivial,
    Cert.Proof.ProjG.claim,
    trivial,
    Cert.Proof.ProjF.claim,
    trivial,
    Cert.Proof.MlpUp.claim,
    trivial,
    Cert.Proof.MlpDownLoss.claim,
    trivial,
    Cert.Proof.MixerTail.claim,
    trivial,
    Cert.Proof.FoxDscan.claim,
    trivial,
    Cert.Proof.AdamWIn.claim,
    trivial,
    Cert.Proof.AdamWA.claim,
    trivial,
    Cert.Proof.AdamWB.claim,
    trivial,
    Cert.Proof.AdamWOut.claim,
    trivial,
    Cert.Proof.AdamWUp.claim,
    trivial,
    Cert.Proof.AdamWDown.claim,
    trivial,
    Cert.Proof.SmallAdam.claim⟩

end Cert.Proof

end
